-- ==== Defs.lean ====
def Pre_Kernel (m : (ℓ : Loc Cert.Kernel.nD Cert.Kernel.τ Cert.Kernel.sig) → Buf (Elt Bits) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite [hPre_finite : Cert.Pre_finite.Facts] (m : (ℓ : Loc Cert.DiffIdeal.nD Cert.DiffIdeal.τ Cert.DiffIdeal.sig) → Buf (Elt Ideal) ℓ) : Prop :=
  ∀ c : Dev Cert.DiffIdeal.nD,
    (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.2.2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite [hPre_finite : Cert.Pre_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).2.2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffIdeal_pre_finite [hDiffIdeal : Cert.DiffIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_DiffRefIdeal_pre_finite [hDiffRefIdeal : Cert.DiffRefIdeal.Facts] [hPre_finite : Cert.Pre_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v10)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v10) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v93) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_Diff_DiffIdeal : Prop :=
  IdealRules.named_const.Statement Cert.DiffIdeal.κ "mask" .f32 0xF149F2CA#32 ⊥

def algebraic_DiffIdeal_DiffRefIdeal_pre_finite [hDiffIdeal : Cert.DiffIdeal.Facts] [hDiffRefIdeal : Cert.DiffRefIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)) →
    ∃ (v0 : (c : Dev Cert.DiffIdeal.nD) → Buf (Elt Ideal) ((c.tc : Thread Cert.DiffIdeal.nD Cert.DiffIdeal.τ).loc Cert.DiffIdeal.main_v12)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v12) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v62) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v17_0)) (v1 : (c : Dev Cert.MergeIdeal.nD) → Buf (Elt Ideal) ((c.tc : Thread Cert.MergeIdeal.nD Cert.MergeIdeal.τ).loc Cert.MergeIdeal.main_v17_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17_0) = v0 c
          ∧ r.2.mem ((c.tc : Thread Cert.MergeIdeal.nD Cert.MergeIdeal.τ).loc Cert.MergeIdeal.main_v17_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_v61) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v36_0)) (v1 : (c : Dev Cert.InprojIdeal.nD) → Buf (Elt Ideal) ((c.tc : Thread Cert.InprojIdeal.nD Cert.InprojIdeal.τ).loc Cert.InprojIdeal.main_v36_1)) (v2 : (c : Dev Cert.InprojIdeal.nD) → Buf (Elt Ideal) ((c.tc : Thread Cert.InprojIdeal.nD Cert.InprojIdeal.τ).loc Cert.InprojIdeal.main_v36_2)) (v3 : (c : Dev Cert.InprojIdeal.nD) → Buf (Elt Ideal) ((c.tc : Thread Cert.InprojIdeal.nD Cert.InprojIdeal.τ).loc Cert.InprojIdeal.main_v36_3)) (v4 : (c : Dev Cert.InprojIdeal.nD) → Buf (Elt Ideal) ((c.tc : Thread Cert.InprojIdeal.nD Cert.InprojIdeal.τ).loc Cert.InprojIdeal.main_v36_4)) (v5 : (c : Dev Cert.InprojIdeal.nD) → Buf (Elt Ideal) ((c.tc : Thread Cert.InprojIdeal.nD Cert.InprojIdeal.τ).loc Cert.InprojIdeal.main_v36_5)) (v6 : (c : Dev Cert.InprojIdeal.nD) → Buf (Elt Ideal) ((c.tc : Thread Cert.InprojIdeal.nD Cert.InprojIdeal.τ).loc Cert.InprojIdeal.main_v36_6)) (v7 : (c : Dev Cert.InprojIdeal.nD) → Buf (Elt Ideal) ((c.tc : Thread Cert.InprojIdeal.nD Cert.InprojIdeal.τ).loc Cert.InprojIdeal.main_v36_7)) (v8 : (c : Dev Cert.InprojIdeal.nD) → Buf (Elt Ideal) ((c.tc : Thread Cert.InprojIdeal.nD Cert.InprojIdeal.τ).loc Cert.InprojIdeal.main_v36_8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v36_0) = v0 c
          ∧ r.2.mem ((c.tc : Thread Cert.InprojIdeal.nD Cert.InprojIdeal.τ).loc Cert.InprojIdeal.main_v36_1) = v1 c
          ∧ r.2.mem ((c.tc : Thread Cert.InprojIdeal.nD Cert.InprojIdeal.τ).loc Cert.InprojIdeal.main_v36_2) = v2 c
          ∧ r.2.mem ((c.tc : Thread Cert.InprojIdeal.nD Cert.InprojIdeal.τ).loc Cert.InprojIdeal.main_v36_3) = v3 c
          ∧ r.2.mem ((c.tc : Thread Cert.InprojIdeal.nD Cert.InprojIdeal.τ).loc Cert.InprojIdeal.main_v36_4) = v4 c
          ∧ r.2.mem ((c.tc : Thread Cert.InprojIdeal.nD Cert.InprojIdeal.τ).loc Cert.InprojIdeal.main_v36_5) = v5 c
          ∧ r.2.mem ((c.tc : Thread Cert.InprojIdeal.nD Cert.InprojIdeal.τ).loc Cert.InprojIdeal.main_v36_6) = v6 c
          ∧ r.2.mem ((c.tc : Thread Cert.InprojIdeal.nD Cert.InprojIdeal.τ).loc Cert.InprojIdeal.main_v36_7) = v7 c
          ∧ r.2.mem ((c.tc : Thread Cert.InprojIdeal.nD Cert.InprojIdeal.τ).loc Cert.InprojIdeal.main_v36_8) = v8 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v128) = v0 c
          ∧ r.2.mem ((c.tc : Thread Cert.InprojRefIdeal.nD Cert.InprojRefIdeal.τ).loc Cert.InprojRefIdeal.main_v129) = v1 c
          ∧ r.2.mem ((c.tc : Thread Cert.InprojRefIdeal.nD Cert.InprojRefIdeal.τ).loc Cert.InprojRefIdeal.main_v130) = v2 c
          ∧ r.2.mem ((c.tc : Thread Cert.InprojRefIdeal.nD Cert.InprojRefIdeal.τ).loc Cert.InprojRefIdeal.main_v131) = v3 c
          ∧ r.2.mem ((c.tc : Thread Cert.InprojRefIdeal.nD Cert.InprojRefIdeal.τ).loc Cert.InprojRefIdeal.main_v132) = v4 c
          ∧ r.2.mem ((c.tc : Thread Cert.InprojRefIdeal.nD Cert.InprojRefIdeal.τ).loc Cert.InprojRefIdeal.main_v133) = v5 c
          ∧ r.2.mem ((c.tc : Thread Cert.InprojRefIdeal.nD Cert.InprojRefIdeal.τ).loc Cert.InprojRefIdeal.main_v134) = v6 c
          ∧ r.2.mem ((c.tc : Thread Cert.InprojRefIdeal.nD Cert.InprojRefIdeal.τ).loc Cert.InprojRefIdeal.main_v135) = v7 c
          ∧ r.2.mem ((c.tc : Thread Cert.InprojRefIdeal.nD Cert.InprojRefIdeal.τ).loc Cert.InprojRefIdeal.main_v138) = v8 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def Claim : Prop :=
  ∃ (hKernel : Cert.Kernel.Facts) (hMoe : Cert.Moe.Facts) (hMoeIdeal : Cert.MoeIdeal.Facts) (hMoeRefIdeal : Cert.MoeRefIdeal.Facts) (hDiff : Cert.Diff.Facts) (hDiffIdeal : Cert.DiffIdeal.Facts) (hDiffRefIdeal : Cert.DiffRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hPre_finite : Cert.Pre_finite.Facts),
    quiescent_Kernel (hKernel := hKernel)
    ∧ quiescent_Moe (hMoe := hMoe)
    ∧ quiescent_MoeIdeal (hMoeIdeal := hMoeIdeal)
    ∧ quiescent_MoeRefIdeal (hMoeRefIdeal := hMoeRefIdeal)
    ∧ quiescent_Diff (hDiff := hDiff)
    ∧ quiescent_DiffIdeal (hDiffIdeal := hDiffIdeal)
    ∧ quiescent_DiffIdeal_pre_finite (hDiffIdeal := hDiffIdeal) (hPre_finite := hPre_finite)
    ∧ quiescent_DiffRefIdeal (hDiffRefIdeal := hDiffRefIdeal)
    ∧ quiescent_DiffRefIdeal_pre_finite (hDiffRefIdeal := hDiffRefIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ preserves_Moe_MoeIdeal
    ∧ algebraic_MoeIdeal_MoeRefIdeal (hMoeIdeal := hMoeIdeal) (hMoeRefIdeal := hMoeRefIdeal)
    ∧ preserves_Diff_DiffIdeal
    ∧ algebraic_DiffIdeal_DiffRefIdeal_pre_finite (hDiffIdeal := hDiffIdeal) (hDiffRefIdeal := hDiffRefIdeal) (hPre_finite := hPre_finite)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
-- ==== Pre_finite.lean ====
abbrev S2x16384x4x2x64 : Shape := ⟨5, ![2, 16384, 4, 2, 64]⟩
abbrev S2x16384x4x128 : Shape := ⟨4, ![2, 16384, 4, 128]⟩
abbrev S4x64 : Shape := ⟨2, ![4, 64]⟩
abbrev S128 : Shape := ⟨1, ![128]⟩
abbrev S_ : Shape := ⟨0, ![]⟩

class Facts : Prop where
  bcast_S_S2x16384x4x2x64 : S_.BroadcastsInDim S2x16384x4x2x64 (![] : Fin 0 → Fin S2x16384x4x2x64.rank)
  bcast_S_S2x16384x4x128 : S_.BroadcastsInDim S2x16384x4x128 (![] : Fin 0 → Fin S2x16384x4x128.rank)
  bcast_S_S4x64 : S_.BroadcastsInDim S4x64 (![] : Fin 0 → Fin S4x64.rank)

variable [Facts]

def fn {F : FTy → Type} [FloatOps F] (main_arg0 : FVec F S2x16384x4x2x64 .f32) (main_arg1 : FVec F S2x16384x4x2x64 .f32) (main_arg2 : FVec F S2x16384x4x128 .f32) (main_arg3 : FVec F S4x64 .f32) (main_arg4 : FVec F S128 .f32) : IVec S2x16384x4x2x64 1 × IVec S2x16384x4x2x64 1 × IVec S2x16384x4x128 1 × IVec S4x64 1 :=
  let main_v0 : FVec F S2x16384x4x2x64 .f32 := Host.absf main_arg0
  let main_cst : FVec F S_ .f32 := constant S_ .f32 0x7F800000#32
  let main_v1 : FVec F S2x16384x4x2x64 .f32 := broadcastInDim S2x16384x4x2x64 ![] bcast_S_S2x16384x4x2x64 main_cst
  let main_v2 : IVec S2x16384x4x2x64 1 := cmpf .olt main_v0 main_v1
  let main_v3 : FVec F S2x16384x4x2x64 .f32 := Host.absf main_arg1
  let main_cst_0 : FVec F S_ .f32 := constant S_ .f32 0x7F800000#32
  let main_v4 : FVec F S2x16384x4x2x64 .f32 := broadcastInDim S2x16384x4x2x64 ![] bcast_S_S2x16384x4x2x64 main_cst_0
  let main_v5 : IVec S2x16384x4x2x64 1 := cmpf .olt main_v3 main_v4
  let main_v6 : FVec F S2x16384x4x128 .f32 := Host.absf main_arg2
  let main_cst_1 : FVec F S_ .f32 := constant S_ .f32 0x7F800000#32
  let main_v7 : FVec F S2x16384x4x128 .f32 := broadcastInDim S2x16384x4x128 ![] bcast_S_S2x16384x4x128 main_cst_1
  let main_v8 : IVec S2x16384x4x128 1 := cmpf .olt main_v6 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  (main_v2, main_v5, main_v8, main_v11)
-- ==== Kernel.lean ====
abbrev S32768x512 : Shape := ⟨2, ![32768, 512]⟩
abbrev S32768x128 : Shape := ⟨2, ![32768, 128]⟩
abbrev S272 : Shape := ⟨1, ![272]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x256 : Shape := ⟨2, ![128, 256]⟩
abbrev S32768x16384 : Shape := ⟨2, ![32768, 16384]⟩
abbrev S16384x128 : Shape := ⟨2, ![16384, 128]⟩
abbrev S512x512 : Shape := ⟨2, ![512, 512]⟩
abbrev S1 : Shape := ⟨1, ![1]⟩
abbrev S512x128 : Shape := ⟨2, ![512, 128]⟩
abbrev S512x1024 : Shape := ⟨2, ![512, 1024]⟩
abbrev S32x512x512 : Shape := ⟨3, ![32, 512, 512]⟩
abbrev S8x512x128 : Shape := ⟨3, ![8, 512, 128]⟩
abbrev S4 : Shape := ⟨1, ![4]⟩
abbrev S1x512x128 : Shape := ⟨3, ![1, 512, 128]⟩
abbrev S512x1 : Shape := ⟨2, ![512, 1]⟩
abbrev S1x512x512 : Shape := ⟨3, ![1, 512, 512]⟩
abbrev S1x1x128 : Shape := ⟨3, ![1, 1, 128]⟩
abbrev S1x1x1 : Shape := ⟨3, ![1, 1, 1]⟩
abbrev S1x128x512 : Shape := ⟨3, ![1, 128, 512]⟩
abbrev S128x512 : Shape := ⟨2, ![128, 512]⟩

abbrev nBuf : Space → Nat
  | .hbm => 14
  | .vmem => 15
  | .smem => 3
  | _ => 0

abbrev bufTy : (tb : Table) → Fin (tcTables nBuf tb) → BufTy
  | .hbm, ⟨0, _⟩ => ⟨S32768x512, .bf16⟩
  | .hbm, ⟨1, _⟩ => ⟨S32768x128, .bf16⟩
  | .hbm, ⟨2, _⟩ => ⟨S32768x128, .f32⟩
  | .hbm, ⟨3, _⟩ => ⟨S128, .i32⟩
  | .hbm, ⟨4, _⟩ => ⟨S128x1, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .bf16⟩
  | .hbm, ⟨10, _⟩ => ⟨S_, .bf16⟩
  | .hbm, ⟨11, _⟩ => ⟨S128x128, .bf16⟩
  | .hbm, ⟨12, _⟩ => ⟨S128x256, .bf16⟩
  | .hbm, ⟨13, _⟩ => ⟨S32768x16384, .f32⟩
  | .local _ .vmem, ⟨0, _⟩ => ⟨S16384x128, .bf16⟩
  | .local _ .vmem, ⟨1, _⟩ => ⟨S512x512, .bf16⟩
  | .local _ .vmem, ⟨2, _⟩ => ⟨S512x512, .bf16⟩
  | .local _ .vmem, ⟨3, _⟩ => ⟨S512x128, .f32⟩
  | .local _ .vmem, ⟨4, _⟩ => ⟨S512x128, .f32⟩
  | .local _ .vmem, ⟨5, _⟩ => ⟨S128x256, .bf16⟩
  | .local _ .vmem, ⟨6, _⟩ => ⟨S512x1024, .f32⟩
  | .local _ .vmem, ⟨7, _⟩ => ⟨S512x1024, .f32⟩
  | .local _ .vmem, ⟨8, _⟩ => ⟨S32x512x512, .f32⟩
  | .local _ .vmem, ⟨9, _⟩ => ⟨S8x512x128, .bf16⟩
  | .local _ .vmem, ⟨10, _⟩ => ⟨S8x512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .smem, ⟨0, _⟩ => ⟨S272, .i32⟩
  | .local _ .smem, ⟨1, _⟩ => ⟨S272, .i32⟩
  | .local _ .smem, ⟨2, _⟩ => ⟨S4, .i32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨2, ![2, 272], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
@[reducible] def k0_t1_loop (v1 : BitVec 32) : Scf.Loop 32 :=
  let c0_i32_95 : BitVec 32 := 0#32
  let c512_i32_16 : BitVec 32 := 512#32
  let v45 : BitVec 32 := Scalar.muli v1 c512_i32_16
  let c0_i32_18 : BitVec 32 := 0#32
  let v47 : BitVec 1 := Scalar.cmpi .sgt v45 c0_i32_18
  let v48 : BitVec 32 := Scalar.extui v47
  let c0_i32_19 : BitVec 32 := 0#32
  let v49 : BitVec 1 := Scalar.cmpi .slt v45 c0_i32_19
  let v50 : BitVec 32 := Scalar.extui v49
  let v51 : BitVec 32 := Scalar.subi v48 v50
  let c512_i32_17 : BitVec 32 := 512#32
  let c0_i32_20 : BitVec 32 := 0#32
  let v52 : BitVec 1 := Scalar.cmpi .sgt c512_i32_17 c0_i32_20
  let v53 : BitVec 32 := Scalar.extui v52
  let c0_i32_21 : BitVec 32 := 0#32
  let v54 : BitVec 1 := Scalar.cmpi .slt c512_i32_17 c0_i32_21
  let v55 : BitVec 32 := Scalar.extui v54
  let v56 : BitVec 32 := Scalar.subi v53 v55
  let v57 : BitVec 1 := Scalar.cmpi .ne v51 v56
  let v58 : BitVec 32 := Scalar.remsi v45 c512_i32_17
  let c0_i32_22 : BitVec 32 := 0#32
  let v59 : BitVec 1 := Scalar.cmpi .ne v58 c0_i32_22
  let v60 : BitVec 1 := Scalar.andi v57 v59
  let v46 : BitVec 32 := Scalar.divsi v45 c512_i32_17
  let c1_i32_23 : BitVec 32 := 1#32
  let v61 : BitVec 32 := Scalar.subi v46 c1_i32_23
  let v62 : BitVec 32 := Scalar.select v60 v61 v46
  let v165 : BitVec 32 := Scalar.subi v62 c0_i32_95
  let c1_i32_96 : BitVec 32 := 1#32
  let v167 : BitVec 32 := Scalar.divsi v165 c1_i32_96
  let v168 : BitVec 32 := Scalar.muli v167 c1_i32_96
  let v169 : BitVec 32 := Scalar.addi c0_i32_95 v168
  let c1_i32_97 : BitVec 32 := 1#32
  ⟨c0_i32_95, v169, c1_i32_97⟩
def k0_cond1 (v3 : BitVec 32) : BitVec 1 :=
  let c0_i32 : BitVec 32 := 0#32
  let v4 : BitVec 1 := Scalar.cmpi .eq v3 c0_i32
  let v5 : BitVec 32 := Scalar.extui v4
  let c0_i32_0 : BitVec 32 := 0#32
  let v6 : BitVec 1 := Scalar.cmpi .ne v5 c0_i32_0
  v6

def k0_mult1 (v1 : BitVec 32) (k0_t1 : Fin (k0_t1_loop v1).trips) : BitVec 32 :=
  let c0_i32_95 : BitVec 32 := 0#32
  let c1_i32_97 : BitVec 32 := 1#32
  let arg17 : BitVec 32 := Scf.iv c0_i32_95 c1_i32_97 k0_t1
  let c512_i32_292 : BitVec 32 := 512#32
  let v687 : BitVec 32 := Scalar.muli arg17 c512_i32_292
  v687
def k0_off2 (v1 : BitVec 32) (k0_t1 : Fin (k0_t1_loop v1).trips) : Fin 2 → Nat :=
  let c0_i32_95 : BitVec 32 := 0#32
  let c1_i32_97 : BitVec 32 := 1#32
  let arg17 : BitVec 32 := Scf.iv c0_i32_95 c1_i32_97 k0_t1
  let c512_i32_292 : BitVec 32 := 512#32
  let v687 : BitVec 32 := Scalar.muli arg17 c512_i32_292
  let v688 : BitVec 32 := v687
  let v689 : Index := Scalar.indexCast v688
  let c0_293 : Index := 0#32
  ![v689.toNat, 0]
def k0_off3 (v1 : BitVec 32) (k0_t1 : Fin (k0_t1_loop v1).trips) : Fin 3 → Nat :=
  let c0_i32_95 : BitVec 32 := 0#32
  let c1_i32_97 : BitVec 32 := 1#32
  let arg17 : BitVec 32 := Scf.iv c0_i32_95 c1_i32_97 k0_t1
  let v898 : Index := Scalar.indexCast arg17
  let c0_387 : Index := 0#32
  let c0_388 : Index := 0#32
  ![v898.toNat, 0, 0]
@[reducible] def k0_t2_loop (v1 : BitVec 32) : Scf.Loop 32 :=
  let c0_i32_95 : BitVec 32 := 0#32
  let c512_i32_16 : BitVec 32 := 512#32
  let v45 : BitVec 32 := Scalar.muli v1 c512_i32_16
  let c0_i32_18 : BitVec 32 := 0#32
  let v47 : BitVec 1 := Scalar.cmpi .sgt v45 c0_i32_18
  let v48 : BitVec 32 := Scalar.extui v47
  let c0_i32_19 : BitVec 32 := 0#32
  let v49 : BitVec 1 := Scalar.cmpi .slt v45 c0_i32_19
  let v50 : BitVec 32 := Scalar.extui v49
  let v51 : BitVec 32 := Scalar.subi v48 v50
  let c512_i32_17 : BitVec 32 := 512#32
  let c0_i32_20 : BitVec 32 := 0#32
  let v52 : BitVec 1 := Scalar.cmpi .sgt c512_i32_17 c0_i32_20
  let v53 : BitVec 32 := Scalar.extui v52
  let c0_i32_21 : BitVec 32 := 0#32
  let v54 : BitVec 1 := Scalar.cmpi .slt c512_i32_17 c0_i32_21
  let v55 : BitVec 32 := Scalar.extui v54
  let v56 : BitVec 32 := Scalar.subi v53 v55
  let v57 : BitVec 1 := Scalar.cmpi .ne v51 v56
  let v58 : BitVec 32 := Scalar.remsi v45 c512_i32_17
  let c0_i32_22 : BitVec 32 := 0#32
  let v59 : BitVec 1 := Scalar.cmpi .ne v58 c0_i32_22
  let v60 : BitVec 1 := Scalar.andi v57 v59
  let v46 : BitVec 32 := Scalar.divsi v45 c512_i32_17
  let c1_i32_23 : BitVec 32 := 1#32
  let v61 : BitVec 32 := Scalar.subi v46 c1_i32_23
  let v62 : BitVec 32 := Scalar.select v60 v61 v46
  let v165 : BitVec 32 := Scalar.subi v62 c0_i32_95
  let c1_i32_96 : BitVec 32 := 1#32
  let v167 : BitVec 32 := Scalar.divsi v165 c1_i32_96
  let v168 : BitVec 32 := Scalar.muli v167 c1_i32_96
  let v169 : BitVec 32 := Scalar.addi c0_i32_95 v168
  let v166 : BitVec 32 := Scalar.addi c0_i32_95 v165
  let c1_i32_98 : BitVec 32 := 1#32
  ⟨v169, v166, c1_i32_98⟩
def k0_mult2 (v1 : BitVec 32) (k0_t2 : Fin (k0_t2_loop v1).trips) : BitVec 32 :=
  let c0_i32_95 : BitVec 32 := 0#32
  let c512_i32_16 : BitVec 32 := 512#32
  let v45 : BitVec 32 := Scalar.muli v1 c512_i32_16
  let c0_i32_18 : BitVec 32 := 0#32
  let v47 : BitVec 1 := Scalar.cmpi .sgt v45 c0_i32_18
  let v48 : BitVec 32 := Scalar.extui v47
  let c0_i32_19 : BitVec 32 := 0#32
  let v49 : BitVec 1 := Scalar.cmpi .slt v45 c0_i32_19
  let v50 : BitVec 32 := Scalar.extui v49
  let v51 : BitVec 32 := Scalar.subi v48 v50
  let c512_i32_17 : BitVec 32 := 512#32
  let c0_i32_20 : BitVec 32 := 0#32
  let v52 : BitVec 1 := Scalar.cmpi .sgt c512_i32_17 c0_i32_20
  let v53 : BitVec 32 := Scalar.extui v52
  let c0_i32_21 : BitVec 32 := 0#32
  let v54 : BitVec 1 := Scalar.cmpi .slt c512_i32_17 c0_i32_21
  let v55 : BitVec 32 := Scalar.extui v54
  let v56 : BitVec 32 := Scalar.subi v53 v55
  let v57 : BitVec 1 := Scalar.cmpi .ne v51 v56
  let v58 : BitVec 32 := Scalar.remsi v45 c512_i32_17
  let c0_i32_22 : BitVec 32 := 0#32
  let v59 : BitVec 1 := Scalar.cmpi .ne v58 c0_i32_22
  let v60 : BitVec 1 := Scalar.andi v57 v59
  let v46 : BitVec 32 := Scalar.divsi v45 c512_i32_17
  let c1_i32_23 : BitVec 32 := 1#32
  let v61 : BitVec 32 := Scalar.subi v46 c1_i32_23
  let v62 : BitVec 32 := Scalar.select v60 v61 v46
  let v165 : BitVec 32 := Scalar.subi v62 c0_i32_95
  let c1_i32_96 : BitVec 32 := 1#32
  let v167 : BitVec 32 := Scalar.divsi v165 c1_i32_96
  let v168 : BitVec 32 := Scalar.muli v167 c1_i32_96
  let v169 : BitVec 32 := Scalar.addi c0_i32_95 v168
  let c1_i32_98 : BitVec 32 := 1#32
  let arg17 : BitVec 32 := Scf.iv v169 c1_i32_98 k0_t2
  let c512_i32_292 : BitVec 32 := 512#32
  let v687 : BitVec 32 := Scalar.muli arg17 c512_i32_292
  v687
def k0_off4 (v1 : BitVec 32) (k0_t2 : Fin (k0_t2_loop v1).trips) : Fin 2 → Nat :=
  let c0_i32_95 : BitVec 32 := 0#32
  let c512_i32_16 : BitVec 32 := 512#32
  let v45 : BitVec 32 := Scalar.muli v1 c512_i32_16
  let c0_i32_18 : BitVec 32 := 0#32
  let v47 : BitVec 1 := Scalar.cmpi .sgt v45 c0_i32_18
  let v48 : BitVec 32 := Scalar.extui v47
  let c0_i32_19 : BitVec 32 := 0#32
  let v49 : BitVec 1 := Scalar.cmpi .slt v45 c0_i32_19
  let v50 : BitVec 32 := Scalar.extui v49
  let v51 : BitVec 32 := Scalar.subi v48 v50
  let c512_i32_17 : BitVec 32 := 512#32
  let c0_i32_20 : BitVec 32 := 0#32
  let v52 : BitVec 1 := Scalar.cmpi .sgt c512_i32_17 c0_i32_20
  let v53 : BitVec 32 := Scalar.extui v52
  let c0_i32_21 : BitVec 32 := 0#32
  let v54 : BitVec 1 := Scalar.cmpi .slt c512_i32_17 c0_i32_21
  let v55 : BitVec 32 := Scalar.extui v54
  let v56 : BitVec 32 := Scalar.subi v53 v55
  let v57 : BitVec 1 := Scalar.cmpi .ne v51 v56
  let v58 : BitVec 32 := Scalar.remsi v45 c512_i32_17
  let c0_i32_22 : BitVec 32 := 0#32
  let v59 : BitVec 1 := Scalar.cmpi .ne v58 c0_i32_22
  let v60 : BitVec 1 := Scalar.andi v57 v59
  let v46 : BitVec 32 := Scalar.divsi v45 c512_i32_17
  let c1_i32_23 : BitVec 32 := 1#32
  let v61 : BitVec 32 := Scalar.subi v46 c1_i32_23
  let v62 : BitVec 32 := Scalar.select v60 v61 v46
  let v165 : BitVec 32 := Scalar.subi v62 c0_i32_95
  let c1_i32_96 : BitVec 32 := 1#32
  let v167 : BitVec 32 := Scalar.divsi v165 c1_i32_96
  let v168 : BitVec 32 := Scalar.muli v167 c1_i32_96
  let v169 : BitVec 32 := Scalar.addi c0_i32_95 v168
  let c1_i32_98 : BitVec 32 := 1#32
  let arg17 : BitVec 32 := Scf.iv v169 c1_i32_98 k0_t2
  let c512_i32_292 : BitVec 32 := 512#32
  let v687 : BitVec 32 := Scalar.muli arg17 c512_i32_292
  let v688 : BitVec 32 := v687
  let v689 : Index := Scalar.indexCast v688
  let c0_293 : Index := 0#32
  ![v689.toNat, 0]
def k0_off5 (v1 : BitVec 32) (k0_t2 : Fin (k0_t2_loop v1).trips) : Fin 3 → Nat :=
  let c0_i32_95 : BitVec 32 := 0#32
  let c512_i32_16 : BitVec 32 := 512#32
  let v45 : BitVec 32 := Scalar.muli v1 c512_i32_16
  let c0_i32_18 : BitVec 32 := 0#32
  let v47 : BitVec 1 := Scalar.cmpi .sgt v45 c0_i32_18
  let v48 : BitVec 32 := Scalar.extui v47
  let c0_i32_19 : BitVec 32 := 0#32
  let v49 : BitVec 1 := Scalar.cmpi .slt v45 c0_i32_19
  let v50 : BitVec 32 := Scalar.extui v49
  let v51 : BitVec 32 := Scalar.subi v48 v50
  let c512_i32_17 : BitVec 32 := 512#32
  let c0_i32_20 : BitVec 32 := 0#32
  let v52 : BitVec 1 := Scalar.cmpi .sgt c512_i32_17 c0_i32_20
  let v53 : BitVec 32 := Scalar.extui v52
  let c0_i32_21 : BitVec 32 := 0#32
  let v54 : BitVec 1 := Scalar.cmpi .slt c512_i32_17 c0_i32_21
  let v55 : BitVec 32 := Scalar.extui v54
  let v56 : BitVec 32 := Scalar.subi v53 v55
  let v57 : BitVec 1 := Scalar.cmpi .ne v51 v56
  let v58 : BitVec 32 := Scalar.remsi v45 c512_i32_17
  let c0_i32_22 : BitVec 32 := 0#32
  let v59 : BitVec 1 := Scalar.cmpi .ne v58 c0_i32_22
  let v60 : BitVec 1 := Scalar.andi v57 v59
  let v46 : BitVec 32 := Scalar.divsi v45 c512_i32_17
  let c1_i32_23 : BitVec 32 := 1#32
  let v61 : BitVec 32 := Scalar.subi v46 c1_i32_23
  let v62 : BitVec 32 := Scalar.select v60 v61 v46
  let v165 : BitVec 32 := Scalar.subi v62 c0_i32_95
  let c1_i32_96 : BitVec 32 := 1#32
  let v167 : BitVec 32 := Scalar.divsi v165 c1_i32_96
  let v168 : BitVec 32 := Scalar.muli v167 c1_i32_96
  let v169 : BitVec 32 := Scalar.addi c0_i32_95 v168
  let c1_i32_98 : BitVec 32 := 1#32
  let arg17 : BitVec 32 := Scf.iv v169 c1_i32_98 k0_t2
  let v898 : Index := Scalar.indexCast arg17
  let c0_387 : Index := 0#32
  let c0_388 : Index := 0#32
  ![v898.toNat, 0, 0]
@[reducible] def k0_t3_loop (v1 : BitVec 32) : Scf.Loop 32 :=
  let c512_i32_16 : BitVec 32 := 512#32
  let v45 : BitVec 32 := Scalar.muli v1 c512_i32_16
  let c0_i32_18 : BitVec 32 := 0#32
  let v47 : BitVec 1 := Scalar.cmpi .sgt v45 c0_i32_18
  let v48 : BitVec 32 := Scalar.extui v47
  let c0_i32_19 : BitVec 32 := 0#32
  let v49 : BitVec 1 := Scalar.cmpi .slt v45 c0_i32_19
  let v50 : BitVec 32 := Scalar.extui v49
  let v51 : BitVec 32 := Scalar.subi v48 v50
  let c512_i32_17 : BitVec 32 := 512#32
  let c0_i32_20 : BitVec 32 := 0#32
  let v52 : BitVec 1 := Scalar.cmpi .sgt c512_i32_17 c0_i32_20
  let v53 : BitVec 32 := Scalar.extui v52
  let c0_i32_21 : BitVec 32 := 0#32
  let v54 : BitVec 1 := Scalar.cmpi .slt c512_i32_17 c0_i32_21
  let v55 : BitVec 32 := Scalar.extui v54
  let v56 : BitVec 32 := Scalar.subi v53 v55
  let v57 : BitVec 1 := Scalar.cmpi .ne v51 v56
  let v58 : BitVec 32 := Scalar.remsi v45 c512_i32_17
  let c0_i32_22 : BitVec 32 := 0#32
  let v59 : BitVec 1 := Scalar.cmpi .ne v58 c0_i32_22
  let v60 : BitVec 1 := Scalar.andi v57 v59
  let v46 : BitVec 32 := Scalar.divsi v45 c512_i32_17
  let c1_i32_23 : BitVec 32 := 1#32
  let v61 : BitVec 32 := Scalar.subi v46 c1_i32_23
  let v62 : BitVec 32 := Scalar.select v60 v61 v46
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v172 : BitVec 32 := Scalar.subi v44 v62
  let c1_i32_99 : BitVec 32 := 1#32
  let v174 : BitVec 32 := Scalar.divsi v172 c1_i32_99
  let v175 : BitVec 32 := Scalar.muli v174 c1_i32_99
  let v176 : BitVec 32 := Scalar.addi v62 v175
  let c1_i32_100 : BitVec 32 := 1#32
  ⟨v62, v176, c1_i32_100⟩
def k0_mult3 (v1 : BitVec 32) (k0_t3 : Fin (k0_t3_loop v1).trips) : BitVec 32 :=
  let c512_i32_16 : BitVec 32 := 512#32
  let v45 : BitVec 32 := Scalar.muli v1 c512_i32_16
  let c0_i32_18 : BitVec 32 := 0#32
  let v47 : BitVec 1 := Scalar.cmpi .sgt v45 c0_i32_18
  let v48 : BitVec 32 := Scalar.extui v47
  let c0_i32_19 : BitVec 32 := 0#32
  let v49 : BitVec 1 := Scalar.cmpi .slt v45 c0_i32_19
  let v50 : BitVec 32 := Scalar.extui v49
  let v51 : BitVec 32 := Scalar.subi v48 v50
  let c512_i32_17 : BitVec 32 := 512#32
  let c0_i32_20 : BitVec 32 := 0#32
  let v52 : BitVec 1 := Scalar.cmpi .sgt c512_i32_17 c0_i32_20
  let v53 : BitVec 32 := Scalar.extui v52
  let c0_i32_21 : BitVec 32 := 0#32
  let v54 : BitVec 1 := Scalar.cmpi .slt c512_i32_17 c0_i32_21
  let v55 : BitVec 32 := Scalar.extui v54
  let v56 : BitVec 32 := Scalar.subi v53 v55
  let v57 : BitVec 1 := Scalar.cmpi .ne v51 v56
  let v58 : BitVec 32 := Scalar.remsi v45 c512_i32_17
  let c0_i32_22 : BitVec 32 := 0#32
  let v59 : BitVec 1 := Scalar.cmpi .ne v58 c0_i32_22
  let v60 : BitVec 1 := Scalar.andi v57 v59
  let v46 : BitVec 32 := Scalar.divsi v45 c512_i32_17
  let c1_i32_23 : BitVec 32 := 1#32
  let v61 : BitVec 32 := Scalar.subi v46 c1_i32_23
  let v62 : BitVec 32 := Scalar.select v60 v61 v46
  let c1_i32_100 : BitVec 32 := 1#32
  let arg17 : BitVec 32 := Scf.iv v62 c1_i32_100 k0_t3
  let c512_i32_292 : BitVec 32 := 512#32
  let v687 : BitVec 32 := Scalar.muli arg17 c512_i32_292
  v687
def k0_off6 (v1 : BitVec 32) (k0_t3 : Fin (k0_t3_loop v1).trips) : Fin 2 → Nat :=
  let c512_i32_16 : BitVec 32 := 512#32
  let v45 : BitVec 32 := Scalar.muli v1 c512_i32_16
  let c0_i32_18 : BitVec 32 := 0#32
  let v47 : BitVec 1 := Scalar.cmpi .sgt v45 c0_i32_18
  let v48 : BitVec 32 := Scalar.extui v47
  let c0_i32_19 : BitVec 32 := 0#32
  let v49 : BitVec 1 := Scalar.cmpi .slt v45 c0_i32_19
  let v50 : BitVec 32 := Scalar.extui v49
  let v51 : BitVec 32 := Scalar.subi v48 v50
  let c512_i32_17 : BitVec 32 := 512#32
  let c0_i32_20 : BitVec 32 := 0#32
  let v52 : BitVec 1 := Scalar.cmpi .sgt c512_i32_17 c0_i32_20
  let v53 : BitVec 32 := Scalar.extui v52
  let c0_i32_21 : BitVec 32 := 0#32
  let v54 : BitVec 1 := Scalar.cmpi .slt c512_i32_17 c0_i32_21
  let v55 : BitVec 32 := Scalar.extui v54
  let v56 : BitVec 32 := Scalar.subi v53 v55
  let v57 : BitVec 1 := Scalar.cmpi .ne v51 v56
  let v58 : BitVec 32 := Scalar.remsi v45 c512_i32_17
  let c0_i32_22 : BitVec 32 := 0#32
  let v59 : BitVec 1 := Scalar.cmpi .ne v58 c0_i32_22
  let v60 : BitVec 1 := Scalar.andi v57 v59
  let v46 : BitVec 32 := Scalar.divsi v45 c512_i32_17
  let c1_i32_23 : BitVec 32 := 1#32
  let v61 : BitVec 32 := Scalar.subi v46 c1_i32_23
  let v62 : BitVec 32 := Scalar.select v60 v61 v46
  let c1_i32_100 : BitVec 32 := 1#32
  let arg17 : BitVec 32 := Scf.iv v62 c1_i32_100 k0_t3
  let c512_i32_292 : BitVec 32 := 512#32
  let v687 : BitVec 32 := Scalar.muli arg17 c512_i32_292
  let v688 : BitVec 32 := v687
  let v689 : Index := Scalar.indexCast v688
  let c0_293 : Index := 0#32
  ![v689.toNat, 0]
def k0_off7 (v1 : BitVec 32) (k0_t3 : Fin (k0_t3_loop v1).trips) : Fin 3 → Nat :=
  let c512_i32_16 : BitVec 32 := 512#32
  let v45 : BitVec 32 := Scalar.muli v1 c512_i32_16
  let c0_i32_18 : BitVec 32 := 0#32
  let v47 : BitVec 1 := Scalar.cmpi .sgt v45 c0_i32_18
  let v48 : BitVec 32 := Scalar.extui v47
  let c0_i32_19 : BitVec 32 := 0#32
  let v49 : BitVec 1 := Scalar.cmpi .slt v45 c0_i32_19
  let v50 : BitVec 32 := Scalar.extui v49
  let v51 : BitVec 32 := Scalar.subi v48 v50
  let c512_i32_17 : BitVec 32 := 512#32
  let c0_i32_20 : BitVec 32 := 0#32
  let v52 : BitVec 1 := Scalar.cmpi .sgt c512_i32_17 c0_i32_20
  let v53 : BitVec 32 := Scalar.extui v52
  let c0_i32_21 : BitVec 32 := 0#32
  let v54 : BitVec 1 := Scalar.cmpi .slt c512_i32_17 c0_i32_21
  let v55 : BitVec 32 := Scalar.extui v54
  let v56 : BitVec 32 := Scalar.subi v53 v55
  let v57 : BitVec 1 := Scalar.cmpi .ne v51 v56
  let v58 : BitVec 32 := Scalar.remsi v45 c512_i32_17
  let c0_i32_22 : BitVec 32 := 0#32
  let v59 : BitVec 1 := Scalar.cmpi .ne v58 c0_i32_22
  let v60 : BitVec 1 := Scalar.andi v57 v59
  let v46 : BitVec 32 := Scalar.divsi v45 c512_i32_17
  let c1_i32_23 : BitVec 32 := 1#32
  let v61 : BitVec 32 := Scalar.subi v46 c1_i32_23
  let v62 : BitVec 32 := Scalar.select v60 v61 v46
  let c1_i32_100 : BitVec 32 := 1#32
  let arg17 : BitVec 32 := Scf.iv v62 c1_i32_100 k0_t3
  let v908 : Index := Scalar.indexCast arg17
  let c0_389 : Index := 0#32
  let c0_390 : Index := 0#32
  ![v908.toNat, 0, 0]
@[reducible] def k0_t4_loop (v1 : BitVec 32) : Scf.Loop 32 :=
  let c512_i32_16 : BitVec 32 := 512#32
  let v45 : BitVec 32 := Scalar.muli v1 c512_i32_16
  let c0_i32_18 : BitVec 32 := 0#32
  let v47 : BitVec 1 := Scalar.cmpi .sgt v45 c0_i32_18
  let v48 : BitVec 32 := Scalar.extui v47
  let c0_i32_19 : BitVec 32 := 0#32
  let v49 : BitVec 1 := Scalar.cmpi .slt v45 c0_i32_19
  let v50 : BitVec 32 := Scalar.extui v49
  let v51 : BitVec 32 := Scalar.subi v48 v50
  let c512_i32_17 : BitVec 32 := 512#32
  let c0_i32_20 : BitVec 32 := 0#32
  let v52 : BitVec 1 := Scalar.cmpi .sgt c512_i32_17 c0_i32_20
  let v53 : BitVec 32 := Scalar.extui v52
  let c0_i32_21 : BitVec 32 := 0#32
  let v54 : BitVec 1 := Scalar.cmpi .slt c512_i32_17 c0_i32_21
  let v55 : BitVec 32 := Scalar.extui v54
  let v56 : BitVec 32 := Scalar.subi v53 v55
  let v57 : BitVec 1 := Scalar.cmpi .ne v51 v56
  let v58 : BitVec 32 := Scalar.remsi v45 c512_i32_17
  let c0_i32_22 : BitVec 32 := 0#32
  let v59 : BitVec 1 := Scalar.cmpi .ne v58 c0_i32_22
  let v60 : BitVec 1 := Scalar.andi v57 v59
  let v46 : BitVec 32 := Scalar.divsi v45 c512_i32_17
  let c1_i32_23 : BitVec 32 := 1#32
  let v61 : BitVec 32 := Scalar.subi v46 c1_i32_23
  let v62 : BitVec 32 := Scalar.select v60 v61 v46
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v172 : BitVec 32 := Scalar.subi v44 v62
  let c1_i32_99 : BitVec 32 := 1#32
  let v174 : BitVec 32 := Scalar.divsi v172 c1_i32_99
  let v175 : BitVec 32 := Scalar.muli v174 c1_i32_99
  let v176 : BitVec 32 := Scalar.addi v62 v175
  let v173 : BitVec 32 := Scalar.addi v62 v172
  let c1_i32_101 : BitVec 32 := 1#32
  ⟨v176, v173, c1_i32_101⟩
def k0_mult4 (v1 : BitVec 32) (k0_t4 : Fin (k0_t4_loop v1).trips) : BitVec 32 :=
  let c512_i32_16 : BitVec 32 := 512#32
  let v45 : BitVec 32 := Scalar.muli v1 c512_i32_16
  let c0_i32_18 : BitVec 32 := 0#32
  let v47 : BitVec 1 := Scalar.cmpi .sgt v45 c0_i32_18
  let v48 : BitVec 32 := Scalar.extui v47
  let c0_i32_19 : BitVec 32 := 0#32
  let v49 : BitVec 1 := Scalar.cmpi .slt v45 c0_i32_19
  let v50 : BitVec 32 := Scalar.extui v49
  let v51 : BitVec 32 := Scalar.subi v48 v50
  let c512_i32_17 : BitVec 32 := 512#32
  let c0_i32_20 : BitVec 32 := 0#32
  let v52 : BitVec 1 := Scalar.cmpi .sgt c512_i32_17 c0_i32_20
  let v53 : BitVec 32 := Scalar.extui v52
  let c0_i32_21 : BitVec 32 := 0#32
  let v54 : BitVec 1 := Scalar.cmpi .slt c512_i32_17 c0_i32_21
  let v55 : BitVec 32 := Scalar.extui v54
  let v56 : BitVec 32 := Scalar.subi v53 v55
  let v57 : BitVec 1 := Scalar.cmpi .ne v51 v56
  let v58 : BitVec 32 := Scalar.remsi v45 c512_i32_17
  let c0_i32_22 : BitVec 32 := 0#32
  let v59 : BitVec 1 := Scalar.cmpi .ne v58 c0_i32_22
  let v60 : BitVec 1 := Scalar.andi v57 v59
  let v46 : BitVec 32 := Scalar.divsi v45 c512_i32_17
  let c1_i32_23 : BitVec 32 := 1#32
  let v61 : BitVec 32 := Scalar.subi v46 c1_i32_23
  let v62 : BitVec 32 := Scalar.select v60 v61 v46
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v172 : BitVec 32 := Scalar.subi v44 v62
  let c1_i32_99 : BitVec 32 := 1#32
  let v174 : BitVec 32 := Scalar.divsi v172 c1_i32_99
  let v175 : BitVec 32 := Scalar.muli v174 c1_i32_99
  let v176 : BitVec 32 := Scalar.addi v62 v175
  let c1_i32_101 : BitVec 32 := 1#32
  let arg17 : BitVec 32 := Scf.iv v176 c1_i32_101 k0_t4
  let c512_i32_292 : BitVec 32 := 512#32
  let v687 : BitVec 32 := Scalar.muli arg17 c512_i32_292
  v687
def k0_off8 (v1 : BitVec 32) (k0_t4 : Fin (k0_t4_loop v1).trips) : Fin 2 → Nat :=
  let c512_i32_16 : BitVec 32 := 512#32
  let v45 : BitVec 32 := Scalar.muli v1 c512_i32_16
  let c0_i32_18 : BitVec 32 := 0#32
  let v47 : BitVec 1 := Scalar.cmpi .sgt v45 c0_i32_18
  let v48 : BitVec 32 := Scalar.extui v47
  let c0_i32_19 : BitVec 32 := 0#32
  let v49 : BitVec 1 := Scalar.cmpi .slt v45 c0_i32_19
  let v50 : BitVec 32 := Scalar.extui v49
  let v51 : BitVec 32 := Scalar.subi v48 v50
  let c512_i32_17 : BitVec 32 := 512#32
  let c0_i32_20 : BitVec 32 := 0#32
  let v52 : BitVec 1 := Scalar.cmpi .sgt c512_i32_17 c0_i32_20
  let v53 : BitVec 32 := Scalar.extui v52
  let c0_i32_21 : BitVec 32 := 0#32
  let v54 : BitVec 1 := Scalar.cmpi .slt c512_i32_17 c0_i32_21
  let v55 : BitVec 32 := Scalar.extui v54
  let v56 : BitVec 32 := Scalar.subi v53 v55
  let v57 : BitVec 1 := Scalar.cmpi .ne v51 v56
  let v58 : BitVec 32 := Scalar.remsi v45 c512_i32_17
  let c0_i32_22 : BitVec 32 := 0#32
  let v59 : BitVec 1 := Scalar.cmpi .ne v58 c0_i32_22
  let v60 : BitVec 1 := Scalar.andi v57 v59
  let v46 : BitVec 32 := Scalar.divsi v45 c512_i32_17
  let c1_i32_23 : BitVec 32 := 1#32
  let v61 : BitVec 32 := Scalar.subi v46 c1_i32_23
  let v62 : BitVec 32 := Scalar.select v60 v61 v46
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v172 : BitVec 32 := Scalar.subi v44 v62
  let c1_i32_99 : BitVec 32 := 1#32
  let v174 : BitVec 32 := Scalar.divsi v172 c1_i32_99
  let v175 : BitVec 32 := Scalar.muli v174 c1_i32_99
  let v176 : BitVec 32 := Scalar.addi v62 v175
  let c1_i32_101 : BitVec 32 := 1#32
  let arg17 : BitVec 32 := Scf.iv v176 c1_i32_101 k0_t4
  let c512_i32_292 : BitVec 32 := 512#32
  let v687 : BitVec 32 := Scalar.muli arg17 c512_i32_292
  let v688 : BitVec 32 := v687
  let v689 : Index := Scalar.indexCast v688
  let c0_293 : Index := 0#32
  ![v689.toNat, 0]
def k0_off9 (v1 : BitVec 32) (k0_t4 : Fin (k0_t4_loop v1).trips) : Fin 3 → Nat :=
  let c512_i32_16 : BitVec 32 := 512#32
  let v45 : BitVec 32 := Scalar.muli v1 c512_i32_16
  let c0_i32_18 : BitVec 32 := 0#32
  let v47 : BitVec 1 := Scalar.cmpi .sgt v45 c0_i32_18
  let v48 : BitVec 32 := Scalar.extui v47
  let c0_i32_19 : BitVec 32 := 0#32
  let v49 : BitVec 1 := Scalar.cmpi .slt v45 c0_i32_19
  let v50 : BitVec 32 := Scalar.extui v49
  let v51 : BitVec 32 := Scalar.subi v48 v50
  let c512_i32_17 : BitVec 32 := 512#32
  let c0_i32_20 : BitVec 32 := 0#32
  let v52 : BitVec 1 := Scalar.cmpi .sgt c512_i32_17 c0_i32_20
  let v53 : BitVec 32 := Scalar.extui v52
  let c0_i32_21 : BitVec 32 := 0#32
  let v54 : BitVec 1 := Scalar.cmpi .slt c512_i32_17 c0_i32_21
  let v55 : BitVec 32 := Scalar.extui v54
  let v56 : BitVec 32 := Scalar.subi v53 v55
  let v57 : BitVec 1 := Scalar.cmpi .ne v51 v56
  let v58 : BitVec 32 := Scalar.remsi v45 c512_i32_17
  let c0_i32_22 : BitVec 32 := 0#32
  let v59 : BitVec 1 := Scalar.cmpi .ne v58 c0_i32_22
  let v60 : BitVec 1 := Scalar.andi v57 v59
  let v46 : BitVec 32 := Scalar.divsi v45 c512_i32_17
  let c1_i32_23 : BitVec 32 := 1#32
  let v61 : BitVec 32 := Scalar.subi v46 c1_i32_23
  let v62 : BitVec 32 := Scalar.select v60 v61 v46
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v172 : BitVec 32 := Scalar.subi v44 v62
  let c1_i32_99 : BitVec 32 := 1#32
  let v174 : BitVec 32 := Scalar.divsi v172 c1_i32_99
  let v175 : BitVec 32 := Scalar.muli v174 c1_i32_99
  let v176 : BitVec 32 := Scalar.addi v62 v175
  let c1_i32_101 : BitVec 32 := 1#32
  let arg17 : BitVec 32 := Scf.iv v176 c1_i32_101 k0_t4
  let v908 : Index := Scalar.indexCast arg17
  let c0_389 : Index := 0#32
  let c0_390 : Index := 0#32
  ![v908.toNat, 0, 0]
@[reducible] def k0_t5_loop (v1 : BitVec 32) : Scf.Loop 32 :=
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let c2_i32 : BitVec 32 := 2#32
  let v179 : BitVec 32 := Scalar.addi v44 c2_i32
  let c1_i32_102 : BitVec 32 := 1#32
  let v180 : BitVec 32 := Scalar.subi v179 c1_i32_102
  let c0_i32_104 : BitVec 32 := 0#32
  let v182 : BitVec 1 := Scalar.cmpi .sgt v180 c0_i32_104
  let v183 : BitVec 32 := Scalar.extui v182
  let c0_i32_105 : BitVec 32 := 0#32
  let v184 : BitVec 1 := Scalar.cmpi .slt v180 c0_i32_105
  let v185 : BitVec 32 := Scalar.extui v184
  let v186 : BitVec 32 := Scalar.subi v183 v185
  let c2_i32_103 : BitVec 32 := 2#32
  let c0_i32_106 : BitVec 32 := 0#32
  let v187 : BitVec 1 := Scalar.cmpi .sgt c2_i32_103 c0_i32_106
  let v188 : BitVec 32 := Scalar.extui v187
  let c0_i32_107 : BitVec 32 := 0#32
  let v189 : BitVec 1 := Scalar.cmpi .slt c2_i32_103 c0_i32_107
  let v190 : BitVec 32 := Scalar.extui v189
  let v191 : BitVec 32 := Scalar.subi v188 v190
  let v192 : BitVec 1 := Scalar.cmpi .ne v186 v191
  let v193 : BitVec 32 := Scalar.remsi v180 c2_i32_103
  let c0_i32_108 : BitVec 32 := 0#32
  let v194 : BitVec 1 := Scalar.cmpi .ne v193 c0_i32_108
  let v195 : BitVec 1 := Scalar.andi v192 v194
  let v181 : BitVec 32 := Scalar.divsi v180 c2_i32_103
  let c1_i32_109 : BitVec 32 := 1#32
  let v196 : BitVec 32 := Scalar.subi v181 c1_i32_109
  let v197 : BitVec 32 := Scalar.select v195 v196 v181
  let c2_i32_110 : BitVec 32 := 2#32
  let v198 : BitVec 32 := Scalar.muli v197 c2_i32_110
  let v199 : BitVec 32 := Scalar.subi v198 v44
  let c1_i32_112 : BitVec 32 := 1#32
  let v201 : BitVec 32 := Scalar.divsi v199 c1_i32_112
  let v202 : BitVec 32 := Scalar.muli v201 c1_i32_112
  let v203 : BitVec 32 := Scalar.addi v44 v202
  let c1_i32_113 : BitVec 32 := 1#32
  ⟨v44, v203, c1_i32_113⟩
def k0_off10 (v1 : BitVec 32) (k0_t5 : Fin (k0_t5_loop v1).trips) : Fin 3 → Nat :=
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let c1_i32_113 : BitVec 32 := 1#32
  let arg17 : BitVec 32 := Scf.iv v44 c1_i32_113 k0_t5
  let v688 : Index := Scalar.indexCast arg17
  let c0_293 : Index := 0#32
  let c0_294 : Index := 0#32
  ![v688.toNat, 0, 0]
@[reducible] def k0_t6_loop (v1 : BitVec 32) : Scf.Loop 32 :=
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let c2_i32 : BitVec 32 := 2#32
  let v179 : BitVec 32 := Scalar.addi v44 c2_i32
  let c1_i32_102 : BitVec 32 := 1#32
  let v180 : BitVec 32 := Scalar.subi v179 c1_i32_102
  let c0_i32_104 : BitVec 32 := 0#32
  let v182 : BitVec 1 := Scalar.cmpi .sgt v180 c0_i32_104
  let v183 : BitVec 32 := Scalar.extui v182
  let c0_i32_105 : BitVec 32 := 0#32
  let v184 : BitVec 1 := Scalar.cmpi .slt v180 c0_i32_105
  let v185 : BitVec 32 := Scalar.extui v184
  let v186 : BitVec 32 := Scalar.subi v183 v185
  let c2_i32_103 : BitVec 32 := 2#32
  let c0_i32_106 : BitVec 32 := 0#32
  let v187 : BitVec 1 := Scalar.cmpi .sgt c2_i32_103 c0_i32_106
  let v188 : BitVec 32 := Scalar.extui v187
  let c0_i32_107 : BitVec 32 := 0#32
  let v189 : BitVec 1 := Scalar.cmpi .slt c2_i32_103 c0_i32_107
  let v190 : BitVec 32 := Scalar.extui v189
  let v191 : BitVec 32 := Scalar.subi v188 v190
  let v192 : BitVec 1 := Scalar.cmpi .ne v186 v191
  let v193 : BitVec 32 := Scalar.remsi v180 c2_i32_103
  let c0_i32_108 : BitVec 32 := 0#32
  let v194 : BitVec 1 := Scalar.cmpi .ne v193 c0_i32_108
  let v195 : BitVec 1 := Scalar.andi v192 v194
  let v181 : BitVec 32 := Scalar.divsi v180 c2_i32_103
  let c1_i32_109 : BitVec 32 := 1#32
  let v196 : BitVec 32 := Scalar.subi v181 c1_i32_109
  let v197 : BitVec 32 := Scalar.select v195 v196 v181
  let c2_i32_110 : BitVec 32 := 2#32
  let v198 : BitVec 32 := Scalar.muli v197 c2_i32_110
  let v199 : BitVec 32 := Scalar.subi v198 v44
  let c1_i32_112 : BitVec 32 := 1#32
  let v201 : BitVec 32 := Scalar.divsi v199 c1_i32_112
  let v202 : BitVec 32 := Scalar.muli v201 c1_i32_112
  let v203 : BitVec 32 := Scalar.addi v44 v202
  let v200 : BitVec 32 := Scalar.addi v44 v199
  let c1_i32_114 : BitVec 32 := 1#32
  ⟨v203, v200, c1_i32_114⟩
def k0_off11 (v1 : BitVec 32) (k0_t6 : Fin (k0_t6_loop v1).trips) : Fin 3 → Nat :=
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let c2_i32 : BitVec 32 := 2#32
  let v179 : BitVec 32 := Scalar.addi v44 c2_i32
  let c1_i32_102 : BitVec 32 := 1#32
  let v180 : BitVec 32 := Scalar.subi v179 c1_i32_102
  let c0_i32_104 : BitVec 32 := 0#32
  let v182 : BitVec 1 := Scalar.cmpi .sgt v180 c0_i32_104
  let v183 : BitVec 32 := Scalar.extui v182
  let c0_i32_105 : BitVec 32 := 0#32
  let v184 : BitVec 1 := Scalar.cmpi .slt v180 c0_i32_105
  let v185 : BitVec 32 := Scalar.extui v184
  let v186 : BitVec 32 := Scalar.subi v183 v185
  let c2_i32_103 : BitVec 32 := 2#32
  let c0_i32_106 : BitVec 32 := 0#32
  let v187 : BitVec 1 := Scalar.cmpi .sgt c2_i32_103 c0_i32_106
  let v188 : BitVec 32 := Scalar.extui v187
  let c0_i32_107 : BitVec 32 := 0#32
  let v189 : BitVec 1 := Scalar.cmpi .slt c2_i32_103 c0_i32_107
  let v190 : BitVec 32 := Scalar.extui v189
  let v191 : BitVec 32 := Scalar.subi v188 v190
  let v192 : BitVec 1 := Scalar.cmpi .ne v186 v191
  let v193 : BitVec 32 := Scalar.remsi v180 c2_i32_103
  let c0_i32_108 : BitVec 32 := 0#32
  let v194 : BitVec 1 := Scalar.cmpi .ne v193 c0_i32_108
  let v195 : BitVec 1 := Scalar.andi v192 v194
  let v181 : BitVec 32 := Scalar.divsi v180 c2_i32_103
  let c1_i32_109 : BitVec 32 := 1#32
  let v196 : BitVec 32 := Scalar.subi v181 c1_i32_109
  let v197 : BitVec 32 := Scalar.select v195 v196 v181
  let c2_i32_110 : BitVec 32 := 2#32
  let v198 : BitVec 32 := Scalar.muli v197 c2_i32_110
  let v199 : BitVec 32 := Scalar.subi v198 v44
  let c1_i32_112 : BitVec 32 := 1#32
  let v201 : BitVec 32 := Scalar.divsi v199 c1_i32_112
  let v202 : BitVec 32 := Scalar.muli v201 c1_i32_112
  let v203 : BitVec 32 := Scalar.addi v44 v202
  let c1_i32_114 : BitVec 32 := 1#32
  let arg17 : BitVec 32 := Scf.iv v203 c1_i32_114 k0_t6
  let v688 : Index := Scalar.indexCast arg17
  let c0_293 : Index := 0#32
  let c0_294 : Index := 0#32
  ![v688.toNat, 0, 0]

def k0_chk1 (v1 : BitVec 32) (v3 : BitVec 32) : Prop :=
  (∀ (k0_h1 : k0_cond1 v3 = 1#1), (k0_t1_loop v1).OK) ∧
  (∀ k0_t1 : Fin (k0_t1_loop v1).trips, ∀ (k0_h1 : k0_cond1 v3 = 1#1), 512 ∣ (k0_mult1 v1 k0_t1).toNat) ∧
  (∀ k0_t1 : Fin (k0_t1_loop v1).trips, ∀ (k0_h1 : k0_cond1 v3 = 1#1), ∀ a, (k0_off2 v1 k0_t1) a + S512x128.size a ≤ S16384x128.size a) ∧
  (∀ k0_t1 : Fin (k0_t1_loop v1).trips, ∀ (k0_h1 : k0_cond1 v3 = 1#1), ∀ a, (k0_off3 v1 k0_t1) a + S1x512x512.size a ≤ S32x512x512.size a) ∧
  (∀ (k0_h1 : k0_cond1 v3 = 1#1), (k0_t2_loop v1).OK) ∧
  (∀ k0_t2 : Fin (k0_t2_loop v1).trips, ∀ (k0_h1 : k0_cond1 v3 = 1#1), 512 ∣ (k0_mult2 v1 k0_t2).toNat) ∧
  (∀ k0_t2 : Fin (k0_t2_loop v1).trips, ∀ (k0_h1 : k0_cond1 v3 = 1#1), ∀ a, (k0_off4 v1 k0_t2) a + S512x128.size a ≤ S16384x128.size a) ∧
  (∀ k0_t2 : Fin (k0_t2_loop v1).trips, ∀ (k0_h1 : k0_cond1 v3 = 1#1), ∀ a, (k0_off5 v1 k0_t2) a + S1x512x512.size a ≤ S32x512x512.size a) ∧
  (∀ (k0_h1 : k0_cond1 v3 = 1#1), (k0_t3_loop v1).OK) ∧
  (∀ k0_t3 : Fin (k0_t3_loop v1).trips, ∀ (k0_h1 : k0_cond1 v3 = 1#1), 512 ∣ (k0_mult3 v1 k0_t3).toNat) ∧
  (∀ k0_t3 : Fin (k0_t3_loop v1).trips, ∀ (k0_h1 : k0_cond1 v3 = 1#1), ∀ a, (k0_off6 v1 k0_t3) a + S512x128.size a ≤ S16384x128.size a) ∧
  (∀ k0_t3 : Fin (k0_t3_loop v1).trips, ∀ (k0_h1 : k0_cond1 v3 = 1#1), ∀ a, (k0_off7 v1 k0_t3) a + S1x512x512.size a ≤ S32x512x512.size a) ∧
  (∀ (k0_h1 : k0_cond1 v3 = 1#1), (k0_t4_loop v1).OK) ∧
  (∀ k0_t4 : Fin (k0_t4_loop v1).trips, ∀ (k0_h1 : k0_cond1 v3 = 1#1), 512 ∣ (k0_mult4 v1 k0_t4).toNat) ∧
  (∀ k0_t4 : Fin (k0_t4_loop v1).trips, ∀ (k0_h1 : k0_cond1 v3 = 1#1), ∀ a, (k0_off8 v1 k0_t4) a + S512x128.size a ≤ S16384x128.size a) ∧
  (∀ k0_t4 : Fin (k0_t4_loop v1).trips, ∀ (k0_h1 : k0_cond1 v3 = 1#1), ∀ a, (k0_off9 v1 k0_t4) a + S1x512x512.size a ≤ S32x512x512.size a) ∧
  (∀ (k0_h1 : k0_cond1 v3 = 1#1), (k0_t5_loop v1).OK) ∧
  (∀ k0_t5 : Fin (k0_t5_loop v1).trips, ∀ (k0_h1 : k0_cond1 v3 = 1#1), ∀ a, (k0_off10 v1 k0_t5) a + S1x512x512.size a ≤ S32x512x512.size a) ∧
  (∀ (k0_h1 : k0_cond1 v3 = 1#1), (k0_t6_loop v1).OK) ∧
  (∀ k0_t6 : Fin (k0_t6_loop v1).trips, ∀ (k0_h1 : k0_cond1 v3 = 1#1), ∀ a, (k0_off11 v1 k0_t6) a + S1x512x512.size a ≤ S32x512x512.size a)
theorem k0_t1_ok : ∀ (v1 : BitVec 32) (v3 : BitVec 32) (k0_hw1 : k0_chk1 v1 v3), ∀ (k0_h1 : k0_cond1 v3 = 1#1), (k0_t1_loop v1).OK := fun v1 v3 k0_hw1 k0_h1 => k0_hw1.1 k0_h1
theorem k0_mult1_dvd : ∀ (v1 : BitVec 32) (v3 : BitVec 32) (k0_hw1 : k0_chk1 v1 v3) (k0_t1 : Fin (k0_t1_loop v1).trips), ∀ (k0_h1 : k0_cond1 v3 = 1#1), 512 ∣ (k0_mult1 v1 k0_t1).toNat := fun v1 v3 k0_hw1 k0_t1 k0_h1 => k0_hw1.2.1 k0_t1 k0_h1
theorem k0_off2_inb : ∀ (v1 : BitVec 32) (v3 : BitVec 32) (k0_hw1 : k0_chk1 v1 v3) (k0_t1 : Fin (k0_t1_loop v1).trips), ∀ (k0_h1 : k0_cond1 v3 = 1#1), ∀ a, (k0_off2 v1 k0_t1) a + S512x128.size a ≤ S16384x128.size a := fun v1 v3 k0_hw1 k0_t1 k0_h1 => k0_hw1.2.2.1 k0_t1 k0_h1
theorem k0_off3_inb : ∀ (v1 : BitVec 32) (v3 : BitVec 32) (k0_hw1 : k0_chk1 v1 v3) (k0_t1 : Fin (k0_t1_loop v1).trips), ∀ (k0_h1 : k0_cond1 v3 = 1#1), ∀ a, (k0_off3 v1 k0_t1) a + S1x512x512.size a ≤ S32x512x512.size a := fun v1 v3 k0_hw1 k0_t1 k0_h1 => k0_hw1.2.2.2.1 k0_t1 k0_h1
theorem k0_t2_ok : ∀ (v1 : BitVec 32) (v3 : BitVec 32) (k0_hw1 : k0_chk1 v1 v3), ∀ (k0_h1 : k0_cond1 v3 = 1#1), (k0_t2_loop v1).OK := fun v1 v3 k0_hw1 k0_h1 => k0_hw1.2.2.2.2.1 k0_h1
theorem k0_mult2_dvd : ∀ (v1 : BitVec 32) (v3 : BitVec 32) (k0_hw1 : k0_chk1 v1 v3) (k0_t2 : Fin (k0_t2_loop v1).trips), ∀ (k0_h1 : k0_cond1 v3 = 1#1), 512 ∣ (k0_mult2 v1 k0_t2).toNat := fun v1 v3 k0_hw1 k0_t2 k0_h1 => k0_hw1.2.2.2.2.2.1 k0_t2 k0_h1
theorem k0_off4_inb : ∀ (v1 : BitVec 32) (v3 : BitVec 32) (k0_hw1 : k0_chk1 v1 v3) (k0_t2 : Fin (k0_t2_loop v1).trips), ∀ (k0_h1 : k0_cond1 v3 = 1#1), ∀ a, (k0_off4 v1 k0_t2) a + S512x128.size a ≤ S16384x128.size a := fun v1 v3 k0_hw1 k0_t2 k0_h1 => k0_hw1.2.2.2.2.2.2.1 k0_t2 k0_h1
theorem k0_off5_inb : ∀ (v1 : BitVec 32) (v3 : BitVec 32) (k0_hw1 : k0_chk1 v1 v3) (k0_t2 : Fin (k0_t2_loop v1).trips), ∀ (k0_h1 : k0_cond1 v3 = 1#1), ∀ a, (k0_off5 v1 k0_t2) a + S1x512x512.size a ≤ S32x512x512.size a := fun v1 v3 k0_hw1 k0_t2 k0_h1 => k0_hw1.2.2.2.2.2.2.2.1 k0_t2 k0_h1
theorem k0_t3_ok : ∀ (v1 : BitVec 32) (v3 : BitVec 32) (k0_hw1 : k0_chk1 v1 v3), ∀ (k0_h1 : k0_cond1 v3 = 1#1), (k0_t3_loop v1).OK := fun v1 v3 k0_hw1 k0_h1 => k0_hw1.2.2.2.2.2.2.2.2.1 k0_h1
theorem k0_mult3_dvd : ∀ (v1 : BitVec 32) (v3 : BitVec 32) (k0_hw1 : k0_chk1 v1 v3) (k0_t3 : Fin (k0_t3_loop v1).trips), ∀ (k0_h1 : k0_cond1 v3 = 1#1), 512 ∣ (k0_mult3 v1 k0_t3).toNat := fun v1 v3 k0_hw1 k0_t3 k0_h1 => k0_hw1.2.2.2.2.2.2.2.2.2.1 k0_t3 k0_h1
theorem k0_off6_inb : ∀ (v1 : BitVec 32) (v3 : BitVec 32) (k0_hw1 : k0_chk1 v1 v3) (k0_t3 : Fin (k0_t3_loop v1).trips), ∀ (k0_h1 : k0_cond1 v3 = 1#1), ∀ a, (k0_off6 v1 k0_t3) a + S512x128.size a ≤ S16384x128.size a := fun v1 v3 k0_hw1 k0_t3 k0_h1 => k0_hw1.2.2.2.2.2.2.2.2.2.2.1 k0_t3 k0_h1
theorem k0_off7_inb : ∀ (v1 : BitVec 32) (v3 : BitVec 32) (k0_hw1 : k0_chk1 v1 v3) (k0_t3 : Fin (k0_t3_loop v1).trips), ∀ (k0_h1 : k0_cond1 v3 = 1#1), ∀ a, (k0_off7 v1 k0_t3) a + S1x512x512.size a ≤ S32x512x512.size a := fun v1 v3 k0_hw1 k0_t3 k0_h1 => k0_hw1.2.2.2.2.2.2.2.2.2.2.2.1 k0_t3 k0_h1
theorem k0_t4_ok : ∀ (v1 : BitVec 32) (v3 : BitVec 32) (k0_hw1 : k0_chk1 v1 v3), ∀ (k0_h1 : k0_cond1 v3 = 1#1), (k0_t4_loop v1).OK := fun v1 v3 k0_hw1 k0_h1 => k0_hw1.2.2.2.2.2.2.2.2.2.2.2.2.1 k0_h1
theorem k0_mult4_dvd : ∀ (v1 : BitVec 32) (v3 : BitVec 32) (k0_hw1 : k0_chk1 v1 v3) (k0_t4 : Fin (k0_t4_loop v1).trips), ∀ (k0_h1 : k0_cond1 v3 = 1#1), 512 ∣ (k0_mult4 v1 k0_t4).toNat := fun v1 v3 k0_hw1 k0_t4 k0_h1 => k0_hw1.2.2.2.2.2.2.2.2.2.2.2.2.2.1 k0_t4 k0_h1
theorem k0_off8_inb : ∀ (v1 : BitVec 32) (v3 : BitVec 32) (k0_hw1 : k0_chk1 v1 v3) (k0_t4 : Fin (k0_t4_loop v1).trips), ∀ (k0_h1 : k0_cond1 v3 = 1#1), ∀ a, (k0_off8 v1 k0_t4) a + S512x128.size a ≤ S16384x128.size a := fun v1 v3 k0_hw1 k0_t4 k0_h1 => k0_hw1.2.2.2.2.2.2.2.2.2.2.2.2.2.2.1 k0_t4 k0_h1
theorem k0_off9_inb : ∀ (v1 : BitVec 32) (v3 : BitVec 32) (k0_hw1 : k0_chk1 v1 v3) (k0_t4 : Fin (k0_t4_loop v1).trips), ∀ (k0_h1 : k0_cond1 v3 = 1#1), ∀ a, (k0_off9 v1 k0_t4) a + S1x512x512.size a ≤ S32x512x512.size a := fun v1 v3 k0_hw1 k0_t4 k0_h1 => k0_hw1.2.2.2.2.2.2.2.2.2.2.2.2.2.2.2.1 k0_t4 k0_h1
theorem k0_t5_ok : ∀ (v1 : BitVec 32) (v3 : BitVec 32) (k0_hw1 : k0_chk1 v1 v3), ∀ (k0_h1 : k0_cond1 v3 = 1#1), (k0_t5_loop v1).OK := fun v1 v3 k0_hw1 k0_h1 => k0_hw1.2.2.2.2.2.2.2.2.2.2.2.2.2.2.2.2.1 k0_h1
theorem k0_off10_inb : ∀ (v1 : BitVec 32) (v3 : BitVec 32) (k0_hw1 : k0_chk1 v1 v3) (k0_t5 : Fin (k0_t5_loop v1).trips), ∀ (k0_h1 : k0_cond1 v3 = 1#1), ∀ a, (k0_off10 v1 k0_t5) a + S1x512x512.size a ≤ S32x512x512.size a := fun v1 v3 k0_hw1 k0_t5 k0_h1 => k0_hw1.2.2.2.2.2.2.2.2.2.2.2.2.2.2.2.2.2.1 k0_t5 k0_h1
theorem k0_t6_ok : ∀ (v1 : BitVec 32) (v3 : BitVec 32) (k0_hw1 : k0_chk1 v1 v3), ∀ (k0_h1 : k0_cond1 v3 = 1#1), (k0_t6_loop v1).OK := fun v1 v3 k0_hw1 k0_h1 => k0_hw1.2.2.2.2.2.2.2.2.2.2.2.2.2.2.2.2.2.2.1 k0_h1
theorem k0_off11_inb : ∀ (v1 : BitVec 32) (v3 : BitVec 32) (k0_hw1 : k0_chk1 v1 v3) (k0_t6 : Fin (k0_t6_loop v1).trips), ∀ (k0_h1 : k0_cond1 v3 = 1#1), ∀ a, (k0_off11 v1 k0_t6) a + S1x512x512.size a ≤ S32x512x512.size a := fun v1 v3 k0_hw1 k0_t6 k0_h1 => k0_hw1.2.2.2.2.2.2.2.2.2.2.2.2.2.2.2.2.2.2.2 k0_t6 k0_h1

@[reducible] def k0_t7_loop : Scf.Loop 32 :=
  let c0_i32_217 : BitVec 32 := 0#32
  let c72_i32 : BitVec 32 := 72#32
  let v469 : BitVec 32 := Scalar.addi c0_i32_217 c72_i32
  let c1_i32_218 : BitVec 32 := 1#32
  ⟨c0_i32_217, v469, c1_i32_218⟩
def k0_cond2 (k0_t7 : Fin k0_t7_loop.trips) : BitVec 1 :=
  let c0_i32_217 : BitVec 32 := 0#32
  let c1_i32_218 : BitVec 32 := 1#32
  let arg17 : BitVec 32 := Scf.iv c0_i32_217 c1_i32_218 k0_t7
  let c13_i32 : BitVec 32 := 13#32
  let v687 : BitVec 1 := Scalar.cmpi .sge arg17 c13_i32
  let c13_i32_292 : BitVec 32 := 13#32
  let v688 : BitVec 32 := Scalar.subi arg17 c13_i32_292
  let c4_i32 : BitVec 32 := 4#32
  let c0_i32_293 : BitVec 32 := 0#32
  let v689 : BitVec 1 := Scalar.cmpi .eq c4_i32 c0_i32_293
  let c1_i32_294 : BitVec 32 := 1#32
  let v690 : BitVec 32 := Scalar.select v689 c1_i32_294 c4_i32
  let v691 : BitVec 32 := Scalar.remsi v688 v690
  let c0_i32_296 : BitVec 32 := 0#32
  let v693 : BitVec 1 := Scalar.cmpi .slt v691 c0_i32_296
  let c0_i32_297 : BitVec 32 := 0#32
  let v694 : BitVec 1 := Scalar.cmpi .slt v690 c0_i32_297
  let v695 : BitVec 1 := Scalar.xori v693 v694
  let c0_i32_295 : BitVec 32 := 0#32
  let v692 : BitVec 1 := Scalar.cmpi .ne v691 c0_i32_295
  let v696 : BitVec 1 := Scalar.andi v695 v692
  let v697 : BitVec 32 := Scalar.addi v691 v690
  let v698 : BitVec 32 := Scalar.select v696 v697 v691
  let c0_i32_298 : BitVec 32 := 0#32
  let v699 : BitVec 1 := Scalar.cmpi .eq v698 c0_i32_298
  let v700 : BitVec 1 := Scalar.andi v687 v699
  let v701 : BitVec 32 := Scalar.extui v700
  let c0_i32_299 : BitVec 32 := 0#32
  let v702 : BitVec 1 := Scalar.cmpi .ne v701 c0_i32_299
  v702

@[reducible] def k0_t8_loop (v1 : BitVec 32) : Scf.Loop 32 :=
  let c0_i32_426 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1074 : BitVec 32 := Scalar.subi v44 c0_i32_426
  let c1_i32_427 : BitVec 32 := 1#32
  let v1076 : BitVec 32 := Scalar.divsi v1074 c1_i32_427
  let v1077 : BitVec 32 := Scalar.muli v1076 c1_i32_427
  let v1078 : BitVec 32 := Scalar.addi c0_i32_426 v1077
  let c1_i32_428 : BitVec 32 := 1#32
  ⟨c0_i32_426, v1078, c1_i32_428⟩
def k0_cond3 (v882 : BitVec 1) : BitVec 1 :=
  let v883 : BitVec 32 := Scalar.extui v882
  let c0_i32_359 : BitVec 32 := 0#32
  let v884 : BitVec 1 := Scalar.cmpi .ne v883 c0_i32_359
  v884

def k0_off12 (v1 : BitVec 32) (k0_t8 : Fin (k0_t8_loop v1).trips) : Fin 3 → Nat :=
  let c0_i32_426 : BitVec 32 := 0#32
  let c1_i32_428 : BitVec 32 := 1#32
  let arg38 : BitVec 32 := Scf.iv c0_i32_426 c1_i32_428 k0_t8
  let v1081 : Index := Scalar.indexCast arg38
  let c0_430 : Index := 0#32
  let c0_431 : Index := 0#32
  ![v1081.toNat, 0, 0]
@[reducible] def k0_t9_loop (v1 : BitVec 32) : Scf.Loop 32 :=
  let c0_i32_426 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1074 : BitVec 32 := Scalar.subi v44 c0_i32_426
  let c1_i32_427 : BitVec 32 := 1#32
  let v1076 : BitVec 32 := Scalar.divsi v1074 c1_i32_427
  let v1077 : BitVec 32 := Scalar.muli v1076 c1_i32_427
  let v1078 : BitVec 32 := Scalar.addi c0_i32_426 v1077
  let v1075 : BitVec 32 := Scalar.addi c0_i32_426 v1074
  let c1_i32_429 : BitVec 32 := 1#32
  ⟨v1078, v1075, c1_i32_429⟩
def k0_off13 (v1 : BitVec 32) (k0_t9 : Fin (k0_t9_loop v1).trips) : Fin 3 → Nat :=
  let c0_i32_426 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1074 : BitVec 32 := Scalar.subi v44 c0_i32_426
  let c1_i32_427 : BitVec 32 := 1#32
  let v1076 : BitVec 32 := Scalar.divsi v1074 c1_i32_427
  let v1077 : BitVec 32 := Scalar.muli v1076 c1_i32_427
  let v1078 : BitVec 32 := Scalar.addi c0_i32_426 v1077
  let c1_i32_429 : BitVec 32 := 1#32
  let arg38 : BitVec 32 := Scf.iv v1078 c1_i32_429 k0_t9
  let v1081 : Index := Scalar.indexCast arg38
  let c0_430 : Index := 0#32
  let c0_431 : Index := 0#32
  ![v1081.toNat, 0, 0]

def k0_chk2 (v1 : BitVec 32) (v3 : BitVec 32) (k0_t7 : Fin k0_t7_loop.trips) (v882 : BitVec 1) : Prop :=
  (∀ (k0_h1 : k0_cond1 v3 = 1#1), ∀ (k0_h2 : k0_cond2 k0_t7 = 1#1), ∀ (k0_h3 : k0_cond3 v882 = 1#1), (k0_t8_loop v1).OK) ∧
  (∀ k0_t8 : Fin (k0_t8_loop v1).trips, ∀ (k0_h1 : k0_cond1 v3 = 1#1), ∀ (k0_h2 : k0_cond2 k0_t7 = 1#1), ∀ (k0_h3 : k0_cond3 v882 = 1#1), ∀ a, (k0_off12 v1 k0_t8) a + S1x128x512.size a ≤ S32x512x512.size a) ∧
  (∀ (k0_h1 : k0_cond1 v3 = 1#1), ∀ (k0_h2 : k0_cond2 k0_t7 = 1#1), ∀ (k0_h3 : k0_cond3 v882 = 1#1), (k0_t9_loop v1).OK) ∧
  (∀ k0_t9 : Fin (k0_t9_loop v1).trips, ∀ (k0_h1 : k0_cond1 v3 = 1#1), ∀ (k0_h2 : k0_cond2 k0_t7 = 1#1), ∀ (k0_h3 : k0_cond3 v882 = 1#1), ∀ a, (k0_off13 v1 k0_t9) a + S1x128x512.size a ≤ S32x512x512.size a)
theorem k0_t8_ok : ∀ (v1 : BitVec 32) (v3 : BitVec 32) (k0_t7 : Fin k0_t7_loop.trips) (v882 : BitVec 1) (k0_hw2 : k0_chk2 v1 v3 k0_t7 v882), ∀ (k0_h1 : k0_cond1 v3 = 1#1), ∀ (k0_h2 : k0_cond2 k0_t7 = 1#1), ∀ (k0_h3 : k0_cond3 v882 = 1#1), (k0_t8_loop v1).OK := fun v1 v3 k0_t7 v882 k0_hw2 k0_h1 k0_h2 k0_h3 => k0_hw2.1 k0_h1 k0_h2 k0_h3
theorem k0_off12_inb : ∀ (v1 : BitVec 32) (v3 : BitVec 32) (k0_t7 : Fin k0_t7_loop.trips) (v882 : BitVec 1) (k0_hw2 : k0_chk2 v1 v3 k0_t7 v882) (k0_t8 : Fin (k0_t8_loop v1).trips), ∀ (k0_h1 : k0_cond1 v3 = 1#1), ∀ (k0_h2 : k0_cond2 k0_t7 = 1#1), ∀ (k0_h3 : k0_cond3 v882 = 1#1), ∀ a, (k0_off12 v1 k0_t8) a + S1x128x512.size a ≤ S32x512x512.size a := fun v1 v3 k0_t7 v882 k0_hw2 k0_t8 k0_h1 k0_h2 k0_h3 => k0_hw2.2.1 k0_t8 k0_h1 k0_h2 k0_h3
theorem k0_t9_ok : ∀ (v1 : BitVec 32) (v3 : BitVec 32) (k0_t7 : Fin k0_t7_loop.trips) (v882 : BitVec 1) (k0_hw2 : k0_chk2 v1 v3 k0_t7 v882), ∀ (k0_h1 : k0_cond1 v3 = 1#1), ∀ (k0_h2 : k0_cond2 k0_t7 = 1#1), ∀ (k0_h3 : k0_cond3 v882 = 1#1), (k0_t9_loop v1).OK := fun v1 v3 k0_t7 v882 k0_hw2 k0_h1 k0_h2 k0_h3 => k0_hw2.2.2.1 k0_h1 k0_h2 k0_h3
theorem k0_off13_inb : ∀ (v1 : BitVec 32) (v3 : BitVec 32) (k0_t7 : Fin k0_t7_loop.trips) (v882 : BitVec 1) (k0_hw2 : k0_chk2 v1 v3 k0_t7 v882) (k0_t9 : Fin (k0_t9_loop v1).trips), ∀ (k0_h1 : k0_cond1 v3 = 1#1), ∀ (k0_h2 : k0_cond2 k0_t7 = 1#1), ∀ (k0_h3 : k0_cond3 v882 = 1#1), ∀ a, (k0_off13 v1 k0_t9) a + S1x128x512.size a ≤ S32x512x512.size a := fun v1 v3 k0_t7 v882 k0_hw2 k0_t9 k0_h1 k0_h2 k0_h3 => k0_hw2.2.2.2 k0_t9 k0_h1 k0_h2 k0_h3

@[reducible] def k0_t10_loop (v1 : BitVec 32) : Scf.Loop 32 :=
  let c0_i32_426 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1074 : BitVec 32 := Scalar.subi v44 c0_i32_426
  let c1_i32_427 : BitVec 32 := 1#32
  let v1076 : BitVec 32 := Scalar.divsi v1074 c1_i32_427
  let v1077 : BitVec 32 := Scalar.muli v1076 c1_i32_427
  let v1078 : BitVec 32 := Scalar.addi c0_i32_426 v1077
  let c1_i32_428 : BitVec 32 := 1#32
  ⟨c0_i32_426, v1078, c1_i32_428⟩
def k0_cond4 (v886 : BitVec 1) : BitVec 1 :=
  let v887 : BitVec 32 := Scalar.extui v886
  let c0_i32_361 : BitVec 32 := 0#32
  let v888 : BitVec 1 := Scalar.cmpi .ne v887 c0_i32_361
  v888

def k0_off14 (v1 : BitVec 32) (k0_t10 : Fin (k0_t10_loop v1).trips) : Fin 3 → Nat :=
  let c0_i32_426 : BitVec 32 := 0#32
  let c1_i32_428 : BitVec 32 := 1#32
  let arg38 : BitVec 32 := Scf.iv c0_i32_426 c1_i32_428 k0_t10
  let v1081 : Index := Scalar.indexCast arg38
  let c128_430 : Index := 128#32
  let c0_431 : Index := 0#32
  ![v1081.toNat, 128, 0]
@[reducible] def k0_t11_loop (v1 : BitVec 32) : Scf.Loop 32 :=
  let c0_i32_426 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1074 : BitVec 32 := Scalar.subi v44 c0_i32_426
  let c1_i32_427 : BitVec 32 := 1#32
  let v1076 : BitVec 32 := Scalar.divsi v1074 c1_i32_427
  let v1077 : BitVec 32 := Scalar.muli v1076 c1_i32_427
  let v1078 : BitVec 32 := Scalar.addi c0_i32_426 v1077
  let v1075 : BitVec 32 := Scalar.addi c0_i32_426 v1074
  let c1_i32_429 : BitVec 32 := 1#32
  ⟨v1078, v1075, c1_i32_429⟩
def k0_off15 (v1 : BitVec 32) (k0_t11 : Fin (k0_t11_loop v1).trips) : Fin 3 → Nat :=
  let c0_i32_426 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1074 : BitVec 32 := Scalar.subi v44 c0_i32_426
  let c1_i32_427 : BitVec 32 := 1#32
  let v1076 : BitVec 32 := Scalar.divsi v1074 c1_i32_427
  let v1077 : BitVec 32 := Scalar.muli v1076 c1_i32_427
  let v1078 : BitVec 32 := Scalar.addi c0_i32_426 v1077
  let c1_i32_429 : BitVec 32 := 1#32
  let arg38 : BitVec 32 := Scf.iv v1078 c1_i32_429 k0_t11
  let v1081 : Index := Scalar.indexCast arg38
  let c128_430 : Index := 128#32
  let c0_431 : Index := 0#32
  ![v1081.toNat, 128, 0]

def k0_chk3 (v1 : BitVec 32) (v3 : BitVec 32) (k0_t7 : Fin k0_t7_loop.trips) (v886 : BitVec 1) : Prop :=
  (∀ (k0_h1 : k0_cond1 v3 = 1#1), ∀ (k0_h2 : k0_cond2 k0_t7 = 1#1), ∀ (k0_h4 : k0_cond4 v886 = 1#1), (k0_t10_loop v1).OK) ∧
  (∀ k0_t10 : Fin (k0_t10_loop v1).trips, ∀ (k0_h1 : k0_cond1 v3 = 1#1), ∀ (k0_h2 : k0_cond2 k0_t7 = 1#1), ∀ (k0_h4 : k0_cond4 v886 = 1#1), ∀ a, (k0_off14 v1 k0_t10) a + S1x128x512.size a ≤ S32x512x512.size a) ∧
  (∀ (k0_h1 : k0_cond1 v3 = 1#1), ∀ (k0_h2 : k0_cond2 k0_t7 = 1#1), ∀ (k0_h4 : k0_cond4 v886 = 1#1), (k0_t11_loop v1).OK) ∧
  (∀ k0_t11 : Fin (k0_t11_loop v1).trips, ∀ (k0_h1 : k0_cond1 v3 = 1#1), ∀ (k0_h2 : k0_cond2 k0_t7 = 1#1), ∀ (k0_h4 : k0_cond4 v886 = 1#1), ∀ a, (k0_off15 v1 k0_t11) a + S1x128x512.size a ≤ S32x512x512.size a)
theorem k0_t10_ok : ∀ (v1 : BitVec 32) (v3 : BitVec 32) (k0_t7 : Fin k0_t7_loop.trips) (v886 : BitVec 1) (k0_hw3 : k0_chk3 v1 v3 k0_t7 v886), ∀ (k0_h1 : k0_cond1 v3 = 1#1), ∀ (k0_h2 : k0_cond2 k0_t7 = 1#1), ∀ (k0_h4 : k0_cond4 v886 = 1#1), (k0_t10_loop v1).OK := fun v1 v3 k0_t7 v886 k0_hw3 k0_h1 k0_h2 k0_h4 => k0_hw3.1 k0_h1 k0_h2 k0_h4
theorem k0_off14_inb : ∀ (v1 : BitVec 32) (v3 : BitVec 32) (k0_t7 : Fin k0_t7_loop.trips) (v886 : BitVec 1) (k0_hw3 : k0_chk3 v1 v3 k0_t7 v886) (k0_t10 : Fin (k0_t10_loop v1).trips), ∀ (k0_h1 : k0_cond1 v3 = 1#1), ∀ (k0_h2 : k0_cond2 k0_t7 = 1#1), ∀ (k0_h4 : k0_cond4 v886 = 1#1), ∀ a, (k0_off14 v1 k0_t10) a + S1x128x512.size a ≤ S32x512x512.size a := fun v1 v3 k0_t7 v886 k0_hw3 k0_t10 k0_h1 k0_h2 k0_h4 => k0_hw3.2.1 k0_t10 k0_h1 k0_h2 k0_h4
theorem k0_t11_ok : ∀ (v1 : BitVec 32) (v3 : BitVec 32) (k0_t7 : Fin k0_t7_loop.trips) (v886 : BitVec 1) (k0_hw3 : k0_chk3 v1 v3 k0_t7 v886), ∀ (k0_h1 : k0_cond1 v3 = 1#1), ∀ (k0_h2 : k0_cond2 k0_t7 = 1#1), ∀ (k0_h4 : k0_cond4 v886 = 1#1), (k0_t11_loop v1).OK := fun v1 v3 k0_t7 v886 k0_hw3 k0_h1 k0_h2 k0_h4 => k0_hw3.2.2.1 k0_h1 k0_h2 k0_h4
theorem k0_off15_inb : ∀ (v1 : BitVec 32) (v3 : BitVec 32) (k0_t7 : Fin k0_t7_loop.trips) (v886 : BitVec 1) (k0_hw3 : k0_chk3 v1 v3 k0_t7 v886) (k0_t11 : Fin (k0_t11_loop v1).trips), ∀ (k0_h1 : k0_cond1 v3 = 1#1), ∀ (k0_h2 : k0_cond2 k0_t7 = 1#1), ∀ (k0_h4 : k0_cond4 v886 = 1#1), ∀ a, (k0_off15 v1 k0_t11) a + S1x128x512.size a ≤ S32x512x512.size a := fun v1 v3 k0_t7 v886 k0_hw3 k0_t11 k0_h1 k0_h2 k0_h4 => k0_hw3.2.2.2 k0_t11 k0_h1 k0_h2 k0_h4

@[reducible] def k0_t12_loop (v1 : BitVec 32) : Scf.Loop 32 :=
  let c0_i32_426 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1074 : BitVec 32 := Scalar.subi v44 c0_i32_426
  let c1_i32_427 : BitVec 32 := 1#32
  let v1076 : BitVec 32 := Scalar.divsi v1074 c1_i32_427
  let v1077 : BitVec 32 := Scalar.muli v1076 c1_i32_427
  let v1078 : BitVec 32 := Scalar.addi c0_i32_426 v1077
  let c1_i32_428 : BitVec 32 := 1#32
  ⟨c0_i32_426, v1078, c1_i32_428⟩
def k0_cond5 (v890 : BitVec 1) : BitVec 1 :=
  let v891 : BitVec 32 := Scalar.extui v890
  let c0_i32_363 : BitVec 32 := 0#32
  let v892 : BitVec 1 := Scalar.cmpi .ne v891 c0_i32_363
  v892

def k0_off16 (v1 : BitVec 32) (k0_t12 : Fin (k0_t12_loop v1).trips) : Fin 3 → Nat :=
  let c0_i32_426 : BitVec 32 := 0#32
  let c1_i32_428 : BitVec 32 := 1#32
  let arg38 : BitVec 32 := Scf.iv c0_i32_426 c1_i32_428 k0_t12
  let v1081 : Index := Scalar.indexCast arg38
  let c256_430 : Index := 256#32
  let c0_431 : Index := 0#32
  ![v1081.toNat, 256, 0]
@[reducible] def k0_t13_loop (v1 : BitVec 32) : Scf.Loop 32 :=
  let c0_i32_426 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1074 : BitVec 32 := Scalar.subi v44 c0_i32_426
  let c1_i32_427 : BitVec 32 := 1#32
  let v1076 : BitVec 32 := Scalar.divsi v1074 c1_i32_427
  let v1077 : BitVec 32 := Scalar.muli v1076 c1_i32_427
  let v1078 : BitVec 32 := Scalar.addi c0_i32_426 v1077
  let v1075 : BitVec 32 := Scalar.addi c0_i32_426 v1074
  let c1_i32_429 : BitVec 32 := 1#32
  ⟨v1078, v1075, c1_i32_429⟩
def k0_off17 (v1 : BitVec 32) (k0_t13 : Fin (k0_t13_loop v1).trips) : Fin 3 → Nat :=
  let c0_i32_426 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1074 : BitVec 32 := Scalar.subi v44 c0_i32_426
  let c1_i32_427 : BitVec 32 := 1#32
  let v1076 : BitVec 32 := Scalar.divsi v1074 c1_i32_427
  let v1077 : BitVec 32 := Scalar.muli v1076 c1_i32_427
  let v1078 : BitVec 32 := Scalar.addi c0_i32_426 v1077
  let c1_i32_429 : BitVec 32 := 1#32
  let arg38 : BitVec 32 := Scf.iv v1078 c1_i32_429 k0_t13
  let v1081 : Index := Scalar.indexCast arg38
  let c256_430 : Index := 256#32
  let c0_431 : Index := 0#32
  ![v1081.toNat, 256, 0]

def k0_chk4 (v1 : BitVec 32) (v3 : BitVec 32) (k0_t7 : Fin k0_t7_loop.trips) (v890 : BitVec 1) : Prop :=
  (∀ (k0_h1 : k0_cond1 v3 = 1#1), ∀ (k0_h2 : k0_cond2 k0_t7 = 1#1), ∀ (k0_h5 : k0_cond5 v890 = 1#1), (k0_t12_loop v1).OK) ∧
  (∀ k0_t12 : Fin (k0_t12_loop v1).trips, ∀ (k0_h1 : k0_cond1 v3 = 1#1), ∀ (k0_h2 : k0_cond2 k0_t7 = 1#1), ∀ (k0_h5 : k0_cond5 v890 = 1#1), ∀ a, (k0_off16 v1 k0_t12) a + S1x128x512.size a ≤ S32x512x512.size a) ∧
  (∀ (k0_h1 : k0_cond1 v3 = 1#1), ∀ (k0_h2 : k0_cond2 k0_t7 = 1#1), ∀ (k0_h5 : k0_cond5 v890 = 1#1), (k0_t13_loop v1).OK) ∧
  (∀ k0_t13 : Fin (k0_t13_loop v1).trips, ∀ (k0_h1 : k0_cond1 v3 = 1#1), ∀ (k0_h2 : k0_cond2 k0_t7 = 1#1), ∀ (k0_h5 : k0_cond5 v890 = 1#1), ∀ a, (k0_off17 v1 k0_t13) a + S1x128x512.size a ≤ S32x512x512.size a)
theorem k0_t12_ok : ∀ (v1 : BitVec 32) (v3 : BitVec 32) (k0_t7 : Fin k0_t7_loop.trips) (v890 : BitVec 1) (k0_hw4 : k0_chk4 v1 v3 k0_t7 v890), ∀ (k0_h1 : k0_cond1 v3 = 1#1), ∀ (k0_h2 : k0_cond2 k0_t7 = 1#1), ∀ (k0_h5 : k0_cond5 v890 = 1#1), (k0_t12_loop v1).OK := fun v1 v3 k0_t7 v890 k0_hw4 k0_h1 k0_h2 k0_h5 => k0_hw4.1 k0_h1 k0_h2 k0_h5
theorem k0_off16_inb : ∀ (v1 : BitVec 32) (v3 : BitVec 32) (k0_t7 : Fin k0_t7_loop.trips) (v890 : BitVec 1) (k0_hw4 : k0_chk4 v1 v3 k0_t7 v890) (k0_t12 : Fin (k0_t12_loop v1).trips), ∀ (k0_h1 : k0_cond1 v3 = 1#1), ∀ (k0_h2 : k0_cond2 k0_t7 = 1#1), ∀ (k0_h5 : k0_cond5 v890 = 1#1), ∀ a, (k0_off16 v1 k0_t12) a + S1x128x512.size a ≤ S32x512x512.size a := fun v1 v3 k0_t7 v890 k0_hw4 k0_t12 k0_h1 k0_h2 k0_h5 => k0_hw4.2.1 k0_t12 k0_h1 k0_h2 k0_h5
theorem k0_t13_ok : ∀ (v1 : BitVec 32) (v3 : BitVec 32) (k0_t7 : Fin k0_t7_loop.trips) (v890 : BitVec 1) (k0_hw4 : k0_chk4 v1 v3 k0_t7 v890), ∀ (k0_h1 : k0_cond1 v3 = 1#1), ∀ (k0_h2 : k0_cond2 k0_t7 = 1#1), ∀ (k0_h5 : k0_cond5 v890 = 1#1), (k0_t13_loop v1).OK := fun v1 v3 k0_t7 v890 k0_hw4 k0_h1 k0_h2 k0_h5 => k0_hw4.2.2.1 k0_h1 k0_h2 k0_h5
theorem k0_off17_inb : ∀ (v1 : BitVec 32) (v3 : BitVec 32) (k0_t7 : Fin k0_t7_loop.trips) (v890 : BitVec 1) (k0_hw4 : k0_chk4 v1 v3 k0_t7 v890) (k0_t13 : Fin (k0_t13_loop v1).trips), ∀ (k0_h1 : k0_cond1 v3 = 1#1), ∀ (k0_h2 : k0_cond2 k0_t7 = 1#1), ∀ (k0_h5 : k0_cond5 v890 = 1#1), ∀ a, (k0_off17 v1 k0_t13) a + S1x128x512.size a ≤ S32x512x512.size a := fun v1 v3 k0_t7 v890 k0_hw4 k0_t13 k0_h1 k0_h2 k0_h5 => k0_hw4.2.2.2 k0_t13 k0_h1 k0_h2 k0_h5

@[reducible] def k0_t14_loop (v1 : BitVec 32) : Scf.Loop 32 :=
  let c0_i32_426 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1074 : BitVec 32 := Scalar.subi v44 c0_i32_426
  let c1_i32_427 : BitVec 32 := 1#32
  let v1076 : BitVec 32 := Scalar.divsi v1074 c1_i32_427
  let v1077 : BitVec 32 := Scalar.muli v1076 c1_i32_427
  let v1078 : BitVec 32 := Scalar.addi c0_i32_426 v1077
  let c1_i32_428 : BitVec 32 := 1#32
  ⟨c0_i32_426, v1078, c1_i32_428⟩
def k0_cond6 (v894 : BitVec 1) : BitVec 1 :=
  let v895 : BitVec 32 := Scalar.extui v894
  let c0_i32_365 : BitVec 32 := 0#32
  let v896 : BitVec 1 := Scalar.cmpi .ne v895 c0_i32_365
  v896

def k0_off18 (v1 : BitVec 32) (k0_t14 : Fin (k0_t14_loop v1).trips) : Fin 3 → Nat :=
  let c0_i32_426 : BitVec 32 := 0#32
  let c1_i32_428 : BitVec 32 := 1#32
  let arg38 : BitVec 32 := Scf.iv c0_i32_426 c1_i32_428 k0_t14
  let v1081 : Index := Scalar.indexCast arg38
  let c384_430 : Index := 384#32
  let c0_431 : Index := 0#32
  ![v1081.toNat, 384, 0]
@[reducible] def k0_t15_loop (v1 : BitVec 32) : Scf.Loop 32 :=
  let c0_i32_426 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1074 : BitVec 32 := Scalar.subi v44 c0_i32_426
  let c1_i32_427 : BitVec 32 := 1#32
  let v1076 : BitVec 32 := Scalar.divsi v1074 c1_i32_427
  let v1077 : BitVec 32 := Scalar.muli v1076 c1_i32_427
  let v1078 : BitVec 32 := Scalar.addi c0_i32_426 v1077
  let v1075 : BitVec 32 := Scalar.addi c0_i32_426 v1074
  let c1_i32_429 : BitVec 32 := 1#32
  ⟨v1078, v1075, c1_i32_429⟩
def k0_off19 (v1 : BitVec 32) (k0_t15 : Fin (k0_t15_loop v1).trips) : Fin 3 → Nat :=
  let c0_i32_426 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1074 : BitVec 32 := Scalar.subi v44 c0_i32_426
  let c1_i32_427 : BitVec 32 := 1#32
  let v1076 : BitVec 32 := Scalar.divsi v1074 c1_i32_427
  let v1077 : BitVec 32 := Scalar.muli v1076 c1_i32_427
  let v1078 : BitVec 32 := Scalar.addi c0_i32_426 v1077
  let c1_i32_429 : BitVec 32 := 1#32
  let arg38 : BitVec 32 := Scf.iv v1078 c1_i32_429 k0_t15
  let v1081 : Index := Scalar.indexCast arg38
  let c384_430 : Index := 384#32
  let c0_431 : Index := 0#32
  ![v1081.toNat, 384, 0]

def k0_chk5 (v1 : BitVec 32) (v3 : BitVec 32) (k0_t7 : Fin k0_t7_loop.trips) (v894 : BitVec 1) : Prop :=
  (∀ (k0_h1 : k0_cond1 v3 = 1#1), ∀ (k0_h2 : k0_cond2 k0_t7 = 1#1), ∀ (k0_h6 : k0_cond6 v894 = 1#1), (k0_t14_loop v1).OK) ∧
  (∀ k0_t14 : Fin (k0_t14_loop v1).trips, ∀ (k0_h1 : k0_cond1 v3 = 1#1), ∀ (k0_h2 : k0_cond2 k0_t7 = 1#1), ∀ (k0_h6 : k0_cond6 v894 = 1#1), ∀ a, (k0_off18 v1 k0_t14) a + S1x128x512.size a ≤ S32x512x512.size a) ∧
  (∀ (k0_h1 : k0_cond1 v3 = 1#1), ∀ (k0_h2 : k0_cond2 k0_t7 = 1#1), ∀ (k0_h6 : k0_cond6 v894 = 1#1), (k0_t15_loop v1).OK) ∧
  (∀ k0_t15 : Fin (k0_t15_loop v1).trips, ∀ (k0_h1 : k0_cond1 v3 = 1#1), ∀ (k0_h2 : k0_cond2 k0_t7 = 1#1), ∀ (k0_h6 : k0_cond6 v894 = 1#1), ∀ a, (k0_off19 v1 k0_t15) a + S1x128x512.size a ≤ S32x512x512.size a)
theorem k0_t14_ok : ∀ (v1 : BitVec 32) (v3 : BitVec 32) (k0_t7 : Fin k0_t7_loop.trips) (v894 : BitVec 1) (k0_hw5 : k0_chk5 v1 v3 k0_t7 v894), ∀ (k0_h1 : k0_cond1 v3 = 1#1), ∀ (k0_h2 : k0_cond2 k0_t7 = 1#1), ∀ (k0_h6 : k0_cond6 v894 = 1#1), (k0_t14_loop v1).OK := fun v1 v3 k0_t7 v894 k0_hw5 k0_h1 k0_h2 k0_h6 => k0_hw5.1 k0_h1 k0_h2 k0_h6
theorem k0_off18_inb : ∀ (v1 : BitVec 32) (v3 : BitVec 32) (k0_t7 : Fin k0_t7_loop.trips) (v894 : BitVec 1) (k0_hw5 : k0_chk5 v1 v3 k0_t7 v894) (k0_t14 : Fin (k0_t14_loop v1).trips), ∀ (k0_h1 : k0_cond1 v3 = 1#1), ∀ (k0_h2 : k0_cond2 k0_t7 = 1#1), ∀ (k0_h6 : k0_cond6 v894 = 1#1), ∀ a, (k0_off18 v1 k0_t14) a + S1x128x512.size a ≤ S32x512x512.size a := fun v1 v3 k0_t7 v894 k0_hw5 k0_t14 k0_h1 k0_h2 k0_h6 => k0_hw5.2.1 k0_t14 k0_h1 k0_h2 k0_h6
theorem k0_t15_ok : ∀ (v1 : BitVec 32) (v3 : BitVec 32) (k0_t7 : Fin k0_t7_loop.trips) (v894 : BitVec 1) (k0_hw5 : k0_chk5 v1 v3 k0_t7 v894), ∀ (k0_h1 : k0_cond1 v3 = 1#1), ∀ (k0_h2 : k0_cond2 k0_t7 = 1#1), ∀ (k0_h6 : k0_cond6 v894 = 1#1), (k0_t15_loop v1).OK := fun v1 v3 k0_t7 v894 k0_hw5 k0_h1 k0_h2 k0_h6 => k0_hw5.2.2.1 k0_h1 k0_h2 k0_h6
theorem k0_off19_inb : ∀ (v1 : BitVec 32) (v3 : BitVec 32) (k0_t7 : Fin k0_t7_loop.trips) (v894 : BitVec 1) (k0_hw5 : k0_chk5 v1 v3 k0_t7 v894) (k0_t15 : Fin (k0_t15_loop v1).trips), ∀ (k0_h1 : k0_cond1 v3 = 1#1), ∀ (k0_h2 : k0_cond2 k0_t7 = 1#1), ∀ (k0_h6 : k0_cond6 v894 = 1#1), ∀ a, (k0_off19 v1 k0_t15) a + S1x128x512.size a ≤ S32x512x512.size a := fun v1 v3 k0_t7 v894 k0_hw5 k0_t15 k0_h1 k0_h2 k0_h6 => k0_hw5.2.2.2 k0_t15 k0_h1 k0_h2 k0_h6

@[reducible] def k0_t16_loop (v1 : BitVec 32) : Scf.Loop 32 :=
  let c0_i32_447 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1132 : BitVec 32 := Scalar.subi v44 c0_i32_447
  let c1_i32_448 : BitVec 32 := 1#32
  let v1134 : BitVec 32 := Scalar.divsi v1132 c1_i32_448
  let v1135 : BitVec 32 := Scalar.muli v1134 c1_i32_448
  let v1136 : BitVec 32 := Scalar.addi c0_i32_447 v1135
  let c1_i32_449 : BitVec 32 := 1#32
  ⟨c0_i32_447, v1136, c1_i32_449⟩
def k0_cond7 (v1053 : BitVec 1) : BitVec 1 :=
  let v1054 : BitVec 32 := Scalar.extui v1053
  let c0_i32_421 : BitVec 32 := 0#32
  let v1055 : BitVec 1 := Scalar.cmpi .ne v1054 c0_i32_421
  v1055

def k0_off20 (v1 : BitVec 32) (k0_t16 : Fin (k0_t16_loop v1).trips) : Fin 3 → Nat :=
  let c0_i32_447 : BitVec 32 := 0#32
  let c1_i32_449 : BitVec 32 := 1#32
  let arg38 : BitVec 32 := Scf.iv c0_i32_447 c1_i32_449 k0_t16
  let v1139 : Index := Scalar.indexCast arg38
  let c0_451 : Index := 0#32
  let c0_452 : Index := 0#32
  ![v1139.toNat, 0, 0]
@[reducible] def k0_t17_loop (v1 : BitVec 32) : Scf.Loop 32 :=
  let c0_i32_447 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1132 : BitVec 32 := Scalar.subi v44 c0_i32_447
  let c1_i32_448 : BitVec 32 := 1#32
  let v1134 : BitVec 32 := Scalar.divsi v1132 c1_i32_448
  let v1135 : BitVec 32 := Scalar.muli v1134 c1_i32_448
  let v1136 : BitVec 32 := Scalar.addi c0_i32_447 v1135
  let v1133 : BitVec 32 := Scalar.addi c0_i32_447 v1132
  let c1_i32_450 : BitVec 32 := 1#32
  ⟨v1136, v1133, c1_i32_450⟩
def k0_off21 (v1 : BitVec 32) (k0_t17 : Fin (k0_t17_loop v1).trips) : Fin 3 → Nat :=
  let c0_i32_447 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1132 : BitVec 32 := Scalar.subi v44 c0_i32_447
  let c1_i32_448 : BitVec 32 := 1#32
  let v1134 : BitVec 32 := Scalar.divsi v1132 c1_i32_448
  let v1135 : BitVec 32 := Scalar.muli v1134 c1_i32_448
  let v1136 : BitVec 32 := Scalar.addi c0_i32_447 v1135
  let c1_i32_450 : BitVec 32 := 1#32
  let arg38 : BitVec 32 := Scf.iv v1136 c1_i32_450 k0_t17
  let v1139 : Index := Scalar.indexCast arg38
  let c0_451 : Index := 0#32
  let c0_452 : Index := 0#32
  ![v1139.toNat, 0, 0]

def k0_chk6 (v1 : BitVec 32) (v3 : BitVec 32) (k0_t7 : Fin k0_t7_loop.trips) (v1053 : BitVec 1) : Prop :=
  (∀ (k0_h1 : k0_cond1 v3 = 1#1), ∀ (k0_h2 : ¬(k0_cond2 k0_t7 = 1#1)), ∀ (k0_h7 : k0_cond7 v1053 = 1#1), (k0_t16_loop v1).OK) ∧
  (∀ k0_t16 : Fin (k0_t16_loop v1).trips, ∀ (k0_h1 : k0_cond1 v3 = 1#1), ∀ (k0_h2 : ¬(k0_cond2 k0_t7 = 1#1)), ∀ (k0_h7 : k0_cond7 v1053 = 1#1), ∀ a, (k0_off20 v1 k0_t16) a + S1x128x512.size a ≤ S32x512x512.size a) ∧
  (∀ (k0_h1 : k0_cond1 v3 = 1#1), ∀ (k0_h2 : ¬(k0_cond2 k0_t7 = 1#1)), ∀ (k0_h7 : k0_cond7 v1053 = 1#1), (k0_t17_loop v1).OK) ∧
  (∀ k0_t17 : Fin (k0_t17_loop v1).trips, ∀ (k0_h1 : k0_cond1 v3 = 1#1), ∀ (k0_h2 : ¬(k0_cond2 k0_t7 = 1#1)), ∀ (k0_h7 : k0_cond7 v1053 = 1#1), ∀ a, (k0_off21 v1 k0_t17) a + S1x128x512.size a ≤ S32x512x512.size a)
theorem k0_t16_ok : ∀ (v1 : BitVec 32) (v3 : BitVec 32) (k0_t7 : Fin k0_t7_loop.trips) (v1053 : BitVec 1) (k0_hw6 : k0_chk6 v1 v3 k0_t7 v1053), ∀ (k0_h1 : k0_cond1 v3 = 1#1), ∀ (k0_h2 : ¬(k0_cond2 k0_t7 = 1#1)), ∀ (k0_h7 : k0_cond7 v1053 = 1#1), (k0_t16_loop v1).OK := fun v1 v3 k0_t7 v1053 k0_hw6 k0_h1 k0_h2 k0_h7 => k0_hw6.1 k0_h1 k0_h2 k0_h7
theorem k0_off20_inb : ∀ (v1 : BitVec 32) (v3 : BitVec 32) (k0_t7 : Fin k0_t7_loop.trips) (v1053 : BitVec 1) (k0_hw6 : k0_chk6 v1 v3 k0_t7 v1053) (k0_t16 : Fin (k0_t16_loop v1).trips), ∀ (k0_h1 : k0_cond1 v3 = 1#1), ∀ (k0_h2 : ¬(k0_cond2 k0_t7 = 1#1)), ∀ (k0_h7 : k0_cond7 v1053 = 1#1), ∀ a, (k0_off20 v1 k0_t16) a + S1x128x512.size a ≤ S32x512x512.size a := fun v1 v3 k0_t7 v1053 k0_hw6 k0_t16 k0_h1 k0_h2 k0_h7 => k0_hw6.2.1 k0_t16 k0_h1 k0_h2 k0_h7
theorem k0_t17_ok : ∀ (v1 : BitVec 32) (v3 : BitVec 32) (k0_t7 : Fin k0_t7_loop.trips) (v1053 : BitVec 1) (k0_hw6 : k0_chk6 v1 v3 k0_t7 v1053), ∀ (k0_h1 : k0_cond1 v3 = 1#1), ∀ (k0_h2 : ¬(k0_cond2 k0_t7 = 1#1)), ∀ (k0_h7 : k0_cond7 v1053 = 1#1), (k0_t17_loop v1).OK := fun v1 v3 k0_t7 v1053 k0_hw6 k0_h1 k0_h2 k0_h7 => k0_hw6.2.2.1 k0_h1 k0_h2 k0_h7
theorem k0_off21_inb : ∀ (v1 : BitVec 32) (v3 : BitVec 32) (k0_t7 : Fin k0_t7_loop.trips) (v1053 : BitVec 1) (k0_hw6 : k0_chk6 v1 v3 k0_t7 v1053) (k0_t17 : Fin (k0_t17_loop v1).trips), ∀ (k0_h1 : k0_cond1 v3 = 1#1), ∀ (k0_h2 : ¬(k0_cond2 k0_t7 = 1#1)), ∀ (k0_h7 : k0_cond7 v1053 = 1#1), ∀ a, (k0_off21 v1 k0_t17) a + S1x128x512.size a ≤ S32x512x512.size a := fun v1 v3 k0_t7 v1053 k0_hw6 k0_t17 k0_h1 k0_h2 k0_h7 => k0_hw6.2.2.2 k0_t17 k0_h1 k0_h2 k0_h7

@[reducible] def k0_t18_loop (v1 : BitVec 32) : Scf.Loop 32 :=
  let c0_i32_447 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1132 : BitVec 32 := Scalar.subi v44 c0_i32_447
  let c1_i32_448 : BitVec 32 := 1#32
  let v1134 : BitVec 32 := Scalar.divsi v1132 c1_i32_448
  let v1135 : BitVec 32 := Scalar.muli v1134 c1_i32_448
  let v1136 : BitVec 32 := Scalar.addi c0_i32_447 v1135
  let c1_i32_449 : BitVec 32 := 1#32
  ⟨c0_i32_447, v1136, c1_i32_449⟩
def k0_cond8 (v1058 : BitVec 1) : BitVec 1 :=
  let v1059 : BitVec 32 := Scalar.extui v1058
  let c0_i32_424 : BitVec 32 := 0#32
  let v1060 : BitVec 1 := Scalar.cmpi .ne v1059 c0_i32_424
  v1060

def k0_off22 (v1 : BitVec 32) (k0_t18 : Fin (k0_t18_loop v1).trips) : Fin 3 → Nat :=
  let c0_i32_447 : BitVec 32 := 0#32
  let c1_i32_449 : BitVec 32 := 1#32
  let arg38 : BitVec 32 := Scf.iv c0_i32_447 c1_i32_449 k0_t18
  let v1139 : Index := Scalar.indexCast arg38
  let c128_451 : Index := 128#32
  let c0_452 : Index := 0#32
  ![v1139.toNat, 128, 0]
@[reducible] def k0_t19_loop (v1 : BitVec 32) : Scf.Loop 32 :=
  let c0_i32_447 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1132 : BitVec 32 := Scalar.subi v44 c0_i32_447
  let c1_i32_448 : BitVec 32 := 1#32
  let v1134 : BitVec 32 := Scalar.divsi v1132 c1_i32_448
  let v1135 : BitVec 32 := Scalar.muli v1134 c1_i32_448
  let v1136 : BitVec 32 := Scalar.addi c0_i32_447 v1135
  let v1133 : BitVec 32 := Scalar.addi c0_i32_447 v1132
  let c1_i32_450 : BitVec 32 := 1#32
  ⟨v1136, v1133, c1_i32_450⟩
def k0_off23 (v1 : BitVec 32) (k0_t19 : Fin (k0_t19_loop v1).trips) : Fin 3 → Nat :=
  let c0_i32_447 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1132 : BitVec 32 := Scalar.subi v44 c0_i32_447
  let c1_i32_448 : BitVec 32 := 1#32
  let v1134 : BitVec 32 := Scalar.divsi v1132 c1_i32_448
  let v1135 : BitVec 32 := Scalar.muli v1134 c1_i32_448
  let v1136 : BitVec 32 := Scalar.addi c0_i32_447 v1135
  let c1_i32_450 : BitVec 32 := 1#32
  let arg38 : BitVec 32 := Scf.iv v1136 c1_i32_450 k0_t19
  let v1139 : Index := Scalar.indexCast arg38
  let c128_451 : Index := 128#32
  let c0_452 : Index := 0#32
  ![v1139.toNat, 128, 0]

def k0_chk7 (v1 : BitVec 32) (v3 : BitVec 32) (k0_t7 : Fin k0_t7_loop.trips) (v1058 : BitVec 1) : Prop :=
  (∀ (k0_h1 : k0_cond1 v3 = 1#1), ∀ (k0_h2 : ¬(k0_cond2 k0_t7 = 1#1)), ∀ (k0_h8 : k0_cond8 v1058 = 1#1), (k0_t18_loop v1).OK) ∧
  (∀ k0_t18 : Fin (k0_t18_loop v1).trips, ∀ (k0_h1 : k0_cond1 v3 = 1#1), ∀ (k0_h2 : ¬(k0_cond2 k0_t7 = 1#1)), ∀ (k0_h8 : k0_cond8 v1058 = 1#1), ∀ a, (k0_off22 v1 k0_t18) a + S1x128x512.size a ≤ S32x512x512.size a) ∧
  (∀ (k0_h1 : k0_cond1 v3 = 1#1), ∀ (k0_h2 : ¬(k0_cond2 k0_t7 = 1#1)), ∀ (k0_h8 : k0_cond8 v1058 = 1#1), (k0_t19_loop v1).OK) ∧
  (∀ k0_t19 : Fin (k0_t19_loop v1).trips, ∀ (k0_h1 : k0_cond1 v3 = 1#1), ∀ (k0_h2 : ¬(k0_cond2 k0_t7 = 1#1)), ∀ (k0_h8 : k0_cond8 v1058 = 1#1), ∀ a, (k0_off23 v1 k0_t19) a + S1x128x512.size a ≤ S32x512x512.size a)
theorem k0_t18_ok : ∀ (v1 : BitVec 32) (v3 : BitVec 32) (k0_t7 : Fin k0_t7_loop.trips) (v1058 : BitVec 1) (k0_hw7 : k0_chk7 v1 v3 k0_t7 v1058), ∀ (k0_h1 : k0_cond1 v3 = 1#1), ∀ (k0_h2 : ¬(k0_cond2 k0_t7 = 1#1)), ∀ (k0_h8 : k0_cond8 v1058 = 1#1), (k0_t18_loop v1).OK := fun v1 v3 k0_t7 v1058 k0_hw7 k0_h1 k0_h2 k0_h8 => k0_hw7.1 k0_h1 k0_h2 k0_h8
theorem k0_off22_inb : ∀ (v1 : BitVec 32) (v3 : BitVec 32) (k0_t7 : Fin k0_t7_loop.trips) (v1058 : BitVec 1) (k0_hw7 : k0_chk7 v1 v3 k0_t7 v1058) (k0_t18 : Fin (k0_t18_loop v1).trips), ∀ (k0_h1 : k0_cond1 v3 = 1#1), ∀ (k0_h2 : ¬(k0_cond2 k0_t7 = 1#1)), ∀ (k0_h8 : k0_cond8 v1058 = 1#1), ∀ a, (k0_off22 v1 k0_t18) a + S1x128x512.size a ≤ S32x512x512.size a := fun v1 v3 k0_t7 v1058 k0_hw7 k0_t18 k0_h1 k0_h2 k0_h8 => k0_hw7.2.1 k0_t18 k0_h1 k0_h2 k0_h8
theorem k0_t19_ok : ∀ (v1 : BitVec 32) (v3 : BitVec 32) (k0_t7 : Fin k0_t7_loop.trips) (v1058 : BitVec 1) (k0_hw7 : k0_chk7 v1 v3 k0_t7 v1058), ∀ (k0_h1 : k0_cond1 v3 = 1#1), ∀ (k0_h2 : ¬(k0_cond2 k0_t7 = 1#1)), ∀ (k0_h8 : k0_cond8 v1058 = 1#1), (k0_t19_loop v1).OK := fun v1 v3 k0_t7 v1058 k0_hw7 k0_h1 k0_h2 k0_h8 => k0_hw7.2.2.1 k0_h1 k0_h2 k0_h8
theorem k0_off23_inb : ∀ (v1 : BitVec 32) (v3 : BitVec 32) (k0_t7 : Fin k0_t7_loop.trips) (v1058 : BitVec 1) (k0_hw7 : k0_chk7 v1 v3 k0_t7 v1058) (k0_t19 : Fin (k0_t19_loop v1).trips), ∀ (k0_h1 : k0_cond1 v3 = 1#1), ∀ (k0_h2 : ¬(k0_cond2 k0_t7 = 1#1)), ∀ (k0_h8 : k0_cond8 v1058 = 1#1), ∀ a, (k0_off23 v1 k0_t19) a + S1x128x512.size a ≤ S32x512x512.size a := fun v1 v3 k0_t7 v1058 k0_hw7 k0_t19 k0_h1 k0_h2 k0_h8 => k0_hw7.2.2.2 k0_t19 k0_h1 k0_h2 k0_h8

@[reducible] def k0_t20_loop (v1 : BitVec 32) : Scf.Loop 32 :=
  let c0_i32_447 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1132 : BitVec 32 := Scalar.subi v44 c0_i32_447
  let c1_i32_448 : BitVec 32 := 1#32
  let v1134 : BitVec 32 := Scalar.divsi v1132 c1_i32_448
  let v1135 : BitVec 32 := Scalar.muli v1134 c1_i32_448
  let v1136 : BitVec 32 := Scalar.addi c0_i32_447 v1135
  let c1_i32_449 : BitVec 32 := 1#32
  ⟨c0_i32_447, v1136, c1_i32_449⟩
def k0_cond9 (v1063 : BitVec 1) : BitVec 1 :=
  let v1064 : BitVec 32 := Scalar.extui v1063
  let c0_i32_427 : BitVec 32 := 0#32
  let v1065 : BitVec 1 := Scalar.cmpi .ne v1064 c0_i32_427
  v1065

def k0_off24 (v1 : BitVec 32) (k0_t20 : Fin (k0_t20_loop v1).trips) : Fin 3 → Nat :=
  let c0_i32_447 : BitVec 32 := 0#32
  let c1_i32_449 : BitVec 32 := 1#32
  let arg38 : BitVec 32 := Scf.iv c0_i32_447 c1_i32_449 k0_t20
  let v1139 : Index := Scalar.indexCast arg38
  let c256_451 : Index := 256#32
  let c0_452 : Index := 0#32
  ![v1139.toNat, 256, 0]
@[reducible] def k0_t21_loop (v1 : BitVec 32) : Scf.Loop 32 :=
  let c0_i32_447 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1132 : BitVec 32 := Scalar.subi v44 c0_i32_447
  let c1_i32_448 : BitVec 32 := 1#32
  let v1134 : BitVec 32 := Scalar.divsi v1132 c1_i32_448
  let v1135 : BitVec 32 := Scalar.muli v1134 c1_i32_448
  let v1136 : BitVec 32 := Scalar.addi c0_i32_447 v1135
  let v1133 : BitVec 32 := Scalar.addi c0_i32_447 v1132
  let c1_i32_450 : BitVec 32 := 1#32
  ⟨v1136, v1133, c1_i32_450⟩
def k0_off25 (v1 : BitVec 32) (k0_t21 : Fin (k0_t21_loop v1).trips) : Fin 3 → Nat :=
  let c0_i32_447 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1132 : BitVec 32 := Scalar.subi v44 c0_i32_447
  let c1_i32_448 : BitVec 32 := 1#32
  let v1134 : BitVec 32 := Scalar.divsi v1132 c1_i32_448
  let v1135 : BitVec 32 := Scalar.muli v1134 c1_i32_448
  let v1136 : BitVec 32 := Scalar.addi c0_i32_447 v1135
  let c1_i32_450 : BitVec 32 := 1#32
  let arg38 : BitVec 32 := Scf.iv v1136 c1_i32_450 k0_t21
  let v1139 : Index := Scalar.indexCast arg38
  let c256_451 : Index := 256#32
  let c0_452 : Index := 0#32
  ![v1139.toNat, 256, 0]

def k0_chk8 (v1 : BitVec 32) (v3 : BitVec 32) (k0_t7 : Fin k0_t7_loop.trips) (v1063 : BitVec 1) : Prop :=
  (∀ (k0_h1 : k0_cond1 v3 = 1#1), ∀ (k0_h2 : ¬(k0_cond2 k0_t7 = 1#1)), ∀ (k0_h9 : k0_cond9 v1063 = 1#1), (k0_t20_loop v1).OK) ∧
  (∀ k0_t20 : Fin (k0_t20_loop v1).trips, ∀ (k0_h1 : k0_cond1 v3 = 1#1), ∀ (k0_h2 : ¬(k0_cond2 k0_t7 = 1#1)), ∀ (k0_h9 : k0_cond9 v1063 = 1#1), ∀ a, (k0_off24 v1 k0_t20) a + S1x128x512.size a ≤ S32x512x512.size a) ∧
  (∀ (k0_h1 : k0_cond1 v3 = 1#1), ∀ (k0_h2 : ¬(k0_cond2 k0_t7 = 1#1)), ∀ (k0_h9 : k0_cond9 v1063 = 1#1), (k0_t21_loop v1).OK) ∧
  (∀ k0_t21 : Fin (k0_t21_loop v1).trips, ∀ (k0_h1 : k0_cond1 v3 = 1#1), ∀ (k0_h2 : ¬(k0_cond2 k0_t7 = 1#1)), ∀ (k0_h9 : k0_cond9 v1063 = 1#1), ∀ a, (k0_off25 v1 k0_t21) a + S1x128x512.size a ≤ S32x512x512.size a)
theorem k0_t20_ok : ∀ (v1 : BitVec 32) (v3 : BitVec 32) (k0_t7 : Fin k0_t7_loop.trips) (v1063 : BitVec 1) (k0_hw8 : k0_chk8 v1 v3 k0_t7 v1063), ∀ (k0_h1 : k0_cond1 v3 = 1#1), ∀ (k0_h2 : ¬(k0_cond2 k0_t7 = 1#1)), ∀ (k0_h9 : k0_cond9 v1063 = 1#1), (k0_t20_loop v1).OK := fun v1 v3 k0_t7 v1063 k0_hw8 k0_h1 k0_h2 k0_h9 => k0_hw8.1 k0_h1 k0_h2 k0_h9
theorem k0_off24_inb : ∀ (v1 : BitVec 32) (v3 : BitVec 32) (k0_t7 : Fin k0_t7_loop.trips) (v1063 : BitVec 1) (k0_hw8 : k0_chk8 v1 v3 k0_t7 v1063) (k0_t20 : Fin (k0_t20_loop v1).trips), ∀ (k0_h1 : k0_cond1 v3 = 1#1), ∀ (k0_h2 : ¬(k0_cond2 k0_t7 = 1#1)), ∀ (k0_h9 : k0_cond9 v1063 = 1#1), ∀ a, (k0_off24 v1 k0_t20) a + S1x128x512.size a ≤ S32x512x512.size a := fun v1 v3 k0_t7 v1063 k0_hw8 k0_t20 k0_h1 k0_h2 k0_h9 => k0_hw8.2.1 k0_t20 k0_h1 k0_h2 k0_h9
theorem k0_t21_ok : ∀ (v1 : BitVec 32) (v3 : BitVec 32) (k0_t7 : Fin k0_t7_loop.trips) (v1063 : BitVec 1) (k0_hw8 : k0_chk8 v1 v3 k0_t7 v1063), ∀ (k0_h1 : k0_cond1 v3 = 1#1), ∀ (k0_h2 : ¬(k0_cond2 k0_t7 = 1#1)), ∀ (k0_h9 : k0_cond9 v1063 = 1#1), (k0_t21_loop v1).OK := fun v1 v3 k0_t7 v1063 k0_hw8 k0_h1 k0_h2 k0_h9 => k0_hw8.2.2.1 k0_h1 k0_h2 k0_h9
theorem k0_off25_inb : ∀ (v1 : BitVec 32) (v3 : BitVec 32) (k0_t7 : Fin k0_t7_loop.trips) (v1063 : BitVec 1) (k0_hw8 : k0_chk8 v1 v3 k0_t7 v1063) (k0_t21 : Fin (k0_t21_loop v1).trips), ∀ (k0_h1 : k0_cond1 v3 = 1#1), ∀ (k0_h2 : ¬(k0_cond2 k0_t7 = 1#1)), ∀ (k0_h9 : k0_cond9 v1063 = 1#1), ∀ a, (k0_off25 v1 k0_t21) a + S1x128x512.size a ≤ S32x512x512.size a := fun v1 v3 k0_t7 v1063 k0_hw8 k0_t21 k0_h1 k0_h2 k0_h9 => k0_hw8.2.2.2 k0_t21 k0_h1 k0_h2 k0_h9

@[reducible] def k0_t22_loop (v1 : BitVec 32) : Scf.Loop 32 :=
  let c0_i32_447 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1132 : BitVec 32 := Scalar.subi v44 c0_i32_447
  let c1_i32_448 : BitVec 32 := 1#32
  let v1134 : BitVec 32 := Scalar.divsi v1132 c1_i32_448
  let v1135 : BitVec 32 := Scalar.muli v1134 c1_i32_448
  let v1136 : BitVec 32 := Scalar.addi c0_i32_447 v1135
  let c1_i32_449 : BitVec 32 := 1#32
  ⟨c0_i32_447, v1136, c1_i32_449⟩
def k0_cond10 (v1068 : BitVec 1) : BitVec 1 :=
  let v1069 : BitVec 32 := Scalar.extui v1068
  let c0_i32_430 : BitVec 32 := 0#32
  let v1070 : BitVec 1 := Scalar.cmpi .ne v1069 c0_i32_430
  v1070

def k0_off26 (v1 : BitVec 32) (k0_t22 : Fin (k0_t22_loop v1).trips) : Fin 3 → Nat :=
  let c0_i32_447 : BitVec 32 := 0#32
  let c1_i32_449 : BitVec 32 := 1#32
  let arg38 : BitVec 32 := Scf.iv c0_i32_447 c1_i32_449 k0_t22
  let v1139 : Index := Scalar.indexCast arg38
  let c384_451 : Index := 384#32
  let c0_452 : Index := 0#32
  ![v1139.toNat, 384, 0]
@[reducible] def k0_t23_loop (v1 : BitVec 32) : Scf.Loop 32 :=
  let c0_i32_447 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1132 : BitVec 32 := Scalar.subi v44 c0_i32_447
  let c1_i32_448 : BitVec 32 := 1#32
  let v1134 : BitVec 32 := Scalar.divsi v1132 c1_i32_448
  let v1135 : BitVec 32 := Scalar.muli v1134 c1_i32_448
  let v1136 : BitVec 32 := Scalar.addi c0_i32_447 v1135
  let v1133 : BitVec 32 := Scalar.addi c0_i32_447 v1132
  let c1_i32_450 : BitVec 32 := 1#32
  ⟨v1136, v1133, c1_i32_450⟩
def k0_off27 (v1 : BitVec 32) (k0_t23 : Fin (k0_t23_loop v1).trips) : Fin 3 → Nat :=
  let c0_i32_447 : BitVec 32 := 0#32
  let c1_i32 : BitVec 32 := 1#32
  let v26 : BitVec 32 := Scalar.addi v1 c1_i32
  let c512_i32 : BitVec 32 := 512#32
  let v27 : BitVec 32 := Scalar.muli v26 c512_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c512_i32_9 : BitVec 32 := 512#32
  let c0_i32_12 : BitVec 32 := 0#32
  let v34 : BitVec 1 := Scalar.cmpi .sgt c512_i32_9 c0_i32_12
  let v35 : BitVec 32 := Scalar.extui v34
  let c0_i32_13 : BitVec 32 := 0#32
  let v36 : BitVec 1 := Scalar.cmpi .slt c512_i32_9 c0_i32_13
  let v37 : BitVec 32 := Scalar.extui v36
  let v38 : BitVec 32 := Scalar.subi v35 v37
  let v39 : BitVec 1 := Scalar.cmpi .ne v33 v38
  let v40 : BitVec 32 := Scalar.remsi v27 c512_i32_9
  let c0_i32_14 : BitVec 32 := 0#32
  let v41 : BitVec 1 := Scalar.cmpi .ne v40 c0_i32_14
  let v42 : BitVec 1 := Scalar.andi v39 v41
  let v28 : BitVec 32 := Scalar.divsi v27 c512_i32_9
  let c1_i32_15 : BitVec 32 := 1#32
  let v43 : BitVec 32 := Scalar.subi v28 c1_i32_15
  let v44 : BitVec 32 := Scalar.select v42 v43 v28
  let v1132 : BitVec 32 := Scalar.subi v44 c0_i32_447
  let c1_i32_448 : BitVec 32 := 1#32
  let v1134 : BitVec 32 := Scalar.divsi v1132 c1_i32_448
  let v1135 : BitVec 32 := Scalar.muli v1134 c1_i32_448
  let v1136 : BitVec 32 := Scalar.addi c0_i32_447 v1135
  let c1_i32_450 : BitVec 32 := 1#32
  let arg38 : BitVec 32 := Scf.iv v1136 c1_i32_450 k0_t23
  let v1139 : Index := Scalar.indexCast arg38
  let c384_451 : Index := 384#32
  let c0_452 : Index := 0#32
  ![v1139.toNat, 384, 0]

def k0_chk9 (v1 : BitVec 32) (v3 : BitVec 32) (k0_t7 : Fin k0_t7_loop.trips) (v1068 : BitVec 1) : Prop :=
  (∀ (k0_h1 : k0_cond1 v3 = 1#1), ∀ (k0_h2 : ¬(k0_cond2 k0_t7 = 1#1)), ∀ (k0_h10 : k0_cond10 v1068 = 1#1), (k0_t22_loop v1).OK) ∧
  (∀ k0_t22 : Fin (k0_t22_loop v1).trips, ∀ (k0_h1 : k0_cond1 v3 = 1#1), ∀ (k0_h2 : ¬(k0_cond2 k0_t7 = 1#1)), ∀ (k0_h10 : k0_cond10 v1068 = 1#1), ∀ a, (k0_off26 v1 k0_t22) a + S1x128x512.size a ≤ S32x512x512.size a) ∧
  (∀ (k0_h1 : k0_cond1 v3 = 1#1), ∀ (k0_h2 : ¬(k0_cond2 k0_t7 = 1#1)), ∀ (k0_h10 : k0_cond10 v1068 = 1#1), (k0_t23_loop v1).OK) ∧
  (∀ k0_t23 : Fin (k0_t23_loop v1).trips, ∀ (k0_h1 : k0_cond1 v3 = 1#1), ∀ (k0_h2 : ¬(k0_cond2 k0_t7 = 1#1)), ∀ (k0_h10 : k0_cond10 v1068 = 1#1), ∀ a, (k0_off27 v1 k0_t23) a + S1x128x512.size a ≤ S32x512x512.size a)
theorem k0_t22_ok : ∀ (v1 : BitVec 32) (v3 : BitVec 32) (k0_t7 : Fin k0_t7_loop.trips) (v1068 : BitVec 1) (k0_hw9 : k0_chk9 v1 v3 k0_t7 v1068), ∀ (k0_h1 : k0_cond1 v3 = 1#1), ∀ (k0_h2 : ¬(k0_cond2 k0_t7 = 1#1)), ∀ (k0_h10 : k0_cond10 v1068 = 1#1), (k0_t22_loop v1).OK := fun v1 v3 k0_t7 v1068 k0_hw9 k0_h1 k0_h2 k0_h10 => k0_hw9.1 k0_h1 k0_h2 k0_h10
theorem k0_off26_inb : ∀ (v1 : BitVec 32) (v3 : BitVec 32) (k0_t7 : Fin k0_t7_loop.trips) (v1068 : BitVec 1) (k0_hw9 : k0_chk9 v1 v3 k0_t7 v1068) (k0_t22 : Fin (k0_t22_loop v1).trips), ∀ (k0_h1 : k0_cond1 v3 = 1#1), ∀ (k0_h2 : ¬(k0_cond2 k0_t7 = 1#1)), ∀ (k0_h10 : k0_cond10 v1068 = 1#1), ∀ a, (k0_off26 v1 k0_t22) a + S1x128x512.size a ≤ S32x512x512.size a := fun v1 v3 k0_t7 v1068 k0_hw9 k0_t22 k0_h1 k0_h2 k0_h10 => k0_hw9.2.1 k0_t22 k0_h1 k0_h2 k0_h10
theorem k0_t23_ok : ∀ (v1 : BitVec 32) (v3 : BitVec 32) (k0_t7 : Fin k0_t7_loop.trips) (v1068 : BitVec 1) (k0_hw9 : k0_chk9 v1 v3 k0_t7 v1068), ∀ (k0_h1 : k0_cond1 v3 = 1#1), ∀ (k0_h2 : ¬(k0_cond2 k0_t7 = 1#1)), ∀ (k0_h10 : k0_cond10 v1068 = 1#1), (k0_t23_loop v1).OK := fun v1 v3 k0_t7 v1068 k0_hw9 k0_h1 k0_h2 k0_h10 => k0_hw9.2.2.1 k0_h1 k0_h2 k0_h10
theorem k0_off27_inb : ∀ (v1 : BitVec 32) (v3 : BitVec 32) (k0_t7 : Fin k0_t7_loop.trips) (v1068 : BitVec 1) (k0_hw9 : k0_chk9 v1 v3 k0_t7 v1068) (k0_t23 : Fin (k0_t23_loop v1).trips), ∀ (k0_h1 : k0_cond1 v3 = 1#1), ∀ (k0_h2 : ¬(k0_cond2 k0_t7 = 1#1)), ∀ (k0_h10 : k0_cond10 v1068 = 1#1), ∀ a, (k0_off27 v1 k0_t23) a + S1x128x512.size a ≤ S32x512x512.size a := fun v1 v3 k0_t7 v1068 k0_hw9 k0_t23 k0_h1 k0_h2 k0_h10 => k0_hw9.2.2.2 k0_t23 k0_h1 k0_h2 k0_h10

def k0_off28 (v3 : BitVec 32) (c0_i32_13 : BitVec 32) : Fin 3 → Nat :=
  let c2_i32 : BitVec 32 := 2#32
  let v25 : BitVec 32 := Scalar.muli v3 c2_i32
  let v26 : BitVec 32 := Scalar.addi v25 c0_i32_13
  let v27 : Index := Scalar.indexCast v26
  let c0_14 : Index := 0#32
  let c0_15 : Index := 0#32
  ![v27.toNat, 0, 0]
def k0_cond11 (v7 : BitVec 32) : BitVec 1 :=
  let c0_i32_1 : BitVec 32 := 0#32
  let v8 : BitVec 1 := Scalar.cmpi .sgt v7 c0_i32_1
  let v9 : BitVec 32 := Scalar.extui v8
  let c0_i32_2 : BitVec 32 := 0#32
  let v10 : BitVec 1 := Scalar.cmpi .ne v9 c0_i32_2
  v10

def k0_off29 (v3 : BitVec 32) (c0_i32_11 : BitVec 32) : Fin 3 → Nat :=
  let c2_i32 : BitVec 32 := 2#32
  let v24 : BitVec 32 := Scalar.muli v3 c2_i32
  let v25 : BitVec 32 := Scalar.addi v24 c0_i32_11
  let v26 : Index := Scalar.indexCast v25
  let c0_12 : Index := 0#32
  let c0_13 : Index := 0#32
  ![v26.toNat, 0, 0]

def k0_chk10 (v3 : BitVec 32) (v7 : BitVec 32) : Prop :=
  (∀ (k0_h11 : k0_cond11 v7 = 1#1), ∀ (r : Fin 2), ∀ a, (k0_off28 v3 (BitVec.ofNat 32 r.val)) a + S1x128x512.size a ≤ S32x512x512.size a) ∧
  (∀ (k0_h11 : ¬(k0_cond11 v7 = 1#1)), ∀ (r : Fin 2), ∀ a, (k0_off29 v3 (BitVec.ofNat 32 r.val)) a + S1x128x512.size a ≤ S32x512x512.size a)
theorem k0_off28_inb : ∀ (v3 : BitVec 32) (v7 : BitVec 32) (k0_hw10 : k0_chk10 v3 v7), ∀ (k0_h11 : k0_cond11 v7 = 1#1), ∀ (r : Fin 2), ∀ a, (k0_off28 v3 (BitVec.ofNat 32 r.val)) a + S1x128x512.size a ≤ S32x512x512.size a := fun v3 v7 k0_hw10 k0_h11 r => k0_hw10.1 k0_h11 r
theorem k0_off29_inb : ∀ (v3 : BitVec 32) (v7 : BitVec 32) (k0_hw10 : k0_chk10 v3 v7), ∀ (k0_h11 : ¬(k0_cond11 v7 = 1#1)), ∀ (r : Fin 2), ∀ a, (k0_off29 v3 (BitVec.ofNat 32 r.val)) a + S1x128x512.size a ≤ S32x512x512.size a := fun v3 v7 k0_hw10 k0_h11 r => k0_hw10.2 k0_h11 r

def k0_off30 (v3 : BitVec 32) (c0_i32_12 : BitVec 32) : Fin 3 → Nat :=
  let c2_i32 : BitVec 32 := 2#32
  let v25 : BitVec 32 := Scalar.muli v3 c2_i32
  let v26 : BitVec 32 := Scalar.addi v25 c0_i32_12
  let v27 : Index := Scalar.indexCast v26
  let c128_13 : Index := 128#32
  let c0_14 : Index := 0#32
  ![v27.toNat, 128, 0]
def k0_cond12 (v11 : BitVec 32) : BitVec 1 :=
  let c0_i32_3 : BitVec 32 := 0#32
  let v12 : BitVec 1 := Scalar.cmpi .sgt v11 c0_i32_3
  let v13 : BitVec 32 := Scalar.extui v12
  let c0_i32_4 : BitVec 32 := 0#32
  let v14 : BitVec 1 := Scalar.cmpi .ne v13 c0_i32_4
  v14

def k0_off31 (v3 : BitVec 32) (c0_i32_10 : BitVec 32) : Fin 3 → Nat :=
  let c2_i32 : BitVec 32 := 2#32
  let v24 : BitVec 32 := Scalar.muli v3 c2_i32
  let v25 : BitVec 32 := Scalar.addi v24 c0_i32_10
  let v26 : Index := Scalar.indexCast v25
  let c128_11 : Index := 128#32
  let c0_12 : Index := 0#32
  ![v26.toNat, 128, 0]

def k0_chk11 (v3 : BitVec 32) (v11 : BitVec 32) : Prop :=
  (∀ (k0_h12 : k0_cond12 v11 = 1#1), ∀ (r : Fin 2), ∀ a, (k0_off30 v3 (BitVec.ofNat 32 r.val)) a + S1x128x512.size a ≤ S32x512x512.size a) ∧
  (∀ (k0_h12 : ¬(k0_cond12 v11 = 1#1)), ∀ (r : Fin 2), ∀ a, (k0_off31 v3 (BitVec.ofNat 32 r.val)) a + S1x128x512.size a ≤ S32x512x512.size a)
theorem k0_off30_inb : ∀ (v3 : BitVec 32) (v11 : BitVec 32) (k0_hw11 : k0_chk11 v3 v11), ∀ (k0_h12 : k0_cond12 v11 = 1#1), ∀ (r : Fin 2), ∀ a, (k0_off30 v3 (BitVec.ofNat 32 r.val)) a + S1x128x512.size a ≤ S32x512x512.size a := fun v3 v11 k0_hw11 k0_h12 r => k0_hw11.1 k0_h12 r
theorem k0_off31_inb : ∀ (v3 : BitVec 32) (v11 : BitVec 32) (k0_hw11 : k0_chk11 v3 v11), ∀ (k0_h12 : ¬(k0_cond12 v11 = 1#1)), ∀ (r : Fin 2), ∀ a, (k0_off31 v3 (BitVec.ofNat 32 r.val)) a + S1x128x512.size a ≤ S32x512x512.size a := fun v3 v11 k0_hw11 k0_h12 r => k0_hw11.2 k0_h12 r

def k0_off32 (v3 : BitVec 32) (c0_i32_12 : BitVec 32) : Fin 3 → Nat :=
  let c2_i32 : BitVec 32 := 2#32
  let v25 : BitVec 32 := Scalar.muli v3 c2_i32
  let v26 : BitVec 32 := Scalar.addi v25 c0_i32_12
  let v27 : Index := Scalar.indexCast v26
  let c256_13 : Index := 256#32
  let c0_14 : Index := 0#32
  ![v27.toNat, 256, 0]
def k0_cond13 (v15 : BitVec 32) : BitVec 1 :=
  let c0_i32_5 : BitVec 32 := 0#32
  let v16 : BitVec 1 := Scalar.cmpi .sgt v15 c0_i32_5
  let v17 : BitVec 32 := Scalar.extui v16
  let c0_i32_6 : BitVec 32 := 0#32
  let v18 : BitVec 1 := Scalar.cmpi .ne v17 c0_i32_6
  v18

def k0_off33 (v3 : BitVec 32) (c0_i32_10 : BitVec 32) : Fin 3 → Nat :=
  let c2_i32 : BitVec 32 := 2#32
  let v24 : BitVec 32 := Scalar.muli v3 c2_i32
  let v25 : BitVec 32 := Scalar.addi v24 c0_i32_10
  let v26 : Index := Scalar.indexCast v25
  let c256_11 : Index := 256#32
  let c0_12 : Index := 0#32
  ![v26.toNat, 256, 0]

def k0_chk12 (v3 : BitVec 32) (v15 : BitVec 32) : Prop :=
  (∀ (k0_h13 : k0_cond13 v15 = 1#1), ∀ (r : Fin 2), ∀ a, (k0_off32 v3 (BitVec.ofNat 32 r.val)) a + S1x128x512.size a ≤ S32x512x512.size a) ∧
  (∀ (k0_h13 : ¬(k0_cond13 v15 = 1#1)), ∀ (r : Fin 2), ∀ a, (k0_off33 v3 (BitVec.ofNat 32 r.val)) a + S1x128x512.size a ≤ S32x512x512.size a)
theorem k0_off32_inb : ∀ (v3 : BitVec 32) (v15 : BitVec 32) (k0_hw12 : k0_chk12 v3 v15), ∀ (k0_h13 : k0_cond13 v15 = 1#1), ∀ (r : Fin 2), ∀ a, (k0_off32 v3 (BitVec.ofNat 32 r.val)) a + S1x128x512.size a ≤ S32x512x512.size a := fun v3 v15 k0_hw12 k0_h13 r => k0_hw12.1 k0_h13 r
theorem k0_off33_inb : ∀ (v3 : BitVec 32) (v15 : BitVec 32) (k0_hw12 : k0_chk12 v3 v15), ∀ (k0_h13 : ¬(k0_cond13 v15 = 1#1)), ∀ (r : Fin 2), ∀ a, (k0_off33 v3 (BitVec.ofNat 32 r.val)) a + S1x128x512.size a ≤ S32x512x512.size a := fun v3 v15 k0_hw12 k0_h13 r => k0_hw12.2 k0_h13 r

def k0_off34 (v3 : BitVec 32) (c0_i32_12 : BitVec 32) : Fin 3 → Nat :=
  let c2_i32 : BitVec 32 := 2#32
  let v25 : BitVec 32 := Scalar.muli v3 c2_i32
  let v26 : BitVec 32 := Scalar.addi v25 c0_i32_12
  let v27 : Index := Scalar.indexCast v26
  let c384_13 : Index := 384#32
  let c0_14 : Index := 0#32
  ![v27.toNat, 384, 0]
def k0_cond14 (v19 : BitVec 32) : BitVec 1 :=
  let c0_i32_7 : BitVec 32 := 0#32
  let v20 : BitVec 1 := Scalar.cmpi .sgt v19 c0_i32_7
  let v21 : BitVec 32 := Scalar.extui v20
  let c0_i32_8 : BitVec 32 := 0#32
  let v22 : BitVec 1 := Scalar.cmpi .ne v21 c0_i32_8
  v22

def k0_off35 (v3 : BitVec 32) (c0_i32_10 : BitVec 32) : Fin 3 → Nat :=
  let c2_i32 : BitVec 32 := 2#32
  let v24 : BitVec 32 := Scalar.muli v3 c2_i32
  let v25 : BitVec 32 := Scalar.addi v24 c0_i32_10
  let v26 : Index := Scalar.indexCast v25
  let c384_11 : Index := 384#32
  let c0_12 : Index := 0#32
  ![v26.toNat, 384, 0]

def k0_chk13 (v3 : BitVec 32) (v19 : BitVec 32) : Prop :=
  (∀ (k0_h14 : k0_cond14 v19 = 1#1), ∀ (r : Fin 2), ∀ a, (k0_off34 v3 (BitVec.ofNat 32 r.val)) a + S1x128x512.size a ≤ S32x512x512.size a) ∧
  (∀ (k0_h14 : ¬(k0_cond14 v19 = 1#1)), ∀ (r : Fin 2), ∀ a, (k0_off35 v3 (BitVec.ofNat 32 r.val)) a + S1x128x512.size a ≤ S32x512x512.size a)
theorem k0_off34_inb : ∀ (v3 : BitVec 32) (v19 : BitVec 32) (k0_hw13 : k0_chk13 v3 v19), ∀ (k0_h14 : k0_cond14 v19 = 1#1), ∀ (r : Fin 2), ∀ a, (k0_off34 v3 (BitVec.ofNat 32 r.val)) a + S1x128x512.size a ≤ S32x512x512.size a := fun v3 v19 k0_hw13 k0_h14 r => k0_hw13.1 k0_h14 r
theorem k0_off35_inb : ∀ (v3 : BitVec 32) (v19 : BitVec 32) (k0_hw13 : k0_chk13 v3 v19), ∀ (k0_h14 : ¬(k0_cond14 v19 = 1#1)), ∀ (r : Fin 2), ∀ a, (k0_off35 v3 (BitVec.ofNat 32 r.val)) a + S1x128x512.size a ≤ S32x512x512.size a := fun v3 v19 k0_hw13 k0_h14 r => k0_hw13.2 k0_h14 r

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : Index := Scalar.indexCast arg1
  let v2 : BitVec 32 := pf.at 0 (Rect.unit (s := S272) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : Index := Scalar.indexCast arg1
  let v2 : BitVec 32 := pf.at 0 (Rect.unit (s := S272) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : Index := Scalar.indexCast arg1
  let v2 : BitVec 32 := pf.at 0 (Rect.unit (s := S272) ![v1.toNat] S1.size (k0_off1_inb i)) numel1_S1
  let v3 : BitVec 32 := Scalar.addi v0 v2
  let v4 : Index := Scalar.indexCast arg1
  let v5 : BitVec 32 := pf.at 1 (Rect.unit (s := S272) ![v4.toNat] S1.size (k0_off1_inb i)) numel1_S1
  let c0_i32 : BitVec 32 := 0#32
  ![v3.toNat, v5.toNat]

abbrev stage0_0 : Fin 1 → Memref sig .tc .vmem S16384x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Moe.lean ====
abbrev S32768x1024 : Shape := ⟨2, ![32768, 1024]⟩
abbrev S32768x4x8 : Shape := ⟨3, ![32768, 4, 8]⟩
abbrev S4x8x1024x256 : Shape := ⟨4, ![4, 8, 1024, 256]⟩
abbrev S4x8x256x1024 : Shape := ⟨4, ![4, 8, 256, 1024]⟩
abbrev S1024 : Shape := ⟨1, ![1024]⟩
abbrev S32768x32 : Shape := ⟨2, ![32768, 32]⟩
abbrev S_ : Shape := ⟨0, ![]⟩
abbrev S32768x128 : Shape := ⟨2, ![32768, 128]⟩
abbrev S4x8x1024x512 : Shape := ⟨4, ![4, 8, 1024, 512]⟩
abbrev S32x1024x512 : Shape := ⟨3, ![32, 1024, 512]⟩
abbrev S8192x1024 : Shape := ⟨2, ![8192, 1024]⟩
abbrev S1x1024 : Shape := ⟨2, ![1, 1024]⟩
abbrev S1024x1024 : Shape := ⟨2, ![1024, 1024]⟩
abbrev S1024x128 : Shape := ⟨2, ![1024, 128]⟩
abbrev S8x1024x512 : Shape := ⟨3, ![8, 1024, 512]⟩
abbrev S2048x1024 : Shape := ⟨2, ![2048, 1024]⟩
abbrev S1024x2048 : Shape := ⟨2, ![1024, 2048]⟩
abbrev S1x1024x512 : Shape := ⟨3, ![1, 1024, 512]⟩
abbrev S1024x512 : Shape := ⟨2, ![1024, 512]⟩
abbrev S1024x1 : Shape := ⟨2, ![1024, 1]⟩
abbrev S1024x256 : Shape := ⟨2, ![1024, 256]⟩

abbrev nBuf : Space → Nat
  | .hbm => 21
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x4x8, .f32⟩
  | .hbm, ⟨3, _⟩ => ⟨S4x8x1024x256, .f32⟩
  | .hbm, ⟨4, _⟩ => ⟨S4x8x1024x256, .f32⟩
  | .hbm, ⟨5, _⟩ => ⟨S4x8x256x1024, .f32⟩
  | .hbm, ⟨6, _⟩ => ⟨S1024, .f32⟩
  | .hbm, ⟨7, _⟩ => ⟨S1024, .f32⟩
  | .hbm, ⟨8, _⟩ => ⟨S32768x1024, .bf16⟩
  | .hbm, ⟨9, _⟩ => ⟨S32768x32, .f32⟩
  | .hbm, ⟨10, _⟩ => ⟨S_, .i32⟩
  | .hbm, ⟨11, _⟩ => ⟨S_, .f32⟩
  | .hbm, ⟨12, _⟩ => ⟨S32768x128, .f32⟩
  | .hbm, ⟨13, _⟩ => ⟨S4x8x1024x512, .f32⟩
  | .hbm, ⟨14, _⟩ => ⟨S32x1024x512, .f32⟩
  | .hbm, ⟨15, _⟩ => ⟨S32x1024x512, .bf16⟩
  | .hbm, ⟨16, _⟩ => ⟨S8192x1024, .f32⟩
  | .hbm, ⟨17, _⟩ => ⟨S8192x1024, .bf16⟩
  | .hbm, ⟨18, _⟩ => ⟨S1x1024, .f32⟩
  | .hbm, ⟨19, _⟩ => ⟨S1x1024, .f32⟩
  | .hbm, ⟨20, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x128, .f32⟩
  | .local _ .vmem, ⟨5, _⟩ => ⟨S1024x128, .f32⟩
  | .local _ .vmem, ⟨6, _⟩ => ⟨S8x1024x512, .bf16⟩
  | .local _ .vmem, ⟨7, _⟩ => ⟨S8x1024x512, .bf16⟩
  | .local _ .vmem, ⟨8, _⟩ => ⟨S2048x1024, .bf16⟩
  | .local _ .vmem, ⟨9, _⟩ => ⟨S2048x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2048, .bf16⟩
  | .local _ .vmem, ⟨15, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32_92 : BitVec 32 := 3#32
  let v239 : BitVec 1 := Scalar.cmpi .eq arg1 c3_i32_92
  let v240 : BitVec 32 := Scalar.extui v239
  let c0_i32_93 : BitVec 32 := 0#32
  let v241 : BitVec 1 := Scalar.cmpi .ne v240 c0_i32_93
  v241

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S32768x1024 : Shape := ⟨2, ![32768, 1024]⟩
abbrev S32768x4x8 : Shape := ⟨3, ![32768, 4, 8]⟩
abbrev S4x8x1024x256 : Shape := ⟨4, ![4, 8, 1024, 256]⟩
abbrev S4x8x256x1024 : Shape := ⟨4, ![4, 8, 256, 1024]⟩
abbrev S1024 : Shape := ⟨1, ![1024]⟩
abbrev S_ : Shape := ⟨0, ![]⟩
abbrev S1x8x1024x256 : Shape := ⟨4, ![1, 8, 1024, 256]⟩
abbrev S8x1024x256 : Shape := ⟨3, ![8, 1024, 256]⟩
abbrev S32768x8x256 : Shape := ⟨3, ![32768, 8, 256]⟩
abbrev S32768x1x8 : Shape := ⟨3, ![32768, 1, 8]⟩
abbrev S32768x8 : Shape := ⟨2, ![32768, 8]⟩
abbrev S32768x8x1 : Shape := ⟨3, ![32768, 8, 1]⟩
abbrev S1x8x256x1024 : Shape := ⟨4, ![1, 8, 256, 1024]⟩
abbrev S8x256x1024 : Shape := ⟨3, ![8, 256, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 140
  | .vmem => 0
  | .smem => 0
  | _ => 0

abbrev hbmTy0_0 (i : Nat) : BufTy := match i % 128 with
  | 0 => ⟨S32768x1024, .f32⟩
  | 1 => ⟨S32768x1024, .f32⟩
  | 2 => ⟨S32768x4x8, .f32⟩
  | 3 => ⟨S4x8x1024x256, .f32⟩
  | 4 => ⟨S4x8x1024x256, .f32⟩
  | 5 => ⟨S4x8x256x1024, .f32⟩
  | 6 => ⟨S1024, .f32⟩
  | 7 => ⟨S1024, .f32⟩
  | 8 => ⟨S_, .f32⟩
  | 9 => ⟨S32768x1024, .f32⟩
  | 10 => ⟨S1x8x1024x256, .f32⟩
  | 11 => ⟨S8x1024x256, .f32⟩
  | 12 => ⟨S32768x8x256, .f32⟩
  | 13 => ⟨S32768x8x256, .f32⟩
  | 14 => ⟨S32768x8x256, .f32⟩
  | 15 => ⟨S_, .f32⟩
  | 16 => ⟨S32768x8x256, .f32⟩
  | 17 => ⟨S32768x8x256, .f32⟩
  | 18 => ⟨S_, .f32⟩
  | 19 => ⟨S32768x8x256, .f32⟩
  | 20 => ⟨S32768x8x256, .f32⟩
  | 21 => ⟨S32768x8x256, .f32⟩
  | 22 => ⟨S1x8x1024x256, .f32⟩
  | 23 => ⟨S8x1024x256, .f32⟩
  | 24 => ⟨S32768x8x256, .f32⟩
  | 25 => ⟨S32768x8x256, .f32⟩
  | 26 => ⟨S32768x1x8, .f32⟩
  | 27 => ⟨S32768x8, .f32⟩
  | 28 => ⟨S32768x8x1, .f32⟩
  | 29 => ⟨S32768x8x256, .f32⟩
  | 30 => ⟨S32768x8x256, .f32⟩
  | 31 => ⟨S1x8x256x1024, .f32⟩
  | 32 => ⟨S8x256x1024, .f32⟩
  | 33 => ⟨S32768x1024, .f32⟩
  | 34 => ⟨S32768x1024, .f32⟩
  | 35 => ⟨S1x8x1024x256, .f32⟩
  | 36 => ⟨S8x1024x256, .f32⟩
  | 37 => ⟨S32768x8x256, .f32⟩
  | 38 => ⟨S32768x8x256, .f32⟩
  | 39 => ⟨S32768x8x256, .f32⟩
  | 40 => ⟨S_, .f32⟩
  | 41 => ⟨S32768x8x256, .f32⟩
  | 42 => ⟨S32768x8x256, .f32⟩
  | 43 => ⟨S_, .f32⟩
  | 44 => ⟨S32768x8x256, .f32⟩
  | 45 => ⟨S32768x8x256, .f32⟩
  | 46 => ⟨S32768x8x256, .f32⟩
  | 47 => ⟨S1x8x1024x256, .f32⟩
  | 48 => ⟨S8x1024x256, .f32⟩
  | 49 => ⟨S32768x8x256, .f32⟩
  | 50 => ⟨S32768x8x256, .f32⟩
  | 51 => ⟨S32768x1x8, .f32⟩
  | 52 => ⟨S32768x8, .f32⟩
  | 53 => ⟨S32768x8x1, .f32⟩
  | 54 => ⟨S32768x8x256, .f32⟩
  | 55 => ⟨S32768x8x256, .f32⟩
  | 56 => ⟨S1x8x256x1024, .f32⟩
  | 57 => ⟨S8x256x1024, .f32⟩
  | 58 => ⟨S32768x1024, .f32⟩
  | 59 => ⟨S32768x1024, .f32⟩
  | 60 => ⟨S1x8x1024x256, .f32⟩
  | 61 => ⟨S8x1024x256, .f32⟩
  | 62 => ⟨S32768x8x256, .f32⟩
  | 63 => ⟨S32768x8x256, .f32⟩
  | 64 => ⟨S32768x8x256, .f32⟩
  | 65 => ⟨S_, .f32⟩
  | 66 => ⟨S32768x8x256, .f32⟩
  | 67 => ⟨S32768x8x256, .f32⟩
  | 68 => ⟨S_, .f32⟩
  | 69 => ⟨S32768x8x256, .f32⟩
  | 70 => ⟨S32768x8x256, .f32⟩
  | 71 => ⟨S32768x8x256, .f32⟩
  | 72 => ⟨S1x8x1024x256, .f32⟩
  | 73 => ⟨S8x1024x256, .f32⟩
  | 74 => ⟨S32768x8x256, .f32⟩
  | 75 => ⟨S32768x8x256, .f32⟩
  | 76 => ⟨S32768x1x8, .f32⟩
  | 77 => ⟨S32768x8, .f32⟩
  | 78 => ⟨S32768x8x1, .f32⟩
  | 79 => ⟨S32768x8x256, .f32⟩
  | 80 => ⟨S32768x8x256, .f32⟩
  | 81 => ⟨S1x8x256x1024, .f32⟩
  | 82 => ⟨S8x256x1024, .f32⟩
  | 83 => ⟨S32768x1024, .f32⟩
  | 84 => ⟨S32768x1024, .f32⟩
  | 85 => ⟨S1x8x1024x256, .f32⟩
  | 86 => ⟨S8x1024x256, .f32⟩
  | 87 => ⟨S32768x8x256, .f32⟩
  | 88 => ⟨S32768x8x256, .f32⟩
  | 89 => ⟨S32768x8x256, .f32⟩
  | 90 => ⟨S_, .f32⟩
  | 91 => ⟨S32768x8x256, .f32⟩
  | 92 => ⟨S32768x8x256, .f32⟩
  | 93 => ⟨S_, .f32⟩
  | 94 => ⟨S32768x8x256, .f32⟩
  | 95 => ⟨S32768x8x256, .f32⟩
  | 96 => ⟨S32768x8x256, .f32⟩
  | 97 => ⟨S1x8x1024x256, .f32⟩
  | 98 => ⟨S8x1024x256, .f32⟩
  | 99 => ⟨S32768x8x256, .f32⟩
  | 100 => ⟨S32768x8x256, .f32⟩
  | 101 => ⟨S32768x1x8, .f32⟩
  | 102 => ⟨S32768x8, .f32⟩
  | 103 => ⟨S32768x8x1, .f32⟩
  | 104 => ⟨S32768x8x256, .f32⟩
  | 105 => ⟨S32768x8x256, .f32⟩
  | 106 => ⟨S1x8x256x1024, .f32⟩
  | 107 => ⟨S8x256x1024, .f32⟩
  | 108 => ⟨S32768x1024, .f32⟩
  | 109 => ⟨S32768x1024, .f32⟩
  | 110 => ⟨S32768x1024, .f32⟩
  | 111 => ⟨S_, .f32⟩
  | 112 => ⟨S32768, .f32⟩
  | 113 => ⟨S32768x1, .f32⟩
  | 114 => ⟨S_, .f32⟩
  | 115 => ⟨S32768x1, .f32⟩
  | 116 => ⟨S32768x1, .f32⟩
  | 117 => ⟨S32768x1024, .f32⟩
  | 118 => ⟨S32768x1024, .f32⟩
  | 119 => ⟨S32768x1024, .f32⟩
  | 120 => ⟨S_, .f32⟩
  | 121 => ⟨S32768, .f32⟩
  | 122 => ⟨S32768x1, .f32⟩
  | 123 => ⟨S_, .f32⟩
  | 124 => ⟨S32768x1, .f32⟩
  | 125 => ⟨S32768x1, .f32⟩
  | 126 => ⟨S32768x1024, .f32⟩
  | 127 => ⟨S32768x1024, .f32⟩
  | _ => ⟨S32768x1024, .f32⟩

abbrev hbmTy0_1 (i : Nat) : BufTy := match i % 128 with
  | 0 => ⟨S_, .f32⟩
  | 1 => ⟨S32768x1, .f32⟩
  | 2 => ⟨S32768x1, .f32⟩
  | 3 => ⟨S32768x1, .f32⟩
  | 4 => ⟨S32768x1024, .f32⟩
  | 5 => ⟨S32768x1024, .f32⟩
  | 6 => ⟨S1x1024, .f32⟩
  | 7 => ⟨S32768x1024, .f32⟩
  | 8 => ⟨S32768x1024, .f32⟩
  | 9 => ⟨S1x1024, .f32⟩
  | 10 => ⟨S32768x1024, .f32⟩
  | 11 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_call3_v0 : Ref sig .tc := ⟨.hbm, 88, rfl⟩
abbrev main_call3_v1 : Ref sig .tc := ⟨.hbm, 89, rfl⟩
abbrev main_call3_cst : Ref sig .tc := ⟨.hbm, 90, rfl⟩
abbrev main_call3_v2 : Ref sig .tc := ⟨.hbm, 91, rfl⟩
abbrev main_call3_v3 : Ref sig .tc := ⟨.hbm, 92, rfl⟩
abbrev main_call3_cst_0 : Ref sig .tc := ⟨.hbm, 93, rfl⟩
abbrev main_call3_v4 : Ref sig .tc := ⟨.hbm, 94, rfl⟩
abbrev main_call3_v5 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_0 : Ref sig .tc := ⟨.hbm, 111, rfl⟩
abbrev main_v70 : Ref sig .tc := ⟨.hbm, 112, rfl⟩
abbrev main_v71 : Ref sig .tc := ⟨.hbm, 113, rfl⟩
abbrev main_cst_1 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_2 : Ref sig .tc := ⟨.hbm, 120, rfl⟩
abbrev main_v77 : Ref sig .tc := ⟨.hbm, 121, rfl⟩
abbrev main_v78 : Ref sig .tc := ⟨.hbm, 122, rfl⟩
abbrev main_cst_3 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_4 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩

abbrev nD : Nat := 1
abbrev τ : Topo := Topo.v7x

variable {F : FTy → Type} [FloatOps F]
-- ==== Diff.lean ====
abbrev S2x16384x4x2x64 : Shape := ⟨5, ![2, 16384, 4, 2, 64]⟩
abbrev S2x16384x4x128 : Shape := ⟨4, ![2, 16384, 4, 128]⟩
abbrev S4x64 : Shape := ⟨2, ![4, 64]⟩
abbrev S128 : Shape := ⟨1, ![128]⟩
abbrev S32768x512 : Shape := ⟨2, ![32768, 512]⟩
abbrev S_ : Shape := ⟨0, ![]⟩
abbrev S1x128 : Shape := ⟨2, ![1, 128]⟩
abbrev S1024x128 : Shape := ⟨2, ![1024, 128]⟩
abbrev S16384x128 : Shape := ⟨2, ![16384, 128]⟩
abbrev S2x1024x128 : Shape := ⟨3, ![2, 1024, 128]⟩
abbrev S1x1024x128 : Shape := ⟨3, ![1, 1024, 128]⟩
abbrev S1024x1024 : Shape := ⟨2, ![1024, 1024]⟩
abbrev S1024 : Shape := ⟨1, ![1024]⟩
abbrev S1024x1 : Shape := ⟨2, ![1024, 1]⟩
abbrev S512x128 : Shape := ⟨2, ![512, 128]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S512x1024 : Shape := ⟨2, ![512, 1024]⟩
abbrev S1x64 : Shape := ⟨2, ![1, 64]⟩
abbrev S1 : Shape := ⟨1, ![1]⟩
abbrev S1x1 : Shape := ⟨2, ![1, 1]⟩

abbrev nBuf : Space → Nat
  | .hbm => 20
  | .vmem => 14
  | .smem => 0
  | _ => 0

abbrev bufTy : (tb : Table) → Fin (tcTables nBuf tb) → BufTy
  | .hbm, ⟨0, _⟩ => ⟨S2x16384x4x2x64, .f32⟩
  | .hbm, ⟨1, _⟩ => ⟨S2x16384x4x2x64, .f32⟩
  | .hbm, ⟨2, _⟩ => ⟨S2x16384x4x128, .f32⟩
  | .hbm, ⟨3, _⟩ => ⟨S4x64, .f32⟩
  | .hbm, ⟨4, _⟩ => ⟨S128, .f32⟩
  | .hbm, ⟨5, _⟩ => ⟨S32768x512, .f32⟩
  | .hbm, ⟨6, _⟩ => ⟨S_, .f32⟩
  | .hbm, ⟨7, _⟩ => ⟨S32768x512, .f32⟩
  | .hbm, ⟨8, _⟩ => ⟨S32768x512, .f32⟩
  | .hbm, ⟨9, _⟩ => ⟨S_, .f32⟩
  | .hbm, ⟨10, _⟩ => ⟨S_, .f32⟩
  | .hbm, ⟨11, _⟩ => ⟨S32768x512, .f32⟩
  | .hbm, ⟨12, _⟩ => ⟨S32768x512, .f32⟩
  | .hbm, ⟨13, _⟩ => ⟨S32768x512, .bf16⟩
  | .hbm, ⟨14, _⟩ => ⟨S32768x512, .f32⟩
  | .hbm, ⟨15, _⟩ => ⟨S32768x512, .bf16⟩
  | .hbm, ⟨16, _⟩ => ⟨S32768x512, .f32⟩
  | .hbm, ⟨17, _⟩ => ⟨S32768x512, .bf16⟩
  | .hbm, ⟨18, _⟩ => ⟨S1x128, .f32⟩
  | .hbm, ⟨19, _⟩ => ⟨S32768x512, .bf16⟩
  | .local _ .vmem, ⟨0, _⟩ => ⟨S1024x128, .bf16⟩
  | .local _ .vmem, ⟨1, _⟩ => ⟨S1024x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S4x64, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | .local _ .vmem, ⟨10, _⟩ => ⟨S2x1024x128, .bf16⟩
  | .local _ .vmem, ⟨11, _⟩ => ⟨S2x1024x128, .f32⟩
  | .local _ .vmem, ⟨12, _⟩ => ⟨S2x1024x128, .f32⟩
  | .local _ .vmem, ⟨13, _⟩ => ⟨S2x1024x128, .f32⟩
  | _, _ => ⟨S2x16384x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_19 : BitVec 32 := 0#32
  let arg2 : BitVec 32 := BitVec.ofNat 32 (i 2).val
  let v28 : BitVec 32 := Scalar.subi arg2 c0_i32_19
  let c1_i32 : BitVec 32 := 1#32
  let v30 : BitVec 32 := Scalar.divsi v28 c1_i32
  let v31 : BitVec 32 := Scalar.muli v30 c1_i32
  let v32 : BitVec 32 := Scalar.addi c0_i32_19 v31
  let c1_i32_20 : BitVec 32 := 1#32
  ⟨c0_i32_19, v32, c1_i32_20⟩
def k0_mult1 (i : grid0.Coords) (k0_t1 : Fin (k0_t1_loop i).trips) : BitVec 32 :=
  let c0_i32_19 : BitVec 32 := 0#32
  let c1_i32_20 : BitVec 32 := 1#32
  let arg13 : BitVec 32 := Scf.iv c0_i32_19 c1_i32_20 k0_t1
  let c1024_i32_159 : BitVec 32 := 1024#32
  let v380 : BitVec 32 := Scalar.muli arg13 c1024_i32_159
  v380
def k0_off1 (i : grid0.Coords) (k0_t1 : Fin (k0_t1_loop i).trips) : Fin 2 → Nat :=
  let c0_i32_19 : BitVec 32 := 0#32
  let c1_i32_20 : BitVec 32 := 1#32
  let arg13 : BitVec 32 := Scf.iv c0_i32_19 c1_i32_20 k0_t1
  let c1024_i32_159 : BitVec 32 := 1024#32
  let v380 : BitVec 32 := Scalar.muli arg13 c1024_i32_159
  let v381 : BitVec 32 := v380
  let v382 : Index := Scalar.indexCast v381
  let c0_160 : Index := 0#32
  ![v382.toNat, 0]
@[reducible] def k0_t2_loop (i : grid0.Coords) : Scf.Loop 32 :=
  let c0_i32_19 : BitVec 32 := 0#32
  let arg2 : BitVec 32 := BitVec.ofNat 32 (i 2).val
  let v28 : BitVec 32 := Scalar.subi arg2 c0_i32_19
  let c1_i32 : BitVec 32 := 1#32
  let v30 : BitVec 32 := Scalar.divsi v28 c1_i32
  let v31 : BitVec 32 := Scalar.muli v30 c1_i32
  let v32 : BitVec 32 := Scalar.addi c0_i32_19 v31
  let v29 : BitVec 32 := Scalar.addi c0_i32_19 v28
  let c1_i32_21 : BitVec 32 := 1#32
  ⟨v32, v29, c1_i32_21⟩
def k0_mult2 (i : grid0.Coords) (k0_t2 : Fin (k0_t2_loop i).trips) : BitVec 32 :=
  let c0_i32_19 : BitVec 32 := 0#32
  let arg2 : BitVec 32 := BitVec.ofNat 32 (i 2).val
  let v28 : BitVec 32 := Scalar.subi arg2 c0_i32_19
  let c1_i32 : BitVec 32 := 1#32
  let v30 : BitVec 32 := Scalar.divsi v28 c1_i32
  let v31 : BitVec 32 := Scalar.muli v30 c1_i32
  let v32 : BitVec 32 := Scalar.addi c0_i32_19 v31
  let c1_i32_21 : BitVec 32 := 1#32
  let arg13 : BitVec 32 := Scf.iv v32 c1_i32_21 k0_t2
  let c1024_i32_159 : BitVec 32 := 1024#32
  let v380 : BitVec 32 := Scalar.muli arg13 c1024_i32_159
  v380
def k0_off2 (i : grid0.Coords) (k0_t2 : Fin (k0_t2_loop i).trips) : Fin 2 → Nat :=
  let c0_i32_19 : BitVec 32 := 0#32
  let arg2 : BitVec 32 := BitVec.ofNat 32 (i 2).val
  let v28 : BitVec 32 := Scalar.subi arg2 c0_i32_19
  let c1_i32 : BitVec 32 := 1#32
  let v30 : BitVec 32 := Scalar.divsi v28 c1_i32
  let v31 : BitVec 32 := Scalar.muli v30 c1_i32
  let v32 : BitVec 32 := Scalar.addi c0_i32_19 v31
  let c1_i32_21 : BitVec 32 := 1#32
  let arg13 : BitVec 32 := Scf.iv v32 c1_i32_21 k0_t2
  let c1024_i32_159 : BitVec 32 := 1024#32
  let v380 : BitVec 32 := Scalar.muli arg13 c1024_i32_159
  let v381 : BitVec 32 := v380
  let v382 : Index := Scalar.indexCast v381
  let c0_160 : Index := 0#32
  ![v382.toNat, 0]
def k0_mult3 (i : grid0.Coords) : BitVec 32 :=
  let arg2 : BitVec 32 := BitVec.ofNat 32 (i 2).val
  let c1024_i32 : BitVec 32 := 1024#32
  let v33 : BitVec 32 := Scalar.muli arg2 c1024_i32
  v33
def k0_off3 (i : grid0.Coords) : Fin 2 → Nat :=
  let arg2 : BitVec 32 := BitVec.ofNat 32 (i 2).val
  let c1024_i32 : BitVec 32 := 1024#32
  let v33 : BitVec 32 := Scalar.muli arg2 c1024_i32
  let v34 : BitVec 32 := v33
  let v35 : Index := Scalar.indexCast v34
  let c0_22 : Index := 0#32
  ![v35.toNat, 0]
def k0_off4 (i : grid0.Coords) : Fin 2 → Nat :=
  let arg2 : BitVec 32 := BitVec.ofNat 32 (i 2).val
  let c1024_i32 : BitVec 32 := 1024#32
  let v33 : BitVec 32 := Scalar.muli arg2 c1024_i32
  let v34 : BitVec 32 := v33
  let v161 : Index := Scalar.indexCast v34
  let c0_78 : Index := 0#32
  ![v161.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffIdeal.lean ====
variable {F : FTy → Type} [FloatOps F] [Named F]
def κ : String → Option EReal := fun
  | "mask" => some ⊥
  | _ => none
-- ==== DiffRefIdeal.lean ====
abbrev S2x16384x4x2x64 : Shape := ⟨5, ![2, 16384, 4, 2, 64]⟩
abbrev S2x16384x4x128 : Shape := ⟨4, ![2, 16384, 4, 128]⟩
abbrev S4x64 : Shape := ⟨2, ![4, 64]⟩
abbrev S128 : Shape := ⟨1, ![128]⟩
abbrev S16384 : Shape := ⟨1, ![16384]⟩
abbrev S2x4x2x16384x16384 : Shape := ⟨5, ![2, 4, 2, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S2x4x2x16384 : Shape := ⟨4, ![2, 4, 2, 16384]⟩
abbrev S2x4x2x16384x1 : Shape := ⟨5, ![2, 4, 2, 16384, 1]⟩
abbrev S1x64 : Shape := ⟨2, ![1, 64]⟩
abbrev S64 : Shape := ⟨1, ![64]⟩
abbrev S2x4x1x16384x16384 : Shape := ⟨5, ![2, 4, 1, 16384, 16384]⟩
abbrev S2x4x16384x16384 : Shape := ⟨4, ![2, 4, 16384, 16384]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S32768x512 : Shape := ⟨2, ![32768, 512]⟩

abbrev nBuf : Space → Nat
  | .hbm => 83
  | .vmem => 0
  | .smem => 0
  | _ => 0

abbrev bufTy : (tb : Table) → Fin (tcTables nBuf tb) → BufTy
  | .hbm, ⟨0, _⟩ => ⟨S2x16384x4x2x64, .f32⟩
  | .hbm, ⟨1, _⟩ => ⟨S2x16384x4x2x64, .f32⟩
  | .hbm, ⟨2, _⟩ => ⟨S2x16384x4x128, .f32⟩
  | .hbm, ⟨3, _⟩ => ⟨S4x64, .f32⟩
  | .hbm, ⟨4, _⟩ => ⟨S128, .f32⟩
  | .hbm, ⟨5, _⟩ => ⟨S16384, .i32⟩
  | .hbm, ⟨6, _⟩ => ⟨S2x4x2x16384x16384, .f32⟩
  | .hbm, ⟨7, _⟩ => ⟨S_, .f32⟩
  | .hbm, ⟨8, _⟩ => ⟨S2x4x2x16384x16384, .f32⟩
  | .hbm, ⟨9, _⟩ => ⟨S2x4x2x16384x16384, .f32⟩
  | .hbm, ⟨10, _⟩ => ⟨S1x16384, .i32⟩
  | .hbm, ⟨11, _⟩ => ⟨S16384x1, .i32⟩
  | .hbm, ⟨12, _⟩ => ⟨S16384x16384, .i32⟩
  | .hbm, ⟨13, _⟩ => ⟨S16384x16384, .i32⟩
  | .hbm, ⟨14, _⟩ => ⟨S16384x16384, .i1⟩
  | .hbm, ⟨15, _⟩ => ⟨S_, .f32⟩
  | .hbm, ⟨16, _⟩ => ⟨S_, .f32⟩
  | .hbm, ⟨17, _⟩ => ⟨S2x4x2x16384x16384, .i1⟩
  | .hbm, ⟨18, _⟩ => ⟨S2x4x2x16384x16384, .f32⟩
  | .hbm, ⟨19, _⟩ => ⟨S2x4x2x16384x16384, .f32⟩
  | .hbm, ⟨20, _⟩ => ⟨S_, .f32⟩
  | .hbm, ⟨21, _⟩ => ⟨S2x4x2x16384, .f32⟩
  | .hbm, ⟨22, _⟩ => ⟨S_, .f32⟩
  | .hbm, ⟨23, _⟩ => ⟨S2x4x2x16384, .f32⟩
  | .hbm, ⟨24, _⟩ => ⟨S2x4x2x16384, .f32⟩
  | .hbm, ⟨25, _⟩ => ⟨S2x4x2x16384x1, .f32⟩
  | .hbm, ⟨26, _⟩ => ⟨S2x4x2x16384x16384, .f32⟩
  | .hbm, ⟨27, _⟩ => ⟨S2x4x2x16384x16384, .f32⟩
  | .hbm, ⟨28, _⟩ => ⟨S2x4x2x16384x16384, .f32⟩
  | .hbm, ⟨29, _⟩ => ⟨S_, .f32⟩
  | .hbm, ⟨30, _⟩ => ⟨S2x4x2x16384, .f32⟩
  | .hbm, ⟨31, _⟩ => ⟨S2x4x2x16384x1, .f32⟩
  | .hbm, ⟨32, _⟩ => ⟨S2x4x2x16384x16384, .f32⟩
  | .hbm, ⟨33, _⟩ => ⟨S2x4x2x16384x16384, .f32⟩
  | .hbm, ⟨34, _⟩ => ⟨S1x64, .f32⟩
  | .hbm, ⟨35, _⟩ => ⟨S64, .f32⟩
  | .hbm, ⟨36, _⟩ => ⟨S1x64, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x64, .f32⟩
  | .hbm, ⟨43, _⟩ => ⟨S64, .f32⟩
  | .hbm, ⟨44, _⟩ => ⟨S1x64, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2x4x1x16384x16384, .f32⟩
  | .hbm, ⟨54, _⟩ => ⟨S2x4x16384x16384, .f32⟩
  | .hbm, ⟨55, _⟩ => ⟨S2x4x1x16384x16384, .f32⟩
  | .hbm, ⟨56, _⟩ => ⟨S2x4x16384x16384, .f32⟩
  | .hbm, ⟨57, _⟩ => ⟨S2x4x16384x16384, .f32⟩
  | .hbm, ⟨58, _⟩ => ⟨S2x4x16384x16384, .f32⟩
  | .hbm, ⟨59, _⟩ => ⟨S2x4x16384x16384, .f32⟩
  | .hbm, ⟨60, _⟩ => ⟨S2x4x128x16384, .f32⟩
  | .hbm, ⟨61, _⟩ => ⟨S2x16384x4x128, .f32⟩
  | .hbm, ⟨62, _⟩ => ⟨S2x16384x4x128, .f32⟩
  | .hbm, ⟨63, _⟩ => ⟨S_, .f32⟩
  | .hbm, ⟨64, _⟩ => ⟨S2x16384x4, .f32⟩
  | .hbm, ⟨65, _⟩ => ⟨S2x16384x4x1, .f32⟩
  | .hbm, ⟨66, _⟩ => ⟨S_, .f32⟩
  | .hbm, ⟨67, _⟩ => ⟨S2x16384x4x1, .f32⟩
  | .hbm, ⟨68, _⟩ => ⟨S2x16384x4x1, .f32⟩
  | .hbm, ⟨69, _⟩ => ⟨S_, .f32⟩
  | .hbm, ⟨70, _⟩ => ⟨S2x16384x4x1, .f32⟩
  | .hbm, ⟨71, _⟩ => ⟨S2x16384x4x1, .f32⟩
  | .hbm, ⟨72, _⟩ => ⟨S2x16384x4x1, .f32⟩
  | .hbm, ⟨73, _⟩ => ⟨S2x16384x4x128, .f32⟩
  | .hbm, ⟨74, _⟩ => ⟨S2x16384x4x128, .f32⟩
  | .hbm, ⟨75, _⟩ => ⟨S1x1x1x128, .f32⟩
  | .hbm, ⟨76, _⟩ => ⟨S2x16384x4x128, .f32⟩
  | .hbm, ⟨77, _⟩ => ⟨S2x16384x4x128, .f32⟩
  | .hbm, ⟨78, _⟩ => ⟨S_, .f32⟩
  | .hbm, ⟨79, _⟩ => ⟨S2x16384x4x128, .f32⟩
  | .hbm, ⟨80, _⟩ => ⟨S2x16384x4x128, .f32⟩
  | .hbm, ⟨81, _⟩ => ⟨S32768x512, .f32⟩
  | .hbm, ⟨82, _⟩ => ⟨S32768x512, .bf16⟩
  | _, _ => ⟨S2x16384x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S32768x256 : Shape := ⟨2, ![32768, 256]⟩
abbrev S1024x5704 : Shape := ⟨2, ![1024, 5704]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S256x1024 : Shape := ⟨2, ![256, 1024]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S1024x2048 : Shape := ⟨2, ![1024, 2048]⟩
abbrev S1x1024 : Shape := ⟨2, ![1, 1024]⟩
abbrev S32768x128 : Shape := ⟨2, ![32768, 128]⟩
abbrev S1024x512 : Shape := ⟨2, ![1024, 512]⟩
abbrev S1024x256 : Shape := ⟨2, ![1024, 256]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S512x128 : Shape := ⟨2, ![512, 128]⟩

abbrev nBuf : Space → Nat
  | .hbm => 40
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x256, .f32⟩
  | .hbm, ⟨4, _⟩ => ⟨S1024x5704, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S1024x1024, .f32⟩
  | .hbm, ⟨15, _⟩ => ⟨S256x1024, .f32⟩
  | .hbm, ⟨16, _⟩ => ⟨S1024x36, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S36, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S32768x512, .bf16⟩
  | .hbm, ⟨27, _⟩ => ⟨S32768x512, .bf16⟩
  | .hbm, ⟨28, _⟩ => ⟨S1024x2048, .f32⟩
  | .hbm, ⟨29, _⟩ => ⟨S1024x2048, .bf16⟩
  | .hbm, ⟨30, _⟩ => ⟨S512x1024, .bf16⟩
  | .hbm, ⟨31, _⟩ => ⟨S512x1024, .bf16⟩
  | .hbm, ⟨32, _⟩ => ⟨S1024x1024, .bf16⟩
  | .hbm, ⟨33, _⟩ => ⟨S1x1024, .f32⟩
  | .hbm, ⟨34, _⟩ => ⟨S1x1024, .f32⟩
  | .hbm, ⟨35, _⟩ => ⟨S1024x1024, .bf16⟩
  | .hbm, ⟨36, _⟩ => ⟨S256x1024, .bf16⟩
  | .hbm, ⟨37, _⟩ => ⟨S32768x1024, .bf16⟩
  | .hbm, ⟨38, _⟩ => ⟨S32768x1024, .f32⟩
  | .hbm, ⟨39, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .f32⟩
  | .local _ .vmem, ⟨7, _⟩ => ⟨S1024x256, .f32⟩
  | .local _ .vmem, ⟨8, _⟩ => ⟨S1024x2048, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x128, .bf16⟩
  | .local _ .vmem, ⟨15, _⟩ => ⟨S1x128, .f32⟩
  | .local _ .vmem, ⟨16, _⟩ => ⟨S1024x1024, .bf16⟩
  | .local _ .vmem, ⟨17, _⟩ => ⟨S256x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x128, .f32⟩
  | .local _ .vmem, ⟨23, _⟩ => ⟨S1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17_0 : Ref sig .tc := ⟨.hbm, 37, rfl⟩
abbrev main_v17_1 : Ref sig .tc := ⟨.hbm, 38, rfl⟩
abbrev main_v17_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S32768x1024 : Shape := ⟨2, ![32768, 1024]⟩
abbrev S32768x512 : Shape := ⟨2, ![32768, 512]⟩
abbrev S32768x256 : Shape := ⟨2, ![32768, 256]⟩
abbrev S1024x5704 : Shape := ⟨2, ![1024, 5704]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x256, .f32⟩
  | .hbm, ⟨4, _⟩ => ⟨S1024x5704, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S1024x1024, .f32⟩
  | .hbm, ⟨15, _⟩ => ⟨S256x1024, .f32⟩
  | .hbm, ⟨16, _⟩ => ⟨S1024x1024, .f32⟩
  | .hbm, ⟨17, _⟩ => ⟨S32768x1024, .f32⟩
  | .hbm, ⟨18, _⟩ => ⟨S1024x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S_, .f32⟩
  | .hbm, ⟨56, _⟩ => ⟨S32768, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x1, .f32⟩
  | .hbm, ⟨67, _⟩ => ⟨S32768x1024, .f32⟩
  | .hbm, ⟨68, _⟩ => ⟨S32768x1024, .f32⟩
  | .hbm, ⟨69, _⟩ => ⟨S1x1024, .f32⟩
  | .hbm, ⟨70, _⟩ => ⟨S32768x1024, .f32⟩
  | .hbm, ⟨71, _⟩ => ⟨S32768x1024, .f32⟩
  | .hbm, ⟨72, _⟩ => ⟨S1x1024, .f32⟩
  | .hbm, ⟨73, _⟩ => ⟨S32768x1024, .f32⟩
  | .hbm, ⟨74, _⟩ => ⟨S32768x1024, .f32⟩
  | .hbm, ⟨75, _⟩ => ⟨S32768x1024, .bf16⟩
  | .hbm, ⟨76, _⟩ => ⟨S_, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S_, .f32⟩
  | .hbm, ⟨83, _⟩ => ⟨S32768x1024, .f32⟩
  | .hbm, ⟨84, _⟩ => ⟨S32768x1024, .f32⟩
  | .hbm, ⟨85, _⟩ => ⟨S_, .f32⟩
  | .hbm, ⟨86, _⟩ => ⟨S32768x1024, .f32⟩
  | .hbm, ⟨87, _⟩ => ⟨S32768x1024, .f32⟩
  | .hbm, ⟨88, _⟩ => ⟨S32768x1024, .f32⟩
  | .hbm, ⟨89, _⟩ => ⟨S32768x1024, .f32⟩
  | .hbm, ⟨90, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩

abbrev nD : Nat := 1
abbrev τ : Topo := Topo.v7x

variable {F : FTy → Type} [FloatOps F]
-- ==== Inproj.lean ====
abbrev S32768x1024 : Shape := ⟨2, ![32768, 1024]⟩
abbrev S32768x8 : Shape := ⟨2, ![32768, 8]⟩
abbrev S1024x5704 : Shape := ⟨2, ![1024, 5704]⟩
abbrev S_ : Shape := ⟨0, ![]⟩
abbrev S32768x48 : Shape := ⟨2, ![32768, 48]⟩
abbrev S32768x64 : Shape := ⟨2, ![32768, 64]⟩
abbrev S32768x56 : Shape := ⟨2, ![32768, 56]⟩
abbrev S1x32768x1x64 : Shape := ⟨4, ![1, 32768, 1, 64]⟩
abbrev S1x32768x2x64 : Shape := ⟨4, ![1, 32768, 2, 64]⟩
abbrev S32768x128 : Shape := ⟨2, ![32768, 128]⟩
abbrev S3584 : Shape := ⟨1, ![3584]⟩
abbrev S1 : Shape := ⟨1, ![1]⟩
abbrev S512 : Shape := ⟨1, ![512]⟩
abbrev S1024x64 : Shape := ⟨2, ![1024, 64]⟩
abbrev S1024x8 : Shape := ⟨2, ![1024, 8]⟩
abbrev S1024x128 : Shape := ⟨2, ![1024, 128]⟩
abbrev S1024x3584 : Shape := ⟨2, ![1024, 3584]⟩
abbrev S1x3584 : Shape := ⟨2, ![1, 3584]⟩
abbrev S1024x3840 : Shape := ⟨2, ![1024, 3840]⟩
abbrev S32768x512 : Shape := ⟨2, ![32768, 512]⟩
abbrev S512x1024 : Shape := ⟨2, ![512, 1024]⟩
abbrev S512x128 : Shape := ⟨2, ![512, 128]⟩
abbrev S512x512 : Shape := ⟨2, ![512, 512]⟩
abbrev S1024x512 : Shape := ⟨2, ![1024, 512]⟩
abbrev S1024x256 : Shape := ⟨2, ![1024, 256]⟩
abbrev S512x256 : Shape := ⟨2, ![512, 256]⟩

abbrev nBuf : Space → Nat
  | .hbm => 62
  | .vmem => 27
  | .smem => 0
  | _ => 0

abbrev bufTy : (tb : Table) → Fin (tcTables nBuf tb) → BufTy
  | .hbm, ⟨0, _⟩ => ⟨S32768x1024, .f32⟩
  | .hbm, ⟨1, _⟩ => ⟨S32768x8, .f32⟩
  | .hbm, ⟨2, _⟩ => ⟨S32768x8, .f32⟩
  | .hbm, ⟨3, _⟩ => ⟨S1024x5704, .f32⟩
  | .hbm, ⟨4, _⟩ => ⟨S_, .f32⟩
  | .hbm, ⟨5, _⟩ => ⟨S32768x48, .f32⟩
  | .hbm, ⟨6, _⟩ => ⟨S32768x64, .f32⟩
  | .hbm, ⟨7, _⟩ => ⟨S32768x8, .f32⟩
  | .hbm, ⟨8, _⟩ => ⟨S_, .f32⟩
  | .hbm, ⟨9, _⟩ => ⟨S32768x56, .f32⟩
  | .hbm, ⟨10, _⟩ => ⟨S32768x64, .f32⟩
  | .hbm, ⟨11, _⟩ => ⟨S_, .f32⟩
  | .hbm, ⟨12, _⟩ => ⟨S32768x8, .f32⟩
  | .hbm, ⟨13, _⟩ => ⟨S_, .f32⟩
  | .hbm, ⟨14, _⟩ => ⟨S32768x48, .f32⟩
  | .hbm, ⟨15, _⟩ => ⟨S32768x64, .f32⟩
  | .hbm, ⟨16, _⟩ => ⟨S1x32768x1x64, .f32⟩
  | .hbm, ⟨17, _⟩ => ⟨S1x32768x2x64, .f32⟩
  | .hbm, ⟨18, _⟩ => ⟨S32768x128, .f32⟩
  | .hbm, ⟨19, _⟩ => ⟨S1x32768x1x64, .f32⟩
  | .hbm, ⟨20, _⟩ => ⟨S1x32768x2x64, .f32⟩
  | .hbm, ⟨21, _⟩ => ⟨S32768x128, .f32⟩
  | .hbm, ⟨22, _⟩ => ⟨S1x32768x1x64, .f32⟩
  | .hbm, ⟨23, _⟩ => ⟨S1x32768x2x64, .f32⟩
  | .hbm, ⟨24, _⟩ => ⟨S32768x128, .f32⟩
  | .hbm, ⟨25, _⟩ => ⟨S_, .f32⟩
  | .hbm, ⟨26, _⟩ => ⟨S3584, .f32⟩
  | .hbm, ⟨27, _⟩ => ⟨S_, .i32⟩
  | .hbm, ⟨28, _⟩ => ⟨S1, .i32⟩
  | .hbm, ⟨29, _⟩ => ⟨S_, .f32⟩
  | .hbm, ⟨30, _⟩ => ⟨S512, .f32⟩
  | .hbm, ⟨31, _⟩ => ⟨S3584, .f32⟩
  | .hbm, ⟨32, _⟩ => ⟨S_, .i32⟩
  | .hbm, ⟨33, _⟩ => ⟨S1, .i32⟩
  | .hbm, ⟨34, _⟩ => ⟨S_, .f32⟩
  | .hbm, ⟨35, _⟩ => ⟨S512, .f32⟩
  | .hbm, ⟨36, _⟩ => ⟨S3584, .f32⟩
  | .hbm, ⟨37, _⟩ => ⟨S_, .i32⟩
  | .hbm, ⟨38, _⟩ => ⟨S1, .i32⟩
  | .hbm, ⟨39, _⟩ => ⟨S_, .f32⟩
  | .hbm, ⟨40, _⟩ => ⟨S512, .f32⟩
  | .hbm, ⟨41, _⟩ => ⟨S3584, .f32⟩
  | .hbm, ⟨42, _⟩ => ⟨S1024x64, .f32⟩
  | .hbm, ⟨43, _⟩ => ⟨S1024x8, .f32⟩
  | .hbm, ⟨44, _⟩ => ⟨S_, .i32⟩
  | .hbm, ⟨45, _⟩ => ⟨S_, .f32⟩
  | .hbm, ⟨46, _⟩ => ⟨S1024x128, .f32⟩
  | .hbm, ⟨47, _⟩ => ⟨S1024x3584, .f32⟩
  | .hbm, ⟨48, _⟩ => ⟨S1x3584, .f32⟩
  | .hbm, ⟨49, _⟩ => ⟨S1024x3584, .f32⟩
  | .hbm, ⟨50, _⟩ => ⟨S1024x3584, .f32⟩
  | .hbm, ⟨51, _⟩ => ⟨S1024x3840, .f32⟩
  | .hbm, ⟨52, _⟩ => ⟨S1024x3840, .bf16⟩
  | .hbm, ⟨53, _⟩ => ⟨S32768x512, .bf16⟩
  | .hbm, ⟨54, _⟩ => ⟨S32768x512, .bf16⟩
  | .hbm, ⟨55, _⟩ => ⟨S32768x512, .bf16⟩
  | .hbm, ⟨56, _⟩ => ⟨S32768x512, .bf16⟩
  | .hbm, ⟨57, _⟩ => ⟨S32768x512, .bf16⟩
  | .hbm, ⟨58, _⟩ => ⟨S32768x512, .bf16⟩
  | .hbm, ⟨59, _⟩ => ⟨S32768x512, .bf16⟩
  | .hbm, ⟨60, _⟩ => ⟨S32768x128, .bf16⟩
  | .hbm, ⟨61, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1024x3840, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x128, .bf16⟩
  | .local _ .vmem, ⟨24, _⟩ => ⟨S512x128, .bf16⟩
  | .local _ .vmem, ⟨25, _⟩ => ⟨S512x128, .f32⟩
  | .local _ .vmem, ⟨26, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_9 : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_v36_2 : Ref sig .tc := ⟨.hbm, 55, rfl⟩
abbrev main_v36_3 : Ref sig .tc := ⟨.hbm, 56, rfl⟩
abbrev main_v36_4 : Ref sig .tc := ⟨.hbm, 57, rfl⟩
abbrev main_v36_5 : Ref sig .tc := ⟨.hbm, 58, rfl⟩
abbrev main_v36_6 : Ref sig .tc := ⟨.hbm, 59, rfl⟩
abbrev main_v36_7 : Ref sig .tc := ⟨.hbm, 60, rfl⟩
abbrev main_v36_8 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InprojRefIdeal.lean ====
abbrev S32768x1024 : Shape := ⟨2, ![32768, 1024]⟩
abbrev S32768x8 : Shape := ⟨2, ![32768, 8]⟩
abbrev S1024x5704 : Shape := ⟨2, ![1024, 5704]⟩
abbrev S1024x3656 : Shape := ⟨2, ![1024, 3656]⟩
abbrev S32768x3656 : Shape := ⟨2, ![32768, 3656]⟩
abbrev S32768x512 : Shape := ⟨2, ![32768, 512]⟩
abbrev S32768x64 : Shape := ⟨2, ![32768, 64]⟩
abbrev S32768x8x64 : Shape := ⟨3, ![32768, 8, 64]⟩
abbrev S32768x8x8 : Shape := ⟨3, ![32768, 8, 8]⟩
abbrev S32768x1x8 : Shape := ⟨3, ![32768, 1, 8]⟩
abbrev S32768x8x48 : Shape := ⟨3, ![32768, 8, 48]⟩
abbrev S_ : Shape := ⟨0, ![]⟩
abbrev S32768x1x64 : Shape := ⟨3, ![32768, 1, 64]⟩
abbrev S32768x1x48 : Shape := ⟨3, ![32768, 1, 48]⟩
abbrev S1x32768x1x64 : Shape := ⟨4, ![1, 32768, 1, 64]⟩
abbrev S1x32768x2x64 : Shape := ⟨4, ![1, 32768, 2, 64]⟩
abbrev S32768x128 : Shape := ⟨2, ![32768, 128]⟩

abbrev nBuf : Space → Nat
  | .hbm => 151
  | .vmem => 0
  | .smem => 0
  | _ => 0

abbrev hbmTy0_0 (i : Nat) : BufTy := match i % 128 with
  | 0 => ⟨S32768x1024, .f32⟩
  | 1 => ⟨S32768x8, .f32⟩
  | 2 => ⟨S32768x8, .f32⟩
  | 3 => ⟨S1024x5704, .f32⟩
  | 4 => ⟨S1024x3656, .f32⟩
  | 5 => ⟨S32768x3656, .f32⟩
  | 6 => ⟨S32768x512, .f32⟩
  | 7 => ⟨S32768x512, .f32⟩
  | 8 => ⟨S32768x512, .f32⟩
  | 9 => ⟨S32768x512, .f32⟩
  | 10 => ⟨S32768x512, .f32⟩
  | 11 => ⟨S32768x512, .f32⟩
  | 12 => ⟨S32768x512, .f32⟩
  | 13 => ⟨S32768x64, .f32⟩
  | 14 => ⟨S32768x8, .f32⟩
  | 15 => ⟨S32768x8x64, .f32⟩
  | 16 => ⟨S32768x8x8, .f32⟩
  | 17 => ⟨S32768x8x8, .f32⟩
  | 18 => ⟨S32768x1x8, .f32⟩
  | 19 => ⟨S32768x1x8, .f32⟩
  | 20 => ⟨S32768x8x8, .f32⟩
  | 21 => ⟨S32768x8x8, .f32⟩
  | 22 => ⟨S32768x8x8, .f32⟩
  | 23 => ⟨S32768x8x8, .f32⟩
  | 24 => ⟨S32768x8x8, .f32⟩
  | 25 => ⟨S32768x8x8, .f32⟩
  | 26 => ⟨S32768x8x8, .f32⟩
  | 27 => ⟨S32768x8x8, .f32⟩
  | 28 => ⟨S32768x8x8, .f32⟩
  | 29 => ⟨S32768x8x8, .f32⟩
  | 30 => ⟨S32768x8x48, .f32⟩
  | 31 => ⟨S32768x8x64, .f32⟩
  | 32 => ⟨S32768x512, .f32⟩
  | 33 => ⟨S_, .f32⟩
  | 34 => ⟨S32768x512, .f32⟩
  | 35 => ⟨S32768x512, .f32⟩
  | 36 => ⟨S_, .f32⟩
  | 37 => ⟨S32768x512, .f32⟩
  | 38 => ⟨S32768x512, .f32⟩
  | 39 => ⟨S32768x8x64, .f32⟩
  | 40 => ⟨S32768x8x8, .f32⟩
  | 41 => ⟨S32768x8x8, .f32⟩
  | 42 => ⟨S32768x1x8, .f32⟩
  | 43 => ⟨S32768x1x8, .f32⟩
  | 44 => ⟨S32768x8x8, .f32⟩
  | 45 => ⟨S32768x8x8, .f32⟩
  | 46 => ⟨S32768x8x8, .f32⟩
  | 47 => ⟨S32768x8x8, .f32⟩
  | 48 => ⟨S32768x8x8, .f32⟩
  | 49 => ⟨S32768x8x8, .f32⟩
  | 50 => ⟨S32768x8x8, .f32⟩
  | 51 => ⟨S32768x8x8, .f32⟩
  | 52 => ⟨S32768x8x8, .f32⟩
  | 53 => ⟨S32768x8x8, .f32⟩
  | 54 => ⟨S32768x8x48, .f32⟩
  | 55 => ⟨S32768x8x64, .f32⟩
  | 56 => ⟨S32768x512, .f32⟩
  | 57 => ⟨S32768x8x64, .f32⟩
  | 58 => ⟨S32768x8x8, .f32⟩
  | 59 => ⟨S32768x8x8, .f32⟩
  | 60 => ⟨S32768x1x8, .f32⟩
  | 61 => ⟨S32768x1x8, .f32⟩
  | 62 => ⟨S32768x8x8, .f32⟩
  | 63 => ⟨S32768x8x8, .f32⟩
  | 64 => ⟨S32768x8x8, .f32⟩
  | 65 => ⟨S32768x8x8, .f32⟩
  | 66 => ⟨S32768x8x8, .f32⟩
  | 67 => ⟨S32768x8x8, .f32⟩
  | 68 => ⟨S32768x8x8, .f32⟩
  | 69 => ⟨S32768x8x8, .f32⟩
  | 70 => ⟨S32768x8x8, .f32⟩
  | 71 => ⟨S32768x8x8, .f32⟩
  | 72 => ⟨S32768x8x48, .f32⟩
  | 73 => ⟨S32768x8x64, .f32⟩
  | 74 => ⟨S32768x512, .f32⟩
  | 75 => ⟨S_, .f32⟩
  | 76 => ⟨S32768x512, .f32⟩
  | 77 => ⟨S32768x512, .f32⟩
  | 78 => ⟨S_, .f32⟩
  | 79 => ⟨S32768x512, .f32⟩
  | 80 => ⟨S32768x512, .f32⟩
  | 81 => ⟨S32768x8x64, .f32⟩
  | 82 => ⟨S32768x8x8, .f32⟩
  | 83 => ⟨S32768x8x8, .f32⟩
  | 84 => ⟨S32768x1x8, .f32⟩
  | 85 => ⟨S32768x1x8, .f32⟩
  | 86 => ⟨S32768x8x8, .f32⟩
  | 87 => ⟨S32768x8x8, .f32⟩
  | 88 => ⟨S32768x8x8, .f32⟩
  | 89 => ⟨S32768x8x8, .f32⟩
  | 90 => ⟨S32768x8x8, .f32⟩
  | 91 => ⟨S32768x8x8, .f32⟩
  | 92 => ⟨S32768x8x8, .f32⟩
  | 93 => ⟨S32768x8x8, .f32⟩
  | 94 => ⟨S32768x8x8, .f32⟩
  | 95 => ⟨S32768x8x8, .f32⟩
  | 96 => ⟨S32768x8x48, .f32⟩
  | 97 => ⟨S32768x8x64, .f32⟩
  | 98 => ⟨S32768x512, .f32⟩
  | 99 => ⟨S32768x8x64, .f32⟩
  | 100 => ⟨S32768x8x8, .f32⟩
  | 101 => ⟨S32768x8x8, .f32⟩
  | 102 => ⟨S32768x1x8, .f32⟩
  | 103 => ⟨S32768x1x8, .f32⟩
  | 104 => ⟨S32768x8x8, .f32⟩
  | 105 => ⟨S32768x8x8, .f32⟩
  | 106 => ⟨S32768x8x8, .f32⟩
  | 107 => ⟨S32768x8x8, .f32⟩
  | 108 => ⟨S32768x8x8, .f32⟩
  | 109 => ⟨S32768x8x8, .f32⟩
  | 110 => ⟨S32768x8x8, .f32⟩
  | 111 => ⟨S32768x8x8, .f32⟩
  | 112 => ⟨S32768x8x8, .f32⟩
  | 113 => ⟨S32768x8x8, .f32⟩
  | 114 => ⟨S32768x8x48, .f32⟩
  | 115 => ⟨S32768x8x64, .f32⟩
  | 116 => ⟨S32768x512, .f32⟩
  | 117 => ⟨S_, .f32⟩
  | 118 => ⟨S32768x512, .f32⟩
  | 119 => ⟨S32768x512, .f32⟩
  | 120 => ⟨S32768x1x64, .f32⟩
  | 121 => ⟨S32768x1x8, .f32⟩
  | 122 => ⟨S32768x1x8, .f32⟩
  | 123 => ⟨S32768x1x8, .f32⟩
  | 124 => ⟨S32768x1x8, .f32⟩
  | 125 => ⟨S32768x1x8, .f32⟩
  | 126 => ⟨S32768x1x8, .f32⟩
  | 127 => ⟨S32768x1x8, .f32⟩
  | _ => ⟨S32768x1024, .f32⟩

abbrev hbmTy0_1 (i : Nat) : BufTy := match i % 128 with
  | 0 => ⟨S32768x1x8, .f32⟩
  | 1 => ⟨S32768x1x8, .f32⟩
  | 2 => ⟨S32768x1x8, .f32⟩
  | 3 => ⟨S32768x1x48, .f32⟩
  | 4 => ⟨S32768x1x64, .f32⟩
  | 5 => ⟨S32768x64, .f32⟩
  | 6 => ⟨S1x32768x1x64, .f32⟩
  | 7 => ⟨S1x32768x2x64, .f32⟩
  | 8 => ⟨S32768x128, .f32⟩
  | 9 => ⟨S32768x512, .bf16⟩
  | 10 => ⟨S32768x512, .bf16⟩
  | 11 => ⟨S32768x512, .bf16⟩
  | 12 => ⟨S32768x512, .bf16⟩
  | 13 => ⟨S32768x512, .bf16⟩
  | 14 => ⟨S32768x512, .bf16⟩
  | 15 => ⟨S32768x512, .bf16⟩
  | 16 => ⟨S32768x128, .bf16⟩
  | 17 => ⟨S_, .f32⟩
  | 18 => ⟨S32768x8, .f32⟩
  | 19 => ⟨S32768x8, .f32⟩
  | 20 => ⟨S_, .i32⟩
  | 21 => ⟨S_, .f32⟩
  | 22 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_cst_1 : Ref sig .tc := ⟨.hbm, 75, rfl⟩
abbrev main_v69 : Ref sig .tc := ⟨.hbm, 76, rfl⟩
abbrev main_v70 : Ref sig .tc := ⟨.hbm, 77, rfl⟩
abbrev main_cst_2 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_cst_3 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_cst_4 : Ref sig .tc := ⟨.hbm, 145, rfl⟩
abbrev main_v136 : Ref sig .tc := ⟨.hbm, 146, rfl⟩
abbrev main_v137 : Ref sig .tc := ⟨.hbm, 147, rfl⟩
abbrev main_c : Ref sig .tc := ⟨.hbm, 148, rfl⟩
abbrev main_call0_v0 : Ref sig .tc := ⟨.hbm, 149, rfl⟩
abbrev main_v138 : Ref sig .tc := ⟨.hbm, 150, rfl⟩

abbrev nD : Nat := 1
abbrev τ : Topo := Topo.v7x

variable {F : FTy → Type} [FloatOps F]
-- ==== Proof.MoeBody.lean ====
/- What one grid point of the mixture-of-experts kernel computes, read at an index over the extended reals: the hidden
   block of its eight experts (`hid`), the product with the eight down projections (`part`), the running sum the
   carried scratch holds after each point, and the layer norm the last point of a token block stores. -/
module

public import proofs.«01_k».proof.Proof.Gen.MoeIdeal.Value
public import Idealize.ShloMosaic.Lib.Pointwise
public import Idealize.ShloMosaic.Lib.Pipeline.Value
public import Idealize.ShloMosaic.Lib.StableHlo.ReadAt

@[expose] public section

noncomputable section

namespace Cert.MoeProof

open Cert.MoeIdeal Cert.MoeIdeal.Gen Cert.MoeIdeal.Value Idealize.ShloMosaic Idealize.ShloMosaic.TcCoe Idealize.SL.Sem

variable (m : (ℓ : Loc nD τ sig) → Buf (Elt Ideal) ℓ)

/-- Column `k` of the hidden block of row `r`: expert `k / 256` of the step, its unit `k % 256`. `x` the tokens' block,
    `cm` the combine weights' block, `w` the step's gate and up weights side by side, `s` the step. -/
def hid (x : Vec Ideal S1024x1024 .bf16) (cm : Vec Ideal S1024x128 .f32) (w : Vec Ideal S8x1024x512 .bf16) (s : BitVec 32)
    (r : Fin 1024) (e : Fin 8) (f : Fin 256) : EReal :=
  (((∑ d : Fin 1024, x (ix2 r d) * w (ix3 e d ⟨f.val, by omega⟩))
      * Ideal.div 1 (1 + Ideal.exp (0 - ∑ d : Fin 1024, x (ix2 r d) * w (ix3 e d ⟨f.val, by omega⟩))))
    * ∑ d : Fin 1024, x (ix2 r d) * w (ix3 e d ⟨256 + f.val, by omega⟩))
  * ∑ l : Fin 128, Scalar.select (IntOp.cmpi .eq (BitVec.ofNat 32 l.val) (Scalar.addi (Scalar.muli s 8#32) (BitVec.ofNat 32 e.val)))
      (cm (ix2 r l)) 0

/-- The eight stores into the hidden block, last first, over the point's loads. -/
abbrev pcs (x : Vec Ideal S1024x1024 .bf16) (cm : Vec Ideal S1024x128 .f32) (w : Vec Ideal S8x1024x512 .bf16) (i : grid0.Coords) :
    List (View.Piece (Elt Ideal) S1024x2048 .bf16) :=
  let s : BitVec 32 := BitVec.ofNat 32 (i 1).val
  let io : IVec S1024x128 32 := iota .tc S1024x128 32 [1] iota_S1024x128_d1_w32
  [⟨Rect.unit ![0, 1792] ![1024, 256] inb_S1024x2048_S1024x256_0_1792,
      k0_pay21 s (k0_pay4 x) (k0_pay5 cm) io (View.ld w (Rect.unit ![7, 0, 0] ![1, 1024, 512] inb_S8x1024x512_S1x1024x512_7_0_0))⟩,
   ⟨Rect.unit ![0, 1536] ![1024, 256] inb_S1024x2048_S1024x256_0_1536,
      k0_pay20 (k0_pay19 s (k0_pay4 x) (k0_pay5 cm) io (View.ld w (Rect.unit ![6, 0, 0] ![1, 1024, 512] inb_S8x1024x512_S1x1024x512_6_0_0)))⟩,
   ⟨Rect.unit ![0, 1280] ![1024, 256] inb_S1024x2048_S1024x256_0_1280,
      k0_pay18 (k0_pay16 (k0_pay4 x) (View.ld w (Rect.unit ![5, 0, 0] ![1, 1024, 512] inb_S8x1024x512_S1x1024x512_5_0_0))) (k0_pay17 s (k0_pay5 cm) io)⟩,
   ⟨Rect.unit ![0, 1024] ![1024, 256] inb_S1024x2048_S1024x256_0_1024,
      k0_pay15 s (k0_pay4 x) (k0_pay5 cm) io (View.ld w (Rect.unit ![4, 0, 0] ![1, 1024, 512] inb_S8x1024x512_S1x1024x512_4_0_0))⟩,
   ⟨Rect.unit ![0, 768] ![1024, 256] inb_S1024x2048_S1024x256_0_768,
      k0_pay14 s (k0_pay4 x) (k0_pay5 cm) io (View.ld w (Rect.unit ![3, 0, 0] ![1, 1024, 512] inb_S8x1024x512_S1x1024x512_3_0_0))⟩,
   ⟨Rect.unit ![0, 512] ![1024, 256] inb_S1024x2048_S1024x256_0_512,
      k0_pay13 (k0_pay9 (k0_pay4 x) (View.ld w (Rect.unit ![2, 0, 0] ![1, 1024, 512] inb_S8x1024x512_S1x1024x512_2_0_0)))
        (k0_pay10 s (k0_pay5 cm) io)
        (k0_pay11 (k0_pay4 x) (View.ld w (Rect.unit ![2, 0, 0] ![1, 1024, 512] inb_S8x1024x512_S1x1024x512_2_0_0)))
        (k0_pay12 (k0_pay4 x) (View.ld w (Rect.unit ![2, 0, 0] ![1, 1024, 512] inb_S8x1024x512_S1x1024x512_2_0_0)))
        (FloatOps.ofBits FTy.f32 1065353216#32)⟩,
   ⟨Rect.unit ![0, 256] ![1024, 256] inb_S1024x2048_S1024x256_0_256,
      k0_pay8 s (k0_pay5 cm) io (k0_pay7 x (View.ld w (Rect.unit ![1, 0, 0] ![1, 1024, 512] inb_S8x1024x512_S1x1024x512_1_0_0)))⟩,
   ⟨Rect.unit ![0, 0] ![1024, 256] inb_S1024x2048_S1024x256_0_0,
      k0_pay6 i x cm (View.ld w (Rect.unit ![0, 0, 0] ![1, 1024, 512] inb_S8x1024x512_S1x1024x512_0_0_0))⟩]

/-- The store of expert 0 of the step. -/
theorem piece0_at (i : grid0.Coords) (x : Vec Ideal S1024x1024 .bf16) (cm : Vec Ideal S1024x128 .f32) (w : Vec Ideal S8x1024x512 .bf16)
    (r : Fin 1024) (f : Fin 256) :
    k0_pay6 i x cm (View.ld w (Rect.unit ![0, 0, 0] ![1, 1024, 512] inb_S8x1024x512_S1x1024x512_0_0_0)) (ix2 r f)
      = hid x cm w (BitVec.ofNat 32 (i 1).val) r 0 f := by
  pointwise [k0_pay6, k0_pay4, k0_pay5]
  rfl

/-- The store of expert 1 of the step. -/
theorem piece1_at (s : BitVec 32) (x : Vec Ideal S1024x1024 .bf16) (cm : Vec Ideal S1024x128 .f32) (w : Vec Ideal S8x1024x512 .bf16)
    (r : Fin 1024) (f : Fin 256) :
    k0_pay8 s (k0_pay5 cm) (iota .tc S1024x128 32 [1] iota_S1024x128_d1_w32) (k0_pay7 x (View.ld w (Rect.unit ![1, 0, 0] ![1, 1024, 512] inb_S8x1024x512_S1x1024x512_1_0_0))) (ix2 r f)
      = hid x cm w s r 1 f := by
  pointwise [k0_pay8, k0_pay7, k0_pay4, k0_pay5]
  rfl

/-- The store of expert 2 of the step. -/
theorem piece2_at (s : BitVec 32) (x : Vec Ideal S1024x1024 .bf16) (cm : Vec Ideal S1024x128 .f32) (w : Vec Ideal S8x1024x512 .bf16)
    (r : Fin 1024) (f : Fin 256) :
    k0_pay13 (k0_pay9 (k0_pay4 x) (View.ld w (Rect.unit ![2, 0, 0] ![1, 1024, 512] inb_S8x1024x512_S1x1024x512_2_0_0))) (k0_pay10 s (k0_pay5 cm) (iota .tc S1024x128 32 [1] iota_S1024x128_d1_w32)) (k0_pay11 (k0_pay4 x) (View.ld w (Rect.unit ![2, 0, 0] ![1, 1024, 512] inb_S8x1024x512_S1x1024x512_2_0_0))) (k0_pay12 (k0_pay4 x) (View.ld w (Rect.unit ![2, 0, 0] ![1, 1024, 512] inb_S8x1024x512_S1x1024x512_2_0_0))) (FloatOps.ofBits FTy.f32 1065353216#32) (ix2 r f)
      = hid x cm w s r 2 f := by
  pointwise [k0_pay13, k0_pay9, k0_pay10, k0_pay11, k0_pay12, k0_pay4, k0_pay5]
  rfl

/-- The store of expert 3 of the step. -/
theorem piece3_at (s : BitVec 32) (x : Vec Ideal S1024x1024 .bf16) (cm : Vec Ideal S1024x128 .f32) (w : Vec Ideal S8x1024x512 .bf16)
    (r : Fin 1024) (f : Fin 256) :
    k0_pay14 s (k0_pay4 x) (k0_pay5 cm) (iota .tc S1024x128 32 [1] iota_S1024x128_d1_w32) (View.ld w (Rect.unit ![3, 0, 0] ![1, 1024, 512] inb_S8x1024x512_S1x1024x512_3_0_0)) (ix2 r f)
      = hid x cm w s r 3 f := by
  pointwise [k0_pay14, k0_pay4, k0_pay5]
  rfl

/-- The store of expert 4 of the step. -/
theorem piece4_at (s : BitVec 32) (x : Vec Ideal S1024x1024 .bf16) (cm : Vec Ideal S1024x128 .f32) (w : Vec Ideal S8x1024x512 .bf16)
    (r : Fin 1024) (f : Fin 256) :
    k0_pay15 s (k0_pay4 x) (k0_pay5 cm) (iota .tc S1024x128 32 [1] iota_S1024x128_d1_w32) (View.ld w (Rect.unit ![4, 0, 0] ![1, 1024, 512] inb_S8x1024x512_S1x1024x512_4_0_0)) (ix2 r f)
      = hid x cm w s r 4 f := by
  pointwise [k0_pay15, k0_pay4, k0_pay5]
  rfl

/-- The store of expert 5 of the step. -/
theorem piece5_at (s : BitVec 32) (x : Vec Ideal S1024x1024 .bf16) (cm : Vec Ideal S1024x128 .f32) (w : Vec Ideal S8x1024x512 .bf16)
    (r : Fin 1024) (f : Fin 256) :
    k0_pay18 (k0_pay16 (k0_pay4 x) (View.ld w (Rect.unit ![5, 0, 0] ![1, 1024, 512] inb_S8x1024x512_S1x1024x512_5_0_0))) (k0_pay17 s (k0_pay5 cm) (iota .tc S1024x128 32 [1] iota_S1024x128_d1_w32)) (ix2 r f)
      = hid x cm w s r 5 f := by
  pointwise [k0_pay18, k0_pay16, k0_pay17, k0_pay4, k0_pay5]
  rfl

/-- The store of expert 6 of the step. -/
theorem piece6_at (s : BitVec 32) (x : Vec Ideal S1024x1024 .bf16) (cm : Vec Ideal S1024x128 .f32) (w : Vec Ideal S8x1024x512 .bf16)
    (r : Fin 1024) (f : Fin 256) :
    k0_pay20 (k0_pay19 s (k0_pay4 x) (k0_pay5 cm) (iota .tc S1024x128 32 [1] iota_S1024x128_d1_w32) (View.ld w (Rect.unit ![6, 0, 0] ![1, 1024, 512] inb_S8x1024x512_S1x1024x512_6_0_0))) (ix2 r f)
      = hid x cm w s r 6 f := by
  pointwise [k0_pay20, k0_pay19, k0_pay4, k0_pay5]
  rfl

/-- The store of expert 7 of the step. -/
theorem piece7_at (s : BitVec 32) (x : Vec Ideal S1024x1024 .bf16) (cm : Vec Ideal S1024x128 .f32) (w : Vec Ideal S8x1024x512 .bf16)
    (r : Fin 1024) (f : Fin 256) :
    k0_pay21 s (k0_pay4 x) (k0_pay5 cm) (iota .tc S1024x128 32 [1] iota_S1024x128_d1_w32) (View.ld w (Rect.unit ![7, 0, 0] ![1, 1024, 512] inb_S8x1024x512_S1x1024x512_7_0_0)) (ix2 r f)
      = hid x cm w s r 7 f := by
  pointwise [k0_pay21, k0_pay4, k0_pay5]
  rfl

/-- The hidden block at an index: expert and unit read off the column. -/
def hidBlk (x : Vec Ideal S1024x1024 .bf16) (cm : Vec Ideal S1024x128 .f32) (w : Vec Ideal S8x1024x512 .bf16) (s : BitVec 32) :
    Vec Ideal S1024x2048 .bf16 :=
  fun j => hid x cm w s (j 0) ⟨(j 1).val / 256, Nat.div_lt_of_lt_mul (j 1).isLt⟩ ⟨(j 1).val % 256, Nat.mod_lt _ (by norm_num)⟩

/-- A store at column `256 e` puts its column `f` at column `256 e + f` of the block. -/
theorem hidBlk_emb (x : Vec Ideal S1024x1024 .bf16) (cm : Vec Ideal S1024x128 .f32) (w : Vec Ideal S8x1024x512 .bf16) (sv : BitVec 32)
    (o : ℕ) (e : Fin 8) (ho : o = 256 * e.val) (inb) (r : Fin 1024) (f : Fin 256) :
    hidBlk x cm w sv ((Rect.unit (s := S1024x2048) ![0, o] ![1024, 256] inb).emb (ix2 r f)) = hid x cm w sv r e f := by
  subst ho
  unfold hidBlk
  congr 1
  · exact Fin.ext (show 0 + 1 * r.val = r.val by omega)
  · exact Fin.ext (show (256 * e.val + 1 * f.val) / 256 = e.val by have := f.isLt; omega)
  · exact Fin.ext (show (256 * e.val + 1 * f.val) % 256 = f.val by have := f.isLt; omega)

/-- Every store is the hidden block at its own rectangle. -/
theorem pcs_hid (x : Vec Ideal S1024x1024 .bf16) (cm : Vec Ideal S1024x128 .f32) (w : Vec Ideal S8x1024x512 .bf16) (i : grid0.Coords) :
    ∀ p ∈ pcs x cm w i, ∀ j : p.1.shape.Idx, p.2 j = hidBlk x cm w (BitVec.ofNat 32 (i 1).val) (p.1.emb j) := by
  intro p hp
  simp only [pcs, List.mem_cons, List.not_mem_nil, or_false] at hp
  rcases hp with rfl | rfl | rfl | rfl | rfl | rfl | rfl | rfl <;> intro j <;>
    obtain ⟨r, f, rfl⟩ : ∃ r : Fin 1024, ∃ f : Fin 256, j = ix2 r f := ⟨j 0, j 1, (ix2_eta j).symm⟩
  · exact (piece7_at _ x cm w r f).trans (hidBlk_emb x cm w _ 1792 7 rfl inb_S1024x2048_S1024x256_0_1792 r f).symm
  · exact (piece6_at _ x cm w r f).trans (hidBlk_emb x cm w _ 1536 6 rfl inb_S1024x2048_S1024x256_0_1536 r f).symm
  · exact (piece5_at _ x cm w r f).trans (hidBlk_emb x cm w _ 1280 5 rfl inb_S1024x2048_S1024x256_0_1280 r f).symm
  · exact (piece4_at _ x cm w r f).trans (hidBlk_emb x cm w _ 1024 4 rfl inb_S1024x2048_S1024x256_0_1024 r f).symm
  · exact (piece3_at _ x cm w r f).trans (hidBlk_emb x cm w _ 768 3 rfl inb_S1024x2048_S1024x256_0_768 r f).symm
  · exact (piece2_at _ x cm w r f).trans (hidBlk_emb x cm w _ 512 2 rfl inb_S1024x2048_S1024x256_0_512 r f).symm
  · exact (piece1_at _ x cm w r f).trans (hidBlk_emb x cm w _ 256 1 rfl inb_S1024x2048_S1024x256_0_256 r f).symm
  · exact (piece0_at _ x cm w r f).trans (hidBlk_emb x cm w _ 0 0 rfl inb_S1024x2048_S1024x256_0_0 r f).symm

/-- The eight stores fill the block. -/
theorem pcs_canon (x : Vec Ideal S1024x1024 .bf16) (cm : Vec Ideal S1024x128 .f32) (w : Vec Ideal S8x1024x512 .bf16) (i : grid0.Coords) :
    View.canon (pcs x cm w i) = hidBlk x cm w (BitVec.ofNat 32 (i 1).val) := by
  funext y
  exact View.canon_apply_of_pieces _ _ (pcs_hid x cm w i) y (View.cover_of_tiledL (pcs x cm w i) ![1024, 256] (by sl_kernel_rfl) y)

/-- What a step adds to the running sum: its eight experts' hidden units through the down projections `wd`. -/
def part (x : Vec Ideal S1024x1024 .bf16) (cm : Vec Ideal S1024x128 .f32) (w : Vec Ideal S8x1024x512 .bf16)
    (wd : Vec Ideal S2048x1024 .bf16) (s : BitVec 32) (r : Fin 1024) (j : Fin 1024) : EReal :=
  ∑ k : Fin 2048, hidBlk x cm w s (ix2 r k) * wd (ix2 k j)

theorem pay22_at (x : Vec Ideal S1024x2048 .bf16) (w : Vec Ideal S2048x1024 .bf16) (r : Fin 1024) (f : Fin 1024) :
    k0_pay22 x w (ix2 r f) = ∑ k : Fin 2048, x (ix2 r k) * w (ix2 k f) := by
  pointwise [k0_pay22]

theorem zero2 : (![0, 0] : Fin 2 → ℕ) = fun _ => 0 := by funext a; fin_cases a <;> rfl

theorem ld_tok (v : Vec Ideal S1024x1024 .bf16) (h) : View.ld v (Rect.unit ![0, 0] ![1024, 1024] h) = v := View.ld_unit_zero zero2 h v
theorem ld_acc (v : Vec Ideal S1024x1024 .f32) (h) : View.ld v (Rect.unit ![0, 0] ![1024, 1024] h) = v := View.ld_unit_zero zero2 h v
theorem ld_cmb (v : Vec Ideal S1024x128 .f32) (h) : View.ld v (Rect.unit ![0, 0] ![1024, 128] h) = v := View.ld_unit_zero zero2 h v
theorem ld_dwn (v : Vec Ideal S2048x1024 .bf16) (h) : View.ld v (Rect.unit ![0, 0] ![2048, 1024] h) = v := View.ld_unit_zero zero2 h v
theorem ld_nrm (v : Vec Ideal S1x1024 .f32) (h) : View.ld v (Rect.unit ![0, 0] ![1, 1024] h) = v := View.ld_unit_zero zero2 h v

/-- The load of the whole hidden block after the eight stores. -/
theorem hid_read {sp : Space} (u : View sig .tc sp S1024x2048 .bf16) (x : Vec Ideal S1024x1024 .bf16) (cm : Vec Ideal S1024x128 .f32)
    (w : Vec Ideal S8x1024x512 .bf16) (i : grid0.Coords) (h) :
    u.readCov (pcs x cm w i) (Rect.unit ![0, 0] ![1024, 2048] h).toLoadRect = hidBlk x cm w (BitVec.ofNat 32 (i 1).val) := by
  rw [View.readCov_eq_canon', pcs_canon]
  exact View.ld_unit_zero (S := S1024x2048) zero2 h (hidBlk x cm w (BitVec.ofNat 32 (i 1).val))

theorem pay1_at (a : FVec Ideal S1024x1024 .f32) (r j : Fin 1024) : k0_pay1 a (ix2 r j) = a (ix2 r j) := by
  pointwise [k0_pay1]

theorem pay2_at (a b : Vec Ideal S1024x1024 .f32) (r j : Fin 1024) : k0_pay2 a b (ix2 r j) = b (ix2 r j) + a (ix2 r j) := by
  pointwise [k0_pay2]

/-- The layer norm of row `v` at column `j`: mean and variance by division by 1024, as the code writes it. -/
def lnrm (v : Fin 1024 → EReal) (g b : EReal) (j : Fin 1024) : EReal :=
  (v j - Ideal.div (∑ l, v l) (Ideal.ofBits .f32 1149239296#32))
    * Ideal.rsqrt (Ideal.div (∑ l, (v l - Ideal.div (∑ l, v l) (Ideal.ofBits .f32 1149239296#32))
        * (v l - Ideal.div (∑ l, v l) (Ideal.ofBits .f32 1149239296#32))) (Ideal.ofBits .f32 1149239296#32)
      + Ideal.ofBits .f32 925353388#32) * g + b

theorem pay3_at (a b : Vec Ideal S1024x1024 .f32) (w v : Vec Ideal S1x1024 .f32) (r j : Fin 1024) :
    k0_pay3 a b w v (ix2 r j) = lnrm (fun l => a (ix2 r l) + b (ix2 r l)) (w (ix2 0 j)) (v (ix2 0 j)) j := by
  pointwise [k0_pay3]
  rfl

/-- The point's blocks, at their types: tokens, residual, combine weights, gate-up, down, the layer norm's two rows. -/
abbrev bTok (c : Dev nD) (t : Fin cfg0.N) : Vec Ideal S1024x1024 .bf16 := iblk m c 0 t
abbrev bRes (c : Dev nD) (t : Fin cfg0.N) : Vec Ideal S1024x1024 .f32 := iblk m c 1 t
abbrev bCmb (c : Dev nD) (t : Fin cfg0.N) : Vec Ideal S1024x128 .f32 := iblk m c 2 t
abbrev bGu (c : Dev nD) (t : Fin cfg0.N) : Vec Ideal S8x1024x512 .bf16 := iblk m c 3 t
abbrev bDn (c : Dev nD) (t : Fin cfg0.N) : Vec Ideal S2048x1024 .bf16 := iblk m c 4 t
abbrev bG (c : Dev nD) (t : Fin cfg0.N) : Vec Ideal S1x1024 .f32 := iblk m c 5 t
abbrev bB (c : Dev nD) (t : Fin cfg0.N) : Vec Ideal S1x1024 .f32 := iblk m c 6 t

/-- What the point adds to the running sum. -/
abbrev bPart (c : Dev nD) (t : Fin cfg0.N) (r j : Fin 1024) : EReal :=
  part (bTok m c t) (bCmb m c t) (bGu m c t) (bDn m c t) (BitVec.ofNat 32 (grid0.coords t 1).val) r j

theorem st_A (c : Dev nD) (t : Fin cfg0.N) (acc : Vec Ideal S1024x1024 .f32 × Vec Ideal S1024x1024 .f32)
    (h0 : t.val % 4 = 0) (h1 : ¬1 ≤ t.val % 4) (h2 : ¬t.val % 4 = 3) (r : Fin 1024) (j : Fin 1024) :
    (stAt0 m c t.val t.isLt acc).2 (ix2 r j) = bPart m c t r j := by
  rw [stAt0_A m c t acc h0 h1 h2]
  dsimp only
  unfold sout0_A_1
  rw [View.read_writes_eq_canon _ _ _ (scover0_A_1 c _ _ _ _ _ _ _ _ _ _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread]
  rw [View.canon_unit_zero (by funext a; fin_cases a <;> rfl)]
  simp only [ld_tok, ld_acc, ld_cmb, ld_dwn, ld_nrm]
  erw [pay1_at, hid_read]
  exact pay22_at _ _ r j

theorem st_B (c : Dev nD) (t : Fin cfg0.N) (acc : Vec Ideal S1024x1024 .f32 × Vec Ideal S1024x1024 .f32)
    (h0 : ¬t.val % 4 = 0) (h1 : 1 ≤ t.val % 4) (h2 : ¬t.val % 4 = 3) (r : Fin 1024) (j : Fin 1024) :
    (stAt0 m c t.val t.isLt acc).2 (ix2 r j) = acc.2 (ix2 r j) + bPart m c t r j := by
  rw [stAt0_B m c t acc h0 h1 h2]
  dsimp only
  unfold sout0_B_1
  rw [View.read_writes_eq_canon _ _ _ (scover0_B_1 c _ _ _ _ _ _ _ _ _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread]
  rw [View.canon_unit_zero (by funext a; fin_cases a <;> rfl)]
  simp only [ld_tok, ld_acc, ld_cmb, ld_dwn, ld_nrm]
  erw [pay2_at, hid_read]
  rw [pay22_at]
  rfl

theorem st_C (c : Dev nD) (t : Fin cfg0.N) (acc : Vec Ideal S1024x1024 .f32 × Vec Ideal S1024x1024 .f32)
    (h0 : ¬t.val % 4 = 0) (h1 : 1 ≤ t.val % 4) (h2 : t.val % 4 = 3) (r : Fin 1024) (j : Fin 1024) :
    (stAt0 m c t.val t.isLt acc).1 (ix2 r j) = lnrm (fun l => bRes m c t (ix2 r l) + (acc.2 (ix2 r l) + bPart m c t r l)) (bG m c t (ix2 0 j)) (bB m c t (ix2 0 j)) j := by
  rw [stAt0_C m c t acc h0 h1 h2]
  dsimp only
  unfold out0_C_7
  rw [View.read_writes_eq_canon _ _ _ (cover0_C_7 c _ _ _ _ _ _ _ _ _ _ _ _ _ _ _ _ _ _ _ _ _ _ _ _ _ _ _ _ _ _ _ _ )]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole _).read_unread]
  rw [View.canon_unit_zero (by funext a; fin_cases a <;> rfl)]
  simp only [ld_tok, ld_acc, ld_cmb, ld_dwn, ld_nrm]
  rw [pay3_at, View.readCov_cons_toLoadRect]
  erw [hid_read]
  simp only [pay2_at, pay22_at]
  rfl

end Cert.MoeProof
-- ==== Proof.MoeArr.lean ====
/- The arrays the mixture-of-experts kernel's windows read, at an index of the arguments: the host's casts, the combine
   weights padded to a lane row, the gate and up weights side by side, the weights' layers and experts as one axis. -/
module

public import proofs.«01_k».proof.Proof.MoeBody

@[expose] public section

noncomputable section

namespace Cert.MoeProof

open Cert.MoeIdeal Cert.MoeIdeal.Gen Cert.MoeIdeal.Value Idealize.ShloMosaic Idealize.ShloMosaic.TcCoe Idealize.SL.Sem

variable (m : (ℓ : Loc nD τ sig) → Buf (Elt Ideal) ℓ)

/-- The arguments at their shapes. -/
abbrev aX (c : Dev nD) : Vec Ideal S32768x1024 .f32 := m ((c : Thread nD τ).loc main_arg0)
abbrev aR (c : Dev nD) : Vec Ideal S32768x1024 .f32 := m ((c : Thread nD τ).loc main_arg1)
abbrev aC (c : Dev nD) : Vec Ideal S32768x4x8 .f32 := m ((c : Thread nD τ).loc main_arg2)
abbrev aG (c : Dev nD) : Vec Ideal S4x8x1024x256 .f32 := m ((c : Thread nD τ).loc main_arg3)
abbrev aU (c : Dev nD) : Vec Ideal S4x8x1024x256 .f32 := m ((c : Thread nD τ).loc main_arg4)
abbrev aD (c : Dev nD) : Vec Ideal S4x8x256x1024 .f32 := m ((c : Thread nD τ).loc main_arg5)
abbrev aS (c : Dev nD) : Vec Ideal S1024 .f32 := m ((c : Thread nD τ).loc main_arg6)
abbrev aB (c : Dev nD) : Vec Ideal S1024 .f32 := m ((c : Thread nD τ).loc main_arg7)

theorem v0_at (c : Dev nD) (a : Fin 32768) (d : Fin 1024) :
    (V m c main_v0 : Vec Ideal S32768x1024 .bf16) (ix2 a d) = aX m c (ix2 a d) := by
  unfold V
  after_reads_at

theorem v1_at (c : Dev nD) (a : Fin 32768) (d : Fin 1024) :
    (V m c main_arg1 : Vec Ideal S32768x1024 .f32) (ix2 a d) = aR m c (ix2 a d) := by
  unfold V
  after_reads_at

theorem v2_at (c : Dev nD) (a : Fin 32768) (d : Fin 128) (h : d.val < 32) :
    (V m c main_v2 : Vec Ideal S32768x128 .f32) (ix2 a d)
      = aC m c (ix3 a ⟨d.val / 8, by omega⟩ ⟨d.val % 8, by omega⟩) := by
  unfold V
  after_reads_at
  exact dif_pos h

theorem v5_lo (c : Dev nD) (e : Fin 32) (d : Fin 1024) (f : Fin 512) (h : f.val < 256) :
    (V m c main_v5 : Vec Ideal S32x1024x512 .bf16) (ix3 e d f)
      = aG m c (ix4 ⟨e.val / 8, by omega⟩ ⟨e.val % 8, by omega⟩ d ⟨f.val, h⟩) := by
  unfold V
  after_reads_at
  rw [dif_pos h]
  rfl

theorem v5_hi (c : Dev nD) (e : Fin 32) (d : Fin 1024) (f : Fin 512) (h : ¬ f.val < 256) :
    (V m c main_v5 : Vec Ideal S32x1024x512 .bf16) (ix3 e d f)
      = aU m c (ix4 ⟨e.val / 8, by omega⟩ ⟨e.val % 8, by omega⟩ d ⟨f.val - 256, by omega⟩) := by
  unfold V
  after_reads_at
  rw [dif_neg h]
  rfl

theorem v7_at (c : Dev nD) (k : Fin 8192) (j : Fin 1024) :
    (V m c main_v7 : Vec Ideal S8192x1024 .bf16) (ix2 k j)
      = aD m c (ix4 ⟨k.val / 2048, by omega⟩ ⟨k.val / 256 % 8, by omega⟩ ⟨k.val % 256, by omega⟩ j) := by
  unfold V
  after_reads_at

theorem v8_at (c : Dev nD) (a : Fin 1) (j : Fin 1024) :
    (V m c main_v8 : Vec Ideal S1x1024 .f32) (ix2 a j) = aS m c (ix1 j) := by
  unfold V
  after_reads_at

theorem v9_at (c : Dev nD) (a : Fin 1) (j : Fin 1024) :
    (V m c main_v9 : Vec Ideal S1x1024 .f32) (ix2 a j) = aB m c (ix1 j) := by
  unfold V
  after_reads_at

/-- The windows' block numbers at a point: the token block is `t / 4`, the step `t % 4`. -/
theorem idx_tok : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = t.val / 4 ∧ win0_2.index t (1 : Fin 2) = 0)
    ∧ (win0_3.index t (0 : Fin 3) = t.val % 4 ∧ win0_3.index t (1 : Fin 3) = 0 ∧ win0_3.index t (2 : Fin 3) = 0)
    ∧ (win0_4.index t (0 : Fin 2) = t.val % 4 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (grid0.coords t 1).val = t.val % 4 :=
  (by decide +kernel : ∀ t : Fin grid0.N, _)

theorem bTok_at (c : Dev nD) (t : Fin cfg0.N) (r d : Fin 1024) (R : Fin 32768) (hR : R.val = 1024 * (t.val / 4) + r.val) :
    bTok m c t (ix2 r d) = aX m c (ix2 R d) := by
  rw [← v0_at]
  obtain ⟨⟨e0, e1⟩, -⟩ := idx_tok t
  show V m c main_v0 (((cfg0.win 0).blk t).view.emb (ix2 r d)) = _
  congr 1
  funext a
  apply Fin.ext
  match a with
  | ⟨0, _⟩ => show win0_0.index t (0 : Fin 2) * 1024 + 1 * r.val = R.val; omega
  | ⟨1, _⟩ => show win0_0.index t (1 : Fin 2) * 1024 + 1 * d.val = d.val; omega

theorem bRes_at (c : Dev nD) (t : Fin cfg0.N) (r d : Fin 1024) (R : Fin 32768) (hR : R.val = 1024 * (t.val / 4) + r.val) :
    bRes m c t (ix2 r d) = aR m c (ix2 R d) := by
  rw [← v1_at]
  obtain ⟨-, ⟨e0, e1⟩, -⟩ := idx_tok t
  show V m c main_arg1 (((cfg0.win 1).blk t).view.emb (ix2 r d)) = _
  congr 1
  funext a
  apply Fin.ext
  match a with
  | ⟨0, _⟩ => show win0_1.index t (0 : Fin 2) * 1024 + 1 * r.val = R.val; omega
  | ⟨1, _⟩ => show win0_1.index t (1 : Fin 2) * 1024 + 1 * d.val = d.val; omega

theorem bCmb_at (c : Dev nD) (t : Fin cfg0.N) (r : Fin 1024) (l : Fin 128) (R : Fin 32768) (hR : R.val = 1024 * (t.val / 4) + r.val)
    (s : Fin 4) (e : Fin 8) (hl : l.val = 8 * s.val + e.val) :
    bCmb m c t (ix2 r l) = aC m c (ix3 R s e) := by
  have h : l.val < 32 := by omega
  have hv := v2_at m c R l h
  rw [show (⟨l.val / 8, by omega⟩ : Fin 4) = s from Fin.ext (by show l.val / 8 = s.val; omega),
    show (⟨l.val % 8, by omega⟩ : Fin 8) = e from Fin.ext (by show l.val % 8 = e.val; omega)] at hv
  rw [← hv]
  obtain ⟨-, -, ⟨e0, e1⟩, -⟩ := idx_tok t
  show V m c main_v2 (((cfg0.win 2).blk t).view.emb (ix2 r l)) = _
  congr 1
  funext a
  apply Fin.ext
  match a with
  | ⟨0, _⟩ => show win0_2.index t (0 : Fin 2) * 1024 + 1 * r.val = R.val; omega
  | ⟨1, _⟩ => show win0_2.index t (1 : Fin 2) * 128 + 1 * l.val = l.val; omega

/-- The block of the gate and up weights is rows `8 s …` of the array. -/
theorem bGu_row (c : Dev nD) (t : Fin cfg0.N) (e : Fin 8) (d : Fin 1024) (f : Fin 512) (E : Fin 32) (hE : E.val = 8 * (t.val % 4) + e.val) :
    bGu m c t (ix3 e d f) = (V m c main_v5 : Vec Ideal S32x1024x512 .bf16) (ix3 E d f) := by
  obtain ⟨-, -, -, ⟨e0, e1, e2⟩, -⟩ := idx_tok t
  show V m c main_v5 (((cfg0.win 3).blk t).view.emb (ix3 e d f)) = _
  congr 1
  funext a
  apply Fin.ext
  match a with
  | ⟨0, _⟩ => show win0_3.index t (0 : Fin 3) * 8 + 1 * e.val = E.val; omega
  | ⟨1, _⟩ => show win0_3.index t (1 : Fin 3) * 1024 + 1 * d.val = d.val; omega
  | ⟨2, _⟩ => show win0_3.index t (2 : Fin 3) * 512 + 1 * f.val = f.val; omega

theorem bGu_lo (c : Dev nD) (t : Fin cfg0.N) (e : Fin 8) (d : Fin 1024) (f : Fin 256) (s : Fin 4) (hs : s.val = t.val % 4) (hf) :
    bGu m c t (ix3 e d ⟨f.val, hf⟩) = aG m c (ix4 s e d f) := by
  rw [bGu_row m c t e d _ ⟨8 * s.val + e.val, by omega⟩ (by show 8 * s.val + e.val = _; rw [hs]), v5_lo m c _ _ _ f.isLt]
  congr 2 <;> exact Fin.ext (by simp only []; omega)

theorem bGu_hi (c : Dev nD) (t : Fin cfg0.N) (e : Fin 8) (d : Fin 1024) (f : Fin 256) (s : Fin 4) (hs : s.val = t.val % 4) (hf) :
    bGu m c t (ix3 e d ⟨256 + f.val, hf⟩) = aU m c (ix4 s e d f) := by
  rw [bGu_row m c t e d _ ⟨8 * s.val + e.val, by omega⟩ (by show 8 * s.val + e.val = _; rw [hs]), v5_hi m c _ _ _ (by simp)]
  congr 2 <;> exact Fin.ext (by simp only []; omega)

theorem bDn_at (c : Dev nD) (t : Fin cfg0.N) (k : Fin 2048) (j : Fin 1024) (s : Fin 4) (hs : s.val = t.val % 4) (e : Fin 8) (f : Fin 256)
    (hk : k.val = 256 * e.val + f.val) :
    bDn m c t (ix2 k j) = aD m c (ix4 s e f j) := by
  have hv := v7_at m c ⟨2048 * s.val + k.val, by omega⟩ j
  rw [show (⟨(2048 * s.val + k.val) / 2048, by omega⟩ : Fin 4) = s from Fin.ext (by show (2048 * s.val + k.val) / 2048 = s.val; omega),
    show (⟨(2048 * s.val + k.val) / 256 % 8, by omega⟩ : Fin 8) = e from Fin.ext (by show (2048 * s.val + k.val) / 256 % 8 = e.val; omega),
    show (⟨(2048 * s.val + k.val) % 256, by omega⟩ : Fin 256) = f from Fin.ext (by show (2048 * s.val + k.val) % 256 = f.val; omega)] at hv
  rw [← hv]
  obtain ⟨-, -, -, -, ⟨e0, e1⟩, -⟩ := idx_tok t
  show V m c main_v7 (((cfg0.win 4).blk t).view.emb (ix2 k j)) = _
  congr 1
  funext a
  apply Fin.ext
  match a with
  | ⟨0, _⟩ => show win0_4.index t (0 : Fin 2) * 2048 + 1 * k.val = 2048 * s.val + k.val; omega
  | ⟨1, _⟩ => show win0_4.index t (1 : Fin 2) * 1024 + 1 * j.val = j.val; omega

theorem bG_at (c : Dev nD) (t : Fin cfg0.N) (j : Fin 1024) : bG m c t (ix2 0 j) = aS m c (ix1 j) := by
  rw [← v8_at m c 0 j]
  obtain ⟨-, -, -, -, -, ⟨e0, e1⟩, -⟩ := idx_tok t
  show V m c main_v8 (((cfg0.win 5).blk t).view.emb (ix2 0 j)) = _
  congr 1
  funext a
  apply Fin.ext
  match a with
  | ⟨0, _⟩ => show win0_5.index t (0 : Fin 2) * 1 + 1 * 0 = 0; omega
  | ⟨1, _⟩ => show win0_5.index t (1 : Fin 2) * 1024 + 1 * j.val = j.val; omega

theorem bB_at (c : Dev nD) (t : Fin cfg0.N) (j : Fin 1024) : bB m c t (ix2 0 j) = aB m c (ix1 j) := by
  rw [← v9_at m c 0 j]
  obtain ⟨-, -, -, -, -, -, ⟨e0, e1⟩, -⟩ := idx_tok t
  show V m c main_v9 (((cfg0.win 6).blk t).view.emb (ix2 0 j)) = _
  congr 1
  funext a
  apply Fin.ext
  match a with
  | ⟨0, _⟩ => show win0_6.index t (0 : Fin 2) * 1 + 1 * 0 = 0; omega
  | ⟨1, _⟩ => show win0_6.index t (1 : Fin 2) * 1024 + 1 * j.val = j.val; omega

/-! ## The mathematics: one expert's hidden unit, a step's experts, the four steps and the layer norm -/

/-- Unit `f` of expert `(s, e)` at token `R`: `silu (x · wg) * (x · wu)`, times the combine weight. -/
def hidS (x : Vec Ideal S32768x1024 .f32) (cm : Vec Ideal S32768x4x8 .f32) (wg wu : Vec Ideal S4x8x1024x256 .f32)
    (R : Fin 32768) (s : Fin 4) (e : Fin 8) (f : Fin 256) : EReal :=
  (((∑ d : Fin 1024, x (ix2 R d) * wg (ix4 s e d f))
      * Ideal.div 1 (1 + Ideal.exp (0 - ∑ d : Fin 1024, x (ix2 R d) * wg (ix4 s e d f))))
    * ∑ d : Fin 1024, x (ix2 R d) * wu (ix4 s e d f))
  * cm (ix3 R s e)

/-- The eight experts of step `s` at token `R`, column `j`. -/
def partS (x : Vec Ideal S32768x1024 .f32) (cm : Vec Ideal S32768x4x8 .f32) (wg wu : Vec Ideal S4x8x1024x256 .f32)
    (wd : Vec Ideal S4x8x256x1024 .f32) (R : Fin 32768) (s : Fin 4) (j : Fin 1024) : EReal :=
  ∑ p : Fin 8 × Fin 256, hidS x cm wg wu R s p.1 p.2 * wd (ix4 s p.1 p.2 j)

/-- The layer's output at token `R`, column `j`. -/
def outS (x res : Vec Ideal S32768x1024 .f32) (cm : Vec Ideal S32768x4x8 .f32) (wg wu : Vec Ideal S4x8x1024x256 .f32)
    (wd : Vec Ideal S4x8x256x1024 .f32) (g b : Vec Ideal S1024 .f32) (R : Fin 32768) (j : Fin 1024) : EReal :=
  lnrm (fun l => res (ix2 R l)
    + (partS x cm wg wu wd R 0 l + partS x cm wg wu wd R 1 l + partS x cm wg wu wd R 2 l + partS x cm wg wu wd R 3 l))
    (g (ix1 j)) (b (ix1 j)) j

/-- The lane test of expert `e` in step `s` is lane `8 s + e`. -/
theorem lane_eq (s : Fin 4) (e : Fin 8) (l : Fin 128) :
    IntOp.cmpi .eq (BitVec.ofNat 32 l.val) (Scalar.addi (Scalar.muli (BitVec.ofNat 32 s.val) 8#32) (BitVec.ofNat 32 e.val))
      = if l.val = 8 * s.val + e.val then 1#1 else 0#1 := by
  have hw : Scalar.addi (Scalar.muli (BitVec.ofNat 32 s.val) 8#32) (BitVec.ofNat 32 e.val) = BitVec.ofNat 32 (8 * s.val + e.val) := by
    show BitVec.ofNat 32 s.val * 8#32 + BitVec.ofNat 32 e.val = _
    apply BitVec.eq_of_toNat_eq
    simp
    omega
  rw [hw]
  by_cases h : l.val = 8 * s.val + e.val
  · rw [if_pos h, h]
    simp [IntOp.cmpi]
  · rw [if_neg h]
    have hne : ¬ BitVec.ofNat 32 l.val = BitVec.ofNat 32 (8 * s.val + e.val) := fun h' => h (by
      have := congrArg BitVec.toNat h'
      simp at this
      omega)
    show BitVec.ofBool (BitVec.ofNat 32 l.val == BitVec.ofNat 32 (8 * s.val + e.val)) = 0#1
    rw [beq_eq_false_iff_ne.mpr hne]
    rfl

/-- So the masked row sum is that lane. -/
theorem lane_sum (s : Fin 4) (e : Fin 8) (v : Fin 128 → EReal) :
    (∑ l : Fin 128, Scalar.select (IntOp.cmpi .eq (BitVec.ofNat 32 l.val)
      (Scalar.addi (Scalar.muli (BitVec.ofNat 32 s.val) 8#32) (BitVec.ofNat 32 e.val))) (v l) 0) = v ⟨8 * s.val + e.val, by omega⟩ := by
  rw [Finset.sum_eq_single (⟨8 * s.val + e.val, by omega⟩ : Fin 128)]
  · rw [lane_eq, if_pos rfl]; rfl
  · intro l _ hl
    rw [lane_eq, if_neg (fun h => hl (Fin.ext h))]; rfl
  · intro h; exact absurd (Finset.mem_univ _) h

/-- A hidden unit of the point's block is the layer's. -/
theorem hid_eq (c : Dev nD) (t : Fin cfg0.N) (r : Fin 1024) (R : Fin 32768) (hR : R.val = 1024 * (t.val / 4) + r.val)
    (s : Fin 4) (hs : s.val = t.val % 4) (e : Fin 8) (f : Fin 256) :
    hid (bTok m c t) (bCmb m c t) (bGu m c t) (BitVec.ofNat 32 s.val) r e f
      = hidS (aX m c) (aC m c) (aG m c) (aU m c) R s e f := by
  unfold hid hidS
  rw [lane_sum s e (fun l => bCmb m c t (ix2 r l)), bCmb_at m c t r _ R hR s e rfl]
  simp only [bTok_at m c t r _ R hR, bGu_lo m c t e _ f s hs, bGu_hi m c t e _ f s hs]

/-- A sum over the hidden block's columns, by expert and unit. -/
theorem sum_split (F : Fin 2048 → EReal) :
    ∑ k, F k = ∑ p : Fin 8 × Fin 256, F ⟨256 * p.1.val + p.2.val, by omega⟩ := by
  refine (Fintype.sum_equiv ((finProdFinEquiv (m := 8) (n := 256)).trans (finCongr (by norm_num))) _ _ fun p => ?_).symm
  congr 1
  exact Fin.ext (by simp [finProdFinEquiv]; omega)

/-- The hidden block at column `256 e + f`. -/
theorem hidBlk_col (x : Vec Ideal S1024x1024 .bf16) (cm : Vec Ideal S1024x128 .f32) (w : Vec Ideal S8x1024x512 .bf16) (s : BitVec 32)
    (r : Fin 1024) (e : Fin 8) (f : Fin 256) (h : 256 * e.val + f.val < 2048) :
    hidBlk x cm w s (ix2 r ⟨256 * e.val + f.val, h⟩) = hid x cm w s r e f := by
  refine congrArg₂ (hid x cm w s r) (Fin.ext ?_) (Fin.ext ?_)
  · show (256 * e.val + f.val) / 256 = e.val
    omega
  · show (256 * e.val + f.val) % 256 = f.val
    omega

/-- What a point adds is its step's experts. -/
theorem part_eq (c : Dev nD) (t : Fin cfg0.N) (r : Fin 1024) (R : Fin 32768) (hR : R.val = 1024 * (t.val / 4) + r.val)
    (s : Fin 4) (hs : s.val = t.val % 4) (j : Fin 1024) :
    bPart m c t r j = partS (aX m c) (aC m c) (aG m c) (aU m c) (aD m c) R s j := by
  have hw : (grid0.coords t 1).val = s.val := (idx_tok t).2.2.2.2.2.2.2.trans hs.symm
  have key : ∀ p : Fin 8 × Fin 256,
      hidBlk (bTok m c t) (bCmb m c t) (bGu m c t) (BitVec.ofNat 32 s.val) (ix2 r ⟨256 * p.1.val + p.2.val, by omega⟩)
          * bDn m c t (ix2 ⟨256 * p.1.val + p.2.val, by omega⟩ j)
        = hidS (aX m c) (aC m c) (aG m c) (aU m c) R s p.1 p.2 * aD m c (ix4 s p.1 p.2 j) := fun p => by
    rw [bDn_at m c t _ j s hs p.1 p.2 rfl, hidBlk_col, hid_eq m c t r R hR s hs p.1 p.2]
  unfold bPart part partS
  rw [hw, sum_split]
  exact Fintype.sum_congr _ _ key

/-- The running sum and the output after the last point of a token block. -/
theorem out_last (c : Dev nD) (q : ℕ) (h : 4 * q + 3 < cfg0.N) (r : Fin 1024) (R : Fin 32768) (hR : R.val = 1024 * q + r.val) (j : Fin 1024) :
    (outsAt0 m c (4 * q + 3) h).1 (ix2 r j)
      = outS (aX m c) (aR m c) (aC m c) (aG m c) (aU m c) (aD m c) (aS m c) (aB m c) R j := by
  have a0 : ∀ l, (outsAt0 m c (4 * q) (by omega)).2 (ix2 r l) = partS (aX m c) (aC m c) (aG m c) (aU m c) (aD m c) R 0 l := by
    intro l
    have key : ∀ acc, (stAt0 m c (4 * q) (by omega) acc).2 (ix2 r l) = partS (aX m c) (aC m c) (aG m c) (aU m c) (aD m c) R 0 l := by
      intro acc
      rw [st_A m c ⟨4 * q, by omega⟩ acc (by show 4 * q % 4 = 0; omega) (by show ¬ 1 ≤ 4 * q % 4; omega) (by show ¬ 4 * q % 4 = 3; omega) r l]
      exact part_eq m c ⟨4 * q, by omega⟩ r R (by show R.val = 1024 * (4 * q / 4) + r.val; omega) 0 (by show 0 = 4 * q % 4; omega) l
    match q, h, key with
    | 0, h, key => rw [outsAt0_zero]; exact key _
    | q + 1, h, key => exact key _
  have a1 : ∀ l, (outsAt0 m c (4 * q + 1) (by omega)).2 (ix2 r l)
      = partS (aX m c) (aC m c) (aG m c) (aU m c) (aD m c) R 0 l + partS (aX m c) (aC m c) (aG m c) (aU m c) (aD m c) R 1 l := by
    intro l
    rw [outsAt0_succ, st_B m c ⟨4 * q + 1, by omega⟩ _ (by show ¬ (4 * q + 1) % 4 = 0; omega) (by show 1 ≤ (4 * q + 1) % 4; omega)
      (by show ¬ (4 * q + 1) % 4 = 3; omega) r l, a0,
      part_eq m c ⟨4 * q + 1, by omega⟩ r R (by show R.val = 1024 * ((4 * q + 1) / 4) + r.val; omega) 1 (by show 1 = (4 * q + 1) % 4; omega) l]
  have a2 : ∀ l, (outsAt0 m c (4 * q + 2) (by omega)).2 (ix2 r l)
      = partS (aX m c) (aC m c) (aG m c) (aU m c) (aD m c) R 0 l + partS (aX m c) (aC m c) (aG m c) (aU m c) (aD m c) R 1 l
        + partS (aX m c) (aC m c) (aG m c) (aU m c) (aD m c) R 2 l := by
    intro l
    rw [outsAt0_succ, st_B m c ⟨4 * q + 1 + 1, by omega⟩ _ (by show ¬ (4 * q + 1 + 1) % 4 = 0; omega) (by show 1 ≤ (4 * q + 1 + 1) % 4; omega)
      (by show ¬ (4 * q + 1 + 1) % 4 = 3; omega) r l, a1,
      part_eq m c ⟨4 * q + 1 + 1, by omega⟩ r R (by show R.val = 1024 * ((4 * q + 1 + 1) / 4) + r.val; omega) 2 (by show 2 = (4 * q + 1 + 1) % 4; omega) l]
  rw [outsAt0_succ, st_C m c ⟨4 * q + 2 + 1, by omega⟩ _ (by show ¬ (4 * q + 2 + 1) % 4 = 0; omega) (by show 1 ≤ (4 * q + 2 + 1) % 4; omega)
    (by show (4 * q + 2 + 1) % 4 = 3; omega) r j]
  unfold outS
  rw [bG_at, bB_at]
  congr 1
  funext l
  rw [a2, part_eq m c ⟨4 * q + 2 + 1, by omega⟩ r R (by show R.val = 1024 * ((4 * q + 2 + 1) / 4) + r.val; omega) 3
      (by show 3 = (4 * q + 2 + 1) % 4; omega) l,
    bRes_at m c ⟨4 * q + 2 + 1, by omega⟩ r l R (by show R.val = 1024 * ((4 * q + 2 + 1) / 4) + r.val; omega)]

/-- The array the kernel ends with, at an index. -/
theorem kernel_at (c : Dev nD) (R : Fin 32768) (j : Fin 1024) :
    (G7 m c : Vec Ideal S32768x1024 .f32) (ix2 R j)
      = outS (aX m c) (aR m c) (aC m c) (aG m c) (aU m c) (aD m c) (aS m c) (aB m c) R j := by
  have hN : cfg0.N = 128 := N_0
  have hp : pt7Of (ix2 R j) = 4 * (R.val / 1024) + 3 := by
    show 4 * (1 * (R.val / 1024 - 0) + 1 * (j.val / 1024 - 0)) + 3 = _
    omega
  have hb : pt7Of (ix2 R j) < cfg0.N := by rw [hp, hN]; omega
  show G7 m c (ix2 R j) = _
  unfold G7
  rw [dif_pos hb, fold0_congr m c _ _ (4 * (R.val / 1024) + 3) (by rw [hN]; omega) hp, ← outsAt0_sweep m c _ (by rw [hN]; omega)]
  rw [show loc7Of (ix2 R j) = ix2 (⟨R.val % 1024, by omega⟩ : Fin 1024) j from by
    funext a; apply Fin.ext
    match a with
    | ⟨0, _⟩ => rfl
    | ⟨1, _⟩ => show j.val % 1024 = j.val; omega]
  exact out_last m c _ _ _ R (by show R.val = 1024 * (R.val / 1024) + R.val % 1024; omega) j

end Cert.MoeProof
-- ==== Proof.MoeRef.lean ====
/- The mixture-of-experts reference, read at an index over the extended reals: the same layer norm of the residual plus
   the four steps' experts that the kernel's run ends with. -/
module

public import proofs.«01_k».proof.Proof.MoeArr
public import proofs.«01_k».proof.Proof.Gen.MoeRefIdeal.Run

@[expose] public section

noncomputable section

namespace Cert.MoeProof.Ref

open Cert.MoeRefIdeal Cert.MoeRefIdeal.Gen Cert.MoeRefIdeal.Value Idealize.ShloMosaic Idealize.ShloMosaic.TcCoe Idealize.SL.Sem

variable (m : (ℓ : Loc nD τ sig) → Buf (Elt Ideal) ℓ)

/-- The arguments at their shapes. -/
abbrev aX (c : Dev nD) : Vec Ideal S32768x1024 .f32 := m ((c.tc : Thread nD τ).loc main_arg0)
abbrev aR (c : Dev nD) : Vec Ideal S32768x1024 .f32 := m ((c.tc : Thread nD τ).loc main_arg1)
abbrev aC (c : Dev nD) : Vec Ideal S32768x4x8 .f32 := m ((c.tc : Thread nD τ).loc main_arg2)
abbrev aG (c : Dev nD) : Vec Ideal S4x8x1024x256 .f32 := m ((c.tc : Thread nD τ).loc main_arg3)
abbrev aU (c : Dev nD) : Vec Ideal S4x8x1024x256 .f32 := m ((c.tc : Thread nD τ).loc main_arg4)
abbrev aD (c : Dev nD) : Vec Ideal S4x8x256x1024 .f32 := m ((c.tc : Thread nD τ).loc main_arg5)
abbrev aS (c : Dev nD) : Vec Ideal S1024 .f32 := m ((c.tc : Thread nD τ).loc main_arg6)
abbrev aB (c : Dev nD) : Vec Ideal S1024 .f32 := m ((c.tc : Thread nD τ).loc main_arg7)

/-- One step's experts, in the reference's operations. -/
def yRef (x : FVec Ideal S32768x1024 .f32) (cm : FVec Ideal S32768x8 .f32) (wg wu : FVec Ideal S8x1024x256 .f32)
    (wd : FVec Ideal S8x256x1024 .f32) : FVec Ideal S32768x1024 .f32 :=
  Host.dotGeneral dot_S32768x8x256_S8x256x1024_S32768x1024_12_01_0_2_n_n none (mulf (mulf (mulf (Host.dotGeneral dot_S32768x1024_S8x1024x256_S32768x8x256_1_1_0_02_n_n none x wg) (Host.divf (broadcastInDim S32768x8x256 ![] bcast_S_S32768x8x256 (constant S_ .f32 0x3F800000#32)) (addf (broadcastInDim S32768x8x256 ![] bcast_S_S32768x8x256 (constant S_ .f32 0x3F800000#32)) (Host.exp (Host.negf (Host.dotGeneral dot_S32768x1024_S8x1024x256_S32768x8x256_1_1_0_02_n_n none x wg)))))) (Host.dotGeneral dot_S32768x1024_S8x1024x256_S32768x8x256_1_1_0_02_n_n none x wu)) (broadcastInDim S32768x8x256 ![0, 1, 2] bcast_S32768x8x1_S32768x8x256_0_1_2 (broadcastInDim S32768x8x1 ![0, 1] bcast_S32768x8_S32768x8x1_0_1 cm))) wd

/-- The layer norm of every row, in the reference's operations. -/
def lnRef (v : FVec Ideal S32768x1024 .f32) (g b : FVec Ideal S1024 .f32) : FVec Ideal S32768x1024 .f32 :=
  addf (mulf (mulf (subf v (broadcastInDim S32768x1024 ![0, 1] bcast_S32768x1_S32768x1024_0_1 (Host.divf (broadcastInDim S32768x1 ![0] bcast_S32768_S32768x1_0 (Host.reduceAdd v (constant S_ .f32 0x00000000#32) reducesTo_S32768x1024_S32768_d1 h_S_)) (broadcastInDim S32768x1 ![] bcast_S_S32768x1 (constant S_ .f32 0x44800000#32))))) (broadcastInDim S32768x1024 ![0, 1] bcast_S32768x1_S32768x1024_0_1 (Host.rsqrt (addf (Host.divf (broadcastInDim S32768x1 ![0] bcast_S32768_S32768x1_0 (Host.reduceAdd (mulf (subf v (broadcastInDim S32768x1024 ![0, 1] bcast_S32768x1_S32768x1024_0_1 (Host.divf (broadcastInDim S32768x1 ![0] bcast_S32768_S32768x1_0 (Host.reduceAdd v (constant S_ .f32 0x00000000#32) reducesTo_S32768x1024_S32768_d1 h_S_)) (broadcastInDim S32768x1 ![] bcast_S_S32768x1 (constant S_ .f32 0x44800000#32))))) (subf v (broadcastInDim S32768x1024 ![0, 1] bcast_S32768x1_S32768x1024_0_1 (Host.divf (broadcastInDim S32768x1 ![0] bcast_S32768_S32768x1_0 (Host.reduceAdd v (constant S_ .f32 0x00000000#32) reducesTo_S32768x1024_S32768_d1 h_S_)) (broadcastInDim S32768x1 ![] bcast_S_S32768x1 (constant S_ .f32 0x44800000#32)))))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 g))) (broadcastInDim S32768x1024 ![0, 1] bcast_S1x1024_S32768x1024_0_1 (broadcastInDim S1x1024 ![1] bcast_S1024_S1x1024_1 b))

/-- The reference's result through these. -/
def resRef (c : Dev nD) : FVec Ideal S32768x1024 .f32 :=
  lnRef (addf (aR m c) (addf (addf (addf (addf (broadcastInDim S32768x1024 ![] bcast_S_S32768x1024 (constant S_ .f32 0x00000000#32))
    (yRef (aX m c)
      (shapeCast S32768x8 (extractStridedSlice S32768x1x8 ![0, 0, 0] (aC m c) slices_S32768x4x8_S32768x1x8_0_0_0) shapeCasts_S32768x1x8_S32768x8)
      (shapeCast S8x1024x256 (extractStridedSlice S1x8x1024x256 ![0, 0, 0, 0] (aG m c) slices_S4x8x1024x256_S1x8x1024x256_0_0_0_0) shapeCasts_S1x8x1024x256_S8x1024x256)
      (shapeCast S8x1024x256 (extractStridedSlice S1x8x1024x256 ![0, 0, 0, 0] (aU m c) slices_S4x8x1024x256_S1x8x1024x256_0_0_0_0) shapeCasts_S1x8x1024x256_S8x1024x256)
      (shapeCast S8x256x1024 (extractStridedSlice S1x8x256x1024 ![0, 0, 0, 0] (aD m c) slices_S4x8x256x1024_S1x8x256x1024_0_0_0_0) shapeCasts_S1x8x256x1024_S8x256x1024)))
    (yRef (aX m c)
      (shapeCast S32768x8 (extractStridedSlice S32768x1x8 ![0, 1, 0] (aC m c) slices_S32768x4x8_S32768x1x8_0_1_0) shapeCasts_S32768x1x8_S32768x8)
      (shapeCast S8x1024x256 (extractStridedSlice S1x8x1024x256 ![1, 0, 0, 0] (aG m c) slices_S4x8x1024x256_S1x8x1024x256_1_0_0_0) shapeCasts_S1x8x1024x256_S8x1024x256)
      (shapeCast S8x1024x256 (extractStridedSlice S1x8x1024x256 ![1, 0, 0, 0] (aU m c) slices_S4x8x1024x256_S1x8x1024x256_1_0_0_0) shapeCasts_S1x8x1024x256_S8x1024x256)
      (shapeCast S8x256x1024 (extractStridedSlice S1x8x256x1024 ![1, 0, 0, 0] (aD m c) slices_S4x8x256x1024_S1x8x256x1024_1_0_0_0) shapeCasts_S1x8x256x1024_S8x256x1024)))
    (yRef (aX m c)
      (shapeCast S32768x8 (extractStridedSlice S32768x1x8 ![0, 2, 0] (aC m c) slices_S32768x4x8_S32768x1x8_0_2_0) shapeCasts_S32768x1x8_S32768x8)
      (shapeCast S8x1024x256 (extractStridedSlice S1x8x1024x256 ![2, 0, 0, 0] (aG m c) slices_S4x8x1024x256_S1x8x1024x256_2_0_0_0) shapeCasts_S1x8x1024x256_S8x1024x256)
      (shapeCast S8x1024x256 (extractStridedSlice S1x8x1024x256 ![2, 0, 0, 0] (aU m c) slices_S4x8x1024x256_S1x8x1024x256_2_0_0_0) shapeCasts_S1x8x1024x256_S8x1024x256)
      (shapeCast S8x256x1024 (extractStridedSlice S1x8x256x1024 ![2, 0, 0, 0] (aD m c) slices_S4x8x256x1024_S1x8x256x1024_2_0_0_0) shapeCasts_S1x8x256x1024_S8x256x1024)))
    (yRef (aX m c)
      (shapeCast S32768x8 (extractStridedSlice S32768x1x8 ![0, 3, 0] (aC m c) slices_S32768x4x8_S32768x1x8_0_3_0) shapeCasts_S32768x1x8_S32768x8)
      (shapeCast S8x1024x256 (extractStridedSlice S1x8x1024x256 ![3, 0, 0, 0] (aG m c) slices_S4x8x1024x256_S1x8x1024x256_3_0_0_0) shapeCasts_S1x8x1024x256_S8x1024x256)
      (shapeCast S8x1024x256 (extractStridedSlice S1x8x1024x256 ![3, 0, 0, 0] (aU m c) slices_S4x8x1024x256_S1x8x1024x256_3_0_0_0) shapeCasts_S1x8x1024x256_S8x1024x256)
      (shapeCast S8x256x1024 (extractStridedSlice S1x8x256x1024 ![3, 0, 0, 0] (aD m c) slices_S4x8x256x1024_S1x8x256x1024_3_0_0_0) shapeCasts_S1x8x256x1024_S8x256x1024)))) (aS m c) (aB m c)

theorem res_eq (c : Dev nD) : (res_main_v93 m c : FVec Ideal S32768x1024 .f32) = resRef m c := rfl

theorem yRef_at (x : FVec Ideal S32768x1024 .f32) (cm : FVec Ideal S32768x8 .f32) (wg wu : FVec Ideal S8x1024x256 .f32)
    (wd : FVec Ideal S8x256x1024 .f32) (R : Fin 32768) (j : Fin 1024) :
    yRef x cm wg wu wd (ix2 R j) = ∑ e : Fin 8, ∑ f : Fin 256,
      (((∑ d, x (ix2 R d) * wg (ix3 e d f)) * Ideal.div 1 (1 + Ideal.exp (0 - ∑ d, x (ix2 R d) * wg (ix3 e d f)))
        * ∑ d, x (ix2 R d) * wu (ix3 e d f)) * cm (ix2 R e)) * wd (ix3 e f j) := by
  pointwise [yRef]
  simp only [zero_sub]

/-- The four slices of an argument along its first axis. -/
theorem sl_at (w : FVec Ideal S4x8x1024x256 .f32) (q : ℕ) (s : Fin 4) (hq : s.val = q) (h : S4x8x1024x256.Slices ![q, 0, 0, 0] S1x8x1024x256)
    (e : Fin 8) (d : Fin 1024) (f : Fin 256) :
    (shapeCast S8x1024x256 (extractStridedSlice S1x8x1024x256 ![q, 0, 0, 0] w h) shapeCasts_S1x8x1024x256_S8x1024x256 : FVec Ideal S8x1024x256 .f32)
      (ix3 e d f) = w (ix4 s e d f) := by
  subst hq
  pointwise

theorem slD_at (w : FVec Ideal S4x8x256x1024 .f32) (q : ℕ) (s : Fin 4) (hq : s.val = q) (h : S4x8x256x1024.Slices ![q, 0, 0, 0] S1x8x256x1024)
    (e : Fin 8) (d : Fin 256) (f : Fin 1024) :
    (shapeCast S8x256x1024 (extractStridedSlice S1x8x256x1024 ![q, 0, 0, 0] w h) shapeCasts_S1x8x256x1024_S8x256x1024 : FVec Ideal S8x256x1024 .f32)
      (ix3 e d f) = w (ix4 s e d f) := by
  subst hq
  pointwise

theorem slC_at (w : FVec Ideal S32768x4x8 .f32) (q : ℕ) (s : Fin 4) (hq : s.val = q) (h : S32768x4x8.Slices ![0, q, 0] S32768x1x8)
    (R : Fin 32768) (e : Fin 8) :
    (shapeCast S32768x8 (extractStridedSlice S32768x1x8 ![0, q, 0] w h) shapeCasts_S32768x1x8_S32768x8 : FVec Ideal S32768x8 .f32)
      (ix2 R e) = w (ix3 R s e) := by
  subst hq
  pointwise

/-- A step of the reference is the step's experts. -/
theorem y_part (x : FVec Ideal S32768x1024 .f32) (cm : FVec Ideal S32768x4x8 .f32) (wg wu : FVec Ideal S4x8x1024x256 .f32)
    (wd : FVec Ideal S4x8x256x1024 .f32) (q : ℕ) (s : Fin 4) (hq : s.val = q) (hc : S32768x4x8.Slices ![0, q, 0] S32768x1x8)
    (hg : S4x8x1024x256.Slices ![q, 0, 0, 0] S1x8x1024x256) (hd : S4x8x256x1024.Slices ![q, 0, 0, 0] S1x8x256x1024)
    (R : Fin 32768) (j : Fin 1024) :
    yRef x (shapeCast S32768x8 (extractStridedSlice S32768x1x8 ![0, q, 0] cm hc) shapeCasts_S32768x1x8_S32768x8)
      (shapeCast S8x1024x256 (extractStridedSlice S1x8x1024x256 ![q, 0, 0, 0] wg hg) shapeCasts_S1x8x1024x256_S8x1024x256)
      (shapeCast S8x1024x256 (extractStridedSlice S1x8x1024x256 ![q, 0, 0, 0] wu hg) shapeCasts_S1x8x1024x256_S8x1024x256)
      (shapeCast S8x256x1024 (extractStridedSlice S1x8x256x1024 ![q, 0, 0, 0] wd hd) shapeCasts_S1x8x256x1024_S8x256x1024) (ix2 R j)
      = partS x cm wg wu wd R s j := by
  rw [yRef_at]
  simp only [sl_at _ q s hq, slD_at _ q s hq, slC_at _ q s hq]
  unfold partS hidS
  rw [Fintype.sum_prod_type]

theorem lnRef_at (v : FVec Ideal S32768x1024 .f32) (g b : FVec Ideal S1024 .f32) (R : Fin 32768) (j : Fin 1024) :
    lnRef v g b (ix2 R j) = lnrm (fun l => v (ix2 R l)) (g (ix1 j)) (b (ix1 j)) j := by
  pointwise [lnRef]
  rfl

/-- The reference's result at an index. -/
theorem ref_at (c : Dev nD) (R : Fin 32768) (j : Fin 1024) :
    (res_main_v93 m c : FVec Ideal S32768x1024 .f32) (ix2 R j)
      = outS (aX m c) (aR m c) (aC m c) (aG m c) (aU m c) (aD m c) (aS m c) (aB m c) R j := by
  rw [res_eq]
  unfold resRef
  rw [lnRef_at]
  unfold outS
  congr 1
  funext l
  rw [← y_part (aX m c) (aC m c) (aG m c) (aU m c) (aD m c) 0 0 rfl slices_S32768x4x8_S32768x1x8_0_0_0 slices_S4x8x1024x256_S1x8x1024x256_0_0_0_0 slices_S4x8x256x1024_S1x8x256x1024_0_0_0_0 R l,
    ← y_part (aX m c) (aC m c) (aG m c) (aU m c) (aD m c) 1 1 rfl slices_S32768x4x8_S32768x1x8_0_1_0 slices_S4x8x1024x256_S1x8x1024x256_1_0_0_0 slices_S4x8x256x1024_S1x8x256x1024_1_0_0_0 R l,
    ← y_part (aX m c) (aC m c) (aG m c) (aU m c) (aD m c) 2 2 rfl slices_S32768x4x8_S32768x1x8_0_2_0 slices_S4x8x1024x256_S1x8x1024x256_2_0_0_0 slices_S4x8x256x1024_S1x8x256x1024_2_0_0_0 R l,
    ← y_part (aX m c) (aC m c) (aG m c) (aU m c) (aD m c) 3 3 rfl slices_S32768x4x8_S32768x1x8_0_3_0 slices_S4x8x1024x256_S1x8x1024x256_3_0_0_0 slices_S4x8x256x1024_S1x8x256x1024_3_0_0_0 R l]
  show aR m c (ix2 R l) + (Ideal.ofBits .f32 0#32 + _ + _ + _ + _) = _
  rw [Ideal.ofBits_zero_f32, zero_add]

end Cert.MoeProof.Ref
-- ==== Proof.MoeClaims.lean ====
/- The claims about the mixture of experts: the three frames and the equality with the reference over the extended reals. -/
module

public import proofs.«01_k».proof.Defs
public import proofs.«01_k».proof.Proof.MoeRef
public import proofs.«01_k».proof.Proof.Gen.Moe.Frame
public import Idealize.ShloMosaic.Lib.Quiescent

@[expose] public section

noncomputable section

namespace Cert.MoeProof

open Idealize.ShloMosaic Idealize.ShloMosaic.TcCoe Idealize.SL.Sem

instance : Cert.Moe.Facts := Cert.Moe.Gen.facts
instance : Cert.MoeIdeal.Facts := Cert.MoeIdeal.Gen.facts
instance : Cert.MoeRefIdeal.Facts := Cert.MoeRefIdeal.Gen.facts

theorem frame_moe : Cert.quiescent_Moe (hMoe := Cert.Moe.Gen.facts) :=
  fun m g _ => Cert.Moe.Gen.frame m g

theorem frame_moeIdeal : Cert.quiescent_MoeIdeal (hMoeIdeal := Cert.MoeIdeal.Gen.facts) :=
  fun m g _ => Cert.MoeIdeal.Gen.frame m g

theorem frame_moeRef : Cert.quiescent_MoeRefIdeal (hMoeRefIdeal := Cert.MoeRefIdeal.Gen.facts) :=
  fun m g _ => (θ_run Cert.MoeRefIdeal.defs _ _).mono
    (fun r h => ⟨fun c => (h c).2, sem_eq_zero_of_no_sems (by decide) r.2⟩) (Cert.MoeRefIdeal.Value.run m g)

theorem algebraic_moe : Cert.algebraic_MoeIdeal_MoeRefIdeal (hMoeIdeal := Cert.MoeIdeal.Gen.facts) (hMoeRefIdeal := Cert.MoeRefIdeal.Gen.facts) := by
  intro m g m' g' _ hargs
  refine ⟨fun c => Cert.MoeIdeal.Value.G7 m c, (θ_run _ _ _).mono (fun r h c => h c) (Cert.MoeIdeal.Value.run m g), ?_⟩
  refine (θ_run _ _ _).mono (fun r h c => ⟨(h c).1.trans ?_, (h c).2⟩) (Cert.MoeRefIdeal.Value.run m' g')
  obtain ⟨h0, h1, h2, h3, h4, h5, h6, h7⟩ := hargs c
  funext i
  obtain ⟨R, j, rfl⟩ : ∃ (R : Fin 32768) (j : Fin 1024), i = ix2 R j := ⟨i 0, i 1, eq_ix2 i⟩
  refine (Ref.ref_at m' c R j).trans (Eq.trans ?_ (kernel_at m c R j).symm)
  unfold Ref.aX Ref.aR Ref.aC Ref.aG Ref.aU Ref.aD Ref.aS Ref.aB
  rw [h0, h1, h2, h3, h4, h5, h6, h7]

end Cert.MoeProof
-- ==== Proof.DiffMath.lean ====
/- The running softmax of the attention kernel, row by row: what the running maximum, the running sum (kept apart by lane)
   and the running weighted sum of the values hold after each tile of keys, and that their quotient at the end is the
   softmax weighted sum. -/
module

public import Idealize.ShloMosaic.PureOps.Ideal
public import Idealize.ShloMosaic.Lib.Pointwise

@[expose] public section

noncomputable section

namespace Cert.DiffProof

open Idealize.ShloMosaic

/-- The weight of key `k` in a row that sees keys up to `R`, scores `σ`, relative to `μ`. -/
def wgt (σ : ℕ → ℝ) (R : ℕ) (μ : ℝ) (k : ℕ) : ℝ := if k ≤ R then Real.rpow 2 (σ k - μ) else 0

/-- What the three running blocks hold at a row after the keys below `n`: nothing yet, or sums relative to some real `μ`. -/
def RowInv (σ : ℕ → ℝ) (R : ℕ) (v : ℕ → Fin 128 → ℝ) (n : ℕ) (m l a : Fin 128 → EReal) : Prop :=
  (n = 0 ∧ (∀ j, m j = ⊥) ∧ (∀ j, l j = 0) ∧ ∀ j, a j = 0) ∨
  ∃ μ : ℝ, (∀ j, m j = (μ : EReal))
    ∧ (∀ j : Fin 128, l j = ((∑ k ∈ Finset.range n, if k % 128 = j.val then wgt σ R μ k else 0 : ℝ) : EReal))
    ∧ ∀ e, a e = ((∑ k ∈ Finset.range n, wgt σ R μ k * v k e : ℝ) : EReal)

theorem wgt_shift (σ : ℕ → ℝ) (R : ℕ) (μ μ' : ℝ) (k : ℕ) : Real.rpow 2 (μ - μ') * wgt σ R μ k = wgt σ R μ' k := by
  unfold wgt
  split_ifs
  · show (2:ℝ) ^ (μ - μ') * (2:ℝ) ^ (σ k - μ) = (2:ℝ) ^ (σ k - μ')
    rw [← Real.rpow_add (by norm_num)]
    congr 1
    ring
  · rw [mul_zero]

/-- A sum over the keys of one lane, tile by tile of 128. -/
theorem sum_lane (f : ℕ → ℝ) (j : Fin 128) (n : ℕ) (hn : 128 ∣ n) :
    ∀ C : ℕ, (∑ k ∈ Finset.range (128 * C), if (n + k) % 128 = j.val then f (n + k) else 0)
      = ∑ q ∈ Finset.range C, f (n + (128 * q + j.val))
  | 0 => by simp
  | C + 1 => by
    rw [Nat.mul_succ, Finset.sum_range_add, sum_lane f j n hn C, Finset.sum_range_succ (fun q => f (n + (128 * q + j.val))) C]
    congr 1
    obtain ⟨a, rfl⟩ := hn
    rw [Finset.sum_eq_single j.val]
    · rw [if_pos (by have := j.isLt; omega)]
    · intro b hb hne
      have hb' := Finset.mem_range.1 hb
      rw [if_neg (by omega)]
    · intro h
      exact absurd (Finset.mem_range.2 j.isLt) h

theorem coe_sum_fin {n : ℕ} (f : Fin n → ℝ) : ((∑ i, f i : ℝ) : EReal) = ∑ i, (f i : EReal) :=
  map_sum (⟨⟨fun x : ℝ => (x : EReal), EReal.coe_zero⟩, EReal.coe_add⟩ : ℝ →+ EReal) f Finset.univ

/-- One tile of `128 C` keys from key `n` on: the new maximum, sums and weighted sums keep the invariant. -/
theorem RowInv.step {σ : ℕ → ℝ} {R : ℕ} {v : ℕ → Fin 128 → ℝ} {n : ℕ} {m l a : Fin 128 → EReal} (h : RowInv σ R v n m l a)
    {N : ℕ} (C : ℕ) (hC : 0 < C) (hN : N = 128 * C) (hn : 128 ∣ n) (hR : n ≤ R) (S : Fin N → EReal)
    (hS : ∀ k : Fin N, S k = if n + k.val ≤ R then ((σ (n + k.val) : ℝ) : EReal) else ⊥)
    (vt : Fin N → Fin 128 → EReal) (hv : ∀ (k : Fin N) e, vt k e = ((v (n + k.val) e : ℝ) : EReal))
    (m' l' a' : Fin 128 → EReal) (hm' : ∀ j, m' j = max (m j) (Finset.univ.sup S))
    (hl' : ∀ j, l' j = Ideal.exp2 (m j - m' j) * l j
      + ∑ q : Fin C, Ideal.exp2 (S ⟨128 * q.val + j.val, by have := q.isLt; have := j.isLt; omega⟩ - m' j))
    (ha' : ∀ e, a' e = Ideal.exp2 (m e - m' e) * a e
      + ∑ k : Fin N, Ideal.exp2 (S k - m' ⟨k.val % 128, Nat.mod_lt _ (by norm_num)⟩) * vt k e) :
    RowInv σ R v (n + N) m' l' a' := by
  have h0 : 0 < N := by omega
  have hS0 : S ⟨0, h0⟩ = ((σ n : ℝ) : EReal) := by rw [hS]; exact if_pos hR
  have hbot : Finset.univ.sup S ≠ ⊥ := by
    intro hb
    have := Finset.le_sup (f := S) (Finset.mem_univ ⟨0, h0⟩)
    rw [hb, hS0] at this
    exact absurd (le_bot_iff.1 this) (EReal.coe_ne_bot _)
  have htop : Finset.univ.sup S < ⊤ := by
    rw [Finset.sup_lt_iff bot_lt_top]
    intro k _
    rw [hS]
    split_ifs
    · exact EReal.coe_lt_top _
    · exact bot_lt_top
  obtain ⟨X, hX⟩ : ∃ X : ℝ, Finset.univ.sup S = (X : EReal) := by
    lift Finset.univ.sup S to ℝ using ⟨htop.ne, hbot⟩ with X
    exact ⟨X, rfl⟩
  -- the exponentials against the new maximum
  have hexp : ∀ (μ' : ℝ) (k : Fin N), Ideal.exp2 (S k - (μ' : EReal)) = ((wgt σ R μ' (n + k.val) : ℝ) : EReal) := by
    intro μ' k
    rw [hS]
    unfold wgt
    split_ifs
    · rw [← EReal.coe_sub, Ideal.exp2_coe]
    · rw [EReal.bot_sub, Ideal.exp2_bot, EReal.coe_zero]
  right
  rcases h with ⟨rfl, hm, hl, ha⟩ | ⟨μ, hm, hl, ha⟩
  · have hmX : ∀ j, m' j = (X : EReal) := fun j => by rw [hm', hm, hX]; exact max_eq_right bot_le
    refine ⟨X, hmX, fun j => ?_, fun e => ?_⟩
    · rw [hl', hl, mul_zero, zero_add]
      simp only [hmX, hexp]
      rw [← coe_sum_fin, hN, zero_add]
      congr 1
      have := sum_lane (wgt σ R X) j 0 (dvd_zero _) C
      simp only [zero_add] at this
      rw [this, Finset.sum_range]
      simp only [zero_add]
    · rw [ha', ha, mul_zero, zero_add]
      simp only [hmX, hexp, hv, ← EReal.coe_mul]
      rw [← coe_sum_fin, zero_add, Finset.sum_range]
      simp only [zero_add]
  · have hmX : ∀ j, m' j = ((max μ X : ℝ) : EReal) := fun j => by rw [hm', hm, hX]; exact (EReal.coe_strictMono.monotone.map_max).symm
    refine ⟨max μ X, hmX, fun j => ?_, fun e => ?_⟩
    · rw [hl', hl, hm]
      simp only [hmX, hexp]
      rw [← coe_sum_fin, ← EReal.coe_sub, Ideal.exp2_coe, ← EReal.coe_mul, ← EReal.coe_add, hN, Finset.sum_range_add]
      congr 2
      · rw [Finset.mul_sum]
        refine Finset.sum_congr rfl fun k _ => ?_
        rw [mul_ite, wgt_shift, mul_zero]
      · rw [sum_lane _ j n hn C, Finset.sum_range]
    · rw [ha', ha, hm]
      simp only [hmX, hexp, hv, ← EReal.coe_mul]
      rw [← coe_sum_fin, ← EReal.coe_sub, Ideal.exp2_coe, ← EReal.coe_mul, ← EReal.coe_add, Finset.sum_range_add]
      congr 2
      · rw [Finset.mul_sum]
        refine Finset.sum_congr rfl fun k _ => ?_
        rw [← mul_assoc, wgt_shift]
      · rw [Finset.sum_range]

/-! ## The tiles as the code writes them: eight columns of 128, and four -/

theorem ninf : Ideal.ofBits .f32 4286578688#32 = ⊥ := by simp [Ideal.ofBits, Ideal.ieee]

/-- The new maximum of a row against a tile of 1024 scores. -/
def m8 (S : Fin 1024 → EReal) (m : EReal) : EReal :=
  max m (Finset.fold max (Ideal.ofBits .f32 4286578688#32) (fun x : Fin 128 =>
    max (max (max (max (max (max (max (S ⟨x.val, by omega⟩) (S ⟨128 + x.val, by omega⟩)) (S ⟨256 + x.val, by omega⟩))
      (S ⟨384 + x.val, by omega⟩)) (S ⟨512 + x.val, by omega⟩)) (S ⟨640 + x.val, by omega⟩)) (S ⟨768 + x.val, by omega⟩))
      (S ⟨896 + x.val, by omega⟩)) Finset.univ)

/-- The new running sum of lane `j`. -/
def l8 (S : Fin 1024 → EReal) (m l : EReal) (j : Fin 128) : EReal :=
  Ideal.exp2 (m - m8 S m) * l +
    (Ideal.exp2 (S ⟨j.val, by omega⟩ - m8 S m) + Ideal.exp2 (S ⟨128 + j.val, by omega⟩ - m8 S m)
      + Ideal.exp2 (S ⟨256 + j.val, by omega⟩ - m8 S m) + Ideal.exp2 (S ⟨384 + j.val, by omega⟩ - m8 S m)
      + Ideal.exp2 (S ⟨512 + j.val, by omega⟩ - m8 S m) + Ideal.exp2 (S ⟨640 + j.val, by omega⟩ - m8 S m)
      + Ideal.exp2 (S ⟨768 + j.val, by omega⟩ - m8 S m) + Ideal.exp2 (S ⟨896 + j.val, by omega⟩ - m8 S m))

/-- The eight columns' weights put side by side. -/
def p8 (S : Fin 1024 → EReal) (m : Fin 128 → EReal) (x : Fin 1024) : EReal :=
  if h : x.val < 128 then Ideal.exp2 (S ⟨x.val, by omega⟩ - m8 S (m ⟨x.val, h⟩))
  else if h : x.val - 128 < 128 then Ideal.exp2 (S ⟨128 + (x.val - 128), by omega⟩ - m8 S (m ⟨x.val - 128, h⟩))
  else if h : x.val - 128 - 128 < 128 then Ideal.exp2 (S ⟨256 + (x.val - 128 - 128), by omega⟩ - m8 S (m ⟨x.val - 128 - 128, h⟩))
  else if h : x.val - 128 - 128 - 128 < 128 then
    Ideal.exp2 (S ⟨384 + (x.val - 128 - 128 - 128), by omega⟩ - m8 S (m ⟨x.val - 128 - 128 - 128, h⟩))
  else if h : x.val - 128 - 128 - 128 - 128 < 128 then
    Ideal.exp2 (S ⟨512 + (x.val - 128 - 128 - 128 - 128), by omega⟩ - m8 S (m ⟨x.val - 128 - 128 - 128 - 128, h⟩))
  else if h : x.val - 128 - 128 - 128 - 128 - 128 < 128 then
    Ideal.exp2 (S ⟨640 + (x.val - 128 - 128 - 128 - 128 - 128), by omega⟩ - m8 S (m ⟨x.val - 128 - 128 - 128 - 128 - 128, h⟩))
  else if h : x.val - 128 - 128 - 128 - 128 - 128 - 128 < 128 then
    Ideal.exp2 (S ⟨768 + (x.val - 128 - 128 - 128 - 128 - 128 - 128), by omega⟩
      - m8 S (m ⟨x.val - 128 - 128 - 128 - 128 - 128 - 128, h⟩))
  else Ideal.exp2 (S ⟨896 + (x.val - 128 - 128 - 128 - 128 - 128 - 128 - 128), by omega⟩
      - m8 S (m ⟨x.val - 128 - 128 - 128 - 128 - 128 - 128 - 128, by omega⟩))

/-- The new running weighted sum at column `e`. -/
def a8 (S : Fin 1024 → EReal) (m : Fin 128 → EReal) (a : EReal) (v : Fin 1024 → EReal) (e : Fin 128) : EReal :=
  Ideal.exp2 (m e - m8 S (m e)) * a + ∑ x : Fin 1024, p8 S m x * v x

def m4 (S : Fin 512 → EReal) (m : EReal) : EReal :=
  max m (Finset.fold max (Ideal.ofBits .f32 4286578688#32) (fun x : Fin 128 =>
    max (max (max (S ⟨x.val, by omega⟩) (S ⟨128 + x.val, by omega⟩)) (S ⟨256 + x.val, by omega⟩))
      (S ⟨384 + x.val, by omega⟩)) Finset.univ)

def l4 (S : Fin 512 → EReal) (m l : EReal) (j : Fin 128) : EReal :=
  Ideal.exp2 (m - m4 S m) * l +
    (Ideal.exp2 (S ⟨j.val, by omega⟩ - m4 S m) + Ideal.exp2 (S ⟨128 + j.val, by omega⟩ - m4 S m)
      + Ideal.exp2 (S ⟨256 + j.val, by omega⟩ - m4 S m) + Ideal.exp2 (S ⟨384 + j.val, by omega⟩ - m4 S m))

def p4 (S : Fin 512 → EReal) (m : Fin 128 → EReal) (x : Fin 512) : EReal :=
  if h : x.val < 128 then Ideal.exp2 (S ⟨x.val, by omega⟩ - m4 S (m ⟨x.val, h⟩))
  else if h : x.val - 128 < 128 then Ideal.exp2 (S ⟨128 + (x.val - 128), by omega⟩ - m4 S (m ⟨x.val - 128, h⟩))
  else if h : x.val - 128 - 128 < 128 then Ideal.exp2 (S ⟨256 + (x.val - 128 - 128), by omega⟩ - m4 S (m ⟨x.val - 128 - 128, h⟩))
  else Ideal.exp2 (S ⟨384 + (x.val - 128 - 128 - 128), by omega⟩ - m4 S (m ⟨x.val - 128 - 128 - 128, by omega⟩))

def a4 (S : Fin 512 → EReal) (m : Fin 128 → EReal) (a : EReal) (v : Fin 512 → EReal) (e : Fin 128) : EReal :=
  Ideal.exp2 (m e - m4 S (m e)) * a + ∑ x : Fin 512, p4 S m x * v x

theorem fold_max_le {n : ℕ} (f : Fin n → EReal) (c : EReal) :
    Finset.fold max (Ideal.ofBits .f32 4286578688#32) f Finset.univ ≤ c ↔ ∀ i, f i ≤ c := by
  rw [Finset.fold_max_le, ninf]
  simp

theorem m8_eq (S : Fin 1024 → EReal) (m : EReal) : m8 S m = max m (Finset.univ.sup S) := by
  unfold m8
  congr 1
  refine le_antisymm ?_ ?_
  · rw [fold_max_le]
    intro i
    simp only [max_le_iff]
    refine ⟨⟨⟨⟨⟨⟨⟨?_, ?_⟩, ?_⟩, ?_⟩, ?_⟩, ?_⟩, ?_⟩, ?_⟩ <;> exact Finset.le_sup (f := S) (Finset.mem_univ _)
  · refine Finset.sup_le fun k _ => ?_
    have h := (fold_max_le (fun x : Fin 128 =>
      max (max (max (max (max (max (max (S ⟨x.val, by omega⟩) (S ⟨128 + x.val, by omega⟩)) (S ⟨256 + x.val, by omega⟩))
      (S ⟨384 + x.val, by omega⟩)) (S ⟨512 + x.val, by omega⟩)) (S ⟨640 + x.val, by omega⟩)) (S ⟨768 + x.val, by omega⟩))
      (S ⟨896 + x.val, by omega⟩)) _).1 le_rfl ⟨k.val % 128, Nat.mod_lt _ (by norm_num)⟩
    simp only [max_le_iff] at h
    obtain ⟨⟨⟨⟨⟨⟨⟨h0, h1⟩, h2⟩, h3⟩, h4⟩, h5⟩, h6⟩, h7⟩ := h
    have hk := k.isLt
    have hd : k.val / 128 = 0 ∨ k.val / 128 = 1 ∨ k.val / 128 = 2 ∨ k.val / 128 = 3 ∨ k.val / 128 = 4 ∨ k.val / 128 = 5
      ∨ k.val / 128 = 6 ∨ k.val / 128 = 7 := by omega
    have hc : ∀ a (ha : a < 1024), a = k.val → S ⟨a, ha⟩ = S k := fun a ha e => congrArg S (Fin.ext e)
    rcases hd with hd | hd | hd | hd | hd | hd | hd | hd
    · rwa [hc _ _ (by omega)] at h0
    · rwa [hc _ _ (by omega)] at h1
    · rwa [hc _ _ (by omega)] at h2
    · rwa [hc _ _ (by omega)] at h3
    · rwa [hc _ _ (by omega)] at h4
    · rwa [hc _ _ (by omega)] at h5
    · rwa [hc _ _ (by omega)] at h6
    · rwa [hc _ _ (by omega)] at h7

theorem m4_eq (S : Fin 512 → EReal) (m : EReal) : m4 S m = max m (Finset.univ.sup S) := by
  unfold m4
  congr 1
  refine le_antisymm ?_ ?_
  · rw [fold_max_le]
    intro i
    simp only [max_le_iff]
    refine ⟨⟨⟨?_, ?_⟩, ?_⟩, ?_⟩ <;> exact Finset.le_sup (f := S) (Finset.mem_univ _)
  · refine Finset.sup_le fun k _ => ?_
    have h := (fold_max_le (fun x : Fin 128 =>
      max (max (max (S ⟨x.val, by omega⟩) (S ⟨128 + x.val, by omega⟩)) (S ⟨256 + x.val, by omega⟩))
      (S ⟨384 + x.val, by omega⟩)) _).1 le_rfl ⟨k.val % 128, Nat.mod_lt _ (by norm_num)⟩
    simp only [max_le_iff] at h
    obtain ⟨⟨⟨h0, h1⟩, h2⟩, h3⟩ := h
    have hk := k.isLt
    have hd : k.val / 128 = 0 ∨ k.val / 128 = 1 ∨ k.val / 128 = 2 ∨ k.val / 128 = 3 := by omega
    have hc : ∀ a (ha : a < 512), a = k.val → S ⟨a, ha⟩ = S k := fun a ha e => congrArg S (Fin.ext e)
    rcases hd with hd | hd | hd | hd
    · rwa [hc _ _ (by omega)] at h0
    · rwa [hc _ _ (by omega)] at h1
    · rwa [hc _ _ (by omega)] at h2
    · rwa [hc _ _ (by omega)] at h3

theorem p8_eq (S : Fin 1024 → EReal) (m : Fin 128 → EReal) (x : Fin 1024) :
    p8 S m x = Ideal.exp2 (S x - m8 S (m ⟨x.val % 128, Nat.mod_lt _ (by norm_num)⟩)) := by
  have hc : ∀ a (ha : a < 1024) b (hb : b < 128), a = x.val → b = x.val % 128 →
      Ideal.exp2 (S ⟨a, ha⟩ - m8 S (m ⟨b, hb⟩)) = Ideal.exp2 (S x - m8 S (m ⟨x.val % 128, Nat.mod_lt _ (by norm_num)⟩)) := by
    intro a ha b hb e1 e2
    subst e1 e2
    rfl
  have := x.isLt
  unfold p8
  split_ifs <;> exact hc _ _ _ _ (by omega) (by omega)

theorem p4_eq (S : Fin 512 → EReal) (m : Fin 128 → EReal) (x : Fin 512) :
    p4 S m x = Ideal.exp2 (S x - m4 S (m ⟨x.val % 128, Nat.mod_lt _ (by norm_num)⟩)) := by
  have hc : ∀ a (ha : a < 512) b (hb : b < 128), a = x.val → b = x.val % 128 →
      Ideal.exp2 (S ⟨a, ha⟩ - m4 S (m ⟨b, hb⟩)) = Ideal.exp2 (S x - m4 S (m ⟨x.val % 128, Nat.mod_lt _ (by norm_num)⟩)) := by
    intro a ha b hb e1 e2
    subst e1 e2
    rfl
  have := x.isLt
  unfold p4
  split_ifs <;> exact hc _ _ _ _ (by omega) (by omega)

/-- A tile of 1024 keys. -/
theorem RowInv.step8 {σ : ℕ → ℝ} {R : ℕ} {v : ℕ → Fin 128 → ℝ} {n : ℕ} {m l a : Fin 128 → EReal} (h : RowInv σ R v n m l a)
    (hn : 128 ∣ n) (hR : n ≤ R) (S : Fin 1024 → EReal)
    (hS : ∀ k : Fin 1024, S k = if n + k.val ≤ R then ((σ (n + k.val) : ℝ) : EReal) else ⊥)
    (vt : Fin 1024 → Fin 128 → EReal) (hv : ∀ (k : Fin 1024) e, vt k e = ((v (n + k.val) e : ℝ) : EReal)) :
    RowInv σ R v (n + 1024) (fun j => m8 S (m j)) (fun j => l8 S (m j) (l j) j) (fun e => a8 S m (a e) (fun x => vt x e) e) := by
  refine h.step 8 (by norm_num) (by norm_num) hn hR S hS vt hv _ _ _ (fun j => m8_eq S _) (fun j => ?_) (fun e => ?_)
  · show l8 S (m j) (l j) j = _
    unfold l8
    rw [Fin.sum_univ_eight]
    have hc : ∀ a b (ha : a < 1024) (hb : b < 1024), a = b → S ⟨a, ha⟩ = S ⟨b, hb⟩ := by rintro a b ha hb rfl; rfl
    have h0 : S ⟨128 * (0 : Fin 8).val + j.val, _⟩ = S ⟨j.val, _⟩ := hc _ _ (by have := j.isLt; show 128 * 0 + j.val < 1024; omega) (by have := j.isLt; omega) (by show 128 * 0 + j.val = _; omega)
    have h1 : S ⟨128 * (1 : Fin 8).val + j.val, _⟩ = S ⟨128 + j.val, _⟩ := hc _ _ (by have := j.isLt; show 128 * 1 + j.val < 1024; omega) (by have := j.isLt; omega) (by show 128 * 1 + j.val = _; omega)
    have h2 : S ⟨128 * (2 : Fin 8).val + j.val, _⟩ = S ⟨256 + j.val, _⟩ := hc _ _ (by have := j.isLt; show 128 * 2 + j.val < 1024; omega) (by have := j.isLt; omega) (by show 128 * 2 + j.val = _; omega)
    have h3 : S ⟨128 * (3 : Fin 8).val + j.val, _⟩ = S ⟨384 + j.val, _⟩ := hc _ _ (by have := j.isLt; show 128 * 3 + j.val < 1024; omega) (by have := j.isLt; omega) (by show 128 * 3 + j.val = _; omega)
    have h4 : S ⟨128 * (4 : Fin 8).val + j.val, _⟩ = S ⟨512 + j.val, _⟩ := hc _ _ (by have := j.isLt; show 128 * 4 + j.val < 1024; omega) (by have := j.isLt; omega) (by show 128 * 4 + j.val = _; omega)
    have h5 : S ⟨128 * (5 : Fin 8).val + j.val, _⟩ = S ⟨640 + j.val, _⟩ := hc _ _ (by have := j.isLt; show 128 * 5 + j.val < 1024; omega) (by have := j.isLt; omega) (by show 128 * 5 + j.val = _; omega)
    have h6 : S ⟨128 * (6 : Fin 8).val + j.val, _⟩ = S ⟨768 + j.val, _⟩ := hc _ _ (by have := j.isLt; show 128 * 6 + j.val < 1024; omega) (by have := j.isLt; omega) (by show 128 * 6 + j.val = _; omega)
    have h7 : S ⟨128 * (7 : Fin 8).val + j.val, _⟩ = S ⟨896 + j.val, _⟩ := hc _ _ (by have := j.isLt; show 128 * 7 + j.val < 1024; omega) (by have := j.isLt; omega) (by show 128 * 7 + j.val = _; omega)
    rw [h0, h1, h2, h3, h4, h5, h6, h7]
  · show a8 S m (a e) (fun x => vt x e) e = _
    unfold a8
    simp only [p8_eq]

/-- A tile of 512 keys. -/
theorem RowInv.step4 {σ : ℕ → ℝ} {R : ℕ} {v : ℕ → Fin 128 → ℝ} {n : ℕ} {m l a : Fin 128 → EReal} (h : RowInv σ R v n m l a)
    (hn : 128 ∣ n) (hR : n ≤ R) (S : Fin 512 → EReal)
    (hS : ∀ k : Fin 512, S k = if n + k.val ≤ R then ((σ (n + k.val) : ℝ) : EReal) else ⊥)
    (vt : Fin 512 → Fin 128 → EReal) (hv : ∀ (k : Fin 512) e, vt k e = ((v (n + k.val) e : ℝ) : EReal)) :
    RowInv σ R v (n + 512) (fun j => m4 S (m j)) (fun j => l4 S (m j) (l j) j) (fun e => a4 S m (a e) (fun x => vt x e) e) := by
  refine h.step 4 (by norm_num) (by norm_num) hn hR S hS vt hv _ _ _ (fun j => m4_eq S _) (fun j => ?_) (fun e => ?_)
  · show l4 S (m j) (l j) j = _
    unfold l4
    rw [Fin.sum_univ_four]
    have hc : ∀ a b (ha : a < 512) (hb : b < 512), a = b → S ⟨a, ha⟩ = S ⟨b, hb⟩ := by rintro a b ha hb rfl; rfl
    have h0 : S ⟨128 * (0 : Fin 4).val + j.val, _⟩ = S ⟨j.val, _⟩ := hc _ _ (by have := j.isLt; show 128 * 0 + j.val < 512; omega) (by have := j.isLt; omega) (by show 128 * 0 + j.val = _; omega)
    have h1 : S ⟨128 * (1 : Fin 4).val + j.val, _⟩ = S ⟨128 + j.val, _⟩ := hc _ _ (by have := j.isLt; show 128 * 1 + j.val < 512; omega) (by have := j.isLt; omega) (by show 128 * 1 + j.val = _; omega)
    have h2 : S ⟨128 * (2 : Fin 4).val + j.val, _⟩ = S ⟨256 + j.val, _⟩ := hc _ _ (by have := j.isLt; show 128 * 2 + j.val < 512; omega) (by have := j.isLt; omega) (by show 128 * 2 + j.val = _; omega)
    have h3 : S ⟨128 * (3 : Fin 4).val + j.val, _⟩ = S ⟨384 + j.val, _⟩ := hc _ _ (by have := j.isLt; show 128 * 3 + j.val < 512; omega) (by have := j.isLt; omega) (by show 128 * 3 + j.val = _; omega)
    rw [h0, h1, h2, h3]
  · show a4 S m (a e) (fun x => vt x e) e = _
    unfold a4
    simp only [p4_eq]

/-! ## At the end -/

/-- The share of key `k` in the softmax of a row that sees keys up to `R`, scores `σ` counted in powers of two. -/
def prob (σ : ℕ → ℝ) (R T : ℕ) (k : ℕ) : ℝ := wgt σ R 0 k / ∑ j ∈ Finset.range T, wgt σ R 0 j

theorem wgt_eq (σ : ℕ → ℝ) (R : ℕ) (μ : ℝ) (k : ℕ) : wgt σ R μ k = Real.rpow 2 (-μ) * wgt σ R 0 k := by
  rw [← wgt_shift σ R 0 μ k, zero_sub]

theorem sum_wgt_pos (σ : ℕ → ℝ) (R T : ℕ) (hT : R < T) : 0 < ∑ j ∈ Finset.range T, wgt σ R 0 j := by
  have hn : ∀ j, 0 ≤ wgt σ R 0 j := by
    intro j
    unfold wgt
    split_ifs
    · exact (Real.rpow_pos_of_pos (by norm_num) _).le
    · exact le_rfl
  refine Finset.sum_pos' (fun j _ => hn j) ⟨R, Finset.mem_range.2 hT, ?_⟩
  unfold wgt
  rw [if_pos le_rfl]
  exact Real.rpow_pos_of_pos (by norm_num) _

theorem sum_wgt_ext (σ : ℕ → ℝ) (R T : ℕ) (hT : R < T) (U : ℕ) (hU : T ≤ U) (f : ℕ → ℝ) (μ : ℝ) :
    ∑ k ∈ Finset.range T, wgt σ R μ k * f k = ∑ k ∈ Finset.range U, wgt σ R μ k * f k := by
  refine Finset.sum_subset (Finset.range_subset_range.2 hU) fun k _ hk => ?_
  unfold wgt
  rw [if_neg (by have := Finset.mem_range.not.1 hk; omega), zero_mul]

/-- The quotient of the weighted sum by the sum over the lanes is the softmax weighted sum. -/
theorem RowInv.quot {σ : ℕ → ℝ} {R : ℕ} {v : ℕ → Fin 128 → ℝ} {n : ℕ} {m l a : Fin 128 → EReal} (h : RowInv σ R v n m l a)
    (hR : R < n) (U : ℕ) (hU : n ≤ U) (e : Fin 128) :
    Ideal.div (a e) (∑ j, l j) = ((∑ k ∈ Finset.range U, prob σ R U k * v k e : ℝ) : EReal) := by
  rcases h with ⟨rfl, -⟩ | ⟨μ, -, hl, ha⟩
  · omega
  have hsum : (∑ j, l j) = ((∑ k ∈ Finset.range n, wgt σ R μ k : ℝ) : EReal) := by
    simp only [hl]
    rw [← coe_sum_fin, Finset.sum_comm]
    congr 1
    refine Finset.sum_congr rfl fun k _ => ?_
    rw [Finset.sum_eq_single (⟨k % 128, Nat.mod_lt _ (by norm_num)⟩ : Fin 128)]
    · exact if_pos rfl
    · intro b _ hne
      exact if_neg fun e => hne (Fin.ext e.symm)
    · intro h; exact absurd (Finset.mem_univ _) h
  have hext := sum_wgt_ext σ R n hR U hU (fun _ => 1) μ
  simp only [mul_one] at hext
  rw [hsum, ha, hext, sum_wgt_ext σ R n hR U hU (fun k => v k e) μ]
  have hp := sum_wgt_pos σ R U (by omega)
  have hq : 0 < Real.rpow 2 (-μ) := Real.rpow_pos_of_pos (by norm_num) _
  have e1 : ∑ k ∈ Finset.range U, wgt σ R μ k = Real.rpow 2 (-μ) * ∑ k ∈ Finset.range U, wgt σ R 0 k := by
    rw [Finset.mul_sum]; exact Finset.sum_congr rfl fun k _ => wgt_eq σ R μ k
  have e2 : ∑ k ∈ Finset.range U, wgt σ R μ k * v k e = Real.rpow 2 (-μ) * ∑ k ∈ Finset.range U, wgt σ R 0 k * v k e := by
    rw [Finset.mul_sum]; exact Finset.sum_congr rfl fun k _ => by rw [wgt_eq σ R μ k, mul_assoc]
  rw [e1, e2]
  unfold Ideal.div
  rw [if_neg (by
    intro h0
    rw [EReal.coe_eq_zero] at h0
    exact (mul_pos hq hp).ne' h0), ← EReal.coe_inv, ← EReal.coe_mul]
  congr 1
  unfold prob
  rw [mul_inv, mul_mul_mul_comm, mul_inv_cancel₀ hq.ne', one_mul, Finset.sum_mul]
  refine Finset.sum_congr rfl fun k _ => ?_
  rw [div_eq_mul_inv]
  ring

end Cert.DiffProof
-- ==== Proof.DiffTile.lean ====
/- The stores of one tile of the attention kernel read at an index: the whole tiles of the loop (1024 rows, 1024 keys), the
   diagonal tile of the upper rows (512 rows, 512 keys) and the one of the lower rows (512 rows, 1024 keys). -/
module

public import proofs.«01_k».proof.Proof.Gen.DiffIdeal.Value
public import proofs.«01_k».proof.Proof.DiffMath

@[expose] public section

noncomputable section

namespace Cert.DiffProof

open Cert.DiffIdeal Cert.DiffIdeal.Gen Cert.DiffIdeal.Value Idealize.ShloMosaic Idealize.ShloMosaic.TcCoe Idealize.SL.Sem

/-! ## A whole tile -/

/-- The scores of row `r`. -/
def scT (kt : Vec Ideal S1024x128 .bf16) (qt : Vec Ideal S1x1024x128 .bf16) (r : Fin 1024) (x : Fin 1024) : EReal :=
  ∑ d : Fin 128, qt (ix3 0 r d) * kt (ix2 x d)

/-- The tile's three stores. -/
def tm (kt : Vec Ideal S1024x128 .bf16) (qt : Vec Ideal S1x1024x128 .bf16) (mt : Vec Ideal S1x1024x128 .f32) : FVec Ideal S1x1024x128 .f32 :=
  k0_pay25 (k0_pay14 kt qt mt)
def tl (kt : Vec Ideal S1024x128 .bf16) (qt : Vec Ideal S1x1024x128 .bf16) (mt lt : Vec Ideal S1x1024x128 .f32) : FVec Ideal S1x1024x128 .f32 :=
  k0_pay24 (k0_pay12 kt qt) (k0_pay14 kt qt mt) (k0_pay15 kt qt mt) (k0_pay16 kt qt mt) (k0_pay17 kt qt mt) (k0_pay18 kt qt mt)
    (k0_pay19 kt qt mt) (k0_pay20 kt qt mt) (k0_pay21 kt qt mt) (k0_pay22 kt qt mt) lt
def ta (kt vt : Vec Ideal S1024x128 .bf16) (qt : Vec Ideal S1x1024x128 .bf16) (mt at' : Vec Ideal S1x1024x128 .f32) : FVec Ideal S1x1024x128 .f32 :=
  k0_pay26 (k0_pay3 vt) (k0_pay12 kt qt) (k0_pay14 kt qt mt) (k0_pay15 kt qt mt) (k0_pay16 kt qt mt) (k0_pay17 kt qt mt) (k0_pay18 kt qt mt)
    (k0_pay19 kt qt mt) (k0_pay20 kt qt mt) (k0_pay21 kt qt mt) (k0_pay22 kt qt mt) at'

section
variable (kt vt : Vec Ideal S1024x128 .bf16) (qt : Vec Ideal S1x1024x128 .bf16) (mt lt at' : Vec Ideal S1x1024x128 .f32) (r : Fin 1024) (j : Fin 128)

theorem tm_at : tm kt qt mt (ix3 0 r j) = m8 (scT kt qt r) (mt (ix3 0 r j)) := by
  unfold tm
  pointwise [k0_pay25, k0_pay14, k0_pay13, k0_pay12, k0_pay11, k0_pay10, k0_pay9, k0_pay8, k0_pay7, k0_pay6, k0_pay5, k0_pay4, k0_pay3, k0_pay2]
  rfl

theorem tl_at : tl kt qt mt lt (ix3 0 r j) = l8 (scT kt qt r) (mt (ix3 0 r j)) (lt (ix3 0 r j)) j := by
  unfold tl
  pointwise [k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2]
  rfl

theorem ta_at : ta kt vt qt mt at' (ix3 0 r j) = a8 (scT kt qt r) (fun y => mt (ix3 0 r y)) (at' (ix3 0 r j)) (fun x => vt (ix2 x j)) j := by
  unfold ta
  pointwise [k0_pay26, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2]
  rfl
end

/-! ## The diagonal tile of the upper rows -/

/-- The scores of row `r`: the mask value above the diagonal. -/
def scH (ii : BitVec 32) (kt : Vec Ideal S512x128 .bf16) (qt : Vec Ideal S1x512x128 .bf16) (r : Fin 512) (x : Fin 512) : EReal :=
  Scalar.select (IntOp.cmpi .sle (IntOp.addi (Scalar.muli ii 1024#32) (BitVec.ofNat 32 x.val))
      (IntOp.addi (Scalar.addi (Scalar.muli ii 1024#32) 0#32) (BitVec.ofNat 32 r.val)))
    (∑ d : Fin 128, qt (ix3 0 r d) * kt (ix2 x d)) (Named.named κ "mask" 4048155338#32 : Ideal .f32)

def hm (ii : BitVec 32) (kt : Vec Ideal S512x128 .bf16) (qt : Vec Ideal S1x512x128 .bf16) (mt : Vec Ideal S1x512x128 .f32) : FVec Ideal S1x512x128 .f32 :=
  k0_pay120 (k0_pay113 ii kt qt mt)
def hl (ii : BitVec 32) (kt : Vec Ideal S512x128 .bf16) (qt : Vec Ideal S1x512x128 .bf16) (mt lt : Vec Ideal S1x512x128 .f32) : FVec Ideal S1x512x128 .f32 :=
  k0_pay119 (k0_pay108 ii kt qt) (k0_pay109 ii kt qt) (k0_pay110 ii kt qt) (k0_pay111 ii kt qt) (k0_pay112 mt) (k0_pay113 ii kt qt mt) lt
def ha (ii : BitVec 32) (kt vt : Vec Ideal S512x128 .bf16) (qt : Vec Ideal S1x512x128 .bf16) (mt at' : Vec Ideal S1x512x128 .f32) : FVec Ideal S1x512x128 .f32 :=
  k0_pay121 (k0_pay106 vt) (k0_pay108 ii kt qt) (k0_pay109 ii kt qt) (k0_pay110 ii kt qt) (k0_pay111 ii kt qt) (k0_pay112 mt) (k0_pay113 ii kt qt mt) at'

section
variable (ii : BitVec 32) (kt vt : Vec Ideal S512x128 .bf16) (qt : Vec Ideal S1x512x128 .bf16) (mt lt at' : Vec Ideal S1x512x128 .f32) (r : Fin 512) (j : Fin 128)

theorem hm_at : hm ii kt qt mt (ix3 0 r j) = m4 (scH ii kt qt r) (mt (ix3 0 r j)) := by
  unfold hm
  pointwise [k0_pay120, k0_pay113, k0_pay112, k0_pay111, k0_pay110, k0_pay109, k0_pay108, k0_pay107, k0_pay106, k0_pay105]
  rfl

theorem hl_at : hl ii kt qt mt lt (ix3 0 r j) = l4 (scH ii kt qt r) (mt (ix3 0 r j)) (lt (ix3 0 r j)) j := by
  unfold hl
  pointwise [k0_pay119, k0_pay118, k0_pay117, k0_pay116, k0_pay115, k0_pay114, k0_pay113, k0_pay112, k0_pay111, k0_pay110, k0_pay109, k0_pay108, k0_pay107, k0_pay106, k0_pay105]
  rfl

theorem ha_at : ha ii kt vt qt mt at' (ix3 0 r j) = a4 (scH ii kt qt r) (fun y => mt (ix3 0 r y)) (at' (ix3 0 r j)) (fun x => vt (ix2 x j)) j := by
  unfold ha
  pointwise [k0_pay121, k0_pay118, k0_pay117, k0_pay116, k0_pay115, k0_pay114, k0_pay113, k0_pay112, k0_pay111, k0_pay110, k0_pay109, k0_pay108, k0_pay107, k0_pay106, k0_pay105]
  rfl
end

/-! ## The diagonal tile of the lower rows -/

def scG (ii : BitVec 32) (kt : Vec Ideal S1024x128 .bf16) (qt : Vec Ideal S1x512x128 .bf16) (r : Fin 512) (x : Fin 1024) : EReal :=
  Scalar.select (IntOp.cmpi .sle (IntOp.addi (Scalar.muli ii 1024#32) (BitVec.ofNat 32 x.val))
      (IntOp.addi (Scalar.addi (Scalar.muli ii 1024#32) 512#32) (BitVec.ofNat 32 r.val)))
    (∑ d : Fin 128, qt (ix3 0 r d) * kt (ix2 x d)) (Named.named κ "mask" 4048155338#32 : Ideal .f32)

abbrev gw (ii : BitVec 32) : BitVec 32 := Scalar.muli ii 1024#32

def gm (ii : BitVec 32) (kt : Vec Ideal S1024x128 .bf16) (qt : Vec Ideal S1x512x128 .bf16) (mt : Vec Ideal S1x512x128 .f32) : FVec Ideal S1x512x128 .f32 :=
  k0_pay162 (k0_pay151 (k0_pay143 ii (gw ii) kt qt) (k0_pay144 ii (gw ii) kt qt) (k0_pay145 ii (gw ii) kt qt) (k0_pay146 ii (gw ii) kt qt)
    (k0_pay147 ii (gw ii) kt qt) (k0_pay148 ii (gw ii) kt qt) (k0_pay149 ii (gw ii) kt qt) mt)
def gl (ii : BitVec 32) (kt : Vec Ideal S1024x128 .bf16) (qt : Vec Ideal S1x512x128 .bf16) (mt lt : Vec Ideal S1x512x128 .f32) : FVec Ideal S1x512x128 .f32 :=
  k0_pay161 (k0_pay141 ii (gw ii) kt qt) (k0_pay142 ii (gw ii) kt qt) (k0_pay143 ii (gw ii) kt qt) (k0_pay144 ii (gw ii) kt qt)
    (k0_pay145 ii (gw ii) kt qt) (k0_pay146 ii (gw ii) kt qt)
    (k0_pay147 ii (gw ii) kt qt) (k0_pay148 ii (gw ii) kt qt) (k0_pay149 ii (gw ii) kt qt) mt lt
def ga (ii : BitVec 32) (kt vt : Vec Ideal S1024x128 .bf16) (qt : Vec Ideal S1x512x128 .bf16) (mt at' : Vec Ideal S1x512x128 .f32) : FVec Ideal S1x512x128 .f32 :=
  let s1 := k0_pay141 ii (gw ii) kt qt
  let s2 := k0_pay142 ii (gw ii) kt qt
  let s3 := k0_pay143 ii (gw ii) kt qt
  let s4 := k0_pay144 ii (gw ii) kt qt
  let s5 := k0_pay145 ii (gw ii) kt qt
  let s6 := k0_pay146 ii (gw ii) kt qt
  let s7 := k0_pay147 ii (gw ii) kt qt
  let s8 := k0_pay148 ii (gw ii) kt qt
  let s9 := k0_pay149 ii (gw ii) kt qt
  k0_pay163 (k0_pay139 vt) (k0_pay152 s3 s4 s5 s6 s7 s8 s9 mt) (k0_pay153 s1 s3 s4 s5 s6 s7 s8 s9 mt) (k0_pay154 s2 s3 s4 s5 s6 s7 s8 s9 mt)
    (k0_pay155 s3 s4 s5 s6 s7 s8 s9 mt) (k0_pay156 s3 s4 s5 s6 s7 s8 s9 mt) (k0_pay157 s3 s4 s5 s6 s7 s8 s9 mt)
    (k0_pay158 s3 s4 s5 s6 s7 s8 s9 mt) (k0_pay159 s3 s4 s5 s6 s7 s8 s9 mt) (k0_pay160 s3 s4 s5 s6 s7 s8 s9 mt) at'

section
variable (ii : BitVec 32) (kt vt : Vec Ideal S1024x128 .bf16) (qt : Vec Ideal S1x512x128 .bf16) (mt lt at' : Vec Ideal S1x512x128 .f32) (r : Fin 512) (j : Fin 128)

theorem gm_at : gm ii kt qt mt (ix3 0 r j) = m8 (scG ii kt qt r) (mt (ix3 0 r j)) := by
  unfold gm
  pointwise [k0_pay162, k0_pay151, k0_pay150, k0_pay149, k0_pay148, k0_pay147, k0_pay146, k0_pay145, k0_pay144, k0_pay143, k0_pay142, k0_pay141, k0_pay140, k0_pay139, k0_pay138]
  rfl

theorem gl_at : gl ii kt qt mt lt (ix3 0 r j) = l8 (scG ii kt qt r) (mt (ix3 0 r j)) (lt (ix3 0 r j)) j := by
  unfold gl
  pointwise [k0_pay161, k0_pay160, k0_pay159, k0_pay158, k0_pay157, k0_pay156, k0_pay155, k0_pay154, k0_pay153, k0_pay152, k0_pay151, k0_pay150, k0_pay149, k0_pay148, k0_pay147, k0_pay146, k0_pay145, k0_pay144, k0_pay143, k0_pay142, k0_pay141, k0_pay140, k0_pay139, k0_pay138]
  rfl

theorem ga_at : ga ii kt vt qt mt at' (ix3 0 r j) = a8 (scG ii kt qt r) (fun y => mt (ix3 0 r y)) (at' (ix3 0 r j)) (fun x => vt (ix2 x j)) j := by
  unfold ga
  pointwise [k0_pay163, k0_pay160, k0_pay159, k0_pay158, k0_pay157, k0_pay156, k0_pay155, k0_pay154, k0_pay153, k0_pay152, k0_pay151, k0_pay150, k0_pay149, k0_pay148, k0_pay147, k0_pay146, k0_pay145, k0_pay144, k0_pay143, k0_pay142, k0_pay141, k0_pay140, k0_pay139, k0_pay138]
  rfl
end

end Cert.DiffProof
-- ==== Proof.DiffTrip.lean ====
/- One trip of the attention kernel's loop over whole tiles of keys, read at an index: each of the two components' running
   blocks goes through one tile (`m8`, `l8`, `a8`), the loads being the blocks found and 1024 rows of the keys and values. -/
module

public import proofs.«01_k».proof.Proof.DiffTile

@[expose] public section

noncomputable section

namespace Cert.DiffProof

open Cert.DiffIdeal Cert.DiffIdeal.Gen Cert.DiffIdeal.Value Idealize.ShloMosaic Idealize.ShloMosaic.TcCoe Idealize.SL.Sem

/-- Row `n` of the keys or values at column `d`. -/
def at2 (y : Vec Ideal S16384x128 .bf16) (n : ℕ) (d : Fin 128) : EReal := if h : n < 16384 then y (ix2 ⟨n, h⟩ d) else 0

/-- The scores of row `r` of component `c` against the tile of keys from `n` on. -/
def scL (q : Vec Ideal S2x1024x128 .bf16) (y : Vec Ideal S16384x128 .bf16) (n : ℕ) (c : Fin 2) (r : Fin 1024) (x : ℕ) : EReal :=
  ∑ d : Fin 128, q (ix3 c r d) * at2 y (n + x) d

/-- A load of rows `n …` of the keys at a row. -/
theorem ld2_at (y : Vec Ideal S16384x128 .bf16) (N n : ℕ) (off : Fin 2 → ℕ) (hoff : off = ![n, 0])
    (inb : ∀ a, off a + (⟨2, ![N, 128]⟩ : Shape).size a ≤ S16384x128.size a) (x : Fin N) (d : Fin 128) :
    View.ld (Val := Elt Ideal) (e' := .bf16) y (Rect.unit (s := S16384x128) off (⟨2, ![N, 128]⟩ : Shape).size inb) (ix2 x d) = at2 y (n + x.val) d := by
  subst hoff
  have h0 : n + N ≤ 16384 := inb 0
  unfold at2
  rw [dif_pos (by have := x.isLt; omega)]
  refine congrArg y ?_
  funext a
  fin_cases a
  · exact Fin.ext (show n + 1 * x.val = n + x.val by omega)
  · exact Fin.ext (show 0 + 1 * d.val = d.val by omega)

/-- The place of element `(r, j)` of a block of one component's rows from `o` on. -/
theorem emb3 (cv o n : ℕ) (inb : ∀ a, (![cv, o, 0] : Fin 3 → ℕ) a + (![1, n, 128] : Fin 3 → ℕ) a ≤ S2x1024x128.size a)
    (c : Fin 2) (hc : c.val = cv) (r : Fin n) (R : Fin 1024) (hR : R.val = o + r.val) (j : Fin 128) :
    (Rect.unit (s := S2x1024x128) ![cv, o, 0] ![1, n, 128] inb).emb (ix3 (0 : Fin 1) r j) = ix3 c R j := by
  funext a
  fin_cases a
  · exact Fin.ext (show cv + 1 * 0 = c.val by omega)
  · exact Fin.ext (show o + 1 * r.val = R.val by omega)
  · exact Fin.ext (show 0 + 1 * j.val = j.val by omega)

theorem ld3_at {e : EltTy} (y : Vec Ideal S2x1024x128 e) (cv o n : ℕ)
    (inb : ∀ a, (![cv, o, 0] : Fin 3 → ℕ) a + (![1, n, 128] : Fin 3 → ℕ) a ≤ S2x1024x128.size a)
    (c : Fin 2) (hc : c.val = cv) (r : Fin n) (R : Fin 1024) (hR : R.val = o + r.val) (j : Fin 128) :
    View.ld (Val := Elt Ideal) (e' := e) y (Rect.unit (s := S2x1024x128) ![cv, o, 0] ![1, n, 128] inb) (ix3 (0 : Fin 1) r j) = y (ix3 c R j) :=
  congrArg y (emb3 cv o n inb c hc r R hR j)

section
variable {e : EltTy} (cv o n : ℕ) (inb : ∀ a, (![cv, o, 0] : Fin 3 → ℕ) a + (![1, n, 128] : Fin 3 → ℕ) a ≤ S2x1024x128.size a)
  (w : (Rect.unit (s := S2x1024x128) ![cv, o, 0] ![1, n, 128] inb).shape.Idx → Elt Ideal e) (L : List (View.Piece (Elt Ideal) S2x1024x128 e))

/-- A store under which the index lies, and one it lies off, by component or by row. -/
theorem canon_hit (c : Fin 2) (hc : c.val = cv) (r : Fin n) (R : Fin 1024) (hR : R.val = o + r.val) (j : Fin 128) :
    View.canon (⟨Rect.unit ![cv, o, 0] ![1, n, 128] inb, w⟩ :: L) (ix3 c R j) = w (ix3 (0 : Fin 1) r j) := by
  rw [← emb3 cv o n inb c hc r R hR j]
  exact View.canon_cons_emb _ w L _

theorem canon_miss (c : Fin 2) (R : Fin 1024) (j : Fin 128) (h : c.val ≠ cv ∨ R.val < o ∨ o + n ≤ R.val) :
    View.canon (⟨Rect.unit ![cv, o, 0] ![1, n, 128] inb, w⟩ :: L) (ix3 c R j) = View.canon L (ix3 c R j) := by
  refine View.canon_cons_of_not_mem _ _ ?_
  rcases h with h | h
  · exact (Rect.unit (s := S2x1024x128) ![cv, o, 0] ![1, n, 128] inb).not_mem_set_of_axis _ 0 cv 1 rfl rfl rfl (show c.val < cv ∨ cv + 1 ≤ c.val by omega)
  · exact (Rect.unit (s := S2x1024x128) ![cv, o, 0] ![1, n, 128] inb).not_mem_set_of_axis _ 1 o n rfl rfl rfl h
end

section
variable (𝒱 : Variants) (c : Dev nD) (bd : Option 𝒱.V) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1024x128 .bf16) (harg8 : arg8.IsWhole) (arg9 : Memref sig .tc .vmem S2x1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole)
  (arg2 : BitVec 32) (X4 : BufTy.Contents (Elt Ideal) arg4.view.ty) (X5 : BufTy.Contents (Elt Ideal) arg5.view.ty) (X9 : BufTy.Contents (Elt Ideal) arg9.view.ty) (k : Fin (k0_t1_loop i).trips) (f10 : BufTy.Contents (Elt Ideal) arg10.view.ty) (f11 : BufTy.Contents (Elt Ideal) arg11.view.ty) (f12 : BufTy.Contents (Elt Ideal) arg12.view.ty)

/-- The loads of a trip. -/
abbrev kL : Vec Ideal S1024x128 .bf16 := View.ld (arg4.view.read (Elt Ideal) X4) (Rect.unit (k0_off1 i k) S1024x128.size (k0_off1_inb i k))
abbrev vL : Vec Ideal S1024x128 .bf16 := View.ld (arg5.view.read (Elt Ideal) X5) (Rect.unit (k0_off1 i k) S1024x128.size (k0_off1_inb i k))
abbrev qL0 : Vec Ideal S1x1024x128 .bf16 := View.ld (arg9.view.read (Elt Ideal) X9) (Rect.unit ![0, 0, 0] ![1, 1024, 128] inb_S2x1024x128_S1x1024x128_0_0_0)
abbrev qL1 : Vec Ideal S1x1024x128 .bf16 := View.ld (arg9.view.read (Elt Ideal) X9) (Rect.unit ![1, 0, 0] ![1, 1024, 128] inb_S2x1024x128_S1x1024x128_1_0_0)
abbrev sL0 (m : Memref sig .tc .vmem S2x1024x128 .f32) (f : BufTy.Contents (Elt Ideal) m.view.ty) : Vec Ideal S1x1024x128 .f32 :=
  View.ld (m.view.read (Elt Ideal) f) (Rect.unit ![0, 0, 0] ![1, 1024, 128] inb_S2x1024x128_S1x1024x128_0_0_0)
abbrev sL1 (m : Memref sig .tc .vmem S2x1024x128 .f32) (f : BufTy.Contents (Elt Ideal) m.view.ty) : Vec Ideal S1x1024x128 .f32 :=
  View.ld (m.view.read (Elt Ideal) f) (Rect.unit ![1, 0, 0] ![1, 1024, 128] inb_S2x1024x128_S1x1024x128_1_0_0)

/-- A trip's six stores. -/
theorem trip_pieces :
    tripL_k0_t1 (F := Ideal) 𝒱 c bd i arg3 harg3 arg4 harg4 arg5 harg5 arg6 harg6 arg7 harg7 arg8 harg8 arg9 harg9 arg10 harg10 arg11 harg11 arg12 harg12 arg2 X4 X5 X9 k f10 f11 f12
      = ([⟨Rect.unit ![1, 0, 0] ![1, 1024, 128] inb_S2x1024x128_S1x1024x128_1_0_0, tm (kL i arg4 X4 k) (qL1 arg9 X9) (sL1 arg10 f10)⟩,
          ⟨Rect.unit ![0, 0, 0] ![1, 1024, 128] inb_S2x1024x128_S1x1024x128_0_0_0, tm (kL i arg4 X4 k) (qL0 arg9 X9) (sL0 arg10 f10)⟩],
         [⟨Rect.unit ![1, 0, 0] ![1, 1024, 128] inb_S2x1024x128_S1x1024x128_1_0_0, tl (kL i arg4 X4 k) (qL1 arg9 X9) (sL1 arg10 f10) (sL1 arg11 f11)⟩,
          ⟨Rect.unit ![0, 0, 0] ![1, 1024, 128] inb_S2x1024x128_S1x1024x128_0_0_0, tl (kL i arg4 X4 k) (qL0 arg9 X9) (sL0 arg10 f10) (sL0 arg11 f11)⟩],
         [⟨Rect.unit ![1, 0, 0] ![1, 1024, 128] inb_S2x1024x128_S1x1024x128_1_0_0, ta (kL i arg4 X4 k) (vL i arg5 X5 k) (qL1 arg9 X9) (sL1 arg10 f10) (sL1 arg12 f12)⟩,
          ⟨Rect.unit ![0, 0, 0] ![1, 1024, 128] inb_S2x1024x128_S1x1024x128_0_0_0, ta (kL i arg4 X4 k) (vL i arg5 X5 k) (qL0 arg9 X9) (sL0 arg10 f10) (sL0 arg12 f12)⟩]) := by
  unfold tripL_k0_t1 trip_k0_t1
  rfl

theorem kL_at (x : Fin 1024) (d : Fin 128) : kL i arg4 X4 k (ix2 x d) = at2 (arg4.view.read (Elt Ideal) X4) (1024 * k.val + x.val) d :=
  ld2_at _ 1024 _ _ (k0_off1_eq i k) _ x d
theorem vL_at (x : Fin 1024) (d : Fin 128) : vL i arg5 X5 k (ix2 x d) = at2 (arg5.view.read (Elt Ideal) X5) (1024 * k.val + x.val) d :=
  ld2_at _ 1024 _ _ (k0_off1_eq i k) _ x d
theorem qL0_at (r : Fin 1024) (d : Fin 128) : qL0 arg9 X9 (ix3 0 r d) = arg9.view.read (Elt Ideal) X9 (ix3 0 r d) :=
  ld3_at _ 0 0 1024 _ 0 rfl r r (Nat.zero_add _).symm d
theorem qL1_at (r : Fin 1024) (d : Fin 128) : qL1 arg9 X9 (ix3 0 r d) = arg9.view.read (Elt Ideal) X9 (ix3 1 r d) :=
  ld3_at _ 1 0 1024 _ 1 rfl r r (Nat.zero_add _).symm d
theorem sL0_at (r : Fin 1024) (d : Fin 128) : sL0 arg10 f10 (ix3 0 r d) = arg10.view.read (Elt Ideal) f10 (ix3 0 r d) :=
  ld3_at _ 0 0 1024 _ 0 rfl r r (Nat.zero_add _).symm d
theorem sL1_at (r : Fin 1024) (d : Fin 128) : sL1 arg10 f10 (ix3 0 r d) = arg10.view.read (Elt Ideal) f10 (ix3 1 r d) :=
  ld3_at _ 1 0 1024 _ 1 rfl r r (Nat.zero_add _).symm d

theorem scT0 (r : Fin 1024) : scT (kL i arg4 X4 k) (qL0 arg9 X9) r
    = fun x => scL (arg9.view.read (Elt Ideal) X9) (arg4.view.read (Elt Ideal) X4) (1024 * k.val) 0 r x.val := by
  funext x
  unfold scT scL
  exact Finset.sum_congr rfl fun d _ => by rw [qL0_at, kL_at]
theorem scT1 (r : Fin 1024) : scT (kL i arg4 X4 k) (qL1 arg9 X9) r
    = fun x => scL (arg9.view.read (Elt Ideal) X9) (arg4.view.read (Elt Ideal) X4) (1024 * k.val) 1 r x.val := by
  funext x
  unfold scT scL
  exact Finset.sum_congr rfl fun d _ => by rw [qL1_at, kL_at]

/-- The three running blocks after a trip over junk-based contents: one tile further. -/
theorem trip_m (L10 : List (View.Piece (Elt Ideal) S2x1024x128 .f32)) (cc : Fin 2) (r : Fin 1024) (j : Fin 128) :
    View.canon ((tripL_k0_t1 (F := Ideal) 𝒱 c bd i arg3 harg3 arg4 harg4 arg5 harg5 arg6 harg6 arg7 harg7 arg8 harg8 arg9 harg9 arg10 harg10 arg11 harg11 arg12 harg12 arg2 X4 X5 X9 k f10 f11 f12).1 ++ L10) (ix3 cc r j)
      = m8 (fun x => scL (arg9.view.read (Elt Ideal) X9) (arg4.view.read (Elt Ideal) X4) (1024 * k.val) cc r x.val) (arg10.view.read (Elt Ideal) f10 (ix3 cc r j)) := by
  rw [trip_pieces]
  fin_cases cc
  · exact (canon_miss _ _ _ _ _ _ 0 r j (.inl (by decide))).trans ((canon_hit _ _ _ _ _ _ 0 rfl r r (Nat.zero_add _).symm j).trans (by
      rw [tm_at, scT0, sL0_at]; rfl))
  · exact (canon_hit _ _ _ _ _ _ 1 rfl r r (Nat.zero_add _).symm j).trans (by rw [tm_at, scT1, sL1_at]; rfl)

theorem trip_l (L11 : List (View.Piece (Elt Ideal) S2x1024x128 .f32)) (cc : Fin 2) (r : Fin 1024) (j : Fin 128) :
    View.canon ((tripL_k0_t1 (F := Ideal) 𝒱 c bd i arg3 harg3 arg4 harg4 arg5 harg5 arg6 harg6 arg7 harg7 arg8 harg8 arg9 harg9 arg10 harg10 arg11 harg11 arg12 harg12 arg2 X4 X5 X9 k f10 f11 f12).2.1 ++ L11) (ix3 cc r j)
      = l8 (fun x => scL (arg9.view.read (Elt Ideal) X9) (arg4.view.read (Elt Ideal) X4) (1024 * k.val) cc r x.val) (arg10.view.read (Elt Ideal) f10 (ix3 cc r j))
          (arg11.view.read (Elt Ideal) f11 (ix3 cc r j)) j := by
  rw [trip_pieces]
  fin_cases cc
  · exact (canon_miss _ _ _ _ _ _ 0 r j (.inl (by decide))).trans ((canon_hit _ _ _ _ _ _ 0 rfl r r (Nat.zero_add _).symm j).trans (by
      rw [tl_at, scT0, sL0_at, sL0_at]; rfl))
  · exact (canon_hit _ _ _ _ _ _ 1 rfl r r (Nat.zero_add _).symm j).trans (by rw [tl_at, scT1, sL1_at, sL1_at]; rfl)

theorem trip_a (L12 : List (View.Piece (Elt Ideal) S2x1024x128 .f32)) (cc : Fin 2) (r : Fin 1024) (j : Fin 128) :
    View.canon ((tripL_k0_t1 (F := Ideal) 𝒱 c bd i arg3 harg3 arg4 harg4 arg5 harg5 arg6 harg6 arg7 harg7 arg8 harg8 arg9 harg9 arg10 harg10 arg11 harg11 arg12 harg12 arg2 X4 X5 X9 k f10 f11 f12).2.2 ++ L12) (ix3 cc r j)
      = a8 (fun x => scL (arg9.view.read (Elt Ideal) X9) (arg4.view.read (Elt Ideal) X4) (1024 * k.val) cc r x.val) (fun y => arg10.view.read (Elt Ideal) f10 (ix3 cc r y))
          (arg12.view.read (Elt Ideal) f12 (ix3 cc r j)) (fun x => at2 (arg5.view.read (Elt Ideal) X5) (1024 * k.val + x.val) j) j := by
  rw [trip_pieces]
  fin_cases cc
  · exact (canon_miss _ _ _ _ _ _ 0 r j (.inl (by decide))).trans ((canon_hit _ _ _ _ _ _ 0 rfl r r (Nat.zero_add _).symm j).trans (by
      rw [ta_at, scT0, sL0_at]; simp only [sL0_at, vL_at]; rfl))
  · exact (canon_hit _ _ _ _ _ _ 1 rfl r r (Nat.zero_add _).symm j).trans (by rw [ta_at, scT1, sL1_at]; simp only [sL1_at, vL_at]; rfl)
end

end Cert.DiffProof
-- ==== Proof.DiffRun.lean ====
/- The attention kernel's run at a grid point: its stores to the running blocks, as lists of whole pieces. -/
module

public import proofs.«01_k».proof.Proof.DiffTrip

@[expose] public section

noncomputable section

namespace Cert.DiffProof

open Cert.DiffIdeal Cert.DiffIdeal.Gen Cert.DiffIdeal.Value Idealize.ShloMosaic Idealize.ShloMosaic.TcCoe Idealize.SL.Sem

theorem trips_eq (i : grid0.Coords) : (k0_t1_loop i).trips = (i 2).val := by
  revert i; decide +kernel

section
variable (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1024x128 .bf16) (harg8 : arg8.IsWhole) (arg9 : Memref sig .tc .vmem S2x1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole)
  (x0 : Vec Ideal S1024x128 .bf16) (x1 x2 : Vec Ideal S16384x128 .bf16)

/-- The stores of the first `k` trips of the loop over whole tiles. -/
def P (k : ℕ) : List (View.Piece (Elt Ideal) S2x1024x128 .f32) × List (View.Piece (Elt Ideal) S2x1024x128 .f32) × List (View.Piece (Elt Ideal) S2x1024x128 .f32) :=
  (pb_k0_t1 (F := Ideal) Variants.none c none i arg3 harg3 arg4 harg4 arg5 harg5 arg6 harg6 arg7 harg7 arg8 harg8 arg9 harg9 arg10 harg10 arg11 harg11 arg12 harg12 (BitVec.ofNat 32 (i 2)) (harg4.unread x1) (harg5.unread x2) (arg9.view.writes (Elt Ideal) arg9.view.junk (kernelRun0_A.sl.HS0_2 (F := Ideal) c arg3 harg3 x0)) (arg10.view.writes (Elt Ideal) arg10.view.junk kernelRun0_A.sl.HS1_1) (arg11.view.writes (Elt Ideal) arg11.view.junk kernelRun0_A.sl.HS2_1) (arg12.view.writes (Elt Ideal) arg12.view.junk kernelRun0_A.sl.HS3_1)  k)

/-- The masked queries, and the running blocks' stores before the diagonal tiles. -/
def LQ : List (View.Piece (Elt Ideal) S2x1024x128 .bf16) := kernelRun0_A.sl.HS0_2 (F := Ideal) c arg3 harg3 x0
def Lm : List (View.Piece (Elt Ideal) S2x1024x128 .f32) := (P c i arg3 harg3 arg4 harg4 arg5 harg5 arg6 harg6 arg7 harg7 arg8 harg8 arg9 harg9 arg10 harg10 arg11 harg11 arg12 harg12 x0 x1 x2 (i 2).val).1 ++ kernelRun0_A.sl.HS1_1
def Ll : List (View.Piece (Elt Ideal) S2x1024x128 .f32) := (P c i arg3 harg3 arg4 harg4 arg5 harg5 arg6 harg6 arg7 harg7 arg8 harg8 arg9 harg9 arg10 harg10 arg11 harg11 arg12 harg12 x0 x1 x2 (i 2).val).2.1 ++ kernelRun0_A.sl.HS2_1
def La : List (View.Piece (Elt Ideal) S2x1024x128 .f32) := (P c i arg3 harg3 arg4 harg4 arg5 harg5 arg6 harg6 arg7 harg7 arg8 harg8 arg9 harg9 arg10 harg10 arg11 harg11 arg12 harg12 x0 x1 x2 (i 2).val).2.2 ++ kernelRun0_A.sl.HS3_1

abbrev w3 : BitVec 32 := BitVec.ofNat 32 (i 2).val
abbrev kH : Vec Ideal S512x128 .bf16 := View.readAt (Elt Ideal) arg4.view (Rect.unit (s := S16384x128) (k0_off3 i) S512x128.size (k0_off3_inb i)).toLoadRect (harg4.unread x1)
abbrev vH : Vec Ideal S512x128 .bf16 := View.readAt (Elt Ideal) arg5.view (Rect.unit (s := S16384x128) (k0_off3 i) S512x128.size (k0_off3_inb i)).toLoadRect (harg5.unread x2)
abbrev kG : Vec Ideal S1024x128 .bf16 := View.readAt (Elt Ideal) arg4.view (Rect.unit (s := S16384x128) (k0_off4 i) S1024x128.size (k0_off4_inb i)).toLoadRect (harg4.unread x1)
abbrev vG : Vec Ideal S1024x128 .bf16 := View.readAt (Elt Ideal) arg5.view (Rect.unit (s := S16384x128) (k0_off4 i) S1024x128.size (k0_off4_inb i)).toLoadRect (harg5.unread x2)

abbrev qq1 : Vec Ideal S1x512x128 .bf16 := arg9.view.readCov (LQ c arg3 harg3 x0) (Rect.unit (s := S2x1024x128) ![0, 0, 0] S1x512x128.size inb_S2x1024x128_S1x512x128_0_0_0).toLoadRect
abbrev m1 : Vec Ideal S1x512x128 .f32 := arg10.view.readCov (Lm c i arg3 harg3 arg4 harg4 arg5 harg5 arg6 harg6 arg7 harg7 arg8 harg8 arg9 harg9 arg10 harg10 arg11 harg11 arg12 harg12 x0 x1 x2) (Rect.unit (s := S2x1024x128) ![0, 0, 0] S1x512x128.size inb_S2x1024x128_S1x512x128_0_0_0).toLoadRect
abbrev l1 : Vec Ideal S1x512x128 .f32 := arg11.view.readCov (Ll c i arg3 harg3 arg4 harg4 arg5 harg5 arg6 harg6 arg7 harg7 arg8 harg8 arg9 harg9 arg10 harg10 arg11 harg11 arg12 harg12 x0 x1 x2) (Rect.unit (s := S2x1024x128) ![0, 0, 0] S1x512x128.size inb_S2x1024x128_S1x512x128_0_0_0).toLoadRect
abbrev a1 : Vec Ideal S1x512x128 .f32 := arg12.view.readCov (La c i arg3 harg3 arg4 harg4 arg5 harg5 arg6 harg6 arg7 harg7 arg8 harg8 arg9 harg9 arg10 harg10 arg11 harg11 arg12 harg12 x0 x1 x2) (Rect.unit (s := S2x1024x128) ![0, 0, 0] S1x512x128.size inb_S2x1024x128_S1x512x128_0_0_0).toLoadRect
def Lm1 : List (View.Piece (Elt Ideal) S2x1024x128 .f32) := ⟨(Rect.unit (s := S2x1024x128) ![0, 0, 0] S1x512x128.size inb_S2x1024x128_S1x512x128_0_0_0), hm (w3 i) (kH i arg4 harg4 x1) (qq1 c arg3 harg3 arg9 x0) (m1 c i arg3 harg3 arg4 harg4 arg5 harg5 arg6 harg6 arg7 harg7 arg8 harg8 arg9 harg9 arg10 harg10 arg11 harg11 arg12 harg12 x0 x1 x2)⟩ :: Lm c i arg3 harg3 arg4 harg4 arg5 harg5 arg6 harg6 arg7 harg7 arg8 harg8 arg9 harg9 arg10 harg10 arg11 harg11 arg12 harg12 x0 x1 x2
def Ll1 : List (View.Piece (Elt Ideal) S2x1024x128 .f32) := ⟨(Rect.unit (s := S2x1024x128) ![0, 0, 0] S1x512x128.size inb_S2x1024x128_S1x512x128_0_0_0), hl (w3 i) (kH i arg4 harg4 x1) (qq1 c arg3 harg3 arg9 x0) (m1 c i arg3 harg3 arg4 harg4 arg5 harg5 arg6 harg6 arg7 harg7 arg8 harg8 arg9 harg9 arg10 harg10 arg11 harg11 arg12 harg12 x0 x1 x2) (l1 c i arg3 harg3 arg4 harg4 arg5 harg5 arg6 harg6 arg7 harg7 arg8 harg8 arg9 harg9 arg10 harg10 arg11 harg11 arg12 harg12 x0 x1 x2)⟩ :: Ll c i arg3 harg3 arg4 harg4 arg5 harg5 arg6 harg6 arg7 harg7 arg8 harg8 arg9 harg9 arg10 harg10 arg11 harg11 arg12 harg12 x0 x1 x2
def La1 : List (View.Piece (Elt Ideal) S2x1024x128 .f32) := ⟨(Rect.unit (s := S2x1024x128) ![0, 0, 0] S1x512x128.size inb_S2x1024x128_S1x512x128_0_0_0), ha (w3 i) (kH i arg4 harg4 x1) (vH i arg5 harg5 x2) (qq1 c arg3 harg3 arg9 x0) (m1 c i arg3 harg3 arg4 harg4 arg5 harg5 arg6 harg6 arg7 harg7 arg8 harg8 arg9 harg9 arg10 harg10 arg11 harg11 arg12 harg12 x0 x1 x2) (a1 c i arg3 harg3 arg4 harg4 arg5 harg5 arg6 harg6 arg7 harg7 arg8 harg8 arg9 harg9 arg10 harg10 arg11 harg11 arg12 harg12 x0 x1 x2)⟩ :: La c i arg3 harg3 arg4 harg4 arg5 harg5 arg6 harg6 arg7 harg7 arg8 harg8 arg9 harg9 arg10 harg10 arg11 harg11 arg12 harg12 x0 x1 x2

abbrev qq2 : Vec Ideal S1x512x128 .bf16 := arg9.view.readCov (LQ c arg3 harg3 x0) (Rect.unit (s := S2x1024x128) ![1, 0, 0] S1x512x128.size inb_S2x1024x128_S1x512x128_1_0_0).toLoadRect
abbrev m2 : Vec Ideal S1x512x128 .f32 := arg10.view.readCov (Lm1 c i arg3 harg3 arg4 harg4 arg5 harg5 arg6 harg6 arg7 harg7 arg8 harg8 arg9 harg9 arg10 harg10 arg11 harg11 arg12 harg12 x0 x1 x2) (Rect.unit (s := S2x1024x128) ![1, 0, 0] S1x512x128.size inb_S2x1024x128_S1x512x128_1_0_0).toLoadRect
abbrev l2 : Vec Ideal S1x512x128 .f32 := arg11.view.readCov (Ll1 c i arg3 harg3 arg4 harg4 arg5 harg5 arg6 harg6 arg7 harg7 arg8 harg8 arg9 harg9 arg10 harg10 arg11 harg11 arg12 harg12 x0 x1 x2) (Rect.unit (s := S2x1024x128) ![1, 0, 0] S1x512x128.size inb_S2x1024x128_S1x512x128_1_0_0).toLoadRect
abbrev a2 : Vec Ideal S1x512x128 .f32 := arg12.view.readCov (La1 c i arg3 harg3 arg4 harg4 arg5 harg5 arg6 harg6 arg7 harg7 arg8 harg8 arg9 harg9 arg10 harg10 arg11 harg11 arg12 harg12 x0 x1 x2) (Rect.unit (s := S2x1024x128) ![1, 0, 0] S1x512x128.size inb_S2x1024x128_S1x512x128_1_0_0).toLoadRect
def Lm2 : List (View.Piece (Elt Ideal) S2x1024x128 .f32) := ⟨(Rect.unit (s := S2x1024x128) ![1, 0, 0] S1x512x128.size inb_S2x1024x128_S1x512x128_1_0_0), hm (w3 i) (kH i arg4 harg4 x1) (qq2 c arg3 harg3 arg9 x0) (m2 c i arg3 harg3 arg4 harg4 arg5 harg5 arg6 harg6 arg7 harg7 arg8 harg8 arg9 harg9 arg10 harg10 arg11 harg11 arg12 harg12 x0 x1 x2)⟩ :: Lm1 c i arg3 harg3 arg4 harg4 arg5 harg5 arg6 harg6 arg7 harg7 arg8 harg8 arg9 harg9 arg10 harg10 arg11 harg11 arg12 harg12 x0 x1 x2
def Ll2 : List (View.Piece (Elt Ideal) S2x1024x128 .f32) := ⟨(Rect.unit (s := S2x1024x128) ![1, 0, 0] S1x512x128.size inb_S2x1024x128_S1x512x128_1_0_0), hl (w3 i) (kH i arg4 harg4 x1) (qq2 c arg3 harg3 arg9 x0) (m2 c i arg3 harg3 arg4 harg4 arg5 harg5 arg6 harg6 arg7 harg7 arg8 harg8 arg9 harg9 arg10 harg10 arg11 harg11 arg12 harg12 x0 x1 x2) (l2 c i arg3 harg3 arg4 harg4 arg5 harg5 arg6 harg6 arg7 harg7 arg8 harg8 arg9 harg9 arg10 harg10 arg11 harg11 arg12 harg12 x0 x1 x2)⟩ :: Ll1 c i arg3 harg3 arg4 harg4 arg5 harg5 arg6 harg6 arg7 harg7 arg8 harg8 arg9 harg9 arg10 harg10 arg11 harg11 arg12 harg12 x0 x1 x2
def La2 : List (View.Piece (Elt Ideal) S2x1024x128 .f32) := ⟨(Rect.unit (s := S2x1024x128) ![1, 0, 0] S1x512x128.size inb_S2x1024x128_S1x512x128_1_0_0), ha (w3 i) (kH i arg4 harg4 x1) (vH i arg5 harg5 x2) (qq2 c arg3 harg3 arg9 x0) (m2 c i arg3 harg3 arg4 harg4 arg5 harg5 arg6 harg6 arg7 harg7 arg8 harg8 arg9 harg9 arg10 harg10 arg11 harg11 arg12 harg12 x0 x1 x2) (a2 c i arg3 harg3 arg4 harg4 arg5 harg5 arg6 harg6 arg7 harg7 arg8 harg8 arg9 harg9 arg10 harg10 arg11 harg11 arg12 harg12 x0 x1 x2)⟩ :: La1 c i arg3 harg3 arg4 harg4 arg5 harg5 arg6 harg6 arg7 harg7 arg8 harg8 arg9 harg9 arg10 harg10 arg11 harg11 arg12 harg12 x0 x1 x2

abbrev qq3 : Vec Ideal S1x512x128 .bf16 := arg9.view.readCov (LQ c arg3 harg3 x0) (Rect.unit (s := S2x1024x128) ![0, 512, 0] S1x512x128.size inb_S2x1024x128_S1x512x128_0_512_0).toLoadRect
abbrev m3 : Vec Ideal S1x512x128 .f32 := arg10.view.readCov (Lm2 c i arg3 harg3 arg4 harg4 arg5 harg5 arg6 harg6 arg7 harg7 arg8 harg8 arg9 harg9 arg10 harg10 arg11 harg11 arg12 harg12 x0 x1 x2) (Rect.unit (s := S2x1024x128) ![0, 512, 0] S1x512x128.size inb_S2x1024x128_S1x512x128_0_512_0).toLoadRect
abbrev l3 : Vec Ideal S1x512x128 .f32 := arg11.view.readCov (Ll2 c i arg3 harg3 arg4 harg4 arg5 harg5 arg6 harg6 arg7 harg7 arg8 harg8 arg9 harg9 arg10 harg10 arg11 harg11 arg12 harg12 x0 x1 x2) (Rect.unit (s := S2x1024x128) ![0, 512, 0] S1x512x128.size inb_S2x1024x128_S1x512x128_0_512_0).toLoadRect
abbrev a3 : Vec Ideal S1x512x128 .f32 := arg12.view.readCov (La2 c i arg3 harg3 arg4 harg4 arg5 harg5 arg6 harg6 arg7 harg7 arg8 harg8 arg9 harg9 arg10 harg10 arg11 harg11 arg12 harg12 x0 x1 x2) (Rect.unit (s := S2x1024x128) ![0, 512, 0] S1x512x128.size inb_S2x1024x128_S1x512x128_0_512_0).toLoadRect
def Lm3 : List (View.Piece (Elt Ideal) S2x1024x128 .f32) := ⟨(Rect.unit (s := S2x1024x128) ![0, 512, 0] S1x512x128.size inb_S2x1024x128_S1x512x128_0_512_0), gm (w3 i) (kG i arg4 harg4 x1) (qq3 c arg3 harg3 arg9 x0) (m3 c i arg3 harg3 arg4 harg4 arg5 harg5 arg6 harg6 arg7 harg7 arg8 harg8 arg9 harg9 arg10 harg10 arg11 harg11 arg12 harg12 x0 x1 x2)⟩ :: Lm2 c i arg3 harg3 arg4 harg4 arg5 harg5 arg6 harg6 arg7 harg7 arg8 harg8 arg9 harg9 arg10 harg10 arg11 harg11 arg12 harg12 x0 x1 x2
def Ll3 : List (View.Piece (Elt Ideal) S2x1024x128 .f32) := ⟨(Rect.unit (s := S2x1024x128) ![0, 512, 0] S1x512x128.size inb_S2x1024x128_S1x512x128_0_512_0), gl (w3 i) (kG i arg4 harg4 x1) (qq3 c arg3 harg3 arg9 x0) (m3 c i arg3 harg3 arg4 harg4 arg5 harg5 arg6 harg6 arg7 harg7 arg8 harg8 arg9 harg9 arg10 harg10 arg11 harg11 arg12 harg12 x0 x1 x2) (l3 c i arg3 harg3 arg4 harg4 arg5 harg5 arg6 harg6 arg7 harg7 arg8 harg8 arg9 harg9 arg10 harg10 arg11 harg11 arg12 harg12 x0 x1 x2)⟩ :: Ll2 c i arg3 harg3 arg4 harg4 arg5 harg5 arg6 harg6 arg7 harg7 arg8 harg8 arg9 harg9 arg10 harg10 arg11 harg11 arg12 harg12 x0 x1 x2
def La3 : List (View.Piece (Elt Ideal) S2x1024x128 .f32) := ⟨(Rect.unit (s := S2x1024x128) ![0, 512, 0] S1x512x128.size inb_S2x1024x128_S1x512x128_0_512_0), ga (w3 i) (kG i arg4 harg4 x1) (vG i arg5 harg5 x2) (qq3 c arg3 harg3 arg9 x0) (m3 c i arg3 harg3 arg4 harg4 arg5 harg5 arg6 harg6 arg7 harg7 arg8 harg8 arg9 harg9 arg10 harg10 arg11 harg11 arg12 harg12 x0 x1 x2) (a3 c i arg3 harg3 arg4 harg4 arg5 harg5 arg6 harg6 arg7 harg7 arg8 harg8 arg9 harg9 arg10 harg10 arg11 harg11 arg12 harg12 x0 x1 x2)⟩ :: La2 c i arg3 harg3 arg4 harg4 arg5 harg5 arg6 harg6 arg7 harg7 arg8 harg8 arg9 harg9 arg10 harg10 arg11 harg11 arg12 harg12 x0 x1 x2

abbrev qq4 : Vec Ideal S1x512x128 .bf16 := arg9.view.readCov (LQ c arg3 harg3 x0) (Rect.unit (s := S2x1024x128) ![1, 512, 0] S1x512x128.size inb_S2x1024x128_S1x512x128_1_512_0).toLoadRect
abbrev m4' : Vec Ideal S1x512x128 .f32 := arg10.view.readCov (Lm3 c i arg3 harg3 arg4 harg4 arg5 harg5 arg6 harg6 arg7 harg7 arg8 harg8 arg9 harg9 arg10 harg10 arg11 harg11 arg12 harg12 x0 x1 x2) (Rect.unit (s := S2x1024x128) ![1, 512, 0] S1x512x128.size inb_S2x1024x128_S1x512x128_1_512_0).toLoadRect
abbrev l4' : Vec Ideal S1x512x128 .f32 := arg11.view.readCov (Ll3 c i arg3 harg3 arg4 harg4 arg5 harg5 arg6 harg6 arg7 harg7 arg8 harg8 arg9 harg9 arg10 harg10 arg11 harg11 arg12 harg12 x0 x1 x2) (Rect.unit (s := S2x1024x128) ![1, 512, 0] S1x512x128.size inb_S2x1024x128_S1x512x128_1_512_0).toLoadRect
abbrev a4' : Vec Ideal S1x512x128 .f32 := arg12.view.readCov (La3 c i arg3 harg3 arg4 harg4 arg5 harg5 arg6 harg6 arg7 harg7 arg8 harg8 arg9 harg9 arg10 harg10 arg11 harg11 arg12 harg12 x0 x1 x2) (Rect.unit (s := S2x1024x128) ![1, 512, 0] S1x512x128.size inb_S2x1024x128_S1x512x128_1_512_0).toLoadRect
def Lm4 : List (View.Piece (Elt Ideal) S2x1024x128 .f32) := ⟨(Rect.unit (s := S2x1024x128) ![1, 512, 0] S1x512x128.size inb_S2x1024x128_S1x512x128_1_512_0), gm (w3 i) (kG i arg4 harg4 x1) (qq4 c arg3 harg3 arg9 x0) (m4' c i arg3 harg3 arg4 harg4 arg5 harg5 arg6 harg6 arg7 harg7 arg8 harg8 arg9 harg9 arg10 harg10 arg11 harg11 arg12 harg12 x0 x1 x2)⟩ :: Lm3 c i arg3 harg3 arg4 harg4 arg5 harg5 arg6 harg6 arg7 harg7 arg8 harg8 arg9 harg9 arg10 harg10 arg11 harg11 arg12 harg12 x0 x1 x2
def Ll4 : List (View.Piece (Elt Ideal) S2x1024x128 .f32) := ⟨(Rect.unit (s := S2x1024x128) ![1, 512, 0] S1x512x128.size inb_S2x1024x128_S1x512x128_1_512_0), gl (w3 i) (kG i arg4 harg4 x1) (qq4 c arg3 harg3 arg9 x0) (m4' c i arg3 harg3 arg4 harg4 arg5 harg5 arg6 harg6 arg7 harg7 arg8 harg8 arg9 harg9 arg10 harg10 arg11 harg11 arg12 harg12 x0 x1 x2) (l4' c i arg3 harg3 arg4 harg4 arg5 harg5 arg6 harg6 arg7 harg7 arg8 harg8 arg9 harg9 arg10 harg10 arg11 harg11 arg12 harg12 x0 x1 x2)⟩ :: Ll3 c i arg3 harg3 arg4 harg4 arg5 harg5 arg6 harg6 arg7 harg7 arg8 harg8 arg9 harg9 arg10 harg10 arg11 harg11 arg12 harg12 x0 x1 x2
def La4 : List (View.Piece (Elt Ideal) S2x1024x128 .f32) := ⟨(Rect.unit (s := S2x1024x128) ![1, 512, 0] S1x512x128.size inb_S2x1024x128_S1x512x128_1_512_0), ga (w3 i) (kG i arg4 harg4 x1) (vG i arg5 harg5 x2) (qq4 c arg3 harg3 arg9 x0) (m4' c i arg3 harg3 arg4 harg4 arg5 harg5 arg6 harg6 arg7 harg7 arg8 harg8 arg9 harg9 arg10 harg10 arg11 harg11 arg12 harg12 x0 x1 x2) (a4' c i arg3 harg3 arg4 harg4 arg5 harg5 arg6 harg6 arg7 harg7 arg8 harg8 arg9 harg9 arg10 harg10 arg11 harg11 arg12 harg12 x0 x1 x2)⟩ :: La3 c i arg3 harg3 arg4 harg4 arg5 harg5 arg6 harg6 arg7 harg7 arg8 harg8 arg9 harg9 arg10 harg10 arg11 harg11 arg12 harg12 x0 x1 x2

theorem t2_nil (v : BitVec 32) (X4 : BufTy.Contents (Elt Ideal) arg4.view.ty) (X5 : BufTy.Contents (Elt Ideal) arg5.view.ty) (X9 : BufTy.Contents (Elt Ideal) arg9.view.ty)
    (G10 : BufTy.Contents (Elt Ideal) arg10.view.ty) (G11 : BufTy.Contents (Elt Ideal) arg11.view.ty) (G12 : BufTy.Contents (Elt Ideal) arg12.view.ty) :
    pb_k0_t2 (F := Ideal) Variants.none c none i arg3 harg3 arg4 harg4 arg5 harg5 arg6 harg6 arg7 harg7 arg8 harg8 arg9 harg9 arg10 harg10 arg11 harg11 arg12 harg12 (BitVec.ofNat 32 (i 2)) v X4 X5 X9 G10 G11 G12 (Scf.trips (k0_t2_loop i).lb (k0_t2_loop i).ub (k0_t2_loop i).st) = ([], [], []) := by
  rw [show Scf.trips (k0_t2_loop i).lb (k0_t2_loop i).ub (k0_t2_loop i).st = 0 from Nat.le_zero.mp (k0_t2_abs i).2.1]
  rfl

theorem tr1 : Scf.trips (k0_t1_loop i).lb (k0_t1_loop i).ub (k0_t1_loop i).st = (i 2).val := trips_eq i

theorem w_v62 : kernelRun0_A.sl.v62 (F := Ideal) c i arg3 harg3 arg4 harg4 arg5 harg5 arg6 harg6 arg7 harg7 arg8 harg8 arg9 harg9 arg10 harg10 arg11 harg11 arg12 harg12 x0 x1 x2 = m1 c i arg3 harg3 arg4 harg4 arg5 harg5 arg6 harg6 arg7 harg7 arg8 harg8 arg9 harg9 arg10 harg10 arg11 harg11 arg12 harg12 x0 x1 x2 := by
  unfold kernelRun0_A.sl.v62
  rw [t2_nil, tr1]
  rfl

theorem w_v78 : kernelRun0_A.sl.v78 (F := Ideal) c i arg3 harg3 arg4 harg4 arg5 harg5 arg6 harg6 arg7 harg7 arg8 harg8 arg9 harg9 arg10 harg10 arg11 harg11 arg12 harg12 x0 x1 x2 = l1 c i arg3 harg3 arg4 harg4 arg5 harg5 arg6 harg6 arg7 harg7 arg8 harg8 arg9 harg9 arg10 harg10 arg11 harg11 arg12 harg12 x0 x1 x2 := by
  unfold kernelRun0_A.sl.v78
  rw [t2_nil, tr1]
  rfl

theorem w_v94 : kernelRun0_A.sl.v94 (F := Ideal) c i arg3 harg3 arg4 harg4 arg5 harg5 arg6 harg6 arg7 harg7 arg8 harg8 arg9 harg9 arg10 harg10 arg11 harg11 arg12 harg12 x0 x1 x2 = a1 c i arg3 harg3 arg4 harg4 arg5 harg5 arg6 harg6 arg7 harg7 arg8 harg8 arg9 harg9 arg10 harg10 arg11 harg11 arg12 harg12 x0 x1 x2 := by
  unfold kernelRun0_A.sl.v94
  rw [t2_nil, tr1]
  rfl

theorem w_HS1_1_1 : (kernelRun0_A.sl.HS1_1_1 (F := Ideal) c i arg3 harg3 arg4 harg4 arg5 harg5 arg6 harg6 arg7 harg7 arg8 harg8 arg9 harg9 arg10 harg10 arg11 harg11 arg12 harg12 x0 x1 x2) = Lm1 c i arg3 harg3 arg4 harg4 arg5 harg5 arg6 harg6 arg7 harg7 arg8 harg8 arg9 harg9 arg10 harg10 arg11 harg11 arg12 harg12 x0 x1 x2 := by
  unfold kernelRun0_A.sl.HS1_1_1 kernelRun0_A.sl.r_7
  rw [t2_nil, tr1, w_v62]
  rfl

theorem w_HS2_1_1 : (kernelRun0_A.sl.HS2_1_1 (F := Ideal) c i arg3 harg3 arg4 harg4 arg5 harg5 arg6 harg6 arg7 harg7 arg8 harg8 arg9 harg9 arg10 harg10 arg11 harg11 arg12 harg12 x0 x1 x2) = Ll1 c i arg3 harg3 arg4 harg4 arg5 harg5 arg6 harg6 arg7 harg7 arg8 harg8 arg9 harg9 arg10 harg10 arg11 harg11 arg12 harg12 x0 x1 x2 := by
  unfold kernelRun0_A.sl.HS2_1_1 kernelRun0_A.sl.r_6 kernelRun0_A.sl.r_7
  rw [t2_nil, tr1, w_v62, w_v78]
  rfl

theorem w_HS3_1_1 : (kernelRun0_A.sl.HS3_1_1 (F := Ideal) c i arg3 harg3 arg4 harg4 arg5 harg5 arg6 harg6 arg7 harg7 arg8 harg8 arg9 harg9 arg10 harg10 arg11 harg11 arg12 harg12 x0 x1 x2) = La1 c i arg3 harg3 arg4 harg4 arg5 harg5 arg6 harg6 arg7 harg7 arg8 harg8 arg9 harg9 arg10 harg10 arg11 harg11 arg12 harg12 x0 x1 x2 := by
  unfold kernelRun0_A.sl.HS3_1_1 kernelRun0_A.sl.r_6 kernelRun0_A.sl.r_7
  rw [t2_nil, tr1, w_v62, w_v94]
  rfl

theorem w_v122 : kernelRun0_A.sl.v122 (F := Ideal) c i arg3 harg3 arg4 harg4 arg5 harg5 arg6 harg6 arg7 harg7 arg8 harg8 arg9 harg9 arg10 harg10 arg11 harg11 arg12 harg12 x0 x1 x2 = m2 c i arg3 harg3 arg4 harg4 arg5 harg5 arg6 harg6 arg7 harg7 arg8 harg8 arg9 harg9 arg10 harg10 arg11 harg11 arg12 harg12 x0 x1 x2 := by
  unfold kernelRun0_A.sl.v122
  simp only [w_HS1_1_1]

theorem w_v138 : kernelRun0_A.sl.v138 (F := Ideal) c i arg3 harg3 arg4 harg4 arg5 harg5 arg6 harg6 arg7 harg7 arg8 harg8 arg9 harg9 arg10 harg10 arg11 harg11 arg12 harg12 x0 x1 x2 = l2 c i arg3 harg3 arg4 harg4 arg5 harg5 arg6 harg6 arg7 harg7 arg8 harg8 arg9 harg9 arg10 harg10 arg11 harg11 arg12 harg12 x0 x1 x2 := by
  unfold kernelRun0_A.sl.v138
  simp only [w_HS2_1_1]

theorem w_v154 : kernelRun0_A.sl.v154 (F := Ideal) c i arg3 harg3 arg4 harg4 arg5 harg5 arg6 harg6 arg7 harg7 arg8 harg8 arg9 harg9 arg10 harg10 arg11 harg11 arg12 harg12 x0 x1 x2 = a2 c i arg3 harg3 arg4 harg4 arg5 harg5 arg6 harg6 arg7 harg7 arg8 harg8 arg9 harg9 arg10 harg10 arg11 harg11 arg12 harg12 x0 x1 x2 := by
  unfold kernelRun0_A.sl.v154
  simp only [w_HS3_1_1]

theorem w_HS1_2 : (kernelRun0_A.sl.HS1_2 (F := Ideal) c i arg3 harg3 arg4 harg4 arg5 harg5 arg6 harg6 arg7 harg7 arg8 harg8 arg9 harg9 arg10 harg10 arg11 harg11 arg12 harg12 x0 x1 x2) = Lm2 c i arg3 harg3 arg4 harg4 arg5 harg5 arg6 harg6 arg7 harg7 arg8 harg8 arg9 harg9 arg10 harg10 arg11 harg11 arg12 harg12 x0 x1 x2 := by
  unfold kernelRun0_A.sl.HS1_2 kernelRun0_A.sl.r_9
  rw [w_HS1_1_1, w_v122]
  rfl

theorem w_HS2_2 : (kernelRun0_A.sl.HS2_2 (F := Ideal) c i arg3 harg3 arg4 harg4 arg5 harg5 arg6 harg6 arg7 harg7 arg8 harg8 arg9 harg9 arg10 harg10 arg11 harg11 arg12 harg12 x0 x1 x2) = Ll2 c i arg3 harg3 arg4 harg4 arg5 harg5 arg6 harg6 arg7 harg7 arg8 harg8 arg9 harg9 arg10 harg10 arg11 harg11 arg12 harg12 x0 x1 x2 := by
  unfold kernelRun0_A.sl.HS2_2
  rw [w_HS2_1_1, w_v122, w_v138]
  rfl

theorem w_HS3_2 : (kernelRun0_A.sl.HS3_2 (F := Ideal) c i arg3 harg3 arg4 harg4 arg5 harg5 arg6 harg6 arg7 harg7 arg8 harg8 arg9 harg9 arg10 harg10 arg11 harg11 arg12 harg12 x0 x1 x2) = La2 c i arg3 harg3 arg4 harg4 arg5 harg5 arg6 harg6 arg7 harg7 arg8 harg8 arg9 harg9 arg10 harg10 arg11 harg11 arg12 harg12 x0 x1 x2 := by
  unfold kernelRun0_A.sl.HS3_2 kernelRun0_A.sl.r_10 kernelRun0_A.sl.r_11 kernelRun0_A.sl.r_12 kernelRun0_A.sl.r_13 kernelRun0_A.sl.r_14
  rw [w_HS3_1_1, w_v122, w_v154]
  rfl

theorem w_v196 : kernelRun0_A.sl.v196 (F := Ideal) c i arg3 harg3 arg4 harg4 arg5 harg5 arg6 harg6 arg7 harg7 arg8 harg8 arg9 harg9 arg10 harg10 arg11 harg11 arg12 harg12 x0 x1 x2 = m3 c i arg3 harg3 arg4 harg4 arg5 harg5 arg6 harg6 arg7 harg7 arg8 harg8 arg9 harg9 arg10 harg10 arg11 harg11 arg12 harg12 x0 x1 x2 := by
  unfold kernelRun0_A.sl.v196
  simp only [w_HS1_2]

theorem w_v220 : kernelRun0_A.sl.v220 (F := Ideal) c i arg3 harg3 arg4 harg4 arg5 harg5 arg6 harg6 arg7 harg7 arg8 harg8 arg9 harg9 arg10 harg10 arg11 harg11 arg12 harg12 x0 x1 x2 = l3 c i arg3 harg3 arg4 harg4 arg5 harg5 arg6 harg6 arg7 harg7 arg8 harg8 arg9 harg9 arg10 harg10 arg11 harg11 arg12 harg12 x0 x1 x2 := by
  unfold kernelRun0_A.sl.v220
  simp only [w_HS2_2]

theorem w_v240 : kernelRun0_A.sl.v240 (F := Ideal) c i arg3 harg3 arg4 harg4 arg5 harg5 arg6 harg6 arg7 harg7 arg8 harg8 arg9 harg9 arg10 harg10 arg11 harg11 arg12 harg12 x0 x1 x2 = a3 c i arg3 harg3 arg4 harg4 arg5 harg5 arg6 harg6 arg7 harg7 arg8 harg8 arg9 harg9 arg10 harg10 arg11 harg11 arg12 harg12 x0 x1 x2 := by
  unfold kernelRun0_A.sl.v240
  simp only [w_HS3_2]

theorem w_HS1_3 : (kernelRun0_A.sl.HS1_3 (F := Ideal) c i arg3 harg3 arg4 harg4 arg5 harg5 arg6 harg6 arg7 harg7 arg8 harg8 arg9 harg9 arg10 harg10 arg11 harg11 arg12 harg12 x0 x1 x2) = Lm3 c i arg3 harg3 arg4 harg4 arg5 harg5 arg6 harg6 arg7 harg7 arg8 harg8 arg9 harg9 arg10 harg10 arg11 harg11 arg12 harg12 x0 x1 x2 := by
  unfold kernelRun0_A.sl.HS1_3 kernelRun0_A.sl.r_26
  rw [w_HS1_2, w_v196]
  rfl

theorem w_HS2_3 : (kernelRun0_A.sl.HS2_3 (F := Ideal) c i arg3 harg3 arg4 harg4 arg5 harg5 arg6 harg6 arg7 harg7 arg8 harg8 arg9 harg9 arg10 harg10 arg11 harg11 arg12 harg12 x0 x1 x2) = Ll3 c i arg3 harg3 arg4 harg4 arg5 harg5 arg6 harg6 arg7 harg7 arg8 harg8 arg9 harg9 arg10 harg10 arg11 harg11 arg12 harg12 x0 x1 x2 := by
  unfold kernelRun0_A.sl.HS2_3
  rw [w_HS2_2, w_v196, w_v220]
  rfl

theorem w_HS3_3 : (kernelRun0_A.sl.HS3_3 (F := Ideal) c i arg3 harg3 arg4 harg4 arg5 harg5 arg6 harg6 arg7 harg7 arg8 harg8 arg9 harg9 arg10 harg10 arg11 harg11 arg12 harg12 x0 x1 x2) = La3 c i arg3 harg3 arg4 harg4 arg5 harg5 arg6 harg6 arg7 harg7 arg8 harg8 arg9 harg9 arg10 harg10 arg11 harg11 arg12 harg12 x0 x1 x2 := by
  unfold kernelRun0_A.sl.HS3_3 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35
  rw [w_HS3_2, w_v196, w_v240]
  rfl

theorem w_v276 : kernelRun0_A.sl.v276 (F := Ideal) c i arg3 harg3 arg4 harg4 arg5 harg5 arg6 harg6 arg7 harg7 arg8 harg8 arg9 harg9 arg10 harg10 arg11 harg11 arg12 harg12 x0 x1 x2 = m4' c i arg3 harg3 arg4 harg4 arg5 harg5 arg6 harg6 arg7 harg7 arg8 harg8 arg9 harg9 arg10 harg10 arg11 harg11 arg12 harg12 x0 x1 x2 := by
  unfold kernelRun0_A.sl.v276
  simp only [w_HS1_3]

theorem w_v300 : kernelRun0_A.sl.v300 (F := Ideal) c i arg3 harg3 arg4 harg4 arg5 harg5 arg6 harg6 arg7 harg7 arg8 harg8 arg9 harg9 arg10 harg10 arg11 harg11 arg12 harg12 x0 x1 x2 = l4' c i arg3 harg3 arg4 harg4 arg5 harg5 arg6 harg6 arg7 harg7 arg8 harg8 arg9 harg9 arg10 harg10 arg11 harg11 arg12 harg12 x0 x1 x2 := by
  unfold kernelRun0_A.sl.v300
  simp only [w_HS2_3]

theorem w_v320 : kernelRun0_A.sl.v320 (F := Ideal) c i arg3 harg3 arg4 harg4 arg5 harg5 arg6 harg6 arg7 harg7 arg8 harg8 arg9 harg9 arg10 harg10 arg11 harg11 arg12 harg12 x0 x1 x2 = a4' c i arg3 harg3 arg4 harg4 arg5 harg5 arg6 harg6 arg7 harg7 arg8 harg8 arg9 harg9 arg10 harg10 arg11 harg11 arg12 harg12 x0 x1 x2 := by
  unfold kernelRun0_A.sl.v320
  simp only [w_HS3_3]

theorem w_HS2_4 : (kernelRun0_A.sl.HS2_4 (F := Ideal) c i arg3 harg3 arg4 harg4 arg5 harg5 arg6 harg6 arg7 harg7 arg8 harg8 arg9 harg9 arg10 harg10 arg11 harg11 arg12 harg12 x0 x1 x2) = Ll4 c i arg3 harg3 arg4 harg4 arg5 harg5 arg6 harg6 arg7 harg7 arg8 harg8 arg9 harg9 arg10 harg10 arg11 harg11 arg12 harg12 x0 x1 x2 := by
  unfold kernelRun0_A.sl.HS2_4
  rw [w_HS2_3, w_v276, w_v300]
  rfl

theorem w_HS3_4 : (kernelRun0_A.sl.HS3_4 (F := Ideal) c i arg3 harg3 arg4 harg4 arg5 harg5 arg6 harg6 arg7 harg7 arg8 harg8 arg9 harg9 arg10 harg10 arg11 harg11 arg12 harg12 x0 x1 x2) = La4 c i arg3 harg3 arg4 harg4 arg5 harg5 arg6 harg6 arg7 harg7 arg8 harg8 arg9 harg9 arg10 harg10 arg11 harg11 arg12 harg12 x0 x1 x2 := by
  unfold kernelRun0_A.sl.HS3_4 kernelRun0_A.sl.r_45 kernelRun0_A.sl.r_46
  rw [w_HS3_3, w_v276, w_v320]
  rfl

theorem w_v343 : kernelRun0_A.sl.v343 (F := Ideal) c i arg3 harg3 arg4 harg4 arg5 harg5 arg6 harg6 arg7 harg7 arg8 harg8 arg9 harg9 arg10 harg10 arg11 harg11 arg12 harg12 x0 x1 x2 = (arg11.view.readCov (Ll4 c i arg3 harg3 arg4 harg4 arg5 harg5 arg6 harg6 arg7 harg7 arg8 harg8 arg9 harg9 arg10 harg10 arg11 harg11 arg12 harg12 x0 x1 x2) (Rect.unit (s := S2x1024x128) ![0, 0, 0] S1x1024x128.size inb_S2x1024x128_S1x1024x128_0_0_0).toLoadRect) := by
  unfold kernelRun0_A.sl.v343
  simp only [w_HS2_4]

theorem w_v347 : kernelRun0_A.sl.v347 (F := Ideal) c i arg3 harg3 arg4 harg4 arg5 harg5 arg6 harg6 arg7 harg7 arg8 harg8 arg9 harg9 arg10 harg10 arg11 harg11 arg12 harg12 x0 x1 x2 = (arg11.view.readCov (Ll4 c i arg3 harg3 arg4 harg4 arg5 harg5 arg6 harg6 arg7 harg7 arg8 harg8 arg9 harg9 arg10 harg10 arg11 harg11 arg12 harg12 x0 x1 x2) (Rect.unit (s := S2x1024x128) ![1, 0, 0] S1x1024x128.size inb_S2x1024x128_S1x1024x128_1_0_0).toLoadRect) := by
  unfold kernelRun0_A.sl.v347
  simp only [w_HS2_4]

theorem w_v351 : kernelRun0_A.sl.v351 (F := Ideal) c i arg3 harg3 arg4 harg4 arg5 harg5 arg6 harg6 arg7 harg7 arg8 harg8 arg9 harg9 arg10 harg10 arg11 harg11 arg12 harg12 x0 x1 x2 = (arg12.view.readCov (La4 c i arg3 harg3 arg4 harg4 arg5 harg5 arg6 harg6 arg7 harg7 arg8 harg8 arg9 harg9 arg10 harg10 arg11 harg11 arg12 harg12 x0 x1 x2) (Rect.unit (s := S2x1024x128) ![0, 0, 0] S1x1024x128.size inb_S2x1024x128_S1x1024x128_0_0_0).toLoadRect) := by
  unfold kernelRun0_A.sl.v351
  simp only [w_HS3_4]

theorem w_v355 : kernelRun0_A.sl.v355 (F := Ideal) c i arg3 harg3 arg4 harg4 arg5 harg5 arg6 harg6 arg7 harg7 arg8 harg8 arg9 harg9 arg10 harg10 arg11 harg11 arg12 harg12 x0 x1 x2 = (arg12.view.readCov (La4 c i arg3 harg3 arg4 harg4 arg5 harg5 arg6 harg6 arg7 harg7 arg8 harg8 arg9 harg9 arg10 harg10 arg11 harg11 arg12 harg12 x0 x1 x2) (Rect.unit (s := S2x1024x128) ![1, 0, 0] S1x1024x128.size inb_S2x1024x128_S1x1024x128_1_0_0).toLoadRect) := by
  unfold kernelRun0_A.sl.v355
  simp only [w_HS3_4]

/-- The point's result. -/
theorem out_eq (x3 : Vec Ideal S4x64 .f32) (x4 : Vec Ideal S1x128 .f32) :
    (kernelRun0_A (F := Ideal) c i arg3 harg3 arg4 harg4 arg5 harg5 arg6 harg6 arg7 harg7 arg8 harg8 arg9 harg9 arg10 harg10 arg11 harg11 arg12 harg12 x0 x1 x2 x3 x4).1 = [⟨Rect.unit (s := S1024x128) ![0, 0] S1024x128.size inb_S1024x128_S1024x128_0_0,
      k0_pay1 (k0_pay189 (View.readAt (Elt Ideal) arg6.view (Rect.unit (s := S4x64) ![0, 0] S4x64.size inb_S4x64_S4x64_0_0).toLoadRect (harg6.unread x3)))
        (k0_pay190 (arg11.view.readCov (Ll4 c i arg3 harg3 arg4 harg4 arg5 harg5 arg6 harg6 arg7 harg7 arg8 harg8 arg9 harg9 arg10 harg10 arg11 harg11 arg12 harg12 x0 x1 x2) (Rect.unit (s := S2x1024x128) ![0, 0, 0] S1x1024x128.size inb_S2x1024x128_S1x1024x128_0_0_0).toLoadRect) (arg12.view.readCov (La4 c i arg3 harg3 arg4 harg4 arg5 harg5 arg6 harg6 arg7 harg7 arg8 harg8 arg9 harg9 arg10 harg10 arg11 harg11 arg12 harg12 x0 x1 x2) (Rect.unit (s := S2x1024x128) ![0, 0, 0] S1x1024x128.size inb_S2x1024x128_S1x1024x128_0_0_0).toLoadRect)) (k0_pay191 (arg12.view.readCov (La4 c i arg3 harg3 arg4 harg4 arg5 harg5 arg6 harg6 arg7 harg7 arg8 harg8 arg9 harg9 arg10 harg10 arg11 harg11 arg12 harg12 x0 x1 x2) (Rect.unit (s := S2x1024x128) ![1, 0, 0] S1x1024x128.size inb_S2x1024x128_S1x1024x128_1_0_0).toLoadRect)) (k0_pay192 (arg11.view.readCov (Ll4 c i arg3 harg3 arg4 harg4 arg5 harg5 arg6 harg6 arg7 harg7 arg8 harg8 arg9 harg9 arg10 harg10 arg11 harg11 arg12 harg12 x0 x1 x2) (Rect.unit (s := S2x1024x128) ![1, 0, 0] S1x1024x128.size inb_S2x1024x128_S1x1024x128_1_0_0).toLoadRect))
        (View.readAt (Elt Ideal) arg7.view (Rect.unit (s := S1x128) ![0, 0] S1x128.size inb_S1x128_S1x128_0_0).toLoadRect (harg7.unread x4))⟩] := by
  unfold kernelRun0_A
  dsimp only
  unfold kernelRun0_A.sl.r_48 kernelRun0_A.sl.r_49 kernelRun0_A.sl.r_50
  simp only [w_v343, w_v347, w_v351, w_v355]
  rfl

end
end Cert.DiffProof
-- ==== Proof.DiffLoop.lean ====
/- The attention kernel's running blocks through its whole run at a grid point: row by row they stay the running maximum,
   sums and averages over the keys met so far (`RowInv`), through the whole tiles and then the diagonal one. -/
module

public import proofs.«01_k».proof.Proof.DiffRun

@[expose] public section

noncomputable section

namespace Cert.DiffProof

open Cert.DiffIdeal Cert.DiffIdeal.Gen Cert.DiffIdeal.Value Idealize.ShloMosaic Idealize.ShloMosaic.TcCoe Idealize.SL.Sem

theorem c_m (cc : Fin 2) (r : Fin 1024) (j : Fin 128) : View.canon ((kernelRun0_A.sl.HS1_1 (F := Ideal))) (ix3 cc r j) = (⊥ : EReal) := by
  unfold kernelRun0_A.sl.HS1_1
  rw [View.canon_unit_zero (by funext a; fin_cases a <;> rfl)]
  pointwise [k0_pay98]
  rfl
theorem c_l (cc : Fin 2) (r : Fin 1024) (j : Fin 128) : View.canon ((kernelRun0_A.sl.HS2_1 (F := Ideal))) (ix3 cc r j) = (0 : EReal) := by
  unfold kernelRun0_A.sl.HS2_1
  rw [View.canon_unit_zero (by funext a; fin_cases a <;> rfl)]
  pointwise [k0_pay99]
theorem c_a (cc : Fin 2) (r : Fin 1024) (j : Fin 128) : View.canon ((kernelRun0_A.sl.HS3_1 (F := Ideal))) (ix3 cc r j) = (0 : EReal) := by
  unfold kernelRun0_A.sl.HS3_1
  rw [View.canon_unit_zero (by funext a; fin_cases a <;> rfl)]
  pointwise [k0_pay100]

/-- The mask's comparison. -/
theorem cmp_eq (a o x r : ℕ) (ha : a < 16) (ho : o < 1024) (hx : x < 1024) (hr : r < 1024) (s t : EReal) :
    Scalar.select (IntOp.cmpi .sle (IntOp.addi (Scalar.muli (BitVec.ofNat 32 a) 1024#32) (BitVec.ofNat 32 x))
      (IntOp.addi (Scalar.addi (Scalar.muli (BitVec.ofNat 32 a) 1024#32) (BitVec.ofNat 32 o)) (BitVec.ofNat 32 r))) s t
      = if 1024 * a + x ≤ 1024 * a + (o + r) then s else t := by
  have e1 : IntOp.addi (Scalar.muli (BitVec.ofNat 32 a) 1024#32) (BitVec.ofNat 32 x) = BitVec.ofNat 32 (1024 * a + x) := by
    refine BitVec.eq_of_toNat_eq ?_
    simp only [IntOp.addi, Scalar.muli, IntOp.muli, BitVec.toNat_add, BitVec.toNat_mul, BitVec.toNat_ofNat]
    omega
  have e2 : IntOp.addi (Scalar.addi (Scalar.muli (BitVec.ofNat 32 a) 1024#32) (BitVec.ofNat 32 o)) (BitVec.ofNat 32 r) = BitVec.ofNat 32 (1024 * a + (o + r)) := by
    refine BitVec.eq_of_toNat_eq ?_
    simp only [IntOp.addi, Scalar.addi, Scalar.muli, IntOp.muli, BitVec.toNat_add, BitVec.toNat_mul, BitVec.toNat_ofNat]
    omega
  rw [e1, e2]
  have hle : (BitVec.ofNat 32 (1024 * a + x)).sle (BitVec.ofNat 32 (1024 * a + (o + r))) = decide (1024 * a + x ≤ 1024 * a + (o + r)) := by
    unfold BitVec.sle
    rw [BitVec.toInt_ofNat', BitVec.toInt_ofNat']
    refine decide_eq_decide.mpr ?_
    rw [Int.bmod_eq_of_le (by omega) (by omega), Int.bmod_eq_of_le (by omega) (by omega)]
    omega
  unfold IntOp.cmpi Scalar.select
  simp only [hle]
  by_cases h : 1024 * a + x ≤ 1024 * a + (o + r)
  · rw [if_pos h, decide_eq_true h]; rfl
  · rw [if_neg h, decide_eq_false h]; rfl

section
variable (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1024x128 .bf16) (harg8 : arg8.IsWhole) (arg9 : Memref sig .tc .vmem S2x1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole)
  (x0 : Vec Ideal S1024x128 .bf16) (x1 x2 : Vec Ideal S16384x128 .bf16)
variable (σ : Fin 2 → Fin 1024 → ℕ → ℝ) (v : ℕ → Fin 128 → ℝ)
  (hσ : ∀ cc r n x, n + x < 16384 → scL (View.canon (LQ c arg3 harg3 x0)) x1 n cc r x = ((σ cc r (n + x) : ℝ) : EReal))
  (hv : ∀ n e, n < 16384 → at2 x2 n e = ((v n e : ℝ) : EReal))

theorem P_succ (k : Fin (k0_t1_loop i).trips) : P c i arg3 harg3 arg4 harg4 arg5 harg5 arg6 harg6 arg7 harg7 arg8 harg8 arg9 harg9 arg10 harg10 arg11 harg11 arg12 harg12 x0 x1 x2 (k.val + 1)
    = (let T := tripL_k0_t1 (F := Ideal) Variants.none c none i arg3 harg3 arg4 harg4 arg5 harg5 arg6 harg6 arg7 harg7 arg8 harg8 arg9 harg9 arg10 harg10 arg11 harg11 arg12 harg12 (BitVec.ofNat 32 (i 2)) (harg4.unread x1) (harg5.unread x2) (arg9.view.writes (Elt Ideal) arg9.view.junk (LQ c arg3 harg3 x0)) k
          (arg10.view.writes (Elt Ideal) (arg10.view.writes (Elt Ideal) arg10.view.junk kernelRun0_A.sl.HS1_1) (P c i arg3 harg3 arg4 harg4 arg5 harg5 arg6 harg6 arg7 harg7 arg8 harg8 arg9 harg9 arg10 harg10 arg11 harg11 arg12 harg12 x0 x1 x2 k.val).1) (arg11.view.writes (Elt Ideal) (arg11.view.writes (Elt Ideal) arg11.view.junk kernelRun0_A.sl.HS2_1) (P c i arg3 harg3 arg4 harg4 arg5 harg5 arg6 harg6 arg7 harg7 arg8 harg8 arg9 harg9 arg10 harg10 arg11 harg11 arg12 harg12 x0 x1 x2 k.val).2.1)
          (arg12.view.writes (Elt Ideal) (arg12.view.writes (Elt Ideal) arg12.view.junk kernelRun0_A.sl.HS3_1) (P c i arg3 harg3 arg4 harg4 arg5 harg5 arg6 harg6 arg7 harg7 arg8 harg8 arg9 harg9 arg10 harg10 arg11 harg11 arg12 harg12 x0 x1 x2 k.val).2.2)
       (T.1 ++ (P c i arg3 harg3 arg4 harg4 arg5 harg5 arg6 harg6 arg7 harg7 arg8 harg8 arg9 harg9 arg10 harg10 arg11 harg11 arg12 harg12 x0 x1 x2 k.val).1, T.2.1 ++ (P c i arg3 harg3 arg4 harg4 arg5 harg5 arg6 harg6 arg7 harg7 arg8 harg8 arg9 harg9 arg10 harg10 arg11 harg11 arg12 harg12 x0 x1 x2 k.val).2.1, T.2.2 ++ (P c i arg3 harg3 arg4 harg4 arg5 harg5 arg6 harg6 arg7 harg7 arg8 harg8 arg9 harg9 arg10 harg10 arg11 harg11 arg12 harg12 x0 x1 x2 k.val).2.2)) :=
  pb_k0_t1_succ Variants.none c none i arg3 harg3 arg4 harg4 arg5 harg5 arg6 harg6 arg7 harg7 arg8 harg8 arg9 harg9 arg10 harg10 arg11 harg11 arg12 harg12 _ _ _ _ _ _ _ k

include hσ hv in
theorem loop_inv (k : ℕ) (hk : k ≤ (i 2).val) (cc : Fin 2) (r : Fin 1024) :
    RowInv (σ cc r) (1024 * (i 2).val + r.val) v (1024 * k) (fun j => View.canon ((P c i arg3 harg3 arg4 harg4 arg5 harg5 arg6 harg6 arg7 harg7 arg8 harg8 arg9 harg9 arg10 harg10 arg11 harg11 arg12 harg12 x0 x1 x2 k).1 ++ kernelRun0_A.sl.HS1_1) (ix3 cc r j)) (fun j => View.canon ((P c i arg3 harg3 arg4 harg4 arg5 harg5 arg6 harg6 arg7 harg7 arg8 harg8 arg9 harg9 arg10 harg10 arg11 harg11 arg12 harg12 x0 x1 x2 k).2.1 ++ kernelRun0_A.sl.HS2_1) (ix3 cc r j)) (fun e => View.canon ((P c i arg3 harg3 arg4 harg4 arg5 harg5 arg6 harg6 arg7 harg7 arg8 harg8 arg9 harg9 arg10 harg10 arg11 harg11 arg12 harg12 x0 x1 x2 k).2.2 ++ kernelRun0_A.sl.HS3_1) (ix3 cc r e)) := by
  induction k with
  | zero => exact .inl ⟨rfl, fun j => c_m cc r j, fun j => c_l cc r j, fun j => c_a cc r j⟩
  | succ k ih =>
    have hi : (i 2).val < 16 := (i 2).isLt
    have hkt : k < (k0_t1_loop i).trips := by rw [trips_eq]; omega
    have ih := ih (by omega)
    have st := RowInv.step8 ih (by omega) (by omega)
      (fun x => scL (View.canon (LQ c arg3 harg3 x0)) x1 (1024 * k) cc r x.val)
      (fun x => by rw [hσ cc r _ _ (by have := x.isLt; omega), if_pos (by have := x.isLt; omega)])
      (fun x e => at2 x2 (1024 * k + x.val) e) (fun x e => hv _ _ (by have := x.isLt; omega))
    have hq : arg9.view.read (Elt Ideal) (arg9.view.writes (Elt Ideal) arg9.view.junk (LQ c arg3 harg3 x0)) = View.canon (LQ c arg3 harg3 x0) := View.read_writes_junk_eq_canon _ _
    have hm : arg10.view.read (Elt Ideal) (arg10.view.writes (Elt Ideal) (arg10.view.writes (Elt Ideal) arg10.view.junk kernelRun0_A.sl.HS1_1) (P c i arg3 harg3 arg4 harg4 arg5 harg5 arg6 harg6 arg7 harg7 arg8 harg8 arg9 harg9 arg10 harg10 arg11 harg11 arg12 harg12 x0 x1 x2 k).1) = View.canon ((P c i arg3 harg3 arg4 harg4 arg5 harg5 arg6 harg6 arg7 harg7 arg8 harg8 arg9 harg9 arg10 harg10 arg11 harg11 arg12 harg12 x0 x1 x2 k).1 ++ kernelRun0_A.sl.HS1_1) := by
      rw [← View.writes_append]; exact View.read_writes_junk_eq_canon _ _
    have hl : arg11.view.read (Elt Ideal) (arg11.view.writes (Elt Ideal) (arg11.view.writes (Elt Ideal) arg11.view.junk kernelRun0_A.sl.HS2_1) (P c i arg3 harg3 arg4 harg4 arg5 harg5 arg6 harg6 arg7 harg7 arg8 harg8 arg9 harg9 arg10 harg10 arg11 harg11 arg12 harg12 x0 x1 x2 k).2.1) = View.canon ((P c i arg3 harg3 arg4 harg4 arg5 harg5 arg6 harg6 arg7 harg7 arg8 harg8 arg9 harg9 arg10 harg10 arg11 harg11 arg12 harg12 x0 x1 x2 k).2.1 ++ kernelRun0_A.sl.HS2_1) := by
      rw [← View.writes_append]; exact View.read_writes_junk_eq_canon _ _
    have ha : arg12.view.read (Elt Ideal) (arg12.view.writes (Elt Ideal) (arg12.view.writes (Elt Ideal) arg12.view.junk kernelRun0_A.sl.HS3_1) (P c i arg3 harg3 arg4 harg4 arg5 harg5 arg6 harg6 arg7 harg7 arg8 harg8 arg9 harg9 arg10 harg10 arg11 harg11 arg12 harg12 x0 x1 x2 k).2.2) = View.canon ((P c i arg3 harg3 arg4 harg4 arg5 harg5 arg6 harg6 arg7 harg7 arg8 harg8 arg9 harg9 arg10 harg10 arg11 harg11 arg12 harg12 x0 x1 x2 k).2.2 ++ kernelRun0_A.sl.HS3_1) := by
      rw [← View.writes_append]; exact View.read_writes_junk_eq_canon _ _
    have tm := fun j => trip_m Variants.none c none i arg3 harg3 arg4 harg4 arg5 harg5 arg6 harg6 arg7 harg7 arg8 harg8 arg9 harg9 arg10 harg10 arg11 harg11 arg12 harg12 (BitVec.ofNat 32 (i 2)) (harg4.unread x1) (harg5.unread x2) (arg9.view.writes (Elt Ideal) arg9.view.junk (LQ c arg3 harg3 x0)) ⟨k, hkt⟩
      (arg10.view.writes (Elt Ideal) (arg10.view.writes (Elt Ideal) arg10.view.junk kernelRun0_A.sl.HS1_1) (P c i arg3 harg3 arg4 harg4 arg5 harg5 arg6 harg6 arg7 harg7 arg8 harg8 arg9 harg9 arg10 harg10 arg11 harg11 arg12 harg12 x0 x1 x2 k).1) (arg11.view.writes (Elt Ideal) (arg11.view.writes (Elt Ideal) arg11.view.junk kernelRun0_A.sl.HS2_1) (P c i arg3 harg3 arg4 harg4 arg5 harg5 arg6 harg6 arg7 harg7 arg8 harg8 arg9 harg9 arg10 harg10 arg11 harg11 arg12 harg12 x0 x1 x2 k).2.1)
      (arg12.view.writes (Elt Ideal) (arg12.view.writes (Elt Ideal) arg12.view.junk kernelRun0_A.sl.HS3_1) (P c i arg3 harg3 arg4 harg4 arg5 harg5 arg6 harg6 arg7 harg7 arg8 harg8 arg9 harg9 arg10 harg10 arg11 harg11 arg12 harg12 x0 x1 x2 k).2.2) ((P c i arg3 harg3 arg4 harg4 arg5 harg5 arg6 harg6 arg7 harg7 arg8 harg8 arg9 harg9 arg10 harg10 arg11 harg11 arg12 harg12 x0 x1 x2 k).1 ++ kernelRun0_A.sl.HS1_1) cc r j
    have tl := fun j => trip_l Variants.none c none i arg3 harg3 arg4 harg4 arg5 harg5 arg6 harg6 arg7 harg7 arg8 harg8 arg9 harg9 arg10 harg10 arg11 harg11 arg12 harg12 (BitVec.ofNat 32 (i 2)) (harg4.unread x1) (harg5.unread x2) (arg9.view.writes (Elt Ideal) arg9.view.junk (LQ c arg3 harg3 x0)) ⟨k, hkt⟩
      (arg10.view.writes (Elt Ideal) (arg10.view.writes (Elt Ideal) arg10.view.junk kernelRun0_A.sl.HS1_1) (P c i arg3 harg3 arg4 harg4 arg5 harg5 arg6 harg6 arg7 harg7 arg8 harg8 arg9 harg9 arg10 harg10 arg11 harg11 arg12 harg12 x0 x1 x2 k).1) (arg11.view.writes (Elt Ideal) (arg11.view.writes (Elt Ideal) arg11.view.junk kernelRun0_A.sl.HS2_1) (P c i arg3 harg3 arg4 harg4 arg5 harg5 arg6 harg6 arg7 harg7 arg8 harg8 arg9 harg9 arg10 harg10 arg11 harg11 arg12 harg12 x0 x1 x2 k).2.1)
      (arg12.view.writes (Elt Ideal) (arg12.view.writes (Elt Ideal) arg12.view.junk kernelRun0_A.sl.HS3_1) (P c i arg3 harg3 arg4 harg4 arg5 harg5 arg6 harg6 arg7 harg7 arg8 harg8 arg9 harg9 arg10 harg10 arg11 harg11 arg12 harg12 x0 x1 x2 k).2.2) ((P c i arg3 harg3 arg4 harg4 arg5 harg5 arg6 harg6 arg7 harg7 arg8 harg8 arg9 harg9 arg10 harg10 arg11 harg11 arg12 harg12 x0 x1 x2 k).2.1 ++ kernelRun0_A.sl.HS2_1) cc r j
    have ta := fun j => trip_a Variants.none c none i arg3 harg3 arg4 harg4 arg5 harg5 arg6 harg6 arg7 harg7 arg8 harg8 arg9 harg9 arg10 harg10 arg11 harg11 arg12 harg12 (BitVec.ofNat 32 (i 2)) (harg4.unread x1) (harg5.unread x2) (arg9.view.writes (Elt Ideal) arg9.view.junk (LQ c arg3 harg3 x0)) ⟨k, hkt⟩
      (arg10.view.writes (Elt Ideal) (arg10.view.writes (Elt Ideal) arg10.view.junk kernelRun0_A.sl.HS1_1) (P c i arg3 harg3 arg4 harg4 arg5 harg5 arg6 harg6 arg7 harg7 arg8 harg8 arg9 harg9 arg10 harg10 arg11 harg11 arg12 harg12 x0 x1 x2 k).1) (arg11.view.writes (Elt Ideal) (arg11.view.writes (Elt Ideal) arg11.view.junk kernelRun0_A.sl.HS2_1) (P c i arg3 harg3 arg4 harg4 arg5 harg5 arg6 harg6 arg7 harg7 arg8 harg8 arg9 harg9 arg10 harg10 arg11 harg11 arg12 harg12 x0 x1 x2 k).2.1)
      (arg12.view.writes (Elt Ideal) (arg12.view.writes (Elt Ideal) arg12.view.junk kernelRun0_A.sl.HS3_1) (P c i arg3 harg3 arg4 harg4 arg5 harg5 arg6 harg6 arg7 harg7 arg8 harg8 arg9 harg9 arg10 harg10 arg11 harg11 arg12 harg12 x0 x1 x2 k).2.2) ((P c i arg3 harg3 arg4 harg4 arg5 harg5 arg6 harg6 arg7 harg7 arg8 harg8 arg9 harg9 arg10 harg10 arg11 harg11 arg12 harg12 x0 x1 x2 k).2.2 ++ kernelRun0_A.sl.HS3_1) cc r j
    simp only [hq, hm, hl, ha, harg4.read_unread, harg5.read_unread] at tm tl ta
    have hs := P_succ c i arg3 harg3 arg4 harg4 arg5 harg5 arg6 harg6 arg7 harg7 arg8 harg8 arg9 harg9 arg10 harg10 arg11 harg11 arg12 harg12 x0 x1 x2 ⟨k, hkt⟩
    dsimp only at hs
    simp only [hs, List.append_assoc, tm, tl, ta]
    exact st
end
end Cert.DiffProof
-- ==== Proof.DiffDiag.lean ====
/- The attention kernel's diagonal tiles: after them every row's running sums and averages are over all the keys the row sees. -/
module

public import proofs.«01_k».proof.Proof.DiffLoop

@[expose] public section

noncomputable section

namespace Cert.DiffProof

open Cert.DiffIdeal Cert.DiffIdeal.Gen Cert.DiffIdeal.Value Idealize.ShloMosaic Idealize.ShloMosaic.TcCoe Idealize.SL.Sem

/-- A load through stores over nothing known, at an index. -/
theorem cov_at {e : EltTy} (mr : Memref sig .tc .vmem S2x1024x128 e) (L : List (View.Piece (Elt Ideal) S2x1024x128 e)) (cv o n : ℕ)
    (inb : ∀ a, (![cv, o, 0] : Fin 3 → ℕ) a + (![1, n, 128] : Fin 3 → ℕ) a ≤ S2x1024x128.size a)
    (c : Fin 2) (hc : c.val = cv) (r : Fin n) (R : Fin 1024) (hR : R.val = o + r.val) (j : Fin 128) :
    mr.view.readCov (Val := Elt Ideal) L (Rect.unit (s := S2x1024x128) ![cv, o, 0] ![1, n, 128] inb).toLoadRect (ix3 (0 : Fin 1) r j) = View.canon L (ix3 c R j) := by
  rw [View.readCov_eq_canon']
  exact congrArg (View.canon L) (emb3 cv o n inb c hc r R hR j)

section
variable (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1024x128 .bf16) (harg8 : arg8.IsWhole) (arg9 : Memref sig .tc .vmem S2x1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole)
  (x0 : Vec Ideal S1024x128 .bf16) (x1 x2 : Vec Ideal S16384x128 .bf16)

theorem kH_at (x : Fin 512) (d : Fin 128) : kH i arg4 harg4 x1 (ix2 x d) = at2 x1 (1024 * (i 2).val + x.val) d := by
  refine Eq.trans ?_ (ld2_at x1 512 _ _ (k0_off3_eq i) (k0_off3_inb i) x d)
  show View.readAt _ _ _ _ _ = _
  rw [View.readAt_eq_ld, harg4.read_unread]
theorem vH_at (x : Fin 512) (d : Fin 128) : vH i arg5 harg5 x2 (ix2 x d) = at2 x2 (1024 * (i 2).val + x.val) d := by
  refine Eq.trans ?_ (ld2_at x2 512 _ _ (k0_off3_eq i) (k0_off3_inb i) x d)
  show View.readAt _ _ _ _ _ = _
  rw [View.readAt_eq_ld, harg5.read_unread]
theorem kG_at (x : Fin 1024) (d : Fin 128) : kG i arg4 harg4 x1 (ix2 x d) = at2 x1 (1024 * (i 2).val + x.val) d := by
  refine Eq.trans ?_ (ld2_at x1 1024 _ _ (k0_off4_eq i) (k0_off4_inb i) x d)
  show View.readAt _ _ _ _ _ = _
  rw [View.readAt_eq_ld, harg4.read_unread]
theorem vG_at (x : Fin 1024) (d : Fin 128) : vG i arg5 harg5 x2 (ix2 x d) = at2 x2 (1024 * (i 2).val + x.val) d := by
  refine Eq.trans ?_ (ld2_at x2 1024 _ _ (k0_off4_eq i) (k0_off4_inb i) x d)
  show View.readAt _ _ _ _ _ = _
  rw [View.readAt_eq_ld, harg5.read_unread]

variable (σ : Fin 2 → Fin 1024 → ℕ → ℝ) (v : ℕ → Fin 128 → ℝ)
  (hσ : ∀ cc r n x, n + x < 16384 → scL (View.canon (LQ c arg3 harg3 x0)) x1 n cc r x = ((σ cc r (n + x) : ℝ) : EReal))
  (hv : ∀ n e, n < 16384 → at2 x2 n e = ((v n e : ℝ) : EReal))

section
variable (r : Fin 512) (R : Fin 1024) (hR : R.val = 0 + r.val)
include hR
theorem pv_m1 (j : Fin 128) : m1 c i arg3 harg3 arg4 harg4 arg5 harg5 arg6 harg6 arg7 harg7 arg8 harg8 arg9 harg9 arg10 harg10 arg11 harg11 arg12 harg12 x0 x1 x2 (ix3 0 r j) = View.canon (Lm c i arg3 harg3 arg4 harg4 arg5 harg5 arg6 harg6 arg7 harg7 arg8 harg8 arg9 harg9 arg10 harg10 arg11 harg11 arg12 harg12 x0 x1 x2) (ix3 0 R j) := by
  have hr := r.isLt
  refine (cov_at arg10 (Lm c i arg3 harg3 arg4 harg4 arg5 harg5 arg6 harg6 arg7 harg7 arg8 harg8 arg9 harg9 arg10 harg10 arg11 harg11 arg12 harg12 x0 x1 x2) 0 0 512 _ 0 rfl r R hR j).trans ?_
  rfl
theorem pv_l1 (j : Fin 128) : l1 c i arg3 harg3 arg4 harg4 arg5 harg5 arg6 harg6 arg7 harg7 arg8 harg8 arg9 harg9 arg10 harg10 arg11 harg11 arg12 harg12 x0 x1 x2 (ix3 0 r j) = View.canon (Ll c i arg3 harg3 arg4 harg4 arg5 harg5 arg6 harg6 arg7 harg7 arg8 harg8 arg9 harg9 arg10 harg10 arg11 harg11 arg12 harg12 x0 x1 x2) (ix3 0 R j) := by
  have hr := r.isLt
  refine (cov_at arg11 (Ll c i arg3 harg3 arg4 harg4 arg5 harg5 arg6 harg6 arg7 harg7 arg8 harg8 arg9 harg9 arg10 harg10 arg11 harg11 arg12 harg12 x0 x1 x2) 0 0 512 _ 0 rfl r R hR j).trans ?_
  rfl
theorem pv_a1 (j : Fin 128) : a1 c i arg3 harg3 arg4 harg4 arg5 harg5 arg6 harg6 arg7 harg7 arg8 harg8 arg9 harg9 arg10 harg10 arg11 harg11 arg12 harg12 x0 x1 x2 (ix3 0 r j) = View.canon (La c i arg3 harg3 arg4 harg4 arg5 harg5 arg6 harg6 arg7 harg7 arg8 harg8 arg9 harg9 arg10 harg10 arg11 harg11 arg12 harg12 x0 x1 x2) (ix3 0 R j) := by
  have hr := r.isLt
  refine (cov_at arg12 (La c i arg3 harg3 arg4 harg4 arg5 harg5 arg6 harg6 arg7 harg7 arg8 harg8 arg9 harg9 arg10 harg10 arg11 harg11 arg12 harg12 x0 x1 x2) 0 0 512 _ 0 rfl r R hR j).trans ?_
  rfl
theorem fn_l1 (j : Fin 128) : View.canon (Ll4 c i arg3 harg3 arg4 harg4 arg5 harg5 arg6 harg6 arg7 harg7 arg8 harg8 arg9 harg9 arg10 harg10 arg11 harg11 arg12 harg12 x0 x1 x2) (ix3 0 R j) =
    hl (w3 i) (kH i arg4 harg4 x1) (qq1 c arg3 harg3 arg9 x0) (m1 c i arg3 harg3 arg4 harg4 arg5 harg5 arg6 harg6 arg7 harg7 arg8 harg8 arg9 harg9 arg10 harg10 arg11 harg11 arg12 harg12 x0 x1 x2) (l1 c i arg3 harg3 arg4 harg4 arg5 harg5 arg6 harg6 arg7 harg7 arg8 harg8 arg9 harg9 arg10 harg10 arg11 harg11 arg12 harg12 x0 x1 x2) (ix3 0 r j) := by
  have hr := r.isLt
  refine Eq.trans (canon_miss _ _ _ _ _ _ 0 R j (.inl (by decide))) ?_
  refine Eq.trans (canon_miss _ _ _ _ _ _ 0 R j (.inr (by omega))) ?_
  refine Eq.trans (canon_miss _ _ _ _ _ _ 0 R j (.inl (by decide))) ?_
  exact canon_hit _ _ _ _ _ _ 0 rfl r R hR j
theorem fn_a1 (j : Fin 128) : View.canon (La4 c i arg3 harg3 arg4 harg4 arg5 harg5 arg6 harg6 arg7 harg7 arg8 harg8 arg9 harg9 arg10 harg10 arg11 harg11 arg12 harg12 x0 x1 x2) (ix3 0 R j) =
    ha (w3 i) (kH i arg4 harg4 x1) (vH i arg5 harg5 x2) (qq1 c arg3 harg3 arg9 x0) (m1 c i arg3 harg3 arg4 harg4 arg5 harg5 arg6 harg6 arg7 harg7 arg8 harg8 arg9 harg9 arg10 harg10 arg11 harg11 arg12 harg12 x0 x1 x2) (a1 c i arg3 harg3 arg4 harg4 arg5 harg5 arg6 harg6 arg7 harg7 arg8 harg8 arg9 harg9 arg10 harg10 arg11 harg11 arg12 harg12 x0 x1 x2) (ix3 0 r j) := by
  have hr := r.isLt
  refine Eq.trans (canon_miss _ _ _ _ _ _ 0 R j (.inl (by decide))) ?_
  refine Eq.trans (canon_miss _ _ _ _ _ _ 0 R j (.inr (by omega))) ?_
  refine Eq.trans (canon_miss _ _ _ _ _ _ 0 R j (.inl (by decide))) ?_
  exact canon_hit _ _ _ _ _ _ 0 rfl r R hR j
include hσ in
theorem sc_1 (x : Fin 512) : scH (w3 i) (kH i arg4 harg4 x1) (qq1 c arg3 harg3 arg9 x0) r x = if 1024 * (i 2).val + x.val ≤ 1024 * (i 2).val + R.val then ((σ 0 R (1024 * (i 2).val + x.val) : ℝ) : EReal) else ⊥ := by
  have hi : (i 2).val < 16 := (i 2).isLt
  have hx := x.isLt
  have hr := r.isLt
  unfold scH
  rw [← hσ 0 R (1024 * (i 2).val) x.val (by omega), hR]
  refine (cmp_eq (i 2).val 0 x.val r.val hi (by omega) (by omega) (by omega) _ _).trans ?_
  have e : (∑ d : Fin 128, (qq1 c arg3 harg3 arg9 x0) (ix3 0 r d) * (kH i arg4 harg4 x1) (ix2 x d)) = scL (View.canon (LQ c arg3 harg3 x0)) x1 (1024 * (i 2).val) 0 R x.val := by
    unfold scL
    refine Finset.sum_congr rfl fun d _ => ?_
    rw [kH_at] <;> exact congrArg (· * _) (cov_at arg9 (LQ c arg3 harg3 x0) 0 0 512 _ 0 rfl r R hR d)
  rw [e]
  rfl
include hσ hv in
theorem inv_1 : ∃ m : Fin 128 → EReal, RowInv (σ 0 R) (1024 * (i 2).val + R.val) v (1024 * (i 2).val + 512) m
    (fun j => View.canon (Ll4 c i arg3 harg3 arg4 harg4 arg5 harg5 arg6 harg6 arg7 harg7 arg8 harg8 arg9 harg9 arg10 harg10 arg11 harg11 arg12 harg12 x0 x1 x2) (ix3 0 R j)) (fun j => View.canon (La4 c i arg3 harg3 arg4 harg4 arg5 harg5 arg6 harg6 arg7 harg7 arg8 harg8 arg9 harg9 arg10 harg10 arg11 harg11 arg12 harg12 x0 x1 x2) (ix3 0 R j)) := by
  have hi : (i 2).val < 16 := (i 2).isLt
  have st := RowInv.step4 (loop_inv c i arg3 harg3 arg4 harg4 arg5 harg5 arg6 harg6 arg7 harg7 arg8 harg8 arg9 harg9 arg10 harg10 arg11 harg11 arg12 harg12 x0 x1 x2 σ v hσ hv (i 2).val le_rfl 0 R) (by omega) (by omega) (scH (w3 i) (kH i arg4 harg4 x1) (qq1 c arg3 harg3 arg9 x0) r)
    (fun x => sc_1 (hσ := hσ) (hR := hR) (σ := σ) c i arg3 harg3 arg4 harg4 arg9 x0 x1 r R x) (fun x e => at2 x2 (1024 * (i 2).val + x.val) e) (fun x e => hv _ _ (by have := x.isLt; omega))
  have el : (fun j => View.canon (Ll4 c i arg3 harg3 arg4 harg4 arg5 harg5 arg6 harg6 arg7 harg7 arg8 harg8 arg9 harg9 arg10 harg10 arg11 harg11 arg12 harg12 x0 x1 x2) (ix3 0 R j)) = _ := funext fun j => (fn_l1 c i arg3 harg3 arg4 harg4 arg5 harg5 arg6 harg6 arg7 harg7 arg8 harg8 arg9 harg9 arg10 harg10 arg11 harg11 arg12 harg12 x0 x1 x2 r R hR j).trans (hl_at _ _ _ _ _ r j)
  have ea : (fun j => View.canon (La4 c i arg3 harg3 arg4 harg4 arg5 harg5 arg6 harg6 arg7 harg7 arg8 harg8 arg9 harg9 arg10 harg10 arg11 harg11 arg12 harg12 x0 x1 x2) (ix3 0 R j)) = _ := funext fun j => (fn_a1 c i arg3 harg3 arg4 harg4 arg5 harg5 arg6 harg6 arg7 harg7 arg8 harg8 arg9 harg9 arg10 harg10 arg11 harg11 arg12 harg12 x0 x1 x2 r R hR j).trans (ha_at _ _ _ _ _ _ r j)
  rw [el, ea]
  simp only [pv_m1 c i arg3 harg3 arg4 harg4 arg5 harg5 arg6 harg6 arg7 harg7 arg8 harg8 arg9 harg9 arg10 harg10 arg11 harg11 arg12 harg12 x0 x1 x2 r R hR, pv_l1 c i arg3 harg3 arg4 harg4 arg5 harg5 arg6 harg6 arg7 harg7 arg8 harg8 arg9 harg9 arg10 harg10 arg11 harg11 arg12 harg12 x0 x1 x2 r R hR, pv_a1 c i arg3 harg3 arg4 harg4 arg5 harg5 arg6 harg6 arg7 harg7 arg8 harg8 arg9 harg9 arg10 harg10 arg11 harg11 arg12 harg12 x0 x1 x2 r R hR, vH_at]
  exact ⟨_, st⟩
end

section
variable (r : Fin 512) (R : Fin 1024) (hR : R.val = 0 + r.val)
include hR
theorem pv_m2 (j : Fin 128) : m2 c i arg3 harg3 arg4 harg4 arg5 harg5 arg6 harg6 arg7 harg7 arg8 harg8 arg9 harg9 arg10 harg10 arg11 harg11 arg12 harg12 x0 x1 x2 (ix3 0 r j) = View.canon (Lm c i arg3 harg3 arg4 harg4 arg5 harg5 arg6 harg6 arg7 harg7 arg8 harg8 arg9 harg9 arg10 harg10 arg11 harg11 arg12 harg12 x0 x1 x2) (ix3 1 R j) := by
  have hr := r.isLt
  refine (cov_at arg10 (Lm1 c i arg3 harg3 arg4 harg4 arg5 harg5 arg6 harg6 arg7 harg7 arg8 harg8 arg9 harg9 arg10 harg10 arg11 harg11 arg12 harg12 x0 x1 x2) 1 0 512 _ 1 rfl r R hR j).trans ?_
  refine Eq.trans (canon_miss _ _ _ _ _ _ 1 R j (.inl (by decide))) ?_
  rfl
theorem pv_l2 (j : Fin 128) : l2 c i arg3 harg3 arg4 harg4 arg5 harg5 arg6 harg6 arg7 harg7 arg8 harg8 arg9 harg9 arg10 harg10 arg11 harg11 arg12 harg12 x0 x1 x2 (ix3 0 r j) = View.canon (Ll c i arg3 harg3 arg4 harg4 arg5 harg5 arg6 harg6 arg7 harg7 arg8 harg8 arg9 harg9 arg10 harg10 arg11 harg11 arg12 harg12 x0 x1 x2) (ix3 1 R j) := by
  have hr := r.isLt
  refine (cov_at arg11 (Ll1 c i arg3 harg3 arg4 harg4 arg5 harg5 arg6 harg6 arg7 harg7 arg8 harg8 arg9 harg9 arg10 harg10 arg11 harg11 arg12 harg12 x0 x1 x2) 1 0 512 _ 1 rfl r R hR j).trans ?_
  refine Eq.trans (canon_miss _ _ _ _ _ _ 1 R j (.inl (by decide))) ?_
  rfl
theorem pv_a2 (j : Fin 128) : a2 c i arg3 harg3 arg4 harg4 arg5 harg5 arg6 harg6 arg7 harg7 arg8 harg8 arg9 harg9 arg10 harg10 arg11 harg11 arg12 harg12 x0 x1 x2 (ix3 0 r j) = View.canon (La c i arg3 harg3 arg4 harg4 arg5 harg5 arg6 harg6 arg7 harg7 arg8 harg8 arg9 harg9 arg10 harg10 arg11 harg11 arg12 harg12 x0 x1 x2) (ix3 1 R j) := by
  have hr := r.isLt
  refine (cov_at arg12 (La1 c i arg3 harg3 arg4 harg4 arg5 harg5 arg6 harg6 arg7 harg7 arg8 harg8 arg9 harg9 arg10 harg10 arg11 harg11 arg12 harg12 x0 x1 x2) 1 0 512 _ 1 rfl r R hR j).trans ?_
  refine Eq.trans (canon_miss _ _ _ _ _ _ 1 R j (.inl (by decide))) ?_
  rfl
theorem fn_l2 (j : Fin 128) : View.canon (Ll4 c i arg3 harg3 arg4 harg4 arg5 harg5 arg6 harg6 arg7 harg7 arg8 harg8 arg9 harg9 arg10 harg10 arg11 harg11 arg12 harg12 x0 x1 x2) (ix3 1 R j) =
    hl (w3 i) (kH i arg4 harg4 x1) (qq2 c arg3 harg3 arg9 x0) (m2 c i arg3 harg3 arg4 harg4 arg5 harg5 arg6 harg6 arg7 harg7 arg8 harg8 arg9 harg9 arg10 harg10 arg11 harg11 arg12 harg12 x0 x1 x2) (l2 c i arg3 harg3 arg4 harg4 arg5 harg5 arg6 harg6 arg7 harg7 arg8 harg8 arg9 harg9 arg10 harg10 arg11 harg11 arg12 harg12 x0 x1 x2) (ix3 0 r j) := by
  have hr := r.isLt
  refine Eq.trans (canon_miss _ _ _ _ _ _ 1 R j (.inr (by omega))) ?_
  refine Eq.trans (canon_miss _ _ _ _ _ _ 1 R j (.inl (by decide))) ?_
  exact canon_hit _ _ _ _ _ _ 1 rfl r R hR j
theorem fn_a2 (j : Fin 128) : View.canon (La4 c i arg3 harg3 arg4 harg4 arg5 harg5 arg6 harg6 arg7 harg7 arg8 harg8 arg9 harg9 arg10 harg10 arg11 harg11 arg12 harg12 x0 x1 x2) (ix3 1 R j) =
    ha (w3 i) (kH i arg4 harg4 x1) (vH i arg5 harg5 x2) (qq2 c arg3 harg3 arg9 x0) (m2 c i arg3 harg3 arg4 harg4 arg5 harg5 arg6 harg6 arg7 harg7 arg8 harg8 arg9 harg9 arg10 harg10 arg11 harg11 arg12 harg12 x0 x1 x2) (a2 c i arg3 harg3 arg4 harg4 arg5 harg5 arg6 harg6 arg7 harg7 arg8 harg8 arg9 harg9 arg10 harg10 arg11 harg11 arg12 harg12 x0 x1 x2) (ix3 0 r j) := by
  have hr := r.isLt
  refine Eq.trans (canon_miss _ _ _ _ _ _ 1 R j (.inr (by omega))) ?_
  refine Eq.trans (canon_miss _ _ _ _ _ _ 1 R j (.inl (by decide))) ?_
  exact canon_hit _ _ _ _ _ _ 1 rfl r R hR j
include hσ in
theorem sc_2 (x : Fin 512) : scH (w3 i) (kH i arg4 harg4 x1) (qq2 c arg3 harg3 arg9 x0) r x = if 1024 * (i 2).val + x.val ≤ 1024 * (i 2).val + R.val then ((σ 1 R (1024 * (i 2).val + x.val) : ℝ) : EReal) else ⊥ := by
  have hi : (i 2).val < 16 := (i 2).isLt
  have hx := x.isLt
  have hr := r.isLt
  unfold scH
  rw [← hσ 1 R (1024 * (i 2).val) x.val (by omega), hR]
  refine (cmp_eq (i 2).val 0 x.val r.val hi (by omega) (by omega) (by omega) _ _).trans ?_
  have e : (∑ d : Fin 128, (qq2 c arg3 harg3 arg9 x0) (ix3 0 r d) * (kH i arg4 harg4 x1) (ix2 x d)) = scL (View.canon (LQ c arg3 harg3 x0)) x1 (1024 * (i 2).val) 1 R x.val := by
    unfold scL
    refine Finset.sum_congr rfl fun d _ => ?_
    rw [kH_at] <;> exact congrArg (· * _) (cov_at arg9 (LQ c arg3 harg3 x0) 1 0 512 _ 1 rfl r R hR d)
  rw [e]
  rfl
include hσ hv in
theorem inv_2 : ∃ m : Fin 128 → EReal, RowInv (σ 1 R) (1024 * (i 2).val + R.val) v (1024 * (i 2).val + 512) m
    (fun j => View.canon (Ll4 c i arg3 harg3 arg4 harg4 arg5 harg5 arg6 harg6 arg7 harg7 arg8 harg8 arg9 harg9 arg10 harg10 arg11 harg11 arg12 harg12 x0 x1 x2) (ix3 1 R j)) (fun j => View.canon (La4 c i arg3 harg3 arg4 harg4 arg5 harg5 arg6 harg6 arg7 harg7 arg8 harg8 arg9 harg9 arg10 harg10 arg11 harg11 arg12 harg12 x0 x1 x2) (ix3 1 R j)) := by
  have hi : (i 2).val < 16 := (i 2).isLt
  have st := RowInv.step4 (loop_inv c i arg3 harg3 arg4 harg4 arg5 harg5 arg6 harg6 arg7 harg7 arg8 harg8 arg9 harg9 arg10 harg10 arg11 harg11 arg12 harg12 x0 x1 x2 σ v hσ hv (i 2).val le_rfl 1 R) (by omega) (by omega) (scH (w3 i) (kH i arg4 harg4 x1) (qq2 c arg3 harg3 arg9 x0) r)
    (fun x => sc_2 (hσ := hσ) (hR := hR) (σ := σ) c i arg3 harg3 arg4 harg4 arg9 x0 x1 r R x) (fun x e => at2 x2 (1024 * (i 2).val + x.val) e) (fun x e => hv _ _ (by have := x.isLt; omega))
  have el : (fun j => View.canon (Ll4 c i arg3 harg3 arg4 harg4 arg5 harg5 arg6 harg6 arg7 harg7 arg8 harg8 arg9 harg9 arg10 harg10 arg11 harg11 arg12 harg12 x0 x1 x2) (ix3 1 R j)) = _ := funext fun j => (fn_l2 c i arg3 harg3 arg4 harg4 arg5 harg5 arg6 harg6 arg7 harg7 arg8 harg8 arg9 harg9 arg10 harg10 arg11 harg11 arg12 harg12 x0 x1 x2 r R hR j).trans (hl_at _ _ _ _ _ r j)
  have ea : (fun j => View.canon (La4 c i arg3 harg3 arg4 harg4 arg5 harg5 arg6 harg6 arg7 harg7 arg8 harg8 arg9 harg9 arg10 harg10 arg11 harg11 arg12 harg12 x0 x1 x2) (ix3 1 R j)) = _ := funext fun j => (fn_a2 c i arg3 harg3 arg4 harg4 arg5 harg5 arg6 harg6 arg7 harg7 arg8 harg8 arg9 harg9 arg10 harg10 arg11 harg11 arg12 harg12 x0 x1 x2 r R hR j).trans (ha_at _ _ _ _ _ _ r j)
  rw [el, ea]
  simp only [pv_m2 c i arg3 harg3 arg4 harg4 arg5 harg5 arg6 harg6 arg7 harg7 arg8 harg8 arg9 harg9 arg10 harg10 arg11 harg11 arg12 harg12 x0 x1 x2 r R hR, pv_l2 c i arg3 harg3 arg4 harg4 arg5 harg5 arg6 harg6 arg7 harg7 arg8 harg8 arg9 harg9 arg10 harg10 arg11 harg11 arg12 harg12 x0 x1 x2 r R hR, pv_a2 c i arg3 harg3 arg4 harg4 arg5 harg5 arg6 harg6 arg7 harg7 arg8 harg8 arg9 harg9 arg10 harg10 arg11 harg11 arg12 harg12 x0 x1 x2 r R hR, vH_at]
  exact ⟨_, st⟩
end

section
variable (r : Fin 512) (R : Fin 1024) (hR : R.val = 512 + r.val)
include hR
theorem pv_m3 (j : Fin 128) : m3 c i arg3 harg3 arg4 harg4 arg5 harg5 arg6 harg6 arg7 harg7 arg8 harg8 arg9 harg9 arg10 harg10 arg11 harg11 arg12 harg12 x0 x1 x2 (ix3 0 r j) = View.canon (Lm c i arg3 harg3 arg4 harg4 arg5 harg5 arg6 harg6 arg7 harg7 arg8 harg8 arg9 harg9 arg10 harg10 arg11 harg11 arg12 harg12 x0 x1 x2) (ix3 0 R j) := by
  have hr := r.isLt
  refine (cov_at arg10 (Lm2 c i arg3 harg3 arg4 harg4 arg5 harg5 arg6 harg6 arg7 harg7 arg8 harg8 arg9 harg9 arg10 harg10 arg11 harg11 arg12 harg12 x0 x1 x2) 0 512 512 _ 0 rfl r R hR j).trans ?_
  refine Eq.trans (canon_miss _ _ _ _ _ _ 0 R j (.inl (by decide))) ?_
  refine Eq.trans (canon_miss _ _ _ _ _ _ 0 R j (.inr (by omega))) ?_
  rfl
theorem pv_l3 (j : Fin 128) : l3 c i arg3 harg3 arg4 harg4 arg5 harg5 arg6 harg6 arg7 harg7 arg8 harg8 arg9 harg9 arg10 harg10 arg11 harg11 arg12 harg12 x0 x1 x2 (ix3 0 r j) = View.canon (Ll c i arg3 harg3 arg4 harg4 arg5 harg5 arg6 harg6 arg7 harg7 arg8 harg8 arg9 harg9 arg10 harg10 arg11 harg11 arg12 harg12 x0 x1 x2) (ix3 0 R j) := by
  have hr := r.isLt
  refine (cov_at arg11 (Ll2 c i arg3 harg3 arg4 harg4 arg5 harg5 arg6 harg6 arg7 harg7 arg8 harg8 arg9 harg9 arg10 harg10 arg11 harg11 arg12 harg12 x0 x1 x2) 0 512 512 _ 0 rfl r R hR j).trans ?_
  refine Eq.trans (canon_miss _ _ _ _ _ _ 0 R j (.inl (by decide))) ?_
  refine Eq.trans (canon_miss _ _ _ _ _ _ 0 R j (.inr (by omega))) ?_
  rfl
theorem pv_a3 (j : Fin 128) : a3 c i arg3 harg3 arg4 harg4 arg5 harg5 arg6 harg6 arg7 harg7 arg8 harg8 arg9 harg9 arg10 harg10 arg11 harg11 arg12 harg12 x0 x1 x2 (ix3 0 r j) = View.canon (La c i arg3 harg3 arg4 harg4 arg5 harg5 arg6 harg6 arg7 harg7 arg8 harg8 arg9 harg9 arg10 harg10 arg11 harg11 arg12 harg12 x0 x1 x2) (ix3 0 R j) := by
  have hr := r.isLt
  refine (cov_at arg12 (La2 c i arg3 harg3 arg4 harg4 arg5 harg5 arg6 harg6 arg7 harg7 arg8 harg8 arg9 harg9 arg10 harg10 arg11 harg11 arg12 harg12 x0 x1 x2) 0 512 512 _ 0 rfl r R hR j).trans ?_
  refine Eq.trans (canon_miss _ _ _ _ _ _ 0 R j (.inl (by decide))) ?_
  refine Eq.trans (canon_miss _ _ _ _ _ _ 0 R j (.inr (by omega))) ?_
  rfl
theorem fn_l3 (j : Fin 128) : View.canon (Ll4 c i arg3 harg3 arg4 harg4 arg5 harg5 arg6 harg6 arg7 harg7 arg8 harg8 arg9 harg9 arg10 harg10 arg11 harg11 arg12 harg12 x0 x1 x2) (ix3 0 R j) =
    gl (w3 i) (kG i arg4 harg4 x1) (qq3 c arg3 harg3 arg9 x0) (m3 c i arg3 harg3 arg4 harg4 arg5 harg5 arg6 harg6 arg7 harg7 arg8 harg8 arg9 harg9 arg10 harg10 arg11 harg11 arg12 harg12 x0 x1 x2) (l3 c i arg3 harg3 arg4 harg4 arg5 harg5 arg6 harg6 arg7 harg7 arg8 harg8 arg9 harg9 arg10 harg10 arg11 harg11 arg12 harg12 x0 x1 x2) (ix3 0 r j) := by
  have hr := r.isLt
  refine Eq.trans (canon_miss _ _ _ _ _ _ 0 R j (.inl (by decide))) ?_
  exact canon_hit _ _ _ _ _ _ 0 rfl r R hR j
theorem fn_a3 (j : Fin 128) : View.canon (La4 c i arg3 harg3 arg4 harg4 arg5 harg5 arg6 harg6 arg7 harg7 arg8 harg8 arg9 harg9 arg10 harg10 arg11 harg11 arg12 harg12 x0 x1 x2) (ix3 0 R j) =
    ga (w3 i) (kG i arg4 harg4 x1) (vG i arg5 harg5 x2) (qq3 c arg3 harg3 arg9 x0) (m3 c i arg3 harg3 arg4 harg4 arg5 harg5 arg6 harg6 arg7 harg7 arg8 harg8 arg9 harg9 arg10 harg10 arg11 harg11 arg12 harg12 x0 x1 x2) (a3 c i arg3 harg3 arg4 harg4 arg5 harg5 arg6 harg6 arg7 harg7 arg8 harg8 arg9 harg9 arg10 harg10 arg11 harg11 arg12 harg12 x0 x1 x2) (ix3 0 r j) := by
  have hr := r.isLt
  refine Eq.trans (canon_miss _ _ _ _ _ _ 0 R j (.inl (by decide))) ?_
  exact canon_hit _ _ _ _ _ _ 0 rfl r R hR j
include hσ in
theorem sc_3 (x : Fin 1024) : scG (w3 i) (kG i arg4 harg4 x1) (qq3 c arg3 harg3 arg9 x0) r x = if 1024 * (i 2).val + x.val ≤ 1024 * (i 2).val + R.val then ((σ 0 R (1024 * (i 2).val + x.val) : ℝ) : EReal) else ⊥ := by
  have hi : (i 2).val < 16 := (i 2).isLt
  have hx := x.isLt
  have hr := r.isLt
  unfold scG
  rw [← hσ 0 R (1024 * (i 2).val) x.val (by omega), hR]
  refine (cmp_eq (i 2).val 512 x.val r.val hi (by omega) (by omega) (by omega) _ _).trans ?_
  have e : (∑ d : Fin 128, (qq3 c arg3 harg3 arg9 x0) (ix3 0 r d) * (kG i arg4 harg4 x1) (ix2 x d)) = scL (View.canon (LQ c arg3 harg3 x0)) x1 (1024 * (i 2).val) 0 R x.val := by
    unfold scL
    refine Finset.sum_congr rfl fun d _ => ?_
    rw [kG_at] <;> exact congrArg (· * _) (cov_at arg9 (LQ c arg3 harg3 x0) 0 512 512 _ 0 rfl r R hR d)
  rw [e]
  rfl
include hσ hv in
theorem inv_3 : ∃ m : Fin 128 → EReal, RowInv (σ 0 R) (1024 * (i 2).val + R.val) v (1024 * (i 2).val + 1024) m
    (fun j => View.canon (Ll4 c i arg3 harg3 arg4 harg4 arg5 harg5 arg6 harg6 arg7 harg7 arg8 harg8 arg9 harg9 arg10 harg10 arg11 harg11 arg12 harg12 x0 x1 x2) (ix3 0 R j)) (fun j => View.canon (La4 c i arg3 harg3 arg4 harg4 arg5 harg5 arg6 harg6 arg7 harg7 arg8 harg8 arg9 harg9 arg10 harg10 arg11 harg11 arg12 harg12 x0 x1 x2) (ix3 0 R j)) := by
  have hi : (i 2).val < 16 := (i 2).isLt
  have st := RowInv.step8 (loop_inv c i arg3 harg3 arg4 harg4 arg5 harg5 arg6 harg6 arg7 harg7 arg8 harg8 arg9 harg9 arg10 harg10 arg11 harg11 arg12 harg12 x0 x1 x2 σ v hσ hv (i 2).val le_rfl 0 R) (by omega) (by omega) (scG (w3 i) (kG i arg4 harg4 x1) (qq3 c arg3 harg3 arg9 x0) r)
    (fun x => sc_3 (hσ := hσ) (hR := hR) (σ := σ) c i arg3 harg3 arg4 harg4 arg9 x0 x1 r R x) (fun x e => at2 x2 (1024 * (i 2).val + x.val) e) (fun x e => hv _ _ (by have := x.isLt; omega))
  have el : (fun j => View.canon (Ll4 c i arg3 harg3 arg4 harg4 arg5 harg5 arg6 harg6 arg7 harg7 arg8 harg8 arg9 harg9 arg10 harg10 arg11 harg11 arg12 harg12 x0 x1 x2) (ix3 0 R j)) = _ := funext fun j => (fn_l3 c i arg3 harg3 arg4 harg4 arg5 harg5 arg6 harg6 arg7 harg7 arg8 harg8 arg9 harg9 arg10 harg10 arg11 harg11 arg12 harg12 x0 x1 x2 r R hR j).trans (gl_at _ _ _ _ _ r j)
  have ea : (fun j => View.canon (La4 c i arg3 harg3 arg4 harg4 arg5 harg5 arg6 harg6 arg7 harg7 arg8 harg8 arg9 harg9 arg10 harg10 arg11 harg11 arg12 harg12 x0 x1 x2) (ix3 0 R j)) = _ := funext fun j => (fn_a3 c i arg3 harg3 arg4 harg4 arg5 harg5 arg6 harg6 arg7 harg7 arg8 harg8 arg9 harg9 arg10 harg10 arg11 harg11 arg12 harg12 x0 x1 x2 r R hR j).trans (ga_at _ _ _ _ _ _ r j)
  rw [el, ea]
  simp only [pv_m3 c i arg3 harg3 arg4 harg4 arg5 harg5 arg6 harg6 arg7 harg7 arg8 harg8 arg9 harg9 arg10 harg10 arg11 harg11 arg12 harg12 x0 x1 x2 r R hR, pv_l3 c i arg3 harg3 arg4 harg4 arg5 harg5 arg6 harg6 arg7 harg7 arg8 harg8 arg9 harg9 arg10 harg10 arg11 harg11 arg12 harg12 x0 x1 x2 r R hR, pv_a3 c i arg3 harg3 arg4 harg4 arg5 harg5 arg6 harg6 arg7 harg7 arg8 harg8 arg9 harg9 arg10 harg10 arg11 harg11 arg12 harg12 x0 x1 x2 r R hR, vG_at]
  exact ⟨_, st⟩
end

section
variable (r : Fin 512) (R : Fin 1024) (hR : R.val = 512 + r.val)
include hR
theorem pv_m4 (j : Fin 128) : m4' c i arg3 harg3 arg4 harg4 arg5 harg5 arg6 harg6 arg7 harg7 arg8 harg8 arg9 harg9 arg10 harg10 arg11 harg11 arg12 harg12 x0 x1 x2 (ix3 0 r j) = View.canon (Lm c i arg3 harg3 arg4 harg4 arg5 harg5 arg6 harg6 arg7 harg7 arg8 harg8 arg9 harg9 arg10 harg10 arg11 harg11 arg12 harg12 x0 x1 x2) (ix3 1 R j) := by
  have hr := r.isLt
  refine (cov_at arg10 (Lm3 c i arg3 harg3 arg4 harg4 arg5 harg5 arg6 harg6 arg7 harg7 arg8 harg8 arg9 harg9 arg10 harg10 arg11 harg11 arg12 harg12 x0 x1 x2) 1 512 512 _ 1 rfl r R hR j).trans ?_
  refine Eq.trans (canon_miss _ _ _ _ _ _ 1 R j (.inl (by decide))) ?_
  refine Eq.trans (canon_miss _ _ _ _ _ _ 1 R j (.inr (by omega))) ?_
  refine Eq.trans (canon_miss _ _ _ _ _ _ 1 R j (.inl (by decide))) ?_
  rfl
theorem pv_l4 (j : Fin 128) : l4' c i arg3 harg3 arg4 harg4 arg5 harg5 arg6 harg6 arg7 harg7 arg8 harg8 arg9 harg9 arg10 harg10 arg11 harg11 arg12 harg12 x0 x1 x2 (ix3 0 r j) = View.canon (Ll c i arg3 harg3 arg4 harg4 arg5 harg5 arg6 harg6 arg7 harg7 arg8 harg8 arg9 harg9 arg10 harg10 arg11 harg11 arg12 harg12 x0 x1 x2) (ix3 1 R j) := by
  have hr := r.isLt
  refine (cov_at arg11 (Ll3 c i arg3 harg3 arg4 harg4 arg5 harg5 arg6 harg6 arg7 harg7 arg8 harg8 arg9 harg9 arg10 harg10 arg11 harg11 arg12 harg12 x0 x1 x2) 1 512 512 _ 1 rfl r R hR j).trans ?_
  refine Eq.trans (canon_miss _ _ _ _ _ _ 1 R j (.inl (by decide))) ?_
  refine Eq.trans (canon_miss _ _ _ _ _ _ 1 R j (.inr (by omega))) ?_
  refine Eq.trans (canon_miss _ _ _ _ _ _ 1 R j (.inl (by decide))) ?_
  rfl
theorem pv_a4 (j : Fin 128) : a4' c i arg3 harg3 arg4 harg4 arg5 harg5 arg6 harg6 arg7 harg7 arg8 harg8 arg9 harg9 arg10 harg10 arg11 harg11 arg12 harg12 x0 x1 x2 (ix3 0 r j) = View.canon (La c i arg3 harg3 arg4 harg4 arg5 harg5 arg6 harg6 arg7 harg7 arg8 harg8 arg9 harg9 arg10 harg10 arg11 harg11 arg12 harg12 x0 x1 x2) (ix3 1 R j) := by
  have hr := r.isLt
  refine (cov_at arg12 (La3 c i arg3 harg3 arg4 harg4 arg5 harg5 arg6 harg6 arg7 harg7 arg8 harg8 arg9 harg9 arg10 harg10 arg11 harg11 arg12 harg12 x0 x1 x2) 1 512 512 _ 1 rfl r R hR j).trans ?_
  refine Eq.trans (canon_miss _ _ _ _ _ _ 1 R j (.inl (by decide))) ?_
  refine Eq.trans (canon_miss _ _ _ _ _ _ 1 R j (.inr (by omega))) ?_
  refine Eq.trans (canon_miss _ _ _ _ _ _ 1 R j (.inl (by decide))) ?_
  rfl
theorem fn_l4 (j : Fin 128) : View.canon (Ll4 c i arg3 harg3 arg4 harg4 arg5 harg5 arg6 harg6 arg7 harg7 arg8 harg8 arg9 harg9 arg10 harg10 arg11 harg11 arg12 harg12 x0 x1 x2) (ix3 1 R j) =
    gl (w3 i) (kG i arg4 harg4 x1) (qq4 c arg3 harg3 arg9 x0) (m4' c i arg3 harg3 arg4 harg4 arg5 harg5 arg6 harg6 arg7 harg7 arg8 harg8 arg9 harg9 arg10 harg10 arg11 harg11 arg12 harg12 x0 x1 x2) (l4' c i arg3 harg3 arg4 harg4 arg5 harg5 arg6 harg6 arg7 harg7 arg8 harg8 arg9 harg9 arg10 harg10 arg11 harg11 arg12 harg12 x0 x1 x2) (ix3 0 r j) := by
  have hr := r.isLt
  exact canon_hit _ _ _ _ _ _ 1 rfl r R hR j
theorem fn_a4 (j : Fin 128) : View.canon (La4 c i arg3 harg3 arg4 harg4 arg5 harg5 arg6 harg6 arg7 harg7 arg8 harg8 arg9 harg9 arg10 harg10 arg11 harg11 arg12 harg12 x0 x1 x2) (ix3 1 R j) =
    ga (w3 i) (kG i arg4 harg4 x1) (vG i arg5 harg5 x2) (qq4 c arg3 harg3 arg9 x0) (m4' c i arg3 harg3 arg4 harg4 arg5 harg5 arg6 harg6 arg7 harg7 arg8 harg8 arg9 harg9 arg10 harg10 arg11 harg11 arg12 harg12 x0 x1 x2) (a4' c i arg3 harg3 arg4 harg4 arg5 harg5 arg6 harg6 arg7 harg7 arg8 harg8 arg9 harg9 arg10 harg10 arg11 harg11 arg12 harg12 x0 x1 x2) (ix3 0 r j) := by
  have hr := r.isLt
  exact canon_hit _ _ _ _ _ _ 1 rfl r R hR j
include hσ in
theorem sc_4 (x : Fin 1024) : scG (w3 i) (kG i arg4 harg4 x1) (qq4 c arg3 harg3 arg9 x0) r x = if 1024 * (i 2).val + x.val ≤ 1024 * (i 2).val + R.val then ((σ 1 R (1024 * (i 2).val + x.val) : ℝ) : EReal) else ⊥ := by
  have hi : (i 2).val < 16 := (i 2).isLt
  have hx := x.isLt
  have hr := r.isLt
  unfold scG
  rw [← hσ 1 R (1024 * (i 2).val) x.val (by omega), hR]
  refine (cmp_eq (i 2).val 512 x.val r.val hi (by omega) (by omega) (by omega) _ _).trans ?_
  have e : (∑ d : Fin 128, (qq4 c arg3 harg3 arg9 x0) (ix3 0 r d) * (kG i arg4 harg4 x1) (ix2 x d)) = scL (View.canon (LQ c arg3 harg3 x0)) x1 (1024 * (i 2).val) 1 R x.val := by
    unfold scL
    refine Finset.sum_congr rfl fun d _ => ?_
    rw [kG_at] <;> exact congrArg (· * _) (cov_at arg9 (LQ c arg3 harg3 x0) 1 512 512 _ 1 rfl r R hR d)
  rw [e]
  rfl
include hσ hv in
theorem inv_4 : ∃ m : Fin 128 → EReal, RowInv (σ 1 R) (1024 * (i 2).val + R.val) v (1024 * (i 2).val + 1024) m
    (fun j => View.canon (Ll4 c i arg3 harg3 arg4 harg4 arg5 harg5 arg6 harg6 arg7 harg7 arg8 harg8 arg9 harg9 arg10 harg10 arg11 harg11 arg12 harg12 x0 x1 x2) (ix3 1 R j)) (fun j => View.canon (La4 c i arg3 harg3 arg4 harg4 arg5 harg5 arg6 harg6 arg7 harg7 arg8 harg8 arg9 harg9 arg10 harg10 arg11 harg11 arg12 harg12 x0 x1 x2) (ix3 1 R j)) := by
  have hi : (i 2).val < 16 := (i 2).isLt
  have st := RowInv.step8 (loop_inv c i arg3 harg3 arg4 harg4 arg5 harg5 arg6 harg6 arg7 harg7 arg8 harg8 arg9 harg9 arg10 harg10 arg11 harg11 arg12 harg12 x0 x1 x2 σ v hσ hv (i 2).val le_rfl 1 R) (by omega) (by omega) (scG (w3 i) (kG i arg4 harg4 x1) (qq4 c arg3 harg3 arg9 x0) r)
    (fun x => sc_4 (hσ := hσ) (hR := hR) (σ := σ) c i arg3 harg3 arg4 harg4 arg9 x0 x1 r R x) (fun x e => at2 x2 (1024 * (i 2).val + x.val) e) (fun x e => hv _ _ (by have := x.isLt; omega))
  have el : (fun j => View.canon (Ll4 c i arg3 harg3 arg4 harg4 arg5 harg5 arg6 harg6 arg7 harg7 arg8 harg8 arg9 harg9 arg10 harg10 arg11 harg11 arg12 harg12 x0 x1 x2) (ix3 1 R j)) = _ := funext fun j => (fn_l4 c i arg3 harg3 arg4 harg4 arg5 harg5 arg6 harg6 arg7 harg7 arg8 harg8 arg9 harg9 arg10 harg10 arg11 harg11 arg12 harg12 x0 x1 x2 r R hR j).trans (gl_at _ _ _ _ _ r j)
  have ea : (fun j => View.canon (La4 c i arg3 harg3 arg4 harg4 arg5 harg5 arg6 harg6 arg7 harg7 arg8 harg8 arg9 harg9 arg10 harg10 arg11 harg11 arg12 harg12 x0 x1 x2) (ix3 1 R j)) = _ := funext fun j => (fn_a4 c i arg3 harg3 arg4 harg4 arg5 harg5 arg6 harg6 arg7 harg7 arg8 harg8 arg9 harg9 arg10 harg10 arg11 harg11 arg12 harg12 x0 x1 x2 r R hR j).trans (ga_at _ _ _ _ _ _ r j)
  rw [el, ea]
  simp only [pv_m4 c i arg3 harg3 arg4 harg4 arg5 harg5 arg6 harg6 arg7 harg7 arg8 harg8 arg9 harg9 arg10 harg10 arg11 harg11 arg12 harg12 x0 x1 x2 r R hR, pv_l4 c i arg3 harg3 arg4 harg4 arg5 harg5 arg6 harg6 arg7 harg7 arg8 harg8 arg9 harg9 arg10 harg10 arg11 harg11 arg12 harg12 x0 x1 x2 r R hR, pv_a4 c i arg3 harg3 arg4 harg4 arg5 harg5 arg6 harg6 arg7 harg7 arg8 harg8 arg9 harg9 arg10 harg10 arg11 harg11 arg12 harg12 x0 x1 x2 r R hR, vG_at]
  exact ⟨_, st⟩
end

include hσ hv in
/-- After the run: the sums and averages over all the keys the row sees. -/
theorem final_inv (cc : Fin 2) (R : Fin 1024) : ∃ (n : ℕ) (m : Fin 128 → EReal), 1024 * (i 2).val + R.val < n ∧ n ≤ 16384
    ∧ RowInv (σ cc R) (1024 * (i 2).val + R.val) v n m (fun j => View.canon (Ll4 c i arg3 harg3 arg4 harg4 arg5 harg5 arg6 harg6 arg7 harg7 arg8 harg8 arg9 harg9 arg10 harg10 arg11 harg11 arg12 harg12 x0 x1 x2) (ix3 cc R j)) (fun j => View.canon (La4 c i arg3 harg3 arg4 harg4 arg5 harg5 arg6 harg6 arg7 harg7 arg8 harg8 arg9 harg9 arg10 harg10 arg11 harg11 arg12 harg12 x0 x1 x2) (ix3 cc R j)) := by
  have hi : (i 2).val < 16 := (i 2).isLt
  have hr := R.isLt
  by_cases h : R.val < 512
  · fin_cases cc
    · obtain ⟨m, hm⟩ := inv_1 c i arg3 harg3 arg4 harg4 arg5 harg5 arg6 harg6 arg7 harg7 arg8 harg8 arg9 harg9 arg10 harg10 arg11 harg11 arg12 harg12 x0 x1 x2 σ v hσ hv ⟨R.val, h⟩ R (by simp)
      exact ⟨_, m, by omega, by omega, hm⟩
    · obtain ⟨m, hm⟩ := inv_2 c i arg3 harg3 arg4 harg4 arg5 harg5 arg6 harg6 arg7 harg7 arg8 harg8 arg9 harg9 arg10 harg10 arg11 harg11 arg12 harg12 x0 x1 x2 σ v hσ hv ⟨R.val, h⟩ R (by simp)
      exact ⟨_, m, by omega, by omega, hm⟩
  · fin_cases cc
    · obtain ⟨m, hm⟩ := inv_3 c i arg3 harg3 arg4 harg4 arg5 harg5 arg6 harg6 arg7 harg7 arg8 harg8 arg9 harg9 arg10 harg10 arg11 harg11 arg12 harg12 x0 x1 x2 σ v hσ hv ⟨R.val - 512, by omega⟩ R (by show R.val = 512 + (R.val - 512); omega)
      exact ⟨_, m, by omega, by omega, hm⟩
    · obtain ⟨m, hm⟩ := inv_4 c i arg3 harg3 arg4 harg4 arg5 harg5 arg6 harg6 arg7 harg7 arg8 harg8 arg9 harg9 arg10 harg10 arg11 harg11 arg12 harg12 x0 x1 x2 σ v hσ hv ⟨R.val - 512, by omega⟩ R (by show R.val = 512 + (R.val - 512); omega)
      exact ⟨_, m, by omega, by omega, hm⟩
end
end Cert.DiffProof
-- ==== Proof.DiffOut.lean ====
/- The attention kernel's result at a grid point, at an index: with the queries, keys and values real, two softmaxes over the
   keys each row sees, their difference over the values, normalised. -/
module

public import proofs.«01_k».proof.Proof.DiffDiag

@[expose] public section

noncomputable section

namespace Cert.DiffProof

open Cert.DiffIdeal Cert.DiffIdeal.Gen Cert.DiffIdeal.Value Idealize.ShloMosaic Idealize.ShloMosaic.TcCoe Idealize.SL.Sem

theorem q0_at (q : Vec Ideal S1024x128 .bf16) (r : Fin 1024) (d : Fin 128) :
    k0_pay96 q (ix3 0 r d) = if d.val < 64 then q (ix2 r d) else 0 := by
  have h : ∀ d : Fin 128, IntOp.cmpi CmpIPredicate.slt (BitVec.ofNat 32 d.val) 64#32 = if d.val < 64 then 1#1 else 0#1 := by decide +kernel
  pointwise [k0_pay96, k0_pay94, k0_pay95]
  rw [h]
  split_ifs
  · rfl
  · rfl
theorem q1_at (q : Vec Ideal S1024x128 .bf16) (r : Fin 1024) (d : Fin 128) :
    k0_pay97 q (ix3 0 r d) = if d.val < 64 then 0 else q (ix2 r d) := by
  have h : ∀ d : Fin 128, IntOp.cmpi CmpIPredicate.sge (BitVec.ofNat 32 d.val) 64#32 = if d.val < 64 then 0#1 else 1#1 := by decide +kernel
  pointwise [k0_pay97, k0_pay94, k0_pay95]
  rw [h]
  split_ifs
  · rfl
  · rfl

/-- The weight of the second softmax. -/
def lamE (p : Vec Ideal S4x64 .f32) : EReal :=
  Ideal.exp (∑ x : Fin 64, p (ix2 0 x) * p (ix2 1 x)) - Ideal.exp (∑ x : Fin 64, p (ix2 2 x) * p (ix2 3 x)) + Ideal.ofBits FTy.f32 1045220557#32

/-- The normalisation of a row `O` at column `d`. -/
def nrm (O : Fin 128 → EReal) (g : EReal) (d : Fin 128) : EReal :=
  O d * Ideal.rsqrt (Ideal.div (∑ x, O x * O x) (Ideal.ofBits FTy.f32 1124073472#32) + Ideal.ofBits FTy.f32 925353388#32) * g * Ideal.ofBits FTy.f32 1061997773#32

theorem fin_at (l0 l1 a0 a1 : Vec Ideal S1x1024x128 .f32) (p : Vec Ideal S4x64 .f32) (g : Vec Ideal S1x128 .f32) (r : Fin 1024) (d : Fin 128) :
    k0_pay1 (k0_pay189 p) (k0_pay190 l0 a0) (k0_pay191 a1) (k0_pay192 l1) g (ix2 r d)
      = nrm (fun e => Ideal.div (a0 (ix3 0 r e)) (∑ x, l0 (ix3 0 r x)) - lamE p * Ideal.div (a1 (ix3 0 r e)) (∑ x, l1 (ix3 0 r x))) (g (ix2 0 d)) d := by
  pointwise [k0_pay1, k0_pay189, k0_pay190, k0_pay191, k0_pay192]
  rfl

/-- The scores, in exponents of two: the product of a query's and a key's halves of component `cc`. -/
def sg (qr : Fin 1024 → Fin 128 → ℝ) (kr : ℕ → Fin 128 → ℝ) (cc : Fin 2) (r : Fin 1024) (k : ℕ) : ℝ :=
  ∑ d : Fin 64, qr r ⟨64 * cc.val + d.val, by omega⟩ * kr k ⟨64 * cc.val + d.val, by omega⟩

theorem sum_split (f : Fin 128 → EReal) : ∑ d, f d = ∑ d : Fin 64, f ⟨d.val, by omega⟩ + ∑ d : Fin 64, f ⟨64 + d.val, by omega⟩ :=
  Fin.sum_univ_add (a := 64) (b := 64) f

theorem coe_sum_fin' {n : ℕ} (f : Fin n → ℝ) : ((∑ x, f x : ℝ) : EReal) = ∑ x, ((f x : ℝ) : EReal) := by
  induction n with
  | zero => rfl
  | succ n ih => rw [Fin.sum_univ_succ, Fin.sum_univ_succ, EReal.coe_add, ih]

section
variable (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1024x128 .bf16) (harg8 : arg8.IsWhole) (arg9 : Memref sig .tc .vmem S2x1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole)
  (x0 : Vec Ideal S1024x128 .bf16) (x1 x2 : Vec Ideal S16384x128 .bf16)
variable (qr : Fin 1024 → Fin 128 → ℝ) (kr v : ℕ → Fin 128 → ℝ) (hq : ∀ r d, x0 (ix2 r d) = ((qr r d : ℝ) : EReal))
  (hk : ∀ (n : Fin 16384) d, x1 (ix2 n d) = ((kr n.val d : ℝ) : EReal)) (hv : ∀ (n : Fin 16384) d, x2 (ix2 n d) = ((v n.val d : ℝ) : EReal))

theorem ldq : View.readAt (Elt Ideal) arg3.view (Rect.unit (s := S1024x128) ![0, 0] S1024x128.size inb_S1024x128_S1024x128_0_0).toLoadRect (harg3.unread x0) = x0 := by
  rw [View.readAt_eq_ld, harg3.read_unread]
  exact View.ld_unit_zero (by funext a; fin_cases a <;> rfl) _ _

theorem lq0 (r : Fin 1024) (d : Fin 128) : View.canon (LQ c arg3 harg3 x0) (ix3 0 r d) = if d.val < 64 then x0 (ix2 r d) else 0 := by
  unfold LQ kernelRun0_A.sl.HS0_2
  refine (canon_miss _ _ _ _ _ _ 0 r d (.inl (by decide))).trans ((canon_hit _ _ _ _ _ _ 0 rfl r r (Nat.zero_add _).symm d).trans ?_)
  refine Eq.trans ?_ (q0_at x0 r d)
  exact congrFun (congrArg (k0_pay96 (F := Ideal)) (ldq arg3 harg3 x0)) _
theorem lq1 (r : Fin 1024) (d : Fin 128) : View.canon (LQ c arg3 harg3 x0) (ix3 1 r d) = if d.val < 64 then 0 else x0 (ix2 r d) := by
  unfold LQ kernelRun0_A.sl.HS0_2
  refine (canon_hit _ _ _ _ _ _ 1 rfl r r (Nat.zero_add _).symm d).trans ?_
  refine Eq.trans ?_ (q1_at x0 r d)
  exact congrFun (congrArg (k0_pay97 (F := Ideal)) (ldq arg3 harg3 x0)) _

include hq hk in
theorem hσ_of (cc : Fin 2) (r : Fin 1024) (n x : ℕ) (h : n + x < 16384) :
    scL (View.canon (LQ c arg3 harg3 x0)) x1 n cc r x = ((sg qr kr cc r (n + x) : ℝ) : EReal) := by
  have ha : ∀ d, at2 x1 (n + x) d = ((kr (n + x) d : ℝ) : EReal) := fun d => by
    unfold at2
    rw [dif_pos h]
    exact hk ⟨n + x, h⟩ d
  unfold scL sg
  rw [sum_split, coe_sum_fin']
  fin_cases cc
  · refine Eq.trans (congrArg₂ (· + ·) (Finset.sum_congr rfl fun d _ => ?_) (Finset.sum_eq_zero fun d _ => ?_)) (add_zero _)
    · refine (congrArg₂ (· * ·) (lq0 c arg3 harg3 x0 r _) (ha _)).trans ?_
      rw [if_pos d.isLt, hq, ← EReal.coe_mul]
      have e : (⟨d.val, by omega⟩ : Fin 128) = ⟨64 * (0 : Fin 2).val + d.val, by simp; omega⟩ := Fin.ext (by simp)
      rw [e]
      rfl
    · refine (congrArg₂ (· * ·) (lq0 c arg3 harg3 x0 r _) (ha _)).trans ?_
      rw [if_neg (by show ¬ 64 + d.val < 64; omega), zero_mul]
  · refine Eq.trans (congrArg₂ (· + ·) (Finset.sum_eq_zero fun d _ => ?_) (Finset.sum_congr rfl fun d _ => ?_)) (zero_add _)
    · refine (congrArg₂ (· * ·) (lq1 c arg3 harg3 x0 r _) (ha _)).trans ?_
      rw [if_pos d.isLt, zero_mul]
    · refine (congrArg₂ (· * ·) (lq1 c arg3 harg3 x0 r _) (ha _)).trans ?_
      rw [if_neg (by show ¬ 64 + d.val < 64; omega), hq, ← EReal.coe_mul]
      rfl

/-- A component's average of the values. -/
def av (s : ℕ → ℝ) (R : ℕ) (w : ℕ → Fin 128 → ℝ) (e : Fin 128) : ℝ := ∑ k ∈ Finset.range 16384, prob s R 16384 k * w k e

include hq hk hv in
theorem quot_at (cc : Fin 2) (r : Fin 1024) (e : Fin 128) :
    Ideal.div (View.canon (La4 c i arg3 harg3 arg4 harg4 arg5 harg5 arg6 harg6 arg7 harg7 arg8 harg8 arg9 harg9 arg10 harg10 arg11 harg11 arg12 harg12 x0 x1 x2) (ix3 cc r e)) (∑ j, View.canon (Ll4 c i arg3 harg3 arg4 harg4 arg5 harg5 arg6 harg6 arg7 harg7 arg8 harg8 arg9 harg9 arg10 harg10 arg11 harg11 arg12 harg12 x0 x1 x2) (ix3 cc r j))
      = ((av (sg qr kr cc r) (1024 * (i 2).val + r.val) v e : ℝ) : EReal) := by
  obtain ⟨n, m, h1, h2, h3⟩ := final_inv c i arg3 harg3 arg4 harg4 arg5 harg5 arg6 harg6 arg7 harg7 arg8 harg8 arg9 harg9 arg10 harg10 arg11 harg11 arg12 harg12 x0 x1 x2 (sg qr kr) v (fun cc r n x h => hσ_of c arg3 harg3 x0 x1 qr kr hq hk cc r n x h)
    (fun n e h => by unfold at2; rw [dif_pos h]; exact hv ⟨n, h⟩ e) cc r
  exact h3.quot h1 16384 h2 e

include hq hk hv in
/-- The point's result at an index. -/
theorem out_at (x3 : Vec Ideal S4x64 .f32) (x4 : Vec Ideal S1x128 .f32) (r : Fin 1024) (d : Fin 128) :
    out0_A_5 (F := Ideal) c i arg3 harg3 arg4 harg4 arg5 harg5 arg6 harg6 arg7 harg7 arg8 harg8 arg9 harg9 arg10 harg10 arg11 harg11 arg12 harg12 x0 x1 x2 x3 x4 (ix2 r d)
      = nrm (fun e => ((av (sg qr kr 0 r) (1024 * (i 2).val + r.val) v e : ℝ) : EReal)
          - lamE x3 * ((av (sg qr kr 1 r) (1024 * (i 2).val + r.val) v e : ℝ) : EReal)) (x4 (ix2 0 d)) d := by
  unfold out0_A_5
  rw [out_eq, View.read_writes_junk_eq_canon, View.canon_unit_zero (by funext a; fin_cases a <;> rfl), fin_at]
  have e3 : View.readAt (Elt Ideal) arg6.view (Rect.unit (s := S4x64) ![0, 0] S4x64.size inb_S4x64_S4x64_0_0).toLoadRect (harg6.unread x3) = x3 := by
    rw [View.readAt_eq_ld, harg6.read_unread]
    exact View.ld_unit_zero (by funext a; fin_cases a <;> rfl) _ _
  have e4 : View.readAt (Elt Ideal) arg7.view (Rect.unit (s := S1x128) ![0, 0] S1x128.size inb_S1x128_S1x128_0_0).toLoadRect (harg7.unread x4) = x4 := by
    rw [View.readAt_eq_ld, harg7.read_unread]
    exact View.ld_unit_zero (by funext a; fin_cases a <;> rfl) _ _
  rw [e3, e4]
  refine congrArg (fun O => nrm O (x4 (ix2 0 d)) d) (funext fun e => ?_)
  have r0 := fun (mr : Memref sig .tc .vmem S2x1024x128 .f32) L (j : Fin 128) => cov_at mr L 0 0 1024 inb_S2x1024x128_S1x1024x128_0_0_0 0 rfl r r (Nat.zero_add _).symm j
  have r1 := fun (mr : Memref sig .tc .vmem S2x1024x128 .f32) L (j : Fin 128) => cov_at mr L 1 0 1024 inb_S2x1024x128_S1x1024x128_1_0_0 1 rfl r r (Nat.zero_add _).symm j
  refine congrArg₂ (fun a b : EReal => a - lamE x3 * b) ?_ ?_
  · refine Eq.trans ?_ (quot_at c i arg3 harg3 arg4 harg4 arg5 harg5 arg6 harg6 arg7 harg7 arg8 harg8 arg9 harg9 arg10 harg10 arg11 harg11 arg12 harg12 x0 x1 x2 qr kr v hq hk hv 0 r e)
    exact congrArg₂ Ideal.div (r0 _ _ e) (Finset.sum_congr rfl fun j _ => r0 _ _ j)
  · refine Eq.trans ?_ (quot_at c i arg3 harg3 arg4 harg4 arg5 harg5 arg6 harg6 arg7 harg7 arg8 harg8 arg9 harg9 arg10 harg10 arg11 harg11 arg12 harg12 x0 x1 x2 qr kr v hq hk hv 1 r e)
    exact congrArg₂ Ideal.div (r1 _ _ e) (Finset.sum_congr rfl fun j _ => r1 _ _ j)
end
end Cert.DiffProof
-- ==== Proof.DiffArr.lean ====
/- The arrays the attention kernel's windows read, at an index of the arguments, and the result array at an index. -/
module

public import proofs.«01_k».proof.Proof.DiffOut
public import Idealize.ShloMosaic.Lib.Pipeline.Value
public import Idealize.ShloMosaic.Lib.Pointwise
public import Idealize.ShloMosaic.Lib.StableHlo.ReadAt

@[expose] public section

noncomputable section

namespace Cert.DiffProof

open Cert.DiffIdeal Cert.DiffIdeal.Gen Cert.DiffIdeal.Value Idealize.ShloMosaic Idealize.ShloMosaic.TcCoe Idealize.SL.Sem

variable (m : (ℓ : Loc nD τ sig) → Buf (Elt Ideal) ℓ)

abbrev aQ (c : Dev nD) : Vec Ideal S2x16384x4x2x64 .f32 := m ((c : Thread nD τ).loc main_arg0)
abbrev aK (c : Dev nD) : Vec Ideal S2x16384x4x2x64 .f32 := m ((c : Thread nD τ).loc main_arg1)
abbrev aV (c : Dev nD) : Vec Ideal S2x16384x4x128 .f32 := m ((c : Thread nD τ).loc main_arg2)
abbrev aL (c : Dev nD) : Vec Ideal S4x64 .f32 := m ((c : Thread nD τ).loc main_arg3)
abbrev aS (c : Dev nD) : Vec Ideal S128 .f32 := m ((c : Thread nD τ).loc main_arg4)

theorem v6_at (c : Dev nD) (R : Fin 32768) (J : Fin 512) :
    (V m c main_v6 : Vec Ideal S32768x512 .bf16) (ix2 R J)
      = Ideal.div (aQ m c (ix5 ⟨R.val / 16384, by omega⟩ ⟨R.val % 16384, by omega⟩ ⟨J.val / 128, by omega⟩ ⟨J.val / 64 % 2, by omega⟩ ⟨J.val % 64, by omega⟩)
          * Ideal.ofBits .f32 0x3E000000#32) (Ideal.log (Ideal.ofBits .f32 0x40000000#32)) := by
  unfold V
  after_reads_at

theorem v8_at (c : Dev nD) (R : Fin 32768) (J : Fin 512) :
    (V m c main_v8 : Vec Ideal S32768x512 .bf16) (ix2 R J)
      = aK m c (ix5 ⟨R.val / 16384, by omega⟩ ⟨R.val % 16384, by omega⟩ ⟨J.val / 128, by omega⟩ ⟨J.val / 64 % 2, by omega⟩ ⟨J.val % 64, by omega⟩) := by
  unfold V
  after_reads_at

theorem v10_at (c : Dev nD) (R : Fin 32768) (J : Fin 512) :
    (V m c main_v10 : Vec Ideal S32768x512 .bf16) (ix2 R J)
      = aV m c (ix4 ⟨R.val / 16384, by omega⟩ ⟨R.val % 16384, by omega⟩ ⟨J.val / 128, by omega⟩ ⟨J.val % 128, by omega⟩) := by
  unfold V
  after_reads_at

theorem v11_at (c : Dev nD) (a : Fin 1) (j : Fin 128) :
    (V m c main_v11 : Vec Ideal S1x128 .f32) (ix2 a j) = aS m c (ix1 j) := by
  unfold V
  after_reads_at

theorem vL_at' (c : Dev nD) (a : Fin 4) (j : Fin 64) :
    (V m c main_arg3 : Vec Ideal S4x64 .f32) (ix2 a j) = aL m c (ix2 a j) := by
  unfold V
  after_reads_at

/-- The windows' block numbers at a point: batch row `t / 64`, head `t / 16 % 4`, query block `t % 16`. -/
theorem idx_all : ∀ t : Fin cfg0.N,
    ((grid0.coords t 2).val = t.val % 16)
    ∧ (win0_0.index t (0 : Fin 2) = 16 * (t.val / 64) + t.val % 16 ∧ win0_0.index t (1 : Fin 2) = t.val / 16 % 4)
    ∧ (win0_1.index t (0 : Fin 2) = t.val / 64 ∧ win0_1.index t (1 : Fin 2) = t.val / 16 % 4)
    ∧ (win0_2.index t (0 : Fin 2) = t.val / 64 ∧ win0_2.index t (1 : Fin 2) = t.val / 16 % 4)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 16 * (t.val / 64) + t.val % 16 ∧ win0_5.index t (1 : Fin 2) = t.val / 16 % 4) :=
  (by decide +kernel : ∀ t : Fin grid0.N, _)

theorem flush_all : ∀ t : Fin cfg0.N, (cfg0.win 5).flush t = true := (by decide +kernel : ∀ t : Fin grid0.N, (cfg0.win 5).flush t = true)

/-! ## Finite arguments -/

theorem ofBits_eighth : Ideal.ofBits .f32 0x3E000000#32 = (((1 : ℝ) / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem log_two : Ideal.log (Ideal.ofBits .f32 0x40000000#32) = ((Real.log 2 : ℝ) : EReal) := by
  rw [ofBits_two, Ideal.log_coe, if_neg (by norm_num)]

/-- The query's scaling on the host, of a real. -/
theorem scaled (x : ℝ) : Ideal.div ((x : EReal) * Ideal.ofBits .f32 0x3E000000#32) (Ideal.log (Ideal.ofBits .f32 0x40000000#32))
    = ((x * (1 / 8) * (1 / Real.log 2) : ℝ) : EReal) := by
  rw [log_two, Ideal.div_coe (Real.log_pos one_lt_two).ne', ofBits_eighth, ← EReal.coe_mul, ← EReal.coe_mul]

section
variable (qA kA : S2x16384x4x2x64.Idx → ℝ) (vA : S2x16384x4x128.Idx → ℝ)

/-- Query `Q`'s scores, by key, in powers of two: component `cc` of head `h` in batch row `b`. -/
def score (b : Fin 2) (h : Fin 4) (cc : Fin 2) (Q : Fin 16384) (k : ℕ) : ℝ :=
  ∑ d : Fin 64, (qA (ix5 b Q h cc d) * (1 / 8) * (1 / Real.log 2)) * if hk : k < 16384 then kA (ix5 b ⟨k, hk⟩ h cc d) else 0

/-- Batch row `b`'s values of head `h`, by key. -/
def vals (b : Fin 2) (h : Fin 4) (k : ℕ) (e : Fin 128) : ℝ := if hk : k < 16384 then vA (ix4 b ⟨k, hk⟩ h e) else 0

/-- The layer's output of query `Q` in batch row `b`, head `h`, at column `d`. -/
def outD (l : Vec Ideal S4x64 .f32) (s : Vec Ideal S128 .f32) (b : Fin 2) (h : Fin 4) (Q : Fin 16384) (d : Fin 128) : EReal :=
  nrm (fun e => ((av (score qA kA b h 0 Q) Q.val (vals vA b h) e : ℝ) : EReal)
    - lamE l * ((av (score qA kA b h 1 Q) Q.val (vals vA b h) e : ℝ) : EReal)) (s (ix1 d)) d

variable (c : Dev nD) (hQ : ∀ i, aQ m c i = ((qA i : ℝ) : EReal)) (hK : ∀ i, aK m c i = ((kA i : ℝ) : EReal))
  (hV : ∀ i, aV m c i = ((vA i : ℝ) : EReal)) (t : Fin cfg0.N) (b : Fin 2) (h : Fin 4) (i : Fin 16)
  (ht : t.val = 64 * b.val + 16 * h.val + i.val)
include hQ ht in
theorem bQ_at (r : Fin 1024) (d : Fin 128) :
    (iblk m c 0 t : Vec Ideal S1024x128 .bf16) (ix2 r d)
      = ((qA (ix5 b ⟨1024 * i.val + r.val, by omega⟩ h ⟨d.val / 64, by omega⟩ ⟨d.val % 64, by omega⟩) * (1 / 8) * (1 / Real.log 2) : ℝ) : EReal) := by
  rw [← scaled, ← hQ]
  obtain ⟨-, ⟨e0, e1⟩, -⟩ := idx_all t
  refine Eq.trans ?_ ((v6_at m c ⟨16384 * b.val + 1024 * i.val + r.val, by omega⟩ ⟨128 * h.val + d.val, by omega⟩).trans ?_)
  · show V m c main_v6 (((cfg0.win 0).blk t).view.emb (ix2 r d)) = _
    congr 1
    funext a
    apply Fin.ext
    match a with
    | ⟨0, _⟩ => show win0_0.index t (0 : Fin 2) * 1024 + 1 * r.val = 16384 * b.val + 1024 * i.val + r.val; omega
    | ⟨1, _⟩ => show win0_0.index t (1 : Fin 2) * 128 + 1 * d.val = 128 * h.val + d.val; omega
  · refine congrArg (fun x => Ideal.div (x * _) _) (congrArg (aQ m c) ?_)
    congr 1 <;> apply Fin.ext <;> simp only <;> omega

include hK ht in
theorem bK_at (n : Fin 16384) (d : Fin 128) :
    (iblk m c 1 t : Vec Ideal S16384x128 .bf16) (ix2 n d)
      = ((kA (ix5 b n h ⟨d.val / 64, by omega⟩ ⟨d.val % 64, by omega⟩) : ℝ) : EReal) := by
  rw [← hK]
  obtain ⟨-, -, ⟨e0, e1⟩, -⟩ := idx_all t
  refine Eq.trans ?_ ((v8_at m c ⟨16384 * b.val + n.val, by omega⟩ ⟨128 * h.val + d.val, by omega⟩).trans ?_)
  · show V m c main_v8 (((cfg0.win 1).blk t).view.emb (ix2 n d)) = _
    congr 1
    funext a
    apply Fin.ext
    match a with
    | ⟨0, _⟩ => show win0_1.index t (0 : Fin 2) * 16384 + 1 * n.val = 16384 * b.val + n.val; omega
    | ⟨1, _⟩ => show win0_1.index t (1 : Fin 2) * 128 + 1 * d.val = 128 * h.val + d.val; omega
  · refine congrArg (aK m c) ?_
    congr 1 <;> apply Fin.ext <;> simp only <;> omega

include hV ht in
theorem bV_at (n : Fin 16384) (d : Fin 128) :
    (iblk m c 2 t : Vec Ideal S16384x128 .bf16) (ix2 n d) = ((vA (ix4 b n h d) : ℝ) : EReal) := by
  rw [← hV]
  obtain ⟨-, -, -, ⟨e0, e1⟩, -⟩ := idx_all t
  refine Eq.trans ?_ ((v10_at m c ⟨16384 * b.val + n.val, by omega⟩ ⟨128 * h.val + d.val, by omega⟩).trans ?_)
  · show V m c main_v10 (((cfg0.win 2).blk t).view.emb (ix2 n d)) = _
    congr 1
    funext a
    apply Fin.ext
    match a with
    | ⟨0, _⟩ => show win0_2.index t (0 : Fin 2) * 16384 + 1 * n.val = 16384 * b.val + n.val; omega
    | ⟨1, _⟩ => show win0_2.index t (1 : Fin 2) * 128 + 1 * d.val = 128 * h.val + d.val; omega
  · refine congrArg (aV m c) ?_
    congr 1 <;> apply Fin.ext <;> simp only <;> omega

theorem bL_at : (iblk m c 3 t : Vec Ideal S4x64 .f32) = aL m c := by
  funext y
  obtain ⟨a, j, rfl⟩ : ∃ (a : Fin 4) (j : Fin 64), y = ix2 a j := ⟨y 0, y 1, eq_ix2 y⟩
  rw [← vL_at' m c a j]
  obtain ⟨-, -, -, -, ⟨e0, e1⟩, -⟩ := idx_all t
  show V m c main_arg3 (((cfg0.win 3).blk t).view.emb (ix2 a j)) = _
  congr 1
  funext z
  apply Fin.ext
  match z with
  | ⟨0, _⟩ => show win0_3.index t (0 : Fin 2) * 4 + 1 * a.val = a.val; omega
  | ⟨1, _⟩ => show win0_3.index t (1 : Fin 2) * 64 + 1 * j.val = j.val; omega

theorem bS_at (d : Fin 128) : (iblk m c 4 t : Vec Ideal S1x128 .f32) (ix2 0 d) = aS m c (ix1 d) := by
  rw [← v11_at m c 0 d]
  obtain ⟨-, -, -, -, -, ⟨e0, e1⟩, -⟩ := idx_all t
  show V m c main_v11 (((cfg0.win 4).blk t).view.emb (ix2 0 d)) = _
  congr 1
  funext z
  apply Fin.ext
  match z with
  | ⟨0, _⟩ => show win0_4.index t (0 : Fin 2) * 1 + 1 * 0 = 0; omega
  | ⟨1, _⟩ => show win0_4.index t (1 : Fin 2) * 128 + 1 * d.val = d.val; omega

include hQ hK hV ht in
/-- A point's block of the result, at an index. -/
theorem point_at (r : Fin 1024) (d : Fin 128) (R : Fin 32768) (J : Fin 512)
    (hR : R.val = 16384 * b.val + 1024 * i.val + r.val) (hJ : J.val = 128 * h.val + d.val) :
    ((dats m 0 c).arrAt 5 cfg0.N : Vec Ideal S32768x512 .bf16) (ix2 R J)
      = outD qA kA vA (aL m c) (aS m c) b h ⟨1024 * i.val + r.val, by omega⟩ d := by
  obtain ⟨ec, -, -, -, -, -, ⟨e0, e1⟩⟩ := idx_all t
  have hb := congrFun (blocks5 m c t (flush_all t)) (ix2 r d)
  refine Eq.trans ?_ (hb.trans ?_)
  · show _ = (dats m 0 c).arrAt 5 cfg0.N (((cfg0.win 5).blk t).view.emb (ix2 r d))
    congr 1
    funext z
    apply Fin.ext
    match z with
    | ⟨0, _⟩ => show R.val = win0_5.index t (0 : Fin 2) * 1024 + 1 * r.val; omega
    | ⟨1, _⟩ => show J.val = win0_5.index t (1 : Fin 2) * 128 + 1 * d.val; omega
  · rw [flushed5_A]
    refine Eq.trans (congrArg (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)) (?_ : _ = ix2 r d)) ?_
    · funext z
      match z with
      | ⟨0, _⟩ => rfl
      | ⟨1, _⟩ => rfl
    · rw [out_at (qr := fun r d => qA (ix5 b ⟨1024 * i.val + r.val, by omega⟩ h ⟨d.val / 64, by omega⟩ ⟨d.val % 64, by omega⟩) * (1 / 8) * (1 / Real.log 2))
        (kr := fun n d => if hn : n < 16384 then kA (ix5 b ⟨n, hn⟩ h ⟨d.val / 64, by omega⟩ ⟨d.val % 64, by omega⟩) else 0)
        (v := vals vA b h)
        (hq := bQ_at m qA c hQ t b h i ht)
        (hk := fun n d => by rw [bK_at m kA c hK t b h i ht, dif_pos n.isLt])
        (hv := fun n d => by rw [bV_at m vA c hV t b h i ht]; unfold vals; rw [dif_pos n.isLt]),
        bL_at, bS_at]
      have es : ∀ cc : Fin 2, sg (fun r d => qA (ix5 b ⟨1024 * i.val + r.val, by omega⟩ h ⟨d.val / 64, by omega⟩ ⟨d.val % 64, by omega⟩) * (1 / 8) * (1 / Real.log 2))
          (fun n d => if hn : n < 16384 then kA (ix5 b ⟨n, hn⟩ h ⟨d.val / 64, by omega⟩ ⟨d.val % 64, by omega⟩) else 0) cc r
          = score qA kA b h cc ⟨1024 * i.val + r.val, by omega⟩ := fun cc => by
        funext k
        unfold sg score
        refine Finset.sum_congr rfl fun x _ => ?_
        have h1 : (⟨(64 * cc.val + x.val) / 64, by omega⟩ : Fin 2) = cc := Fin.ext (by show (64 * cc.val + x.val) / 64 = cc.val; omega)
        have h2 : (⟨(64 * cc.val + x.val) % 64, by omega⟩ : Fin 64) = x := Fin.ext (by show (64 * cc.val + x.val) % 64 = x.val; omega)
        simp only [h1, h2]
      have ei : 1024 * (grid0.coords t 2).val + r.val = 1024 * i.val + r.val := by omega
      rw [es 0, es 1, ei]
      rfl

include hQ hK hV in
/-- The result array at an index. -/
theorem arr_at (b : Fin 2) (Q : Fin 16384) (h : Fin 4) (d : Fin 128) (R : Fin 32768) (J : Fin 512)
    (hR : R.val = 16384 * b.val + Q.val) (hJ : J.val = 128 * h.val + d.val) :
    ((dats m 0 c).arrAt 5 cfg0.N : Vec Ideal S32768x512 .bf16) (ix2 R J) = outD qA kA vA (aL m c) (aS m c) b h Q d := by
  have hN : cfg0.N = 128 := N_0
  rw [point_at m qA kA vA c hQ hK hV ⟨64 * b.val + 16 * h.val + Q.val / 1024, by rw [hN]; omega⟩ b h ⟨Q.val / 1024, by omega⟩ rfl
    ⟨Q.val % 1024, by omega⟩ d R J (by show R.val = 16384 * b.val + 1024 * (Q.val / 1024) + Q.val % 1024; omega) hJ]
  congr 1
  exact Fin.ext (by show 1024 * (Q.val / 1024) + Q.val % 1024 = Q.val; omega)
end
end Cert.DiffProof
-- ==== Proof.DiffRef.lean ====
/- The differential attention's reference, read at an index over the extended reals at finite arguments: the same
   normalised difference of two softmax averages that the kernel's run ends with. -/
module

public import proofs.«01_k».proof.Proof.DiffArr
public import proofs.«01_k».proof.Proof.Gen.DiffRefIdeal.Run

@[expose] public section

noncomputable section

namespace Cert.DiffProof.Ref

open Cert.DiffRefIdeal Cert.DiffRefIdeal.Gen Cert.DiffRefIdeal.Value Idealize.ShloMosaic Idealize.ShloMosaic.TcCoe Idealize.SL.Sem

variable (m : (ℓ : Loc nD τ sig) → Buf (Elt Ideal) ℓ)

/-- The arguments at their shapes. -/
abbrev aQ (c : Dev nD) : Vec Ideal S2x16384x4x2x64 .f32 := m ((c.tc : Thread nD τ).loc main_arg0)
abbrev aK (c : Dev nD) : Vec Ideal S2x16384x4x2x64 .f32 := m ((c.tc : Thread nD τ).loc main_arg1)
abbrev aV (c : Dev nD) : Vec Ideal S2x16384x4x128 .f32 := m ((c.tc : Thread nD τ).loc main_arg2)
abbrev aL (c : Dev nD) : Vec Ideal S4x64 .f32 := m ((c.tc : Thread nD τ).loc main_arg3)
abbrev aS (c : Dev nD) : Vec Ideal S128 .f32 := m ((c.tc : Thread nD τ).loc main_arg4)

/-- The query and key products, in the reference's operations. -/
def qkR (q k : FVec Ideal S2x16384x4x2x64 .f32) : FVec Ideal S2x4x2x16384x16384 .f32 :=
  Host.dotGeneral dot_S2x16384x4x2x64_S2x16384x4x2x64_S2x4x2x16384x16384_4_4_1_1_023_023 none q k

/-- Whether a key is seen, in the reference's operations. -/
def mkR : IVec S2x4x2x16384x16384 1 :=
  broadcastInDim S2x4x2x16384x16384 ![3, 4] bcast_S16384x16384_S2x4x2x16384x16384_3_4 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))

/-- The masked scores, in the reference's operations. -/
def scR (q k : FVec Ideal S2x16384x4x2x64 .f32) : FVec Ideal S2x4x2x16384x16384 .f32 :=
  select mkR (mulf (qkR q k) (broadcastInDim S2x4x2x16384x16384 ![] bcast_S_S2x4x2x16384x16384 (constant S_ .f32 0x3E000000#32))) (broadcastInDim S2x4x2x16384x16384 ![] bcast_S_S2x4x2x16384x16384 (id (constant S_ .f32 0xFF800000#32)))

/-- The maximum of every row of scores. -/
def mxR (s : FVec Ideal S2x4x2x16384x16384 .f32) : FVec Ideal S2x4x2x16384 .f32 :=
  Host.reduce FloatOps.maximumf s (constant S_ .f32 0xFF800000#32) reducesTo_S2x4x2x16384x16384_S2x4x2x16384_d4 h_S_

/-- The weights of a row of scores against its maximum. -/
def exR (s : FVec Ideal S2x4x2x16384x16384 .f32) (mx : FVec Ideal S2x4x2x16384 .f32) : FVec Ideal S2x4x2x16384x16384 .f32 :=
  Host.exp (subf s (broadcastInDim S2x4x2x16384x16384 ![0, 1, 2, 3, 4] bcast_S2x4x2x16384x1_S2x4x2x16384x16384_0_1_2_3_4 (broadcastInDim S2x4x2x16384x1 ![0, 1, 2, 3] bcast_S2x4x2x16384_S2x4x2x16384x1_0_1_2_3 (maximumf (broadcastInDim S2x4x2x16384 ![] bcast_S_S2x4x2x16384 (constant S_ .f32 0xFF800000#32)) mx))))

/-- The weights over their row's sum. -/
def prR (w : FVec Ideal S2x4x2x16384x16384 .f32) : FVec Ideal S2x4x2x16384x16384 .f32 :=
  Host.divf w (broadcastInDim S2x4x2x16384x16384 ![0, 1, 2, 3, 4] bcast_S2x4x2x16384x1_S2x4x2x16384x16384_0_1_2_3_4 (broadcastInDim S2x4x2x16384x1 ![0, 1, 2, 3] bcast_S2x4x2x16384_S2x4x2x16384x1_0_1_2_3 (Host.reduceAdd w (constant S_ .f32 0x00000000#32) reducesTo_S2x4x2x16384x16384_S2x4x2x16384_d4 h_S_)))

theorem qkR_at (q k : FVec Ideal S2x16384x4x2x64 .f32) (b : Fin 2) (h : Fin 4) (cc : Fin 2) (Q K : Fin 16384) :
    qkR q k (ix5 b h cc Q K) = ∑ d : Fin 64, q (ix5 b Q h cc d) * k (ix5 b K h cc d) := by
  pointwise [qkR]

theorem mkR_at (b : Fin 2) (h : Fin 4) (cc : Fin 2) (Q K : Fin 16384) :
    mkR (ix5 b h cc Q K) = IntOp.cmpi .sle (BitVec.ofNat 32 K.val) (BitVec.ofNat 32 Q.val) := by
  pointwise [mkR]

theorem scR_at (q k : FVec Ideal S2x16384x4x2x64 .f32) (b : Fin 2) (h : Fin 4) (cc : Fin 2) (Q K : Fin 16384) :
    scR q k (ix5 b h cc Q K) = Scalar.select (mkR (ix5 b h cc Q K)) (qkR q k (ix5 b h cc Q K) * Ideal.ofBits .f32 0x3E000000#32) (Ideal.ofBits .f32 0xFF800000#32) := by
  rfl

theorem mxR_at (s : FVec Ideal S2x4x2x16384x16384 .f32) (b : Fin 2) (h : Fin 4) (cc : Fin 2) (Q : Fin 16384) :
    mxR s (ix4 b h cc Q) = Finset.fold max (Ideal.ofBits .f32 0xFF800000#32) (fun k : Fin 16384 => s (ix5 b h cc Q k)) Finset.univ := by
  unfold mxR
  simp only [pointwise]

theorem exR_at (s : FVec Ideal S2x4x2x16384x16384 .f32) (mx : FVec Ideal S2x4x2x16384 .f32) (b : Fin 2) (h : Fin 4) (cc : Fin 2) (Q K : Fin 16384) :
    exR s mx (ix5 b h cc Q K) = Ideal.exp (s (ix5 b h cc Q K) - max (Ideal.ofBits .f32 0xFF800000#32) (mx (ix4 b h cc Q))) := by
  pointwise [exR]

theorem prR_at (w : FVec Ideal S2x4x2x16384x16384 .f32) (b : Fin 2) (h : Fin 4) (cc : Fin 2) (Q K : Fin 16384) :
    prR w (ix5 b h cc Q K) = Ideal.div (w (ix5 b h cc Q K)) (Ideal.ofBits .f32 0#32 + ∑ k : Fin 16384, w (ix5 b h cc Q k)) := by
  pointwise [prR]

/-- The weight of the second softmax, in the reference's operations. -/
def lamR (l : FVec Ideal S4x64 .f32) : FVec Ideal S_ .f32 :=
  addf (subf (Host.exp (Host.reduceAdd (mulf (shapeCast S64 (extractStridedSlice S1x64 ![0, 0] l slices_S4x64_S1x64_0_0) shapeCasts_S1x64_S64) (shapeCast S64 (extractStridedSlice S1x64 ![1, 0] l slices_S4x64_S1x64_1_0) shapeCasts_S1x64_S64)) (constant S_ .f32 0x00000000#32) reducesTo_S64_S_d0 h_S_))
    (Host.exp (Host.reduceAdd (mulf (shapeCast S64 (extractStridedSlice S1x64 ![2, 0] l slices_S4x64_S1x64_2_0) shapeCasts_S1x64_S64) (shapeCast S64 (extractStridedSlice S1x64 ![3, 0] l slices_S4x64_S1x64_3_0) shapeCasts_S1x64_S64)) (constant S_ .f32 0x00000000#32) reducesTo_S64_S_d0 h_S_)))
    (constant S_ .f32 0x3E4CCCCD#32)

/-- The difference of the two softmaxes. -/
def pdR (p : FVec Ideal S2x4x2x16384x16384 .f32) (lam : FVec Ideal S_ .f32) : FVec Ideal S2x4x16384x16384 .f32 :=
  subf (shapeCast S2x4x16384x16384 (extractStridedSlice S2x4x1x16384x16384 ![0, 0, 0, 0, 0] p slices_S2x4x2x16384x16384_S2x4x1x16384x16384_0_0_0_0_0) shapeCasts_S2x4x1x16384x16384_S2x4x16384x16384)
    (mulf (broadcastInDim S2x4x16384x16384 ![] bcast_S_S2x4x16384x16384 lam)
      (shapeCast S2x4x16384x16384 (extractStridedSlice S2x4x1x16384x16384 ![0, 0, 1, 0, 0] p slices_S2x4x2x16384x16384_S2x4x1x16384x16384_0_0_1_0_0) shapeCasts_S2x4x1x16384x16384_S2x4x16384x16384))

/-- The values averaged by the difference. -/
def oR (v : FVec Ideal S2x16384x4x128 .f32) (p : FVec Ideal S2x4x16384x16384 .f32) : FVec Ideal S2x16384x4x128 .f32 :=
  transpose S2x16384x4x128 [0, 3, 1, 2] (Host.dotGeneral dot_S2x16384x4x128_S2x4x16384x16384_S2x4x128x16384_1_3_3_2_02_01 none v p) transposes_S2x4x128x16384_S2x16384x4x128_0_3_1_2

/-- The normalisation, in the reference's operations. -/
def nmR (o : FVec Ideal S2x16384x4x128 .f32) (s : FVec Ideal S128 .f32) : FVec Ideal S2x16384x4x128 .f32 :=
  mulf (mulf (mulf o (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf o o) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x3727C5AC#32))))))
    (broadcastInDim S2x16384x4x128 ![0, 1, 2, 3] bcast_S1x1x1x128_S2x16384x4x128_0_1_2_3 (broadcastInDim S1x1x1x128 ![3] bcast_S128_S1x1x1x128_3 s)))
    (broadcastInDim S2x16384x4x128 ![] bcast_S_S2x16384x4x128 (constant S_ .f32 0x3F4CCCCD#32))

/-- The reference's result through these. -/
def resR (c : Dev nD) : FVec Ideal S32768x512 .bf16 :=
  truncf .bf16 (shapeCast S32768x512 (nmR (oR (aV m c) (pdR (prR (exR (scR (aQ m c) (aK m c)) (mxR (scR (aQ m c) (aK m c))))) (lamR (aL m c)))) (aS m c)) shapeCasts_S2x16384x4x128_S32768x512) bitsLt_bf16_f32

theorem res_eq (c : Dev nD) : (res_main_v62 m c : FVec Ideal S32768x512 .bf16) = resR m c := rfl

theorem resR_at (o : FVec Ideal S2x16384x4x128 .f32) (b : Fin 2) (Q : Fin 16384) (h : Fin 4) (d : Fin 128) (R : Fin 32768) (J : Fin 512)
    (hR : R.val = 16384 * b.val + Q.val) (hJ : J.val = 128 * h.val + d.val) :
    (truncf .bf16 (shapeCast S32768x512 o shapeCasts_S2x16384x4x128_S32768x512) bitsLt_bf16_f32 : FVec Ideal S32768x512 .bf16) (ix2 R J) = o (ix4 b Q h d) := by
  have key : (truncf .bf16 (shapeCast S32768x512 o shapeCasts_S2x16384x4x128_S32768x512) bitsLt_bf16_f32 : FVec Ideal S32768x512 .bf16) (ix2 R J)
      = o (ix4 ⟨R.val / 16384, by omega⟩ ⟨R.val % 16384, by omega⟩ ⟨J.val / 128, by omega⟩ ⟨J.val % 128, by omega⟩) := by
    pointwise
  rw [key]
  congr 1
  congr 1 <;> apply Fin.ext <;> simp only <;> omega

theorem lamR_at (l : FVec Ideal S4x64 .f32) : lamR l ix0 = lamE l := by
  pointwise [lamR]
  rfl

theorem pdR_at (p : FVec Ideal S2x4x2x16384x16384 .f32) (lam : FVec Ideal S_ .f32) (b : Fin 2) (h : Fin 4) (Q K : Fin 16384) :
    pdR p lam (ix4 b h Q K) = p (ix5 b h 0 Q K) - lam ix0 * p (ix5 b h 1 Q K) := by
  pointwise [pdR]

theorem oR_at (v : FVec Ideal S2x16384x4x128 .f32) (p : FVec Ideal S2x4x16384x16384 .f32) (b : Fin 2) (Q : Fin 16384) (h : Fin 4) (e : Fin 128) :
    oR v p (ix4 b Q h e) = ∑ k : Fin 16384, v (ix4 b k h e) * p (ix4 b h Q k) := by
  pointwise [oR]

theorem nmR_at (o : FVec Ideal S2x16384x4x128 .f32) (s : FVec Ideal S128 .f32) (b : Fin 2) (Q : Fin 16384) (h : Fin 4) (d : Fin 128) :
    nmR o s (ix4 b Q h d) = nrm (fun e => o (ix4 b Q h e)) (s (ix1 d)) d := by
  pointwise [nmR]
  rfl

/-! ## The mathematics: a row's softmax at finite scores -/

/-- The reference's softmax of a row that sees the keys up to `Q` is the row's weights in powers of two over their sum. -/
theorem sm_row (σ : ℕ → ℝ) (Q : Fin 16384) (S : Fin 16384 → EReal)
    (hS : ∀ K : Fin 16384, S K = if K.val ≤ Q.val then ((σ K.val * Real.log 2 : ℝ) : EReal) else ⊥) (K : Fin 16384) :
    Ideal.div (Ideal.exp (S K - max (Ideal.ofBits .f32 0xFF800000#32) (Finset.fold max (Ideal.ofBits .f32 0xFF800000#32) S Finset.univ)))
      (Ideal.ofBits .f32 0#32 + ∑ k, Ideal.exp (S k - max (Ideal.ofBits .f32 0xFF800000#32) (Finset.fold max (Ideal.ofBits .f32 0xFF800000#32) S Finset.univ)))
      = ((prob σ Q.val 16384 K.val : ℝ) : EReal) := by
  have hsup : Finset.fold max (Ideal.ofBits .f32 0xFF800000#32) S Finset.univ = Finset.univ.sup S := by
    rw [ninf]; rfl
  rw [hsup, ninf, max_eq_right bot_le, Ideal.ofBits_zero_f32, zero_add]
  have hS0 : S Q = ((σ Q.val * Real.log 2 : ℝ) : EReal) := by rw [hS]; exact if_pos le_rfl
  have hbot : Finset.univ.sup S ≠ ⊥ := by
    intro hb
    have := Finset.le_sup (f := S) (Finset.mem_univ Q)
    rw [hb, hS0] at this
    exact absurd (le_bot_iff.1 this) (EReal.coe_ne_bot _)
  have htop : Finset.univ.sup S < ⊤ := by
    rw [Finset.sup_lt_iff bot_lt_top]
    intro k _
    rw [hS]
    split_ifs
    · exact EReal.coe_lt_top _
    · exact bot_lt_top
  obtain ⟨X, hX⟩ : ∃ X : ℝ, Finset.univ.sup S = (X : EReal) := by
    lift Finset.univ.sup S to ℝ using ⟨htop.ne, hbot⟩ with X
    exact ⟨X, rfl⟩
  have hl : 0 < Real.log 2 := Real.log_pos one_lt_two
  have hexp : ∀ k : Fin 16384, Ideal.exp (S k - (X : EReal)) = ((wgt σ Q.val (X / Real.log 2) k.val : ℝ) : EReal) := by
    intro k
    rw [hS]
    unfold wgt
    split_ifs
    · rw [← EReal.coe_sub, Ideal.exp_coe]
      refine congrArg (fun x : ℝ => (x : EReal)) ?_
      show _ = (2:ℝ) ^ (σ k.val - X / Real.log 2)
      rw [Real.rpow_def_of_pos (by norm_num)]
      refine congrArg Real.exp ?_
      rw [mul_sub, mul_div_cancel₀ _ hl.ne', mul_comm]
    · rw [EReal.bot_sub, Ideal.exp_bot, EReal.coe_zero]
  rw [hX]
  simp only [hexp]
  rw [← coe_sum_fin, ← Finset.sum_range (fun k => wgt σ Q.val (X / Real.log 2) k)]
  have hq : 0 < Real.rpow 2 (-(X / Real.log 2)) := Real.rpow_pos_of_pos (by norm_num) _
  have hp := sum_wgt_pos σ Q.val 16384 Q.isLt
  have e1 : ∑ k ∈ Finset.range 16384, wgt σ Q.val (X / Real.log 2) k = Real.rpow 2 (-(X / Real.log 2)) * ∑ k ∈ Finset.range 16384, wgt σ Q.val 0 k := by
    rw [Finset.mul_sum]; exact Finset.sum_congr rfl fun k _ => wgt_eq σ Q.val _ k
  rw [e1, wgt_eq σ Q.val (X / Real.log 2), Ideal.div_coe (mul_pos hq hp).ne', ← EReal.coe_mul]
  refine congrArg (fun x : ℝ => (x : EReal)) ?_
  unfold prob
  rw [mul_one_div, mul_div_mul_left _ _ hq.ne']

theorem sle_at (K Q : Fin 16384) : IntOp.cmpi .sle (BitVec.ofNat 32 K.val) (BitVec.ofNat 32 Q.val) = if K.val ≤ Q.val then 1#1 else 0#1 := by
  have hk : (BitVec.ofNat 32 K.val).toInt = K.val := by
    rw [BitVec.toInt_eq_toNat_of_lt (by simp; omega)]; simp; omega
  have hq : (BitVec.ofNat 32 Q.val).toInt = Q.val := by
    rw [BitVec.toInt_eq_toNat_of_lt (by simp; omega)]; simp; omega
  show BitVec.ofBool ((BitVec.ofNat 32 K.val).sle (BitVec.ofNat 32 Q.val)) = _
  unfold BitVec.sle
  rw [hk, hq]
  by_cases h : K.val ≤ Q.val
  · rw [if_pos h, decide_eq_true (by omega)]; rfl
  · rw [if_neg h, decide_eq_false (by omega)]; rfl

theorem lam_lit : ∃ x : ℝ, Ideal.ofBits .f32 1045220557#32 = (x : EReal) :=
  ⟨13421773 / 67108864, by simp [Ideal.ofBits, Ideal.ieee, -EReal.coe_mul]; norm_num⟩

/-- The second softmax's weight of reals is a real. -/
theorem lam_real (l : Vec Ideal S4x64 .f32) (lA : S4x64.Idx → ℝ) (hL : ∀ i, l i = ((lA i : ℝ) : EReal)) : ∃ x : ℝ, lamE l = (x : EReal) := by
  obtain ⟨y, hy⟩ := lam_lit
  unfold lamE
  simp only [hL, ← EReal.coe_mul, hy]
  rw [← coe_sum_fin, ← coe_sum_fin, Ideal.exp_coe, Ideal.exp_coe, ← EReal.coe_sub, ← EReal.coe_add]
  exact ⟨_, rfl⟩

section
variable (qA kA : S2x16384x4x2x64.Idx → ℝ) (vA : S2x16384x4x128.Idx → ℝ) (lA : S4x64.Idx → ℝ)
variable (c : Dev nD) (hQ : ∀ i, aQ m c i = ((qA i : ℝ) : EReal)) (hK : ∀ i, aK m c i = ((kA i : ℝ) : EReal))
  (hV : ∀ i, aV m c i = ((vA i : ℝ) : EReal)) (hL : ∀ i, aL m c i = ((lA i : ℝ) : EReal))

include hQ hK in
theorem sc_real (b : Fin 2) (h : Fin 4) (cc : Fin 2) (Q K : Fin 16384) :
    scR (aQ m c) (aK m c) (ix5 b h cc Q K)
      = if K.val ≤ Q.val then ((score qA kA b h cc Q K.val * Real.log 2 : ℝ) : EReal) else ⊥ := by
  rw [scR_at, mkR_at, qkR_at, sle_at, ninf]
  have hl : Real.log 2 ≠ 0 := (Real.log_pos one_lt_two).ne'
  by_cases hkq : K.val ≤ Q.val
  · rw [if_pos hkq, if_pos hkq]
    show _ * _ = _
    simp only [hQ, hK, ← EReal.coe_mul]
    rw [← coe_sum_fin, ofBits_eighth, ← EReal.coe_mul]
    refine congrArg (fun x : ℝ => (x : EReal)) ?_
    unfold score
    rw [Finset.sum_mul, Finset.sum_mul]
    refine Finset.sum_congr rfl fun d _ => ?_
    rw [dif_pos K.isLt]
    field_simp
  · rw [if_neg hkq, if_neg hkq]
    rfl

include hQ hK in
theorem pr_real (b : Fin 2) (h : Fin 4) (cc : Fin 2) (Q K : Fin 16384) :
    prR (exR (scR (aQ m c) (aK m c)) (mxR (scR (aQ m c) (aK m c)))) (ix5 b h cc Q K) = ((prob (score qA kA b h cc Q) Q.val 16384 K.val : ℝ) : EReal) := by
  rw [prR_at]
  simp only [exR_at, mxR_at]
  exact sm_row (score qA kA b h cc Q) Q (fun k => scR (aQ m c) (aK m c) (ix5 b h cc Q k)) (fun k => sc_real m qA kA c hQ hK b h cc Q k) K

include hQ hK hV hL in
/-- The reference's result at an index. -/
theorem ref_at (b : Fin 2) (Q : Fin 16384) (h : Fin 4) (d : Fin 128) (R : Fin 32768) (J : Fin 512)
    (hR : R.val = 16384 * b.val + Q.val) (hJ : J.val = 128 * h.val + d.val) :
    (res_main_v62 m c : FVec Ideal S32768x512 .bf16) (ix2 R J) = outD qA kA vA (aL m c) (aS m c) b h Q d := by
  rw [res_eq]
  unfold resR
  rw [resR_at _ b Q h d R J hR hJ, nmR_at]
  unfold outD
  refine congrArg (fun O => nrm O (aS m c (ix1 d)) d) (funext fun e => ?_)
  rw [oR_at]
  obtain ⟨x, hx⟩ := lam_real (aL m c) lA hL
  simp only [pdR_at, lamR_at, pr_real m qA kA c hQ hK, hV, hx]
  simp only [← EReal.coe_mul, ← EReal.coe_sub]
  rw [← coe_sum_fin]
  refine congrArg (fun x : ℝ => (x : EReal)) ?_
  unfold av
  rw [Finset.sum_range, Finset.sum_range, Finset.mul_sum, ← Finset.sum_sub_distrib]
  refine Finset.sum_congr rfl fun k _ => ?_
  unfold vals
  rw [dif_pos k.isLt]
  ring
end

end Cert.DiffProof.Ref
-- ==== Proof.DiffClaims.lean ====
/- The claims about the differential attention: the frames, the named mask and the equality with the reference over the
   extended reals at finite arguments. -/
module

public import proofs.«01_k».proof.Defs
public import proofs.«01_k».proof.Proof.DiffRef
public import proofs.«01_k».proof.Proof.Gen.Diff.Frame
public import proofs.«01_k».proof.Proof.Gen.DiffIdeal.Frame
public import Idealize.ShloMosaic.Lib.Quiescent

@[expose] public section

noncomputable section

namespace Cert.DiffProof

open Idealize.ShloMosaic Idealize.ShloMosaic.TcCoe Idealize.SL.Sem

instance : Cert.Diff.Facts := Cert.Diff.Gen.facts
instance : Cert.DiffIdeal.Facts := Cert.DiffIdeal.Gen.facts
instance : Cert.DiffRefIdeal.Facts := Cert.DiffRefIdeal.Gen.facts

theorem preFacts : Cert.Pre_finite.Facts := ⟨by decide, by decide, by decide⟩

theorem frame_diff : Cert.quiescent_Diff (hDiff := Cert.Diff.Gen.facts) :=
  fun m g _ => Cert.Diff.Gen.frame m g

theorem frame_diffIdeal : Cert.quiescent_DiffIdeal (hDiffIdeal := Cert.DiffIdeal.Gen.facts) :=
  fun m g _ => Cert.DiffIdeal.Gen.frame m g

theorem frame_diffIdeal_pre : Cert.quiescent_DiffIdeal_pre_finite (hDiffIdeal := Cert.DiffIdeal.Gen.facts) (hPre_finite := preFacts) :=
  fun m g _ => Cert.DiffIdeal.Gen.frame m g

theorem frame_diffRef : Cert.quiescent_DiffRefIdeal (hDiffRefIdeal := Cert.DiffRefIdeal.Gen.facts) :=
  fun m g _ => (θ_run Cert.DiffRefIdeal.defs _ _).mono
    (fun r h => ⟨fun c => (h c).2, sem_eq_zero_of_no_sems (by decide) r.2⟩) (Cert.DiffRefIdeal.Value.run m g)

theorem frame_diffRef_pre : Cert.quiescent_DiffRefIdeal_pre_finite (hDiffRefIdeal := Cert.DiffRefIdeal.Gen.facts) (hPre_finite := preFacts) :=
  fun m g _ => frame_diffRef m g trivial

theorem preserves_diff : Cert.preserves_Diff_DiffIdeal :=
  IdealRules.named_const.statement _ _ _ _ _ rfl

/-- An extended real of absolute value below infinity is a real. -/
theorem real_of_lt (x : EReal) (h : FloatOps.cmpf (F := Ideal) (φ := .f32) .olt (FloatOps.hostAbsf (F := Ideal) (φ := .f32) x) (Ideal.ofBits .f32 0x7F800000#32) = 1#1) :
    ∃ y : ℝ, x = (y : EReal) := by
  have ht : Ideal.ofBits .f32 0x7F800000#32 = ⊤ := by simp [Ideal.ofBits, Ideal.ieee]
  have h' : max x (-x) < ⊤ := by
    by_contra hn
    rw [ht] at h
    have : FloatOps.cmpf (F := Ideal) (φ := .f32) .olt (FloatOps.hostAbsf (F := Ideal) (φ := .f32) x) ⊤ = BitVec.ofBool (decide (max x (-x) < ⊤)) := rfl
    rw [this, decide_eq_false hn] at h
    exact absurd h (by decide)
  have h1 : x ≠ ⊤ := fun e => by rw [e] at h'; simp at h'
  have h2 : x ≠ ⊥ := fun e => by rw [e] at h'; simp at h'
  lift x to ℝ using ⟨h1, h2⟩ with y
  exact ⟨y, rfl⟩

theorem algebraic_diff : Cert.algebraic_DiffIdeal_DiffRefIdeal_pre_finite (hDiffIdeal := Cert.DiffIdeal.Gen.facts)
    (hDiffRefIdeal := Cert.DiffRefIdeal.Gen.facts) (hPre_finite := preFacts) := by
  intro m g m' g' hpre hargs
  refine ⟨fun c => (Cert.DiffIdeal.Gen.dats m 0 c).arrAt 5 Cert.DiffIdeal.cfg0.N,
    (θ_run _ _ _).mono (fun r h c => h c) (Cert.DiffIdeal.Value.run_blocks m g), ?_⟩
  refine (θ_run _ _ _).mono (fun r h c => ⟨(h c).1.trans ?_, (h c).2⟩) (Cert.DiffRefIdeal.Value.run m' g')
  obtain ⟨h0, h1, h2, h3, h4⟩ := hargs c
  obtain ⟨p0, p1, p2, p3⟩ := hpre c
  have r0 : ∀ i, ∃ y : ℝ, aQ m c i = (y : EReal) := fun i => real_of_lt _ (congrFun p0 i)
  have r1 : ∀ i, ∃ y : ℝ, aK m c i = (y : EReal) := fun i => real_of_lt _ (congrFun p1 i)
  have r2 : ∀ i, ∃ y : ℝ, aV m c i = (y : EReal) := fun i => real_of_lt _ (congrFun p2 i)
  have r3 : ∀ i, ∃ y : ℝ, aL m c i = (y : EReal) := fun i => real_of_lt _ (congrFun p3 i)
  choose qA hQ using r0
  choose kA hK using r1
  choose vA hV using r2
  choose lA hL using r3
  funext i
  obtain ⟨R, J, rfl⟩ : ∃ (R : Fin 32768) (J : Fin 512), i = ix2 R J := ⟨i 0, i 1, eq_ix2 i⟩
  have e0 : Ref.aQ m' c = aQ m c := h0
  have e1 : Ref.aK m' c = aK m c := h1
  have e2 : Ref.aV m' c = aV m c := h2
  have e3 : Ref.aL m' c = aL m c := h3
  have e4 : Ref.aS m' c = aS m c := h4
  have hR : R.val = 16384 * (⟨R.val / 16384, by omega⟩ : Fin 2).val + (⟨R.val % 16384, by omega⟩ : Fin 16384).val := by
    show R.val = 16384 * (R.val / 16384) + R.val % 16384
    omega
  have hJ : J.val = 128 * (⟨J.val / 128, by omega⟩ : Fin 4).val + (⟨J.val % 128, by omega⟩ : Fin 128).val := by
    show J.val = 128 * (J.val / 128) + J.val % 128
    omega
  refine (Ref.ref_at m' qA kA vA lA c (fun i => (congrFun e0 i).trans (hQ i)) (fun i => (congrFun e1 i).trans (hK i))
    (fun i => (congrFun e2 i).trans (hV i)) (fun i => (congrFun e3 i).trans (hL i)) _ _ _ _ R J hR hJ).trans
    (Eq.trans ?_ (arr_at m qA kA vA c hQ hK hV _ _ _ _ R J hR hJ).symm)
  rw [e3, e4]

end Cert.DiffProof
-- ==== Proof.MergeBody.lean ====
/- What one grid point of the merge kernel computes, read at an index over the extended reals: the gated sum of the two
   branches, the output projection with the residual, the first layer norm, and the residual of the second norm with
   the gated per-layer embedding. The point works on two halves of 512 rows; both store the same functions of their row. -/
module

public import proofs.«01_k».proof.Proof.Gen.MergeIdeal.Value
public import Idealize.ShloMosaic.Lib.Pointwise
public import Idealize.ShloMosaic.Lib.Pipeline.Value
public import Idealize.ShloMosaic.Lib.StableHlo.ReadAt

@[expose] public section

noncomputable section

namespace Cert.MergeProof

open Cert.MergeIdeal Cert.MergeIdeal.Gen Cert.MergeIdeal.Value Idealize.ShloMosaic Idealize.ShloMosaic.TcCoe Idealize.SL.Sem

variable (m : (ℓ : Loc nD τ sig) → Buf (Elt Ideal) ℓ)

/-- The logistic function, as the code writes it. -/
def sgm (v : EReal) : EReal := Ideal.div 1 (1 + Ideal.exp (0 - v))

/-- The residual's weight. -/
def alp : EReal := Ideal.ofBits .f32 1068827891#32

/-- The layer norm of row `v` at column `j`: mean and variance by division by 1024, as the code writes it. -/
def ln (v : Fin 1024 → EReal) (g b : EReal) (j : Fin 1024) : EReal :=
  (v j - Ideal.div (∑ l, v l) (Ideal.ofBits .f32 1149239296#32))
    * Ideal.rsqrt (Ideal.div (∑ l, (v l - Ideal.div (∑ l, v l) (Ideal.ofBits .f32 1149239296#32))
        * (v l - Ideal.div (∑ l, v l) (Ideal.ofBits .f32 1149239296#32))) (Ideal.ofBits .f32 1149239296#32)
      + Ideal.ofBits .f32 925353388#32) * g + b

/-- Column `k` of the gated sum of a row: `x` the layer's input, `ya`, `yb` the two branches, `ga`, `gb` the columns'
    gate weights, `wa`, `wb` the branches' projections. -/
def mrg (x : Fin 1024 → EReal) (ya yb : Fin 512 → EReal) (ga gb : Fin 1024 → Fin 1024 → EReal) (wa wb : Fin 512 → Fin 1024 → EReal)
    (k : Fin 1024) : EReal :=
  sgm (∑ d, x d * ga d k) * (∑ e, ya e * wa e k) + sgm (∑ d, x d * gb d k) * (∑ e, yb e * wb e k)

/-- A row before the first norm: the weighted residual and the output projection of the gated sum `M`. -/
def pre (x M : Fin 1024 → EReal) (wo : Fin 1024 → Fin 1024 → EReal) (l : Fin 1024) : EReal :=
  alp * x l + ∑ k, M k * wo k l

/-- The residual of the second norm, from the first norm's row `v` and the per-layer embedding `p`. -/
def rsd (v : Fin 1024 → EReal) (p : Fin 256 → EReal) (wg : Fin 1024 → Fin 1024 → EReal) (wp : Fin 256 → Fin 1024 → EReal)
    (j : Fin 1024) : EReal :=
  alp * v j + sgm (∑ l, v l * wg l j) * ∑ e, p e * wp e j

/-- The first half's gated sum. -/
theorem pay2_at (x : Vec Ideal S512x1024 .f32) (w : Vec Ideal S1024x2048 .bf16) (a : Vec Ideal S512x512 .bf16) (wa : Vec Ideal S512x1024 .bf16)
    (b : Vec Ideal S512x512 .bf16) (wb : Vec Ideal S512x1024 .bf16) (r : Fin 512) (k : Fin 1024) :
    k0_pay2 x w a wa b wb (ix2 r k)
      = mrg (fun d => x (ix2 r d)) (fun e => a (ix2 r e)) (fun e => b (ix2 r e)) (fun d k => w (ix2 d ⟨k.val, by omega⟩))
          (fun d k => w (ix2 d ⟨1024 + k.val, by omega⟩)) (fun e k => wa (ix2 e k)) (fun e k => wb (ix2 e k)) k := by
  pointwise [k0_pay2]
  rfl

theorem pay3_at (x : Vec Ideal S512x1024 .f32) (M : FVec Ideal S512x1024 .bf16) (wo : Vec Ideal S1024x1024 .bf16) (g b : Vec Ideal S1x1024 .f32)
    (r : Fin 512) (j : Fin 1024) :
    k0_pay3 x M wo g b (ix2 r j)
      = ln (pre (fun d => x (ix2 r d)) (fun k => M (ix2 r k)) (fun k l => wo (ix2 k l))) (g (ix2 0 j)) (b (ix2 0 j)) j := by
  pointwise [k0_pay3]
  rfl

theorem pay4_at (x : Vec Ideal S512x1024 .f32) (M : FVec Ideal S512x1024 .bf16) (wo : Vec Ideal S1024x1024 .bf16) (g b : Vec Ideal S1x1024 .f32)
    (r : Fin 512) (j : Fin 1024) : k0_pay4 x M wo g b (ix2 r j) = k0_pay3 x M wo g b (ix2 r j) := rfl

theorem pay5_at (x : Vec Ideal S512x1024 .f32) (M : FVec Ideal S512x1024 .bf16) (wo : Vec Ideal S1024x1024 .bf16) (g b : Vec Ideal S1x1024 .f32)
    (wg : Vec Ideal S1024x1024 .bf16) (r : Fin 512) (j : Fin 1024) :
    k0_pay5 x M wo g b wg (ix2 r j) = 1 + Ideal.exp (0 - ∑ l : Fin 1024, k0_pay4 x M wo g b (ix2 r l) * wg (ix2 l j)) := by
  unfold k0_pay5
  generalize k0_pay4 x M wo g b = X
  pointwise

theorem pay7_at (v d o : FVec Ideal S512x1024 .f32) (p : Vec Ideal S512x256 .f32) (wp : Vec Ideal S256x1024 .bf16) (r : Fin 512) (j : Fin 1024) :
    k0_pay7 v d o p wp (ix2 r j) = alp * v (ix2 r j) + Ideal.div (o (ix2 r j)) (d (ix2 r j)) * ∑ e : Fin 256, p (ix2 r e) * wp (ix2 e j) := by
  pointwise [k0_pay7]
  rfl

theorem pay6_at (r : Fin 512) (j : Fin 1024) : (k0_pay6 (F := Ideal)) (ix2 r j) = 1 := by
  pointwise [k0_pay6]

/-- The second half's gates, the first branch's part of its sum, and its row before the norm less the row's mean. -/
theorem pay26_at (x : Vec Ideal S512x1024 .f32) (w : Vec Ideal S1024x2048 .bf16) (a : Vec Ideal S512x512 .bf16) (wa : Vec Ideal S512x1024 .bf16)
    (r : Fin 512) (k : Fin 1024) :
    k0_pay26 x w a wa (ix2 r k)
      = sgm (∑ d : Fin 1024, x (ix2 r d) * w (ix2 d ⟨k.val, by omega⟩)) * ∑ e : Fin 512, a (ix2 r e) * wa (ix2 e k) := by
  pointwise [k0_pay26, k0_pay25]
  rfl

theorem pay27_at (x : Vec Ideal S512x1024 .f32) (w : Vec Ideal S1024x2048 .bf16) (r : Fin 512) (k : Fin 1024) :
    k0_pay27 x w (ix2 r k) = ∑ d : Fin 1024, x (ix2 r d) * w (ix2 d ⟨1024 + k.val, by omega⟩) := by
  pointwise [k0_pay27, k0_pay25]

/-- The second half's gated sum, from its two parts. -/
abbrev mHi (f s : FVec Ideal S512x1024 .f32) (b : Vec Ideal S512x512 .bf16) (wb : Vec Ideal S512x1024 .bf16) (r : Fin 512) (k : Fin 1024) : EReal :=
  f (ix2 r k) + sgm (s (ix2 r k)) * ∑ e : Fin 512, b (ix2 r e) * wb (ix2 e k)

theorem pay30_at (x : Vec Ideal S512x1024 .f32) (f s : FVec Ideal S512x1024 .f32) (b : Vec Ideal S512x512 .bf16) (wb : Vec Ideal S512x1024 .bf16)
    (wo : Vec Ideal S1024x1024 .bf16) (r : Fin 512) (j : Fin 1024) :
    k0_pay30 x f s (Scalar.ofBits .f32 0x00000000#32) b wb wo (ix2 r j)
      = pre (fun d => x (ix2 r d)) (mHi f s b wb r) (fun k l => wo (ix2 k l)) j
        - Ideal.div (∑ l, pre (fun d => x (ix2 r d)) (mHi f s b wb r) (fun k l => wo (ix2 k l)) l) (Ideal.ofBits .f32 1149239296#32) := by
  pointwise [k0_pay30]
  rfl

theorem pay31_at (x : Vec Ideal S512x1024 .f32) (f s : FVec Ideal S512x1024 .f32) (z : Ideal .f32) (b : Vec Ideal S512x512 .bf16) (wb : Vec Ideal S512x1024 .bf16)
    (wo : Vec Ideal S1024x1024 .bf16) (r : Fin 512) (j : Fin 1024) :
    k0_pay31 x f s z b wb wo (ix2 r j)
      = Ideal.rsqrt (Ideal.div (∑ l : Fin 1024, k0_pay30 x f s z b wb wo (ix2 r l) * k0_pay30 x f s z b wb wo (ix2 r l)) (Ideal.ofBits .f32 1149239296#32)
        + Ideal.ofBits .f32 925353388#32) := by
  unfold k0_pay31
  generalize k0_pay30 x f s z b wb wo = X
  pointwise

theorem pay32_at (g b : FVec Ideal S1x1024 .f32) (u w : FVec Ideal S512x1024 .f32) (r : Fin 512) (j : Fin 1024) :
    k0_pay32 g b u w (ix2 r j) = u (ix2 r j) * w (ix2 r j) * g (ix2 0 j) + b (ix2 0 j) := by
  pointwise [k0_pay32]

theorem pay33_at (g b : FVec Ideal S1x1024 .f32) (u w : FVec Ideal S512x1024 .f32) (r : Fin 512) (j : Fin 1024) :
    k0_pay33 g b u w (ix2 r j) = k0_pay32 g b u w (ix2 r j) := rfl

theorem pay34_at (g b : FVec Ideal S1x1024 .f32) (u w : FVec Ideal S512x1024 .f32) (wg : Vec Ideal S1024x1024 .bf16) (p : Vec Ideal S512x256 .f32)
    (wp : Vec Ideal S256x1024 .bf16) (r : Fin 512) (j : Fin 1024) :
    k0_pay34 g b u w wg p wp (ix2 r j)
      = rsd (fun l => k0_pay32 g b u w (ix2 r l)) (fun e => p (ix2 r e)) (fun l j => wg (ix2 l j)) (fun e j => wp (ix2 e j)) j := by
  unfold k0_pay34 k0_pay33
  generalize k0_pay32 g b u w = X
  pointwise
  rfl

theorem pay28_at (g : Vec Ideal S1x1024 .f32) (j : Fin 1024) : k0_pay28 g (ix2 0 j) = g (ix2 0 j) := by pointwise [k0_pay28]
theorem pay29_at (g : Vec Ideal S1x1024 .f32) (j : Fin 1024) : k0_pay29 g (ix2 0 j) = g (ix2 0 j) := by pointwise [k0_pay29]

/-! ## The stored blocks -/

section
variable (x0 : Vec Ideal S1024x1024 .f32) (x1 x2 : Vec Ideal S1024x512 .bf16) (x3 : Vec Ideal S1024x256 .f32) (x4 : Vec Ideal S1024x2048 .bf16)
  (x5 x6 : Vec Ideal S512x1024 .bf16) (x7 : Vec Ideal S1024x1024 .bf16) (x8 x9 : Vec Ideal S1x1024 .f32) (x10 : Vec Ideal S1024x128 .bf16)
  (x11 : Vec Ideal S1x128 .f32) (x12 : Vec Ideal S1024x1024 .bf16) (x13 : Vec Ideal S256x1024 .bf16)

/-- A row of the point's gated sum, and of its first norm, over the blocks. -/
def bM (R : Fin 1024) (k : Fin 1024) : EReal :=
  mrg (fun d => x0 (ix2 R d)) (fun e => x1 (ix2 R e)) (fun e => x2 (ix2 R e)) (fun d k => x4 (ix2 d ⟨k.val, by omega⟩))
    (fun d k => x4 (ix2 d ⟨1024 + k.val, by omega⟩)) (fun e k => x5 (ix2 e k)) (fun e k => x6 (ix2 e k)) k

def bX (R : Fin 1024) (j : Fin 1024) : EReal :=
  ln (pre (fun d => x0 (ix2 R d)) (bM x0 x1 x2 x4 x5 x6 R) (fun k l => x7 (ix2 k l))) (x8 (ix2 0 j)) (x9 (ix2 0 j)) j

def bR (R : Fin 1024) (j : Fin 1024) : EReal :=
  rsd (bX x0 x1 x2 x4 x5 x6 x7 x8 x9 R) (fun e => x3 (ix2 R e)) (fun l j => x12 (ix2 l j)) (fun e j => x13 (ix2 e j)) j

theorem hz2 : (![0, 0] : Fin 2 → ℕ) = fun _ => 0 := funext fun a => by fin_cases a <;> rfl

/-- A load of rows `o` and on, at an index. -/
theorem ld_rows {a b n : ℕ} {φ : EltTy} (o : ℕ) (x : (⟨2, ![a, b]⟩ : Shape).Idx → Elt Ideal φ) (h)
    (r : Fin n) (R : Fin a) (hR : R.val = o + r.val) (d : Fin b) :
    View.ld x (Rect.unit (s := ⟨2, ![a, b]⟩) ![o, 0] ![n, b] h) (ix2 r d) = x (ix2 R d) := by
  refine congrArg x (funext fun a => Fin.ext ?_)
  match a with
  | ⟨0, _⟩ => show o + 1 * r.val = R.val; omega
  | ⟨1, _⟩ => show 0 + 1 * d.val = d.val; omega

/-- The two halves' pieces of a stored block. -/
theorem canon2_lo {φ : EltTy} (w1 w2 : S512x1024.Idx → Elt Ideal φ) (R : Fin 1024) (r : Fin 512) (h : R.val = r.val) (j : Fin 1024) :
    (View.canon [⟨r0_11, w1⟩, ⟨r0_0, w2⟩] : S1024x1024.Idx → Elt Ideal φ) (ix2 R j) = w2 (ix2 r j) := by
  rw [View.canon_cons_of_not_mem]
  · have e : (ix2 R j : S1024x1024.Idx) = r0_0.emb (ix2 r j) := by
      funext a
      refine Fin.ext ?_
      match a with
      | ⟨0, _⟩ => show R.val = 0 + 1 * r.val; omega
      | ⟨1, _⟩ => show j.val = 0 + 1 * j.val; omega
    rw [e]
    exact View.canon_cons_emb r0_0 w2 _ _
  · exact r0_11.not_mem_set_of_axis _ 0 512 512 rfl rfl rfl (.inl (show R.val < 512 by omega))

theorem canon2_hi {φ : EltTy} (w1 w2 : S512x1024.Idx → Elt Ideal φ) (R : Fin 1024) (r : Fin 512) (h : R.val = 512 + r.val) (j : Fin 1024) :
    (View.canon [⟨r0_11, w1⟩, ⟨r0_0, w2⟩] : S1024x1024.Idx → Elt Ideal φ) (ix2 R j) = w1 (ix2 r j) := by
  have e : (ix2 R j : S1024x1024.Idx) = r0_11.emb (ix2 r j) := by
    funext a
    refine Fin.ext ?_
    match a with
    | ⟨0, _⟩ => show R.val = 512 + 1 * r.val; omega
    | ⟨1, _⟩ => show j.val = 0 + 1 * j.val; omega
  rw [e]
  exact View.canon_cons_emb r0_11 w1 _ _

/-- The first half's norm. -/
theorem lo_at (R : Fin 1024) (r : Fin 512) (h : R.val = r.val) (j : Fin 1024) :
    k0_pay3 (View.ld x0 r0_0) (k0_pay2 (View.ld x0 r0_0) (View.ld x4 r0_1) (View.ld x1 r0_2) (View.ld x5 r0_3) (View.ld x2 r0_2) (View.ld x6 r0_3))
      (View.ld x7 r0_4) (View.ld x8 r0_5) (View.ld x9 r0_5) (ix2 r j) = bX x0 x1 x2 x4 x5 x6 x7 x8 x9 R j := by
  have h0 : ∀ d : Fin 1024, View.ld x0 r0_0 (ix2 r d) = x0 (ix2 R d) := ld_rows 0 x0 _ r R (by omega)
  have h1 : ∀ d : Fin 512, View.ld x1 r0_2 (ix2 r d) = x1 (ix2 R d) := ld_rows 0 x1 _ r R (by omega)
  have h2 : ∀ d : Fin 512, View.ld x2 r0_2 (ix2 r d) = x2 (ix2 R d) := ld_rows 0 x2 _ r R (by omega)
  rw [pay3_at]
  simp only [pay2_at, h0, h1, h2]
  have e4 : View.ld x4 r0_1 = x4 := View.ld_unit_zero hz2 _ _
  have e5 : View.ld x5 r0_3 = x5 := View.ld_unit_zero hz2 _ _
  have e6 : View.ld x6 r0_3 = x6 := View.ld_unit_zero hz2 _ _
  have e7 : View.ld x7 r0_4 = x7 := View.ld_unit_zero hz2 _ _
  have e8 : View.ld x8 r0_5 = x8 := View.ld_unit_zero hz2 _ _
  have e9 : View.ld x9 r0_5 = x9 := View.ld_unit_zero hz2 _ _
  rw [e4, e5, e6, e7, e8, e9]
  rfl

/-- The second half's norm. -/
theorem hi_at (R : Fin 1024) (r : Fin 512) (h : R.val = 512 + r.val) (j : Fin 1024) :
    k0_pay32 (k0_pay53 x0 x1 x2 x3 x4 x5 x6 x7 x8 x9 x10 x11 x12 x13) (k0_pay54 x0 x1 x2 x3 x4 x5 x6 x7 x8 x9 x10 x11 x12 x13)
      (k0_pay55 x0 x1 x2 x3 x4 x5 x6 x7 x8 x9 x10 x11 x12 x13) (k0_pay56 x0 x1 x2 x3 x4 x5 x6 x7 x8 x9 x10 x11 x12 x13) (ix2 r j)
      = bX x0 x1 x2 x4 x5 x6 x7 x8 x9 R j := by
  have h0 : ∀ d : Fin 1024, View.ld x0 r0_11 (ix2 r d) = x0 (ix2 R d) := ld_rows 512 x0 _ r R h
  have h1 : ∀ d : Fin 512, View.ld x1 r0_12 (ix2 r d) = x1 (ix2 R d) := ld_rows 512 x1 _ r R h
  have h2 : ∀ d : Fin 512, View.ld x2 r0_12 (ix2 r d) = x2 (ix2 R d) := ld_rows 512 x2 _ r R h
  have e4 : View.ld x4 r0_1 = x4 := View.ld_unit_zero hz2 _ _
  have e5 : View.ld x5 r0_3 = x5 := View.ld_unit_zero hz2 _ _
  have e6 : View.ld x6 r0_3 = x6 := View.ld_unit_zero hz2 _ _
  have e7 : View.ld x7 r0_4 = x7 := View.ld_unit_zero hz2 _ _
  have e8 : View.ld x8 r0_5 = x8 := View.ld_unit_zero hz2 _ _
  have e9 : View.ld x9 r0_5 = x9 := View.ld_unit_zero hz2 _ _
  rw [pay32_at]
  unfold k0_pay53 k0_pay54 k0_pay55 k0_pay56 k0_pay51 k0_pay52
  have hm : mHi (k0_pay26 (View.ld x0 r0_11) x4 (View.ld x1 r0_12) x5) (k0_pay27 (View.ld x0 r0_11) x4) (View.ld x2 r0_12) x6 r
      = bM x0 x1 x2 x4 x5 x6 R := by
    funext k
    simp only [mHi, pay26_at, pay27_at, h0, h1, h2]
    rfl
  rw [e4, e5, e6, e7, e8, e9, pay31_at, pay28_at, pay29_at]
  simp only [pay30_at, hm, h0]
  rfl

/-- The point's first stored block, the first norm. -/
theorem out14_at (R : Fin 1024) (j : Fin 1024) :
    (out0_14 x0 x1 x2 x3 x4 x5 x6 x7 x8 x9 x10 x11 x12 x13 : Vec Ideal S1024x1024 .bf16) (ix2 R j) = bX x0 x1 x2 x4 x5 x6 x7 x8 x9 R j := by
  unfold out0_14
  by_cases hR : R.val < 512
  · rw [canon2_lo _ _ R ⟨R.val, hR⟩ rfl, pay4_at]
    exact lo_at x0 x1 x2 x4 x5 x6 x7 x8 x9 R _ rfl j
  · rw [canon2_hi _ _ R ⟨R.val - 512, by omega⟩ (by show R.val = 512 + (R.val - 512); omega), pay33_at]
    exact hi_at x0 x1 x2 x3 x4 x5 x6 x7 x8 x9 x10 x11 x12 x13 R _ (by show R.val = 512 + (R.val - 512); omega) j

/-- The point's second stored block, the residual of the second norm. -/
theorem out15_at (R : Fin 1024) (j : Fin 1024) :
    (out0_15 x0 x1 x2 x3 x4 x5 x6 x7 x8 x9 x10 x11 x12 x13 : Vec Ideal S1024x1024 .f32) (ix2 R j)
      = bR x0 x1 x2 x3 x4 x5 x6 x7 x8 x9 x12 x13 R j := by
  have e12 : View.ld x12 r0_4 = x12 := View.ld_unit_zero hz2 _ _
  have e13 : View.ld x13 r0_7 = x13 := View.ld_unit_zero hz2 _ _
  unfold out0_15
  by_cases hR : R.val < 512
  · have h3 : ∀ d : Fin 256, View.ld x3 r0_6 (ix2 ⟨R.val, hR⟩ d) = x3 (ix2 R d) := ld_rows 0 x3 _ _ R (by show R.val = 0 + R.val; omega)
    have hX := lo_at x0 x1 x2 x4 x5 x6 x7 x8 x9 R ⟨R.val, hR⟩ rfl
    rw [canon2_lo _ _ R ⟨R.val, hR⟩ rfl, pay7_at, pay5_at, pay6_at, e12, e13]
    unfold k0_pay45
    simp only [pay4_at, hX, h3]
    rfl
  · have hr : R.val = 512 + (⟨R.val - 512, by omega⟩ : Fin 512).val := by show R.val = 512 + (R.val - 512); omega
    have h3 : ∀ d : Fin 256, View.ld x3 r0_13 (ix2 ⟨R.val - 512, by omega⟩ d) = x3 (ix2 R d) := ld_rows 512 x3 _ _ R hr
    have hX := hi_at x0 x1 x2 x3 x4 x5 x6 x7 x8 x9 x10 x11 x12 x13 R ⟨R.val - 512, by omega⟩ hr
    rw [canon2_hi _ _ R ⟨R.val - 512, by omega⟩ hr, pay34_at, e12, e13]
    simp only [hX, h3]
    rfl

end
end Cert.MergeProof
-- ==== Proof.MergeRef.lean ====
/- The merge's reference, read at an index over the extended reals: the same row functions that a point of the kernel
   computes. -/
module

public import proofs.«01_k».proof.Proof.MergeBody
public import proofs.«01_k».proof.Proof.Gen.MergeRefIdeal.Run

@[expose] public section

noncomputable section

namespace Cert.MergeProof.Ref

open Cert.MergeRefIdeal Cert.MergeRefIdeal.Gen Cert.MergeRefIdeal.Value Idealize.ShloMosaic Idealize.ShloMosaic.TcCoe Idealize.SL.Sem

variable (m : (ℓ : Loc nD τ sig) → Buf (Elt Ideal) ℓ)

/-- The arguments at their shapes. -/
abbrev aX (c : Dev nD) : Vec Ideal S32768x1024 .f32 := m ((c.tc : Thread nD τ).loc main_arg0)
abbrev aYa (c : Dev nD) : Vec Ideal S32768x512 .f32 := m ((c.tc : Thread nD τ).loc main_arg1)
abbrev aYb (c : Dev nD) : Vec Ideal S32768x512 .f32 := m ((c.tc : Thread nD τ).loc main_arg2)
abbrev aP (c : Dev nD) : Vec Ideal S32768x256 .f32 := m ((c.tc : Thread nD τ).loc main_arg3)
abbrev aW (c : Dev nD) : Vec Ideal S1024x5704 .f32 := m ((c.tc : Thread nD τ).loc main_arg4)
abbrev aWa (c : Dev nD) : Vec Ideal S512x1024 .f32 := m ((c.tc : Thread nD τ).loc main_arg5)
abbrev aWb (c : Dev nD) : Vec Ideal S512x1024 .f32 := m ((c.tc : Thread nD τ).loc main_arg6)
abbrev aWo (c : Dev nD) : Vec Ideal S1024x1024 .f32 := m ((c.tc : Thread nD τ).loc main_arg7)
abbrev aG1 (c : Dev nD) : Vec Ideal S1024 .f32 := m ((c.tc : Thread nD τ).loc main_arg8)
abbrev aB1 (c : Dev nD) : Vec Ideal S1024 .f32 := m ((c.tc : Thread nD τ).loc main_arg9)
abbrev aWg (c : Dev nD) : Vec Ideal S1024x1024 .f32 := m ((c.tc : Thread nD τ).loc main_arg14)
abbrev aWp (c : Dev nD) : Vec Ideal S256x1024 .f32 := m ((c.tc : Thread nD τ).loc main_arg15)

/-- The logistic function of every element, in the reference's operations. -/
def sgRef (v : FVec Ideal S32768x1024 .f32) : FVec Ideal S32768x1024 .f32 :=
  Host.divf (broadcastInDim S32768x1024 ![] bcast_S_S32768x1024 (constant S_ .f32 0x3F800000#32)) (addf (broadcastInDim S32768x1024 ![] bcast_S_S32768x1024 (constant S_ .f32 0x3F800000#32)) (Host.exp (Host.negf v)))

/-- The gated sum, from the gates. -/
def mgRef (ga gb : FVec Ideal S32768x1024 .f32) (ya yb : FVec Ideal S32768x512 .f32) (wa wb : FVec Ideal S512x1024 .f32) : FVec Ideal S32768x1024 .f32 :=
  addf (mulf (sgRef ga) (Host.dotGeneral dot_S32768x512_S512x1024_S32768x1024_1_0_0_1_n_n none ya wa)) (mulf (sgRef gb) (Host.dotGeneral dot_S32768x512_S512x1024_S32768x1024_1_0_0_1_n_n none yb wb))

/-- The weighted residual and the output projection. -/
def preRef (x M : FVec Ideal S32768x1024 .f32) (wo : FVec Ideal S1024x1024 .f32) : FVec Ideal S32768x1024 .f32 :=
  addf (mulf (broadcastInDim S32768x1024 ![] bcast_S_S32768x1024 (constant S_ .f32 0x3FB504F3#32)) x) (Host.dotGeneral dot_S32768x1024_S1024x1024_S32768x1024_1_0_0_1_n_n none M wo)

/-- The layer norm of every row, in the reference's operations. -/
def lnRef (v : FVec Ideal S32768x1024 .f32) (g b : FVec Ideal S1024 .f32) : FVec Ideal S32768x1024 .f32 :=
  addf (mulf (mulf (subf v (broadcastInDim S32768x1024 ![0, 1] bcast_S32768x1_S32768x1024_0_1 (Host.divf (broadcastInDim S32768x1 ![0] bcast_S32768_S32768x1_0 (Host.reduceAdd v (constant S_ .f32 0x00000000#32) reducesTo_S32768x1024_S32768_d1 h_S_)) (broadcastInDim S32768x1 ![] bcast_S_S32768x1 (constant S_ .f32 0x44800000#32))))) (broadcastInDim S32768x1024 ![0, 1] bcast_S32768x1_S32768x1024_0_1 (Host.rsqrt (addf (Host.divf (broadcastInDim S32768x1 ![0] bcast_S32768_S32768x1_0 (Host.reduceAdd (mulf (subf v (broadcastInDim S32768x1024 ![0, 1] bcast_S32768x1_S32768x1024_0_1 (Host.divf (broadcastInDim S32768x1 ![0] bcast_S32768_S32768x1_0 (Host.reduceAdd v (constant S_ .f32 0x00000000#32) reducesTo_S32768x1024_S32768_d1 h_S_)) (broadcastInDim S32768x1 ![] bcast_S_S32768x1 (constant S_ .f32 0x44800000#32))))) (subf v (broadcastInDim S32768x1024 ![0, 1] bcast_S32768x1_S32768x1024_0_1 (Host.divf (broadcastInDim S32768x1 ![0] bcast_S32768_S32768x1_0 (Host.reduceAdd v (constant S_ .f32 0x00000000#32) reducesTo_S32768x1024_S32768_d1 h_S_)) (broadcastInDim S32768x1 ![] bcast_S_S32768x1 (constant S_ .f32 0x44800000#32)))))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 g))) (broadcastInDim S32768x1024 ![0, 1] bcast_S1x1024_S32768x1024_0_1 (broadcastInDim S1x1024 ![1] bcast_S1024_S1x1024_1 b))

/-- The residual of the second norm. -/
def rsRef (v : FVec Ideal S32768x1024 .f32) (p : FVec Ideal S32768x256 .f32) (wg : FVec Ideal S1024x1024 .f32) (wp : FVec Ideal S256x1024 .f32) : FVec Ideal S32768x1024 .f32 :=
  addf (mulf (broadcastInDim S32768x1024 ![] bcast_S_S32768x1024 (constant S_ .f32 0x3FB504F3#32)) v)
    (mulf (sgRef (Host.dotGeneral dot_S32768x1024_S1024x1024_S32768x1024_1_0_0_1_n_n none v wg)) (Host.dotGeneral dot_S32768x256_S256x1024_S32768x1024_1_0_0_1_n_n none p wp))

/-- The gates of one branch. -/
def gaRef (x : FVec Ideal S32768x1024 .f32) (w : FVec Ideal S1024x5704 .f32) : FVec Ideal S32768x1024 .f32 :=
  Host.dotGeneral dot_S32768x1024_S1024x1024_S32768x1024_1_0_0_1_n_n none x (extractStridedSlice S1024x1024 ![0, 3656] w slices_S1024x5704_S1024x1024_0_3656)

def gbRef (x : FVec Ideal S32768x1024 .f32) (w : FVec Ideal S1024x5704 .f32) : FVec Ideal S32768x1024 .f32 :=
  Host.dotGeneral dot_S32768x1024_S1024x1024_S32768x1024_1_0_0_1_n_n none x (extractStridedSlice S1024x1024 ![0, 4680] w slices_S1024x5704_S1024x1024_0_4680)

/-- The reference's first norm and second residual through these. -/
def xRef (c : Dev nD) : FVec Ideal S32768x1024 .f32 :=
  lnRef (preRef (aX m c) (mgRef (gaRef (aX m c) (aW m c)) (gbRef (aX m c) (aW m c)) (aYa m c) (aYb m c) (aWa m c) (aWb m c)) (aWo m c)) (aG1 m c) (aB1 m c)

theorem x_eq (c : Dev nD) : (res_main_v49 m c : FVec Ideal S32768x1024 .bf16) = truncf .bf16 (xRef m c) bitsLt_bf16_f32 := rfl

theorem r_eq (c : Dev nD) : (res_main_v61 m c : FVec Ideal S32768x1024 .f32) = rsRef (xRef m c) (aP m c) (aWg m c) (aWp m c) := rfl

theorem sgRef_at (v : FVec Ideal S32768x1024 .f32) (R : Fin 32768) (j : Fin 1024) : sgRef v (ix2 R j) = sgm (v (ix2 R j)) := by
  pointwise [sgRef]
  unfold sgm
  simp only [zero_sub]

theorem gaRef_at (x : FVec Ideal S32768x1024 .f32) (w : FVec Ideal S1024x5704 .f32) (R : Fin 32768) (j : Fin 1024) :
    gaRef x w (ix2 R j) = ∑ d : Fin 1024, x (ix2 R d) * w (ix2 d ⟨3656 + j.val, by omega⟩) := by
  pointwise [gaRef]

theorem gbRef_at (x : FVec Ideal S32768x1024 .f32) (w : FVec Ideal S1024x5704 .f32) (R : Fin 32768) (j : Fin 1024) :
    gbRef x w (ix2 R j) = ∑ d : Fin 1024, x (ix2 R d) * w (ix2 d ⟨4680 + j.val, by omega⟩) := by
  pointwise [gbRef]

theorem mgRef_at (ga gb : FVec Ideal S32768x1024 .f32) (ya yb : FVec Ideal S32768x512 .f32) (wa wb : FVec Ideal S512x1024 .f32) (R : Fin 32768) (j : Fin 1024) :
    mgRef ga gb ya yb wa wb (ix2 R j) = sgm (ga (ix2 R j)) * (∑ e : Fin 512, ya (ix2 R e) * wa (ix2 e j))
      + sgm (gb (ix2 R j)) * ∑ e : Fin 512, yb (ix2 R e) * wb (ix2 e j) := by
  rw [← sgRef_at, ← sgRef_at]
  unfold mgRef
  generalize sgRef ga = A
  generalize sgRef gb = B
  pointwise

theorem preRef_at (x M : FVec Ideal S32768x1024 .f32) (wo : FVec Ideal S1024x1024 .f32) (R : Fin 32768) (j : Fin 1024) :
    preRef x M wo (ix2 R j) = pre (fun d => x (ix2 R d)) (fun k => M (ix2 R k)) (fun k l => wo (ix2 k l)) j := by
  pointwise [preRef]
  rfl

theorem lnRef_at (v : FVec Ideal S32768x1024 .f32) (g b : FVec Ideal S1024 .f32) (R : Fin 32768) (j : Fin 1024) :
    lnRef v g b (ix2 R j) = ln (fun l => v (ix2 R l)) (g (ix1 j)) (b (ix1 j)) j := by
  pointwise [lnRef]
  rfl

theorem rsRef_at (v : FVec Ideal S32768x1024 .f32) (p : FVec Ideal S32768x256 .f32) (wg : FVec Ideal S1024x1024 .f32) (wp : FVec Ideal S256x1024 .f32)
    (R : Fin 32768) (j : Fin 1024) :
    rsRef v p wg wp (ix2 R j)
      = rsd (fun l => v (ix2 R l)) (fun e => p (ix2 R e)) (fun l j => wg (ix2 l j)) (fun e j => wp (ix2 e j)) j := by
  pointwise [rsRef]
  rw [sgRef_at]
  pointwise
  rfl

/-- The gated sum, the first norm and the second residual at an index, over the arguments. -/
def sM (x : FVec Ideal S32768x1024 .f32) (ya yb : FVec Ideal S32768x512 .f32) (w : FVec Ideal S1024x5704 .f32) (wa wb : FVec Ideal S512x1024 .f32)
    (R : Fin 32768) (k : Fin 1024) : EReal :=
  mrg (fun d => x (ix2 R d)) (fun e => ya (ix2 R e)) (fun e => yb (ix2 R e)) (fun d k => w (ix2 d ⟨3656 + k.val, by omega⟩))
    (fun d k => w (ix2 d ⟨4680 + k.val, by omega⟩)) (fun e k => wa (ix2 e k)) (fun e k => wb (ix2 e k)) k

def sX (x : FVec Ideal S32768x1024 .f32) (ya yb : FVec Ideal S32768x512 .f32) (w : FVec Ideal S1024x5704 .f32) (wa wb : FVec Ideal S512x1024 .f32)
    (wo : FVec Ideal S1024x1024 .f32) (g b : FVec Ideal S1024 .f32) (R : Fin 32768) (j : Fin 1024) : EReal :=
  ln (pre (fun d => x (ix2 R d)) (sM x ya yb w wa wb R) (fun k l => wo (ix2 k l))) (g (ix1 j)) (b (ix1 j)) j

def sR (x : FVec Ideal S32768x1024 .f32) (ya yb : FVec Ideal S32768x512 .f32) (p : FVec Ideal S32768x256 .f32) (w : FVec Ideal S1024x5704 .f32)
    (wa wb : FVec Ideal S512x1024 .f32) (wo : FVec Ideal S1024x1024 .f32) (g b : FVec Ideal S1024 .f32) (wg : FVec Ideal S1024x1024 .f32)
    (wp : FVec Ideal S256x1024 .f32) (R : Fin 32768) (j : Fin 1024) : EReal :=
  rsd (sX x ya yb w wa wb wo g b R) (fun e => p (ix2 R e)) (fun l j => wg (ix2 l j)) (fun e j => wp (ix2 e j)) j

theorem x_at (c : Dev nD) (R : Fin 32768) (j : Fin 1024) :
    xRef m c (ix2 R j) = sX (aX m c) (aYa m c) (aYb m c) (aW m c) (aWa m c) (aWb m c) (aWo m c) (aG1 m c) (aB1 m c) R j := by
  unfold xRef
  rw [lnRef_at]
  simp only [preRef_at, mgRef_at, gaRef_at, gbRef_at]
  rfl

theorem ref14_at (c : Dev nD) (R : Fin 32768) (j : Fin 1024) :
    (res_main_v49 m c : FVec Ideal S32768x1024 .bf16) (ix2 R j)
      = sX (aX m c) (aYa m c) (aYb m c) (aW m c) (aWa m c) (aWb m c) (aWo m c) (aG1 m c) (aB1 m c) R j := by
  rw [x_eq]
  exact x_at m c R j

theorem ref15_at (c : Dev nD) (R : Fin 32768) (j : Fin 1024) :
    (res_main_v61 m c : FVec Ideal S32768x1024 .f32) (ix2 R j)
      = sR (aX m c) (aYa m c) (aYb m c) (aP m c) (aW m c) (aWa m c) (aWb m c) (aWo m c) (aG1 m c) (aB1 m c) (aWg m c) (aWp m c) R j := by
  rw [r_eq, rsRef_at]
  simp only [x_at]
  rfl

end Cert.MergeProof.Ref
-- ==== Proof.MergeArr.lean ====
/- The arrays the merge kernel's windows read, at an index of the arguments, and its two result arrays at an index. -/
module

public import proofs.«01_k».proof.Proof.MergeRef

@[expose] public section

noncomputable section

namespace Cert.MergeProof

open Cert.MergeIdeal Cert.MergeIdeal.Gen Cert.MergeIdeal.Value Idealize.ShloMosaic Idealize.ShloMosaic.TcCoe Idealize.SL.Sem

variable (m : (ℓ : Loc nD τ sig) → Buf (Elt Ideal) ℓ)

abbrev aX (c : Dev nD) : Vec Ideal S32768x1024 .f32 := m ((c : Thread nD τ).loc main_arg0)
abbrev aYa (c : Dev nD) : Vec Ideal S32768x512 .f32 := m ((c : Thread nD τ).loc main_arg1)
abbrev aYb (c : Dev nD) : Vec Ideal S32768x512 .f32 := m ((c : Thread nD τ).loc main_arg2)
abbrev aP (c : Dev nD) : Vec Ideal S32768x256 .f32 := m ((c : Thread nD τ).loc main_arg3)
abbrev aW (c : Dev nD) : Vec Ideal S1024x5704 .f32 := m ((c : Thread nD τ).loc main_arg4)
abbrev aWa (c : Dev nD) : Vec Ideal S512x1024 .f32 := m ((c : Thread nD τ).loc main_arg5)
abbrev aWb (c : Dev nD) : Vec Ideal S512x1024 .f32 := m ((c : Thread nD τ).loc main_arg6)
abbrev aWo (c : Dev nD) : Vec Ideal S1024x1024 .f32 := m ((c : Thread nD τ).loc main_arg7)
abbrev aG1 (c : Dev nD) : Vec Ideal S1024 .f32 := m ((c : Thread nD τ).loc main_arg8)
abbrev aB1 (c : Dev nD) : Vec Ideal S1024 .f32 := m ((c : Thread nD τ).loc main_arg9)
abbrev aWg (c : Dev nD) : Vec Ideal S1024x1024 .f32 := m ((c : Thread nD τ).loc main_arg14)
abbrev aWp (c : Dev nD) : Vec Ideal S256x1024 .f32 := m ((c : Thread nD τ).loc main_arg15)

theorem v0_at (c : Dev nD) (R : Fin 32768) (j : Fin 1024) : (V m c main_arg0 : Vec Ideal S32768x1024 .f32) (ix2 R j) = aX m c (ix2 R j) := by
  unfold V
  after_reads_at

theorem v1_at (c : Dev nD) (R : Fin 32768) (j : Fin 512) : (V m c main_v6 : Vec Ideal S32768x512 .bf16) (ix2 R j) = aYa m c (ix2 R j) := by
  unfold V
  after_reads_at

theorem v2_at (c : Dev nD) (R : Fin 32768) (j : Fin 512) : (V m c main_v7 : Vec Ideal S32768x512 .bf16) (ix2 R j) = aYb m c (ix2 R j) := by
  unfold V
  after_reads_at

theorem v3_at (c : Dev nD) (R : Fin 32768) (j : Fin 256) : (V m c main_arg3 : Vec Ideal S32768x256 .f32) (ix2 R j) = aP m c (ix2 R j) := by
  unfold V
  after_reads_at

theorem v4_at (c : Dev nD) (R : Fin 1024) (j : Fin 2048) : (V m c main_v9 : Vec Ideal S1024x2048 .bf16) (ix2 R j) = aW m c (ix2 R ⟨3656 + j.val, by omega⟩) := by
  unfold V
  after_reads_at

theorem v5_at (c : Dev nD) (R : Fin 512) (j : Fin 1024) : (V m c main_v10 : Vec Ideal S512x1024 .bf16) (ix2 R j) = aWa m c (ix2 R j) := by
  unfold V
  after_reads_at

theorem v6_at (c : Dev nD) (R : Fin 512) (j : Fin 1024) : (V m c main_v11 : Vec Ideal S512x1024 .bf16) (ix2 R j) = aWb m c (ix2 R j) := by
  unfold V
  after_reads_at

theorem v7_at (c : Dev nD) (R : Fin 1024) (j : Fin 1024) : (V m c main_v12 : Vec Ideal S1024x1024 .bf16) (ix2 R j) = aWo m c (ix2 R j) := by
  unfold V
  after_reads_at

theorem v8_at (c : Dev nD) (R : Fin 1) (j : Fin 1024) : (V m c main_v13 : Vec Ideal S1x1024 .f32) (ix2 R j) = aG1 m c (ix1 j) := by
  unfold V
  after_reads_at

theorem v9_at (c : Dev nD) (R : Fin 1) (j : Fin 1024) : (V m c main_v14 : Vec Ideal S1x1024 .f32) (ix2 R j) = aB1 m c (ix1 j) := by
  unfold V
  after_reads_at

theorem v12_at (c : Dev nD) (R : Fin 1024) (j : Fin 1024) : (V m c main_v15 : Vec Ideal S1024x1024 .bf16) (ix2 R j) = aWg m c (ix2 R j) := by
  unfold V
  after_reads_at

theorem v13_at (c : Dev nD) (R : Fin 256) (j : Fin 1024) : (V m c main_v16 : Vec Ideal S256x1024 .bf16) (ix2 R j) = aWp m c (ix2 R j) := by
  unfold V
  after_reads_at

/-- The windows' block numbers at a point: token tile `t`. -/
theorem idx_all : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

theorem flush14 : ∀ t : Fin cfg0.N, (cfg0.win 14).flush t = true := (by decide +kernel : ∀ t : Fin grid0.N, (cfg0.win 14).flush t = true)
theorem flush15 : ∀ t : Fin cfg0.N, (cfg0.win 15).flush t = true := (by decide +kernel : ∀ t : Fin grid0.N, (cfg0.win 15).flush t = true)

theorem b0_at (c : Dev nD) (t : Fin cfg0.N) (r : Fin 1024) (j : Fin 1024) (R : Fin 32768) (hR : R.val = 1024 * t.val + r.val) :
    (iblk m c 0 t : Vec Ideal S1024x1024 .f32) (ix2 r j) = aX m c (ix2 R j) := by
  rw [← v0_at]
  obtain ⟨⟨e0, e1⟩, -⟩ := idx_all t
  show V m c main_arg0 (((cfg0.win 0).blk t).view.emb (ix2 r j)) = _
  congr 1
  funext a
  apply Fin.ext
  match a with
  | ⟨0, _⟩ => show win0_0.index t (0 : Fin 2) * 1024 + 1 * r.val = R.val; omega
  | ⟨1, _⟩ => show win0_0.index t (1 : Fin 2) * 1024 + 1 * j.val = j.val; omega

theorem b1_at (c : Dev nD) (t : Fin cfg0.N) (r : Fin 1024) (j : Fin 512) (R : Fin 32768) (hR : R.val = 1024 * t.val + r.val) :
    (iblk m c 1 t : Vec Ideal S1024x512 .bf16) (ix2 r j) = aYa m c (ix2 R j) := by
  rw [← v1_at]
  obtain ⟨-, ⟨e0, e1⟩, -⟩ := idx_all t
  show V m c main_v6 (((cfg0.win 1).blk t).view.emb (ix2 r j)) = _
  congr 1
  funext a
  apply Fin.ext
  match a with
  | ⟨0, _⟩ => show win0_1.index t (0 : Fin 2) * 1024 + 1 * r.val = R.val; omega
  | ⟨1, _⟩ => show win0_1.index t (1 : Fin 2) * 512 + 1 * j.val = j.val; omega

theorem b2_at (c : Dev nD) (t : Fin cfg0.N) (r : Fin 1024) (j : Fin 512) (R : Fin 32768) (hR : R.val = 1024 * t.val + r.val) :
    (iblk m c 2 t : Vec Ideal S1024x512 .bf16) (ix2 r j) = aYb m c (ix2 R j) := by
  rw [← v2_at]
  obtain ⟨-, -, ⟨e0, e1⟩, -⟩ := idx_all t
  show V m c main_v7 (((cfg0.win 2).blk t).view.emb (ix2 r j)) = _
  congr 1
  funext a
  apply Fin.ext
  match a with
  | ⟨0, _⟩ => show win0_2.index t (0 : Fin 2) * 1024 + 1 * r.val = R.val; omega
  | ⟨1, _⟩ => show win0_2.index t (1 : Fin 2) * 512 + 1 * j.val = j.val; omega

theorem b3_at (c : Dev nD) (t : Fin cfg0.N) (r : Fin 1024) (j : Fin 256) (R : Fin 32768) (hR : R.val = 1024 * t.val + r.val) :
    (iblk m c 3 t : Vec Ideal S1024x256 .f32) (ix2 r j) = aP m c (ix2 R j) := by
  rw [← v3_at]
  obtain ⟨-, -, -, ⟨e0, e1⟩, -⟩ := idx_all t
  show V m c main_arg3 (((cfg0.win 3).blk t).view.emb (ix2 r j)) = _
  congr 1
  funext a
  apply Fin.ext
  match a with
  | ⟨0, _⟩ => show win0_3.index t (0 : Fin 2) * 1024 + 1 * r.val = R.val; omega
  | ⟨1, _⟩ => show win0_3.index t (1 : Fin 2) * 256 + 1 * j.val = j.val; omega

theorem b4_at (c : Dev nD) (t : Fin cfg0.N) (R : Fin 1024) (j : Fin 2048) :
    (iblk m c 4 t : Vec Ideal S1024x2048 .bf16) (ix2 R j) = aW m c (ix2 R ⟨3656 + j.val, by omega⟩) := by
  rw [← v4_at m c R j]
  obtain ⟨-, -, -, -, ⟨e0, e1⟩, -⟩ := idx_all t
  show V m c main_v9 (((cfg0.win 4).blk t).view.emb (ix2 R j)) = _
  congr 1
  funext a
  apply Fin.ext
  match a with
  | ⟨0, _⟩ => show win0_4.index t (0 : Fin 2) * 1024 + 1 * R.val = R.val; omega
  | ⟨1, _⟩ => show win0_4.index t (1 : Fin 2) * 2048 + 1 * j.val = j.val; omega

theorem b5_at (c : Dev nD) (t : Fin cfg0.N) (R : Fin 512) (j : Fin 1024) :
    (iblk m c 5 t : Vec Ideal S512x1024 .bf16) (ix2 R j) = aWa m c (ix2 R j) := by
  rw [← v5_at m c R j]
  obtain ⟨-, -, -, -, -, ⟨e0, e1⟩, -⟩ := idx_all t
  show V m c main_v10 (((cfg0.win 5).blk t).view.emb (ix2 R j)) = _
  congr 1
  funext a
  apply Fin.ext
  match a with
  | ⟨0, _⟩ => show win0_5.index t (0 : Fin 2) * 512 + 1 * R.val = R.val; omega
  | ⟨1, _⟩ => show win0_5.index t (1 : Fin 2) * 1024 + 1 * j.val = j.val; omega

theorem b6_at (c : Dev nD) (t : Fin cfg0.N) (R : Fin 512) (j : Fin 1024) :
    (iblk m c 6 t : Vec Ideal S512x1024 .bf16) (ix2 R j) = aWb m c (ix2 R j) := by
  rw [← v6_at m c R j]
  obtain ⟨-, -, -, -, -, -, ⟨e0, e1⟩, -⟩ := idx_all t
  show V m c main_v11 (((cfg0.win 6).blk t).view.emb (ix2 R j)) = _
  congr 1
  funext a
  apply Fin.ext
  match a with
  | ⟨0, _⟩ => show win0_6.index t (0 : Fin 2) * 512 + 1 * R.val = R.val; omega
  | ⟨1, _⟩ => show win0_6.index t (1 : Fin 2) * 1024 + 1 * j.val = j.val; omega

theorem b7_at (c : Dev nD) (t : Fin cfg0.N) (R : Fin 1024) (j : Fin 1024) :
    (iblk m c 7 t : Vec Ideal S1024x1024 .bf16) (ix2 R j) = aWo m c (ix2 R j) := by
  rw [← v7_at m c R j]
  obtain ⟨-, -, -, -, -, -, -, ⟨e0, e1⟩, -⟩ := idx_all t
  show V m c main_v12 (((cfg0.win 7).blk t).view.emb (ix2 R j)) = _
  congr 1
  funext a
  apply Fin.ext
  match a with
  | ⟨0, _⟩ => show win0_7.index t (0 : Fin 2) * 1024 + 1 * R.val = R.val; omega
  | ⟨1, _⟩ => show win0_7.index t (1 : Fin 2) * 1024 + 1 * j.val = j.val; omega

theorem b8_at (c : Dev nD) (t : Fin cfg0.N) (R : Fin 1) (j : Fin 1024) :
    (iblk m c 8 t : Vec Ideal S1x1024 .f32) (ix2 R j) = aG1 m c (ix1 j) := by
  rw [← v8_at m c R j]
  obtain ⟨-, -, -, -, -, -, -, -, ⟨e0, e1⟩, -⟩ := idx_all t
  show V m c main_v13 (((cfg0.win 8).blk t).view.emb (ix2 R j)) = _
  congr 1
  funext a
  apply Fin.ext
  match a with
  | ⟨0, _⟩ => show win0_8.index t (0 : Fin 2) * 1 + 1 * R.val = R.val; omega
  | ⟨1, _⟩ => show win0_8.index t (1 : Fin 2) * 1024 + 1 * j.val = j.val; omega

theorem b9_at (c : Dev nD) (t : Fin cfg0.N) (R : Fin 1) (j : Fin 1024) :
    (iblk m c 9 t : Vec Ideal S1x1024 .f32) (ix2 R j) = aB1 m c (ix1 j) := by
  rw [← v9_at m c R j]
  obtain ⟨-, -, -, -, -, -, -, -, -, ⟨e0, e1⟩, -⟩ := idx_all t
  show V m c main_v14 (((cfg0.win 9).blk t).view.emb (ix2 R j)) = _
  congr 1
  funext a
  apply Fin.ext
  match a with
  | ⟨0, _⟩ => show win0_9.index t (0 : Fin 2) * 1 + 1 * R.val = R.val; omega
  | ⟨1, _⟩ => show win0_9.index t (1 : Fin 2) * 1024 + 1 * j.val = j.val; omega

theorem b12_at (c : Dev nD) (t : Fin cfg0.N) (R : Fin 1024) (j : Fin 1024) :
    (iblk m c 12 t : Vec Ideal S1024x1024 .bf16) (ix2 R j) = aWg m c (ix2 R j) := by
  rw [← v12_at m c R j]
  obtain ⟨-, -, -, -, -, -, -, -, -, -, ⟨e0, e1⟩, -⟩ := idx_all t
  show V m c main_v15 (((cfg0.win 12).blk t).view.emb (ix2 R j)) = _
  congr 1
  funext a
  apply Fin.ext
  match a with
  | ⟨0, _⟩ => show win0_12.index t (0 : Fin 2) * 1024 + 1 * R.val = R.val; omega
  | ⟨1, _⟩ => show win0_12.index t (1 : Fin 2) * 1024 + 1 * j.val = j.val; omega

theorem b13_at (c : Dev nD) (t : Fin cfg0.N) (R : Fin 256) (j : Fin 1024) :
    (iblk m c 13 t : Vec Ideal S256x1024 .bf16) (ix2 R j) = aWp m c (ix2 R j) := by
  rw [← v13_at m c R j]
  obtain ⟨-, -, -, -, -, -, -, -, -, -, -, ⟨e0, e1⟩, -⟩ := idx_all t
  show V m c main_v16 (((cfg0.win 13).blk t).view.emb (ix2 R j)) = _
  congr 1
  funext a
  apply Fin.ext
  match a with
  | ⟨0, _⟩ => show win0_13.index t (0 : Fin 2) * 256 + 1 * R.val = R.val; omega
  | ⟨1, _⟩ => show win0_13.index t (1 : Fin 2) * 1024 + 1 * j.val = j.val; omega

/-- A point's norm and residual over the arguments. -/
theorem bX_eq (c : Dev nD) (t : Fin cfg0.N) (r : Fin 1024) (j : Fin 1024) (R : Fin 32768) (hR : R.val = 1024 * t.val + r.val) :
    bX (iblk m c 0 t) (iblk m c 1 t) (iblk m c 2 t) (iblk m c 4 t) (iblk m c 5 t) (iblk m c 6 t) (iblk m c 7 t) (iblk m c 8 t) (iblk m c 9 t) r j
      = Ref.sX (aX m c) (aYa m c) (aYb m c) (aW m c) (aWa m c) (aWb m c) (aWo m c) (aG1 m c) (aB1 m c) R j := by
  have hm : bM (iblk m c 0 t) (iblk m c 1 t) (iblk m c 2 t) (iblk m c 4 t) (iblk m c 5 t) (iblk m c 6 t) r = Ref.sM (aX m c) (aYa m c) (aYb m c) (aW m c) (aWa m c) (aWb m c) R := by
    funext k
    unfold bM Ref.sM
    simp only [b0_at m c t r _ R hR, b1_at m c t r _ R hR, b2_at m c t r _ R hR, b4_at m c t, b5_at m c t, b6_at m c t]
    have e : ∀ k : ℕ, 3656 + (1024 + k) = 4680 + k := fun k => by omega
    simp only [e]
  unfold bX Ref.sX
  rw [hm]
  simp only [b0_at m c t r _ R hR, b7_at m c t, b8_at m c t, b9_at m c t]

theorem bR_eq (c : Dev nD) (t : Fin cfg0.N) (r : Fin 1024) (j : Fin 1024) (R : Fin 32768) (hR : R.val = 1024 * t.val + r.val) :
    bR (iblk m c 0 t) (iblk m c 1 t) (iblk m c 2 t) (iblk m c 3 t) (iblk m c 4 t) (iblk m c 5 t) (iblk m c 6 t) (iblk m c 7 t) (iblk m c 8 t) (iblk m c 9 t) (iblk m c 12 t) (iblk m c 13 t) r j
      = Ref.sR (aX m c) (aYa m c) (aYb m c) (aP m c) (aW m c) (aWa m c) (aWb m c) (aWo m c) (aG1 m c) (aB1 m c) (aWg m c) (aWp m c) R j := by
  have hx : bX (iblk m c 0 t) (iblk m c 1 t) (iblk m c 2 t) (iblk m c 4 t) (iblk m c 5 t) (iblk m c 6 t) (iblk m c 7 t) (iblk m c 8 t) (iblk m c 9 t) r
      = Ref.sX (aX m c) (aYa m c) (aYb m c) (aW m c) (aWa m c) (aWb m c) (aWo m c) (aG1 m c) (aB1 m c) R := funext fun j => bX_eq m c t r j R hR
  unfold bR Ref.sR
  rw [hx]
  simp only [b3_at m c t r _ R hR, b12_at m c t, b13_at m c t]

/-- The first result array at an index. -/
theorem arr14_at (c : Dev nD) (R : Fin 32768) (j : Fin 1024) :
    ((dats m 0 c).arrAt 14 cfg0.N : Vec Ideal S32768x1024 .bf16) (ix2 R j) = Ref.sX (aX m c) (aYa m c) (aYb m c) (aW m c) (aWa m c) (aWb m c) (aWo m c) (aG1 m c) (aB1 m c) R j := by
  have hN : cfg0.N = 32 := N_0
  obtain ⟨t, ht⟩ : ∃ t : Fin cfg0.N, t.val = R.val / 1024 := ⟨⟨R.val / 1024, by rw [hN]; omega⟩, rfl⟩
  obtain ⟨r, hr⟩ : ∃ r : Fin 1024, r.val = R.val % 1024 := ⟨⟨R.val % 1024, by omega⟩, rfl⟩
  have hR : R.val = 1024 * t.val + r.val := by omega
  obtain ⟨-, -, -, -, -, -, -, -, -, -, -, -, ⟨e0, e1⟩, -⟩ := idx_all t
  have hb := congrFun (blocks14 m c t (flush14 t)) (ix2 r j)
  refine Eq.trans ?_ (hb.trans ?_)
  · show _ = (dats m 0 c).arrAt 14 cfg0.N (((cfg0.win 14).blk t).view.emb (ix2 r j))
    congr 1
    funext z
    apply Fin.ext
    match z with
    | ⟨0, _⟩ => show R.val = win0_14.index t (0 : Fin 2) * 1024 + 1 * r.val; omega
    | ⟨1, _⟩ => show j.val = win0_14.index t (1 : Fin 2) * 1024 + 1 * j.val; omega
  · rw [flushed14]
    refine Eq.trans (congrArg (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (a₂ := ix2 r j) ?_) ?_
    · funext z
      match z with
      | ⟨0, _⟩ => rfl
      | ⟨1, _⟩ => rfl
    · rw [out14_at, bX_eq m c t r j R hR]

/-- The second result array at an index. -/
theorem arr15_at (c : Dev nD) (R : Fin 32768) (j : Fin 1024) :
    ((dats m 0 c).arrAt 15 cfg0.N : Vec Ideal S32768x1024 .f32) (ix2 R j) = Ref.sR (aX m c) (aYa m c) (aYb m c) (aP m c) (aW m c) (aWa m c) (aWb m c) (aWo m c) (aG1 m c) (aB1 m c) (aWg m c) (aWp m c) R j := by
  have hN : cfg0.N = 32 := N_0
  obtain ⟨t, ht⟩ : ∃ t : Fin cfg0.N, t.val = R.val / 1024 := ⟨⟨R.val / 1024, by rw [hN]; omega⟩, rfl⟩
  obtain ⟨r, hr⟩ : ∃ r : Fin 1024, r.val = R.val % 1024 := ⟨⟨R.val % 1024, by omega⟩, rfl⟩
  have hR : R.val = 1024 * t.val + r.val := by omega
  obtain ⟨-, -, -, -, -, -, -, -, -, -, -, -, -, ⟨e0, e1⟩⟩ := idx_all t
  have hb := congrFun (blocks15 m c t (flush15 t)) (ix2 r j)
  refine Eq.trans ?_ (hb.trans ?_)
  · show _ = (dats m 0 c).arrAt 15 cfg0.N (((cfg0.win 15).blk t).view.emb (ix2 r j))
    congr 1
    funext z
    apply Fin.ext
    match z with
    | ⟨0, _⟩ => show R.val = win0_15.index t (0 : Fin 2) * 1024 + 1 * r.val; omega
    | ⟨1, _⟩ => show j.val = win0_15.index t (1 : Fin 2) * 1024 + 1 * j.val; omega
  · rw [flushed15]
    refine Eq.trans (congrArg (out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (a₂ := ix2 r j) ?_) ?_
    · funext z
      match z with
      | ⟨0, _⟩ => rfl
      | ⟨1, _⟩ => rfl
    · rw [out15_at, bR_eq m c t r j R hR]

end Cert.MergeProof
-- ==== Proof.MergeClaims.lean ====
/- The claims about the merge: the three frames and the equality with the reference over the extended reals. -/
module

public import proofs.«01_k».proof.Defs
public import proofs.«01_k».proof.Proof.MergeArr
public import proofs.«01_k».proof.Proof.Gen.Merge.Frame
public import Idealize.ShloMosaic.Lib.Quiescent

@[expose] public section

noncomputable section

namespace Cert.MergeProof

open Idealize.ShloMosaic Idealize.ShloMosaic.TcCoe Idealize.SL.Sem

instance : Cert.Merge.Facts := Cert.Merge.Gen.facts
instance : Cert.MergeIdeal.Facts := Cert.MergeIdeal.Gen.facts
instance : Cert.MergeRefIdeal.Facts := Cert.MergeRefIdeal.Gen.facts

theorem frame_merge : Cert.quiescent_Merge (hMerge := Cert.Merge.Gen.facts) :=
  fun m g _ => Cert.Merge.Gen.frame m g

theorem frame_mergeIdeal : Cert.quiescent_MergeIdeal (hMergeIdeal := Cert.MergeIdeal.Gen.facts) :=
  fun m g _ => Cert.MergeIdeal.Gen.frame m g

theorem frame_mergeRef : Cert.quiescent_MergeRefIdeal (hMergeRefIdeal := Cert.MergeRefIdeal.Gen.facts) :=
  fun m g _ => (θ_run Cert.MergeRefIdeal.defs _ _).mono
    (fun r h => ⟨fun c => (h c).2.2, sem_eq_zero_of_no_sems (by decide) r.2⟩) (Cert.MergeRefIdeal.Value.run m g)

theorem algebraic_merge : Cert.algebraic_MergeIdeal_MergeRefIdeal (hMergeIdeal := Cert.MergeIdeal.Gen.facts) (hMergeRefIdeal := Cert.MergeRefIdeal.Gen.facts) := by
  intro m g m' g' _ hargs
  refine ⟨fun c => (Cert.MergeIdeal.Gen.dats m 0 c).arrAt 14 Cert.MergeIdeal.cfg0.N, fun c => (Cert.MergeIdeal.Gen.dats m 0 c).arrAt 15 Cert.MergeIdeal.cfg0.N,
    (θ_run _ _ _).mono (fun r h c => ⟨(h c).1, (h c).2.1, (h c).2.2.2⟩) (Cert.MergeIdeal.Value.run_blocks m g), ?_⟩
  refine (θ_run _ _ _).mono (fun r h c => ?_) (Cert.MergeRefIdeal.Value.run m' g')
  obtain ⟨h0, h1, h2, h3, h4, h5, h6, h7, h8, h9, -, -, -, -, h14, h15⟩ := hargs c
  have e0 : Ref.aX m' c = aX m c := h0
  have e1 : Ref.aYa m' c = aYa m c := h1
  have e2 : Ref.aYb m' c = aYb m c := h2
  have e3 : Ref.aP m' c = aP m c := h3
  have e4 : Ref.aW m' c = aW m c := h4
  have e5 : Ref.aWa m' c = aWa m c := h5
  have e6 : Ref.aWb m' c = aWb m c := h6
  have e7 : Ref.aWo m' c = aWo m c := h7
  have e8 : Ref.aG1 m' c = aG1 m c := h8
  have e9 : Ref.aB1 m' c = aB1 m c := h9
  have e14 : Ref.aWg m' c = aWg m c := h14
  have e15 : Ref.aWp m' c = aWp m c := h15
  refine ⟨(h c).1.trans (funext fun i => ?_), (h c).2.1.trans (funext fun i => ?_), (h c).2.2⟩ <;>
    obtain ⟨R, j, rfl⟩ : ∃ (R : Fin 32768) (j : Fin 1024), i = ix2 R j := ⟨i 0, i 1, eq_ix2 i⟩
  · refine (Ref.ref14_at m' c R j).trans (Eq.trans ?_ (arr14_at m c R j).symm)
    rw [e0, e1, e2, e4, e5, e6, e7, e8, e9]
  · refine (Ref.ref15_at m' c R j).trans (Eq.trans ?_ (arr15_at m c R j).symm)
    rw [e0, e1, e2, e3, e4, e5, e6, e7, e8, e9, e14, e15]

end Cert.MergeProof
-- ==== Proof.InprojBody.lean ====
/- What one grid point of the input projection's kernel computes, read at an index over the extended reals: nine slices of
   a matrix product, seven of them turned by the partial rotary embedding, with the queries' scale factors pulled out. -/
module

public import proofs.«01_k».proof.Proof.Gen.InprojIdeal.Value
public import Idealize.ShloMosaic.Lib.Pointwise
public import Idealize.ShloMosaic.Lib.Pipeline.Value
public import Idealize.ShloMosaic.Lib.StableHlo.ReadAt

@[expose] public section

noncomputable section

namespace Cert.InprojProof

open Cert.InprojIdeal Cert.InprojIdeal.Gen Cert.InprojIdeal.Value Idealize.ShloMosaic Idealize.ShloMosaic.TcCoe Idealize.SL.Sem

variable (m : (ℓ : Loc nD τ sig) → Buf (Elt Ideal) ℓ)

/-- Column `J` of a row `h` of 64-wide heads after the rotary embedding of each head's first sixteen lanes, with the
    row's cosines `cs` and sines `sn`. -/
def rp (h : ℕ → EReal) (cs sn : Fin 8 → EReal) (J : ℕ) : EReal :=
  if J % 64 < 8 then h J * cs ⟨J % 8, by omega⟩ - h (J + 8) * sn ⟨J % 8, by omega⟩
  else if J % 64 < 16 then h J * cs ⟨J % 8, by omega⟩ + h (J - 8) * sn ⟨J % 8, by omega⟩
  else h J

/-- A head twice. -/
theorem rp_mod (h : ℕ → EReal) (cs sn : Fin 8 → EReal) (J : ℕ) : rp (fun j => h (j % 64)) cs sn J = rp h cs sn (J % 64) := by
  have e8 : J % 64 % 8 = J % 8 := by omega
  unfold rp
  simp only [Nat.mod_mod, e8]
  split_ifs with h1 h2
  · rw [show (J + 8) % 64 = J % 64 + 8 by omega]
  · rw [show (J - 8) % 64 = J % 64 - 8 by omega]
  · rfl

/-- Column `K` of the input weights, -/
def wc (W : Fin 1024 → Fin 5704 → EReal) (d : Fin 1024) (K : ℕ) : EReal := if h : K < 5704 then W d ⟨K, h⟩ else 0

/-- and column `o + j` of a projected row. -/
def prj (X : Fin 1024 → EReal) (W : Fin 1024 → Fin 5704 → EReal) (o j : ℕ) : EReal := ∑ d, X d * wc W d (o + j)

/-- Lane `l` of the host's cosine table and of its two sine tables, from a row's cosines and sines. -/
def tcos (cs : Fin 8 → EReal) (l : ℕ) : EReal := if l % 64 < 16 then cs ⟨l % 8, by omega⟩ else 1
def tsa (sn : Fin 8 → EReal) (l : ℕ) : EReal := if l % 64 < 8 then -sn ⟨l % 8, by omega⟩ else 0
def tsb (sn : Fin 8 → EReal) (l : ℕ) : EReal := if l % 64 < 8 then 0 else if l % 64 < 16 then sn ⟨l % 8, by omega⟩ else 0

/-- A chunk of 128 lanes: the two rolls and the tables give the rotary embedding. -/
theorem chunk_rp (h : ℕ → EReal) (cs sn : Fin 8 → EReal) (k l : ℕ) (hl : l < 128) :
    h (128 * k + l) * tcos cs l + h (128 * k + (l + 8) % 128) * tsa sn l + h (128 * k + (l + 120) % 128) * tsb sn l
      = rp h cs sn (128 * k + l) := by
  have e64 : (128 * k + l) % 64 = l % 64 := by omega
  have e8 : (128 * k + l) % 8 = l % 8 := by omega
  unfold rp tcos tsa tsb
  simp only [e64, e8]
  by_cases h1 : l % 64 < 8
  · have e : 128 * k + (l + 8) % 128 = 128 * k + l + 8 := by omega
    simp only [if_pos h1, if_pos (show l % 64 < 16 by omega), mul_zero, add_zero, e, mul_neg, sub_eq_add_neg]
  · by_cases h2 : l % 64 < 16
    · have e : 128 * k + (l + 120) % 128 = 128 * k + l - 8 := by omega
      simp only [if_neg h1, if_pos h2, mul_zero, add_zero, e]
    · simp only [if_neg h1, if_neg h2, mul_zero, add_zero, mul_one]

theorem rp_congr {h h' : ℕ → EReal} (cs sn : Fin 8 → EReal) (n J : ℕ) (hn : n % 64 = 0) (hJ : J < n) (e : ∀ j < n, h j = h' j) :
    rp h cs sn J = rp h' cs sn J := by
  unfold rp
  split_ifs with h1 h2
  · rw [e J hJ, e (J + 8) (by omega)]
  · rw [e J hJ, e (J - 8) (by omega)]
  · exact e J hJ

/-- A nonnegative real factor comes out of the rotary embedding, -/
theorem rp_mul (h : ℕ → EReal) (cs sn : Fin 8 → EReal) (J : ℕ) (s : EReal) (h0 : 0 ≤ s) (ht : s ≠ ⊤) :
    rp (fun j => h j * s) cs sn J = rp h cs sn J * s := by
  unfold rp
  split_ifs
  · rw [sub_eq_add_neg, sub_eq_add_neg, EReal.right_distrib_of_nonneg_of_ne_top h0 ht, EReal.neg_mul, mul_right_comm, mul_right_comm (h (J + 8))]
  · rw [EReal.right_distrib_of_nonneg_of_ne_top h0 ht, mul_right_comm, mul_right_comm (h (J - 8))]
  · rfl

/-- and out of a sum of products. -/
theorem sum_scale {ι : Type} (t : Finset ι) (x w : ι → EReal) (s : EReal) (h0 : 0 ≤ s) (ht : s ≠ ⊤) :
    ∑ d ∈ t, x d * (w d * s) = (∑ d ∈ t, x d * w d) * s := by
  classical
  induction t using Finset.induction_on with
  | empty => simp
  | insert a t ha ih => rw [Finset.sum_insert ha, Finset.sum_insert ha, ih, EReal.right_distrib_of_nonneg_of_ne_top h0 ht, mul_assoc]

/-- The base-2 logarithm of e, rounded to the element type: the factor of the two attention branches' queries. -/
def l2e : EReal := Ideal.ofBits .f32 1069066811#32

/-- The queries' scale, 1/8. -/
def scl : EReal := Ideal.ofBits .f32 1040187392#32

/-- The indexer weights' scale. -/
def ihs : EReal := Ideal.ofBits .f32 1052050675#32

/-- The chunk's operations as the code has them. -/
def rot1 (h c a b : FVec Ideal S512x128 .f32) : FVec Ideal S512x128 .f32 :=
  addf (addf (mulf h c) (mulf (dynamicRotate 1 120#32 none h rotates_S512x128_d1) a)) (mulf (dynamicRotate 1 8#32 none h rotates_S512x128_d1) b)

/-- The four chunks of a 512-column slice. -/
def rot4 (h : FVec Ideal S512x512 .f32) (c a b : FVec Ideal S512x128 .f32) : FVec Ideal S512x512 .bf16 :=
  truncf .bf16 (concatenate S512x512 1 [⟨S512x128, rot1 (extractStridedSlice S512x128 ![0, 0] h slices_S512x512_o0_0_S512x128) c a b⟩,
    ⟨S512x128, rot1 (extractStridedSlice S512x128 ![0, 128] h slices_S512x512_o0_128_S512x128) c a b⟩,
    ⟨S512x128, rot1 (extractStridedSlice S512x128 ![0, 256] h slices_S512x512_o0_256_S512x128) c a b⟩,
    ⟨S512x128, rot1 (extractStridedSlice S512x128 ![0, 384] h slices_S512x512_o0_384_S512x128) c a b⟩] concatenates_S512x128_S512x128_S512x128_S512x128_S512x512_d1) bitsLt_bf16_f32

/-- The product of the point's rows with a 512-column slice of the weights. -/
def mm (x : Vec Ideal S512x1024 .f32) (w : Vec Ideal S1024x512 .bf16) : FVec Ideal S512x512 .f32 :=
  matmul (F := Ideal) dot_S512x1024_S1024x512_S512x512_1_0_0_1_n_n none (k0_pay5 x) (shapeCast S1024x512 w shapeCasts_S1024x512_S1024x512 : FVec Ideal S1024x512 .bf16) (constant S512x512 .f32 0x00000000#32)

/-- The product times the base-2 logarithm of e. -/
def mml (x : Vec Ideal S512x1024 .f32) (w : Vec Ideal S1024x512 .bf16) : FVec Ideal S512x512 .f32 :=
  mulf (mm x w) (broadcast S512x512 (Scalar.ofBits .f32 0x3FB8AA3B#32))

theorem rot1_at (h c a b : FVec Ideal S512x128 .f32) (r : Fin 512) (l : Fin 128) :
    rot1 h c a b (ix2 r l)
      = h (ix2 r l) * c (ix2 r l) + h (ix2 r ⟨(l.val + 8) % 128, by omega⟩) * a (ix2 r l)
        + h (ix2 r ⟨(l.val + 120) % 128, by omega⟩) * b (ix2 r l) := by
  pointwise [rot1]
  rfl

theorem mm_at (x : Vec Ideal S512x1024 .f32) (w : Vec Ideal S1024x512 .bf16) (r j : Fin 512) :
    mm x w (ix2 r j) = ∑ d, x (ix2 r d) * w (ix2 d j) := by
  pointwise [mm, k0_pay5]

theorem mml_at (x : Vec Ideal S512x1024 .f32) (w : Vec Ideal S1024x512 .bf16) (r j : Fin 512) :
    mml x w (ix2 r j) = (∑ d, x (ix2 r d) * w (ix2 d j)) * l2e := by
  rw [← mm_at]
  unfold mml
  generalize mm x w = M
  pointwise
  rfl

/-- A chunk whose lanes are those of `H` from lane `128 k` on. -/
theorem rot1_rp (q c a b : FVec Ideal S512x128 .f32) (r : Fin 512) (H : ℕ → EReal) (cs sn : Fin 8 → EReal) (k : ℕ)
    (hq : ∀ l : Fin 128, q (ix2 r l) = H (128 * k + l.val)) (hc : ∀ l : Fin 128, c (ix2 r l) = tcos cs l.val)
    (ha : ∀ l : Fin 128, a (ix2 r l) = tsa sn l.val) (hb : ∀ l : Fin 128, b (ix2 r l) = tsb sn l.val) (l : Fin 128) :
    rot1 q c a b (ix2 r l) = rp H cs sn (128 * k + l.val) := by
  rw [rot1_at, hq, hq, hq, hc, ha, hb]
  exact chunk_rp H cs sn k l.val l.isLt

theorem rot4_at (h : FVec Ideal S512x512 .f32) (c a b : FVec Ideal S512x128 .f32) (r : Fin 512) (J : Fin 512) :
    rot4 h c a b (ix2 r J)
      = if h0 : J.val < 128 then rot1 (extractStridedSlice S512x128 ![0, 0] h slices_S512x512_o0_0_S512x128) c a b (ix2 r ⟨J.val, h0⟩)
        else if h1 : J.val - 128 < 128 then rot1 (extractStridedSlice S512x128 ![0, 128] h slices_S512x512_o0_128_S512x128) c a b (ix2 r ⟨J.val - 128, h1⟩)
        else if h2 : J.val - 128 - 128 < 128 then rot1 (extractStridedSlice S512x128 ![0, 256] h slices_S512x512_o0_256_S512x128) c a b (ix2 r ⟨J.val - 128 - 128, h2⟩)
        else rot1 (extractStridedSlice S512x128 ![0, 384] h slices_S512x512_o0_384_S512x128) c a b (ix2 r ⟨J.val - 128 - 128 - 128, by omega⟩) := by
  unfold rot4
  generalize rot1 (extractStridedSlice S512x128 ![0, 0] h slices_S512x512_o0_0_S512x128) c a b = q0
  generalize rot1 (extractStridedSlice S512x128 ![0, 128] h slices_S512x512_o0_128_S512x128) c a b = q1
  generalize rot1 (extractStridedSlice S512x128 ![0, 256] h slices_S512x512_o0_256_S512x128) c a b = q2
  generalize rot1 (extractStridedSlice S512x128 ![0, 384] h slices_S512x512_o0_384_S512x128) c a b = q3
  pointwise

/-- A slice's four chunks together. -/
theorem rot4_rp (h : FVec Ideal S512x512 .f32) (c a b : FVec Ideal S512x128 .f32) (r : Fin 512) (H : ℕ → EReal) (cs sn : Fin 8 → EReal)
    (hh : ∀ j : Fin 512, h (ix2 r j) = H j.val) (hc : ∀ l : Fin 128, c (ix2 r l) = tcos cs l.val)
    (ha : ∀ l : Fin 128, a (ix2 r l) = tsa sn l.val) (hb : ∀ l : Fin 128, b (ix2 r l) = tsb sn l.val) (J : Fin 512) :
    rot4 h c a b (ix2 r J) = rp H cs sn J.val := by
  have hJ := J.isLt
  rw [rot4_at]
  split_ifs with h0 h1 h2
  · rw [rot1_rp _ c a b r H cs sn 0 (fun l => by
      have e : extractStridedSlice S512x128 ![0, 0] h slices_S512x512_o0_0_S512x128 (ix2 r l) = h (ix2 r ⟨l.val, by omega⟩) := by
        pointwise
      rw [e, hh]; exact congrArg H (by simp only []; omega)) hc ha hb]
    exact congrArg _ (by simp only []; omega)
  · rw [rot1_rp _ c a b r H cs sn 1 (fun l => by
      have e : extractStridedSlice S512x128 ![0, 128] h slices_S512x512_o0_128_S512x128 (ix2 r l) = h (ix2 r ⟨128 + l.val, by omega⟩) := by
        pointwise
      rw [e, hh]) hc ha hb]
    exact congrArg _ (by simp only []; omega)
  · rw [rot1_rp _ c a b r H cs sn 2 (fun l => by
      have e : extractStridedSlice S512x128 ![0, 256] h slices_S512x512_o0_256_S512x128 (ix2 r l) = h (ix2 r ⟨256 + l.val, by omega⟩) := by
        pointwise
      rw [e, hh]) hc ha hb]
    exact congrArg _ (by simp only []; omega)
  · rw [rot1_rp _ c a b r H cs sn 3 (fun l => by
      have e : extractStridedSlice S512x128 ![0, 384] h slices_S512x512_o0_384_S512x128 (ix2 r l) = h (ix2 r ⟨384 + l.val, by omega⟩) := by
        pointwise
      rw [e, hh]) hc ha hb]
    exact congrArg _ (by simp only []; omega)

/-- What is known of a point's five windows at its row `r`: the input row `X`, the tables of the row's cosines and
    sines, and columns `o + k` of the weights, `W` times `s`. -/
structure Rows (x0 : Vec Ideal S512x1024 .f32) (x2 x3 x4 : Vec Ideal S512x128 .f32) (r : Fin 512) (X : Fin 1024 → EReal) (cs sn : Fin 8 → EReal) : Prop where
  hx : ∀ d, x0 (ix2 r d) = X d
  hc : ∀ l : Fin 128, x2 (ix2 r l) = tcos cs l.val
  ha : ∀ l : Fin 128, x3 (ix2 r l) = tsa sn l.val
  hb : ∀ l : Fin 128, x4 (ix2 r l) = tsb sn l.val

theorem pay6_at (x : Vec Ideal S512x128 .f32) (r : Fin 512) (l : Fin 128) : k0_pay6 x (ix2 r l) = x (ix2 r l) := by
  pointwise [k0_pay6]

theorem pay7_at (x : Vec Ideal S512x128 .f32) (r : Fin 512) (l : Fin 128) : k0_pay7 x (ix2 r l) = x (ix2 r l) := by
  pointwise [k0_pay7]

theorem pay8_at (x : Vec Ideal S512x128 .f32) (r : Fin 512) (l : Fin 128) : k0_pay8 x (ix2 r l) = x (ix2 r l) := by
  pointwise [k0_pay8]

theorem hz2 : (![0, 0] : Fin 2 → ℕ) = fun _ => 0 := by
  funext i
  fin_cases i <;> rfl

variable (x0 : Vec Ideal S512x1024 .f32) (x1 : Vec Ideal S1024x3840 .bf16) (x2 x3 x4 : Vec Ideal S512x128 .f32)

theorem ld0 : View.ld x0 r0_0 = x0 := View.ld_unit_zero hz2 _ _

theorem ldt : View.ld x2 r0_1 = x2 := View.ld_unit_zero hz2 _ _

/-- The slices of the weights. -/
theorem ldw_at (o : ℕ) (ib : ∀ i, (![0, o] : Fin 2 → ℕ) i + S1024x512.size i ≤ S1024x3840.size i) (d : Fin 1024) (j : Fin 512) (hj) :
    View.ld x1 (Rect.unit (s := S1024x3840) ![0, o] S1024x512.size ib) (ix2 d j) = x1 (ix2 d ⟨o + j.val, hj⟩) := by
  refine congrArg x1 (funext fun i => Fin.ext ?_)
  fin_cases i <;> simp [Rect.unit, Rect.emb]

theorem out5_eq : out0_5 x0 x1 x2 x3 x4 = rot4 (mml x0 (View.ld x1 r0_2)) (k0_pay6 x2) (k0_pay7 x3) (k0_pay8 x4) := by
  unfold out0_5 k0_pay32 k0_pay31
  rw [View.canon_unit_zero hz2]
  rw [ld0, ldt, ldt, ldt]
  rfl

theorem out6_eq : out0_6 x0 x1 x2 x3 x4 = rot4 (mm x0 (View.ld x1 r0_4)) (k0_pay6 x2) (k0_pay7 x3) (k0_pay8 x4) := by
  unfold out0_6 k0_pay32 k0_pay31 k0_pay30 k0_pay29
  rw [View.canon_unit_zero hz2]
  rw [ld0, ldt, ldt, ldt]
  rfl

theorem out8_eq : out0_8 x0 x1 x2 x3 x4 = rot4 (mml x0 (View.ld x1 r0_6)) (k0_pay6 x2) (k0_pay7 x3) (k0_pay8 x4) := by
  unfold out0_8 k0_pay32 k0_pay31 k0_pay30 k0_pay29
  rw [View.canon_unit_zero hz2]
  rw [ld0, ldt, ldt, ldt]
  rfl

theorem out9_eq : out0_9 x0 x1 x2 x3 x4 = rot4 (mm x0 (View.ld x1 r0_7)) (k0_pay6 x2) (k0_pay7 x3) (k0_pay8 x4) := by
  unfold out0_9 k0_pay32 k0_pay31 k0_pay30 k0_pay29
  rw [View.canon_unit_zero hz2]
  rw [ld0, ldt, ldt, ldt]
  rfl

theorem out11_eq : out0_11 x0 x1 x2 x3 x4 = rot4 (mm x0 (View.ld x1 r0_9)) (k0_pay6 x2) (k0_pay7 x3) (k0_pay8 x4) := by
  unfold out0_11 k0_pay32 k0_pay31 k0_pay30 k0_pay29
  rw [View.canon_unit_zero hz2]
  rw [ld0, ldt, ldt, ldt]
  rfl

theorem out7_eq (r j : Fin 512) : out0_7 x0 x1 x2 x3 x4 (ix2 r j) = mm x0 (View.ld x1 r0_5) (ix2 r j) := by
  unfold out0_7 k0_pay29
  rw [View.canon_unit_zero hz2, ld0]
  generalize View.ld x1 r0_5 = w
  rw [mm_at]
  pointwise [k0_pay18, k0_pay5]

theorem out10_eq (r j : Fin 512) : out0_10 x0 x1 x2 x3 x4 (ix2 r j) = mm x0 (View.ld x1 r0_8) (ix2 r j) := by
  unfold out0_10 k0_pay29
  rw [View.canon_unit_zero hz2, ld0]
  generalize View.ld x1 r0_8 = w
  rw [mm_at]
  pointwise [k0_pay27, k0_pay5]

theorem out12_eq : out0_12 x0 x1 x2 x3 x4
    = truncf .bf16 (rot1 (extractStridedSlice S512x128 ![0, 0] (k0_pay2 (k0_pay5 x0) (View.ld x1 r0_10)) slices_S512x256_o0_0_S512x128) (k0_pay6 x2) (k0_pay7 x3) (k0_pay8 x4)) bitsLt_bf16_f32 := by
  unfold out0_12 k0_pay32 k0_pay31 k0_pay30 k0_pay29
  rw [View.canon_unit_zero hz2, ld0, ldt, ldt, ldt]
  rfl

theorem out13_eq (r : Fin 512) (j : Fin 128) : out0_13 x0 x1 x2 x3 x4 (ix2 r j)
    = (∑ d, x0 (ix2 r d) * View.ld x1 r0_10 (ix2 d ⟨128 + j.val, by show 128 + j.val < 256; omega⟩)) * ihs := by
  unfold out0_13 k0_pay29
  rw [View.canon_unit_zero hz2, ld0]
  generalize View.ld x1 r0_10 = w
  pointwise [k0_pay4, k0_pay2, k0_pay5]
  rfl

/-- The weights' last 256 columns. -/
theorem ldv_at (d : Fin 1024) (j : Fin 256) (hj) :
    View.ld x1 r0_10 (ix2 d j) = x1 (ix2 d ⟨3584 + j.val, hj⟩) := by
  refine congrArg x1 (funext fun i => Fin.ext ?_)
  fin_cases i <;> simp [Rect.unit, Rect.emb]

variable {x0 x2 x3 x4} {r : Fin 512} {X : Fin 1024 → EReal} {cs sn : Fin 8 → EReal}

/-- A turned slice whose weights are `W` times `s`. -/
theorem turned (h : Rows x0 x2 x3 x4 r X cs sn) (w : Vec Ideal S1024x512 .bf16) (W : Fin 1024 → ℕ → EReal) (s : EReal) (h0 : 0 ≤ s) (ht : s ≠ ⊤)
    (hw : ∀ d (j : Fin 512), w (ix2 d j) = W d j.val * s) (J : Fin 512) :
    rot4 (mm x0 w) (k0_pay6 x2) (k0_pay7 x3) (k0_pay8 x4) (ix2 r J) = rp (fun j => ∑ d, X d * W d j) cs sn J.val * s := by
  rw [rot4_rp _ _ _ _ r (fun j => (∑ d, X d * W d j) * s) cs sn (fun j => by
    rw [mm_at, ← sum_scale _ _ _ _ h0 ht]
    exact Finset.sum_congr rfl fun d _ => by rw [h.hx, hw]) (fun l => (pay6_at _ _ _).trans (h.hc l)) (fun l => (pay7_at _ _ _).trans (h.ha l))
    (fun l => (pay8_at _ _ _).trans (h.hb l)), rp_mul _ _ _ _ _ h0 ht]

/-- The same with the base-2 logarithm of e. -/
theorem turnedL (h : Rows x0 x2 x3 x4 r X cs sn) (w : Vec Ideal S1024x512 .bf16) (W : Fin 1024 → ℕ → EReal) (s : EReal) (h0 : 0 ≤ s) (ht : s ≠ ⊤)
    (hL : 0 ≤ l2e) (hT : l2e ≠ ⊤) (hw : ∀ d (j : Fin 512), w (ix2 d j) = W d j.val * s) (J : Fin 512) :
    rot4 (mml x0 w) (k0_pay6 x2) (k0_pay7 x3) (k0_pay8 x4) (ix2 r J) = rp (fun j => ∑ d, X d * W d j) cs sn J.val * s * l2e := by
  rw [rot4_rp _ _ _ _ r (fun j => (∑ d, X d * W d j) * s * l2e) cs sn (fun j => by
    rw [mml_at, ← sum_scale _ _ _ _ h0 ht]
    exact congrArg (· * l2e) (Finset.sum_congr rfl fun d _ => by rw [h.hx, hw])) (fun l => (pay6_at _ _ _).trans (h.hc l)) (fun l => (pay7_at _ _ _).trans (h.ha l))
    (fun l => (pay8_at _ _ _).trans (h.hb l)), rp_mul (fun j => (∑ d, X d * W d j) * s) _ _ _ _ hL hT, rp_mul _ _ _ _ _ h0 ht]

/-- The indexer's key: one chunk, the 64 columns of the key twice. -/
theorem turnedK (h : Rows x0 x2 x3 x4 r X cs sn) (W : Fin 1024 → ℕ → EReal)
    (hw : ∀ d (j : Fin 128), x1 (ix2 d ⟨3584 + j.val, by omega⟩) = W d (j.val % 64)) (J : Fin 128) :
    out0_12 x0 x1 x2 x3 x4 (ix2 r J) = rp (fun j => ∑ d, X d * W d (j % 64)) cs sn J.val := by
  rw [out12_eq]
  generalize hq : extractStridedSlice S512x128 ![0, 0] (k0_pay2 (k0_pay5 x0) (View.ld x1 r0_10)) slices_S512x256_o0_0_S512x128 = q
  have e : ∀ l : Fin 128, q (ix2 r l) = ∑ d, X d * W d (l.val % 64) := fun l => by
    rw [← hq]
    have e1 : ∀ w : Vec Ideal S1024x256 .bf16, extractStridedSlice S512x128 ![0, 0] (k0_pay2 (k0_pay5 x0) w) slices_S512x256_o0_0_S512x128 (ix2 r l)
        = ∑ d, x0 (ix2 r d) * w (ix2 d ⟨l.val, by omega⟩) := fun w => by
      pointwise [k0_pay2, k0_pay5]
    rw [e1]
    exact Finset.sum_congr rfl fun d _ => by rw [h.hx, ← hw, ldv_at x1 d ⟨l.val, by omega⟩ (by simp only []; omega)]
  have e2 : ∀ v : FVec Ideal S512x128 .f32, (truncf .bf16 v bitsLt_bf16_f32 : FVec Ideal S512x128 .bf16) (ix2 r J) = v (ix2 r J) := fun v => by
    pointwise
  rw [e2, rot1_rp q _ _ _ r (fun j => ∑ d, X d * W d (j % 64)) cs sn 0 (fun l => by rw [e]; simp only [Nat.mul_zero, Nat.zero_add])
    (fun l => (pay6_at _ _ _).trans (h.hc l)) (fun l => (pay7_at _ _ _).trans (h.ha l)) (fun l => (pay8_at _ _ _).trans (h.hb l))]
  simp only [Nat.mul_zero, Nat.zero_add]

theorem scl_real : scl = ((1 / 8 : ℝ) : EReal) := by
  simp [scl, Ideal.ofBits, Ideal.ieee, -EReal.coe_mul]; norm_num

theorem scl_nonneg : 0 ≤ scl := by
  rw [scl_real]
  exact EReal.coe_nonneg.2 (by norm_num)

theorem scl_ne_top : scl ≠ ⊤ := by
  rw [scl_real]
  exact EReal.coe_ne_top _

theorem l2e_real : ∃ x : ℝ, 0 ≤ x ∧ l2e = (x : EReal) := by
  refine ⟨12102203 / 8388608, by norm_num, ?_⟩
  simp [l2e, Ideal.ofBits, Ideal.ieee, -EReal.coe_mul]; norm_num

theorem l2e_nonneg : 0 ≤ l2e := by
  obtain ⟨x, h, e⟩ := l2e_real
  rw [e]
  exact EReal.coe_nonneg.2 h

theorem l2e_ne_top : l2e ≠ ⊤ := by
  obtain ⟨x, h, e⟩ := l2e_real
  rw [e]
  exact EReal.coe_ne_top _

end Cert.InprojProof

end
-- ==== Proof.InprojRef.lean ====
/- The input projection's reference, read at an index over the extended reals: the same row functions that a point of the
   kernel computes. -/
module

public import proofs.«01_k».proof.Proof.InprojBody
public import proofs.«01_k».proof.Proof.Gen.InprojRefIdeal.Run

@[expose] public section

noncomputable section

namespace Cert.InprojProof.Ref

open Cert.InprojRefIdeal Cert.InprojRefIdeal.Gen Cert.InprojRefIdeal.Value Idealize.ShloMosaic Idealize.ShloMosaic.TcCoe Idealize.SL.Sem

variable (m : (ℓ : Loc nD τ sig) → Buf (Elt Ideal) ℓ)

/-- The arguments at their shapes. -/
abbrev aX (c : Dev nD) : Vec Ideal S32768x1024 .f32 := m ((c.tc : Thread nD τ).loc main_arg0)
abbrev aC (c : Dev nD) : Vec Ideal S32768x8 .f32 := m ((c.tc : Thread nD τ).loc main_arg1)
abbrev aS (c : Dev nD) : Vec Ideal S32768x8 .f32 := m ((c.tc : Thread nD τ).loc main_arg2)
abbrev aW (c : Dev nD) : Vec Ideal S1024x5704 .f32 := m ((c.tc : Thread nD τ).loc main_arg3)

/-- The projected rows. -/
def hRef (x : FVec Ideal S32768x1024 .f32) (w : FVec Ideal S1024x5704 .f32) : FVec Ideal S32768x3656 .f32 :=
  Host.dotGeneral dot_S32768x1024_S1024x3656_S32768x3656_1_0_0_1_n_n none x (extractStridedSlice S1024x3656 ![0, 0] w slices_S1024x5704_S1024x3656_0_0)

/-- The rotary embedding of eight heads, and of one. -/
def h8Ref (t : FVec Ideal S32768x8x64 .f32) (cs sn : FVec Ideal S32768x8 .f32) : FVec Ideal S32768x8x64 .f32 :=
  ((concatenate S32768x8x64 2 [⟨S32768x8x8, ((subf (mulf (extractStridedSlice S32768x8x8 ![0, 0, 0] t slices_S32768x8x64_S32768x8x8_0_0_0) (broadcastInDim S32768x8x8 ![0, 1, 2] bcast_S32768x1x8_S32768x8x8_0_1_2 (broadcastInDim S32768x1x8 ![0, 2] bcast_S32768x8_S32768x1x8_0_2 cs))) (mulf (extractStridedSlice S32768x8x8 ![0, 0, 8] t slices_S32768x8x64_S32768x8x8_0_0_8) (broadcastInDim S32768x8x8 ![0, 1, 2] bcast_S32768x1x8_S32768x8x8_0_1_2 (broadcastInDim S32768x1x8 ![0, 2] bcast_S32768x8_S32768x1x8_0_2 sn)))) : FVec Ideal S32768x8x8 .f32)⟩, ⟨S32768x8x8, ((addf (mulf (extractStridedSlice S32768x8x8 ![0, 0, 8] t slices_S32768x8x64_S32768x8x8_0_0_8) (broadcastInDim S32768x8x8 ![0, 1, 2] bcast_S32768x1x8_S32768x8x8_0_1_2 (broadcastInDim S32768x1x8 ![0, 2] bcast_S32768x8_S32768x1x8_0_2 cs))) (mulf (extractStridedSlice S32768x8x8 ![0, 0, 0] t slices_S32768x8x64_S32768x8x8_0_0_0) (broadcastInDim S32768x8x8 ![0, 1, 2] bcast_S32768x1x8_S32768x8x8_0_1_2 (broadcastInDim S32768x1x8 ![0, 2] bcast_S32768x8_S32768x1x8_0_2 sn)))) : FVec Ideal S32768x8x8 .f32)⟩, ⟨S32768x8x48, ((extractStridedSlice S32768x8x48 ![0, 0, 16] t slices_S32768x8x64_S32768x8x48_0_0_16) : FVec Ideal S32768x8x48 .f32)⟩] concatenates_S32768x8x8_S32768x8x8_S32768x8x48_S32768x8x64_d2))

def h1Ref (t : FVec Ideal S32768x1x64 .f32) (cs sn : FVec Ideal S32768x8 .f32) : FVec Ideal S32768x1x64 .f32 :=
  ((concatenate S32768x1x64 2 [⟨S32768x1x8, ((subf (mulf (extractStridedSlice S32768x1x8 ![0, 0, 0] t slices_S32768x1x64_S32768x1x8_0_0_0) (broadcastInDim S32768x1x8 ![0, 2] bcast_S32768x8_S32768x1x8_0_2 cs)) (mulf (extractStridedSlice S32768x1x8 ![0, 0, 8] t slices_S32768x1x64_S32768x1x8_0_0_8) (broadcastInDim S32768x1x8 ![0, 2] bcast_S32768x8_S32768x1x8_0_2 sn))) : FVec Ideal S32768x1x8 .f32)⟩, ⟨S32768x1x8, ((addf (mulf (extractStridedSlice S32768x1x8 ![0, 0, 8] t slices_S32768x1x64_S32768x1x8_0_0_8) (broadcastInDim S32768x1x8 ![0, 2] bcast_S32768x8_S32768x1x8_0_2 cs)) (mulf (extractStridedSlice S32768x1x8 ![0, 0, 0] t slices_S32768x1x64_S32768x1x8_0_0_0) (broadcastInDim S32768x1x8 ![0, 2] bcast_S32768x8_S32768x1x8_0_2 sn))) : FVec Ideal S32768x1x8 .f32)⟩, ⟨S32768x1x48, ((extractStridedSlice S32768x1x48 ![0, 0, 16] t slices_S32768x1x64_S32768x1x48_0_0_16) : FVec Ideal S32768x1x48 .f32)⟩] concatenates_S32768x1x8_S32768x1x8_S32768x1x48_S32768x1x64_d2))

/-- The same on the flat columns. -/
def hdRef (t : FVec Ideal S32768x512 .f32) (cs sn : FVec Ideal S32768x8 .f32) : FVec Ideal S32768x512 .f32 :=
  shapeCast S32768x512 (h8Ref (shapeCast S32768x8x64 t shapeCasts_S32768x512_S32768x8x64) cs sn) shapeCasts_S32768x8x64_S32768x512

/-- The indexer's key twice. -/
def hkRef (t : FVec Ideal S32768x64 .f32) (cs sn : FVec Ideal S32768x8 .f32) : FVec Ideal S32768x128 .f32 :=
  shapeCast S32768x128 (broadcastInDim S1x32768x2x64 ![0, 1, 2, 3] bcast_S1x32768x1x64_S1x32768x2x64_0_1_2_3 (shapeCast S1x32768x1x64 (shapeCast S32768x64
    (h1Ref (shapeCast S32768x1x64 t shapeCasts_S32768x64_S32768x1x64) cs sn) shapeCasts_S32768x1x64_S32768x64) shapeCasts_S32768x64_S1x32768x1x64)) shapeCasts_S1x32768x2x64_S32768x128

theorem hRef_at (x : FVec Ideal S32768x1024 .f32) (w : FVec Ideal S1024x5704 .f32) (R : Fin 32768) (j : Fin 3656) :
    hRef x w (ix2 R j) = ∑ d, x (ix2 R d) * w (ix2 d ⟨j.val, by omega⟩) := by
  pointwise [hRef]

theorem sc_at (t : FVec Ideal S32768x512 .f32) (R : Fin 32768) (i : Fin 8) (e : Fin 64) :
    shapeCast S32768x8x64 t shapeCasts_S32768x512_S32768x8x64 (ix3 R i e) = t (ix2 R ⟨i.val * 64 + e.val, by omega⟩) := by
  pointwise

theorem sc1_at (t : FVec Ideal S32768x64 .f32) (R : Fin 32768) (i : Fin 1) (e : Fin 64) :
    shapeCast S32768x1x64 t shapeCasts_S32768x64_S32768x1x64 (ix3 R i e) = t (ix2 R e) := by
  pointwise

theorem h8_at (t : FVec Ideal S32768x8x64 .f32) (cs sn : FVec Ideal S32768x8 .f32) (R : Fin 32768) (i : Fin 8) (e : Fin 64) (H : ℕ → EReal)
    (hH : ∀ k : Fin 64, t (ix3 R i k) = H (i.val * 64 + k.val)) :
    h8Ref t cs sn (ix3 R i e) = rp H (fun k => cs (ix2 R k)) (fun k => sn (ix2 R k)) (i.val * 64 + e.val) := by
  have he := e.isLt
  have e64 : (i.val * 64 + e.val) % 64 = e.val := by omega
  pointwise [h8Ref]
  unfold rp
  simp only [e64, hH]
  by_cases h1 : e.val < 8
  · have e8 : (⟨e.val, h1⟩ : Fin 8) = ⟨(i.val * 64 + e.val) % 8, by omega⟩ := Fin.ext (by simp only []; omega)
    rw [dif_pos h1, if_pos h1]
    exact congrArg₂ (· - ·) (congrArg₂ (· * ·) rfl (congrArg (fun k => cs (ix2 R k)) e8))
      (congrArg₂ (· * ·) (congrArg H (by omega)) (congrArg (fun k => sn (ix2 R k)) e8))
  · rw [dif_neg h1, if_neg h1]
    by_cases h2 : e.val - 8 < 8
    · have e8 : (⟨e.val - 8, h2⟩ : Fin 8) = ⟨(i.val * 64 + e.val) % 8, by omega⟩ := Fin.ext (by simp only []; omega)
      rw [dif_pos h2, if_pos (show e.val < 16 by omega)]
      exact congrArg₂ (· + ·) (congrArg₂ (· * ·) (congrArg H (by omega)) (congrArg (fun k => cs (ix2 R k)) e8))
        (congrArg₂ (· * ·) (congrArg H (by omega)) (congrArg (fun k => sn (ix2 R k)) e8))
    · rw [dif_neg h2, if_neg (show ¬ e.val < 16 by omega)]
      exact congrArg H (by omega)

theorem h1_at (t : FVec Ideal S32768x1x64 .f32) (cs sn : FVec Ideal S32768x8 .f32) (R : Fin 32768) (i : Fin 1) (e : Fin 64) (H : ℕ → EReal)
    (hH : ∀ k : Fin 64, t (ix3 R 0 k) = H (k.val)) :
    h1Ref t cs sn (ix3 R i e) = rp H (fun k => cs (ix2 R k)) (fun k => sn (ix2 R k)) e.val := by
  have he := e.isLt
  have e64 : e.val % 64 = e.val := by omega
  pointwise [h1Ref]
  unfold rp
  simp only [e64, hH]
  by_cases h1 : e.val < 8
  · have e8 : (⟨e.val, h1⟩ : Fin 8) = ⟨e.val % 8, by omega⟩ := Fin.ext (by simp only []; omega)
    rw [dif_pos h1, if_pos h1]
    exact congrArg₂ (· - ·) (congrArg₂ (· * ·) rfl (congrArg (fun k => cs (ix2 R k)) e8))
      (congrArg₂ (· * ·) (congrArg H (by omega)) (congrArg (fun k => sn (ix2 R k)) e8))
  · rw [dif_neg h1, if_neg h1]
    by_cases h2 : e.val - 8 < 8
    · have e8 : (⟨e.val - 8, h2⟩ : Fin 8) = ⟨e.val % 8, by omega⟩ := Fin.ext (by simp only []; omega)
      rw [dif_pos h2, if_pos (show e.val < 16 by omega)]
      exact congrArg₂ (· + ·) (congrArg₂ (· * ·) (congrArg H (by omega)) (congrArg (fun k => cs (ix2 R k)) e8))
        (congrArg₂ (· * ·) (congrArg H (by omega)) (congrArg (fun k => sn (ix2 R k)) e8))
    · rw [dif_neg h2, if_neg (show ¬ e.val < 16 by omega)]
      exact congrArg H (by omega)

theorem hd_at (t : FVec Ideal S32768x512 .f32) (cs sn : FVec Ideal S32768x8 .f32) (R : Fin 32768) (J : Fin 512) (H : ℕ → EReal)
    (hH : ∀ j : Fin 512, t (ix2 R j) = H j.val) :
    hdRef t cs sn (ix2 R J) = rp H (fun k => cs (ix2 R k)) (fun k => sn (ix2 R k)) J.val := by
  pointwise [hdRef]
  rw [h8_at _ cs sn R _ _ H (fun k => by rw [sc_at, hH])]
  exact congrArg _ (by simp only []; omega)

theorem hk_at (t : FVec Ideal S32768x64 .f32) (cs sn : FVec Ideal S32768x8 .f32) (R : Fin 32768) (J : Fin 128) (H : ℕ → EReal)
    (hH : ∀ j : Fin 64, t (ix2 R j) = H j.val) :
    hkRef t cs sn (ix2 R J) = rp (fun j => H (j % 64)) (fun k => cs (ix2 R k)) (fun k => sn (ix2 R k)) J.val := by
  rw [rp_mod]
  pointwise [hkRef]
  rw [h1_at _ cs sn R _ _ H (fun k => by rw [sc1_at, hH])]

variable (x : FVec Ideal S32768x1024 .f32) (w : FVec Ideal S1024x5704 .f32) (cs sn : FVec Ideal S32768x8 .f32)

/-- The queries of an attention branch: turned, scaled, and times the base-2 logarithm of e; -/
def qRef (t : FVec Ideal S32768x512 .f32) : FVec Ideal S32768x512 .bf16 :=
  truncf .bf16 (mulf (mulf (hdRef t cs sn) (broadcastInDim S32768x512 ![] bcast_S_S32768x512 (constant S_ .f32 0x3E000000#32)))
    (broadcastInDim S32768x512 ![] bcast_S_S32768x512 (constant S_ .f32 0x3FB8AA3B#32))) bitsLt_bf16_f32

/-- the keys; -/
def kRef (t : FVec Ideal S32768x512 .f32) : FVec Ideal S32768x512 .bf16 := truncf .bf16 (hdRef t cs sn) bitsLt_bf16_f32

/-- the values; -/
def vRef (t : FVec Ideal S32768x512 .f32) : FVec Ideal S32768x512 .bf16 := truncf .bf16 t bitsLt_bf16_f32

/-- the indexer's queries, -/
def iqRef (t : FVec Ideal S32768x512 .f32) : FVec Ideal S32768x512 .bf16 :=
  truncf .bf16 (mulf (hdRef t cs sn) (broadcastInDim S32768x512 ![] bcast_S_S32768x512 (constant S_ .f32 0x3E000000#32))) bitsLt_bf16_f32

/-- its key, -/
def ikRef (t : FVec Ideal S32768x64 .f32) : FVec Ideal S32768x128 .bf16 := truncf .bf16 (hkRef t cs sn) bitsLt_bf16_f32

/-- and its head weights, padded with zeros. -/
def iwRef (t : FVec Ideal S32768x8 .f32) : FVec Ideal S32768x128 .f32 :=
  pad S32768x128 ![0, 0] ![0, 120] ![0, 0] (mulf t (broadcastInDim S32768x8 ![] bcast_S_S32768x8 (constant S_ .f32 0x3EB504F3#32))) (sitofp .f32 (constantI S_ 32 0#32)) pads_S32768x8_S32768x128_000_01200 h_S_

theorem q_at (t : FVec Ideal S32768x512 .f32) (R : Fin 32768) (J : Fin 512) : qRef cs sn t (ix2 R J) = hdRef t cs sn (ix2 R J) * scl * l2e := by
  unfold qRef
  generalize hdRef t cs sn = v
  pointwise
  rfl

theorem k_at (t : FVec Ideal S32768x512 .f32) (R : Fin 32768) (J : Fin 512) : kRef cs sn t (ix2 R J) = hdRef t cs sn (ix2 R J) := by
  unfold kRef
  generalize hdRef t cs sn = v
  pointwise

theorem v_at (t : FVec Ideal S32768x512 .f32) (R : Fin 32768) (J : Fin 512) : vRef t (ix2 R J) = t (ix2 R J) := by
  pointwise [vRef]

theorem iq_at (t : FVec Ideal S32768x512 .f32) (R : Fin 32768) (J : Fin 512) : iqRef cs sn t (ix2 R J) = hdRef t cs sn (ix2 R J) * scl := by
  unfold iqRef
  generalize hdRef t cs sn = v
  pointwise
  rfl

theorem ik_at (t : FVec Ideal S32768x64 .f32) (R : Fin 32768) (J : Fin 128) : ikRef cs sn t (ix2 R J) = hkRef t cs sn (ix2 R J) := by
  unfold ikRef
  generalize hkRef t cs sn = v
  pointwise

theorem iw_lo (t : FVec Ideal S32768x8 .f32) (R : Fin 32768) (J : Fin 128) (h : J.val < 8) : iwRef t (ix2 R J) = t (ix2 R ⟨J.val, h⟩) * ihs := by
  pointwise [iwRef]
  rw [dif_pos h]
  rfl

theorem iw_hi (t : FVec Ideal S32768x8 .f32) (R : Fin 32768) (J : Fin 128) (h : ¬ J.val < 8) : iwRef t (ix2 R J) = 0 := by
  pointwise [iwRef]
  rw [dif_neg h]
  simp [FloatOps.sitofp]

theorem s0_at (R : Fin 32768) (j : Fin 512) : extractStridedSlice S32768x512 ![0, 0] (hRef x w) slices_S32768x3656_S32768x512_0_0 (ix2 R j)
    = prj (fun d => x (ix2 R d)) (fun d K => w (ix2 d K)) 0 j.val := by
  have e : ∀ H : FVec Ideal S32768x3656 .f32, extractStridedSlice S32768x512 ![0, 0] H slices_S32768x3656_S32768x512_0_0 (ix2 R j) = H (ix2 R ⟨0 + j.val, by omega⟩) :=
    fun H => by
      pointwise
  rw [e, hRef_at]
  exact Finset.sum_congr rfl fun d _ => by rw [wc, dif_pos (by omega)]

theorem s512_at (R : Fin 32768) (j : Fin 512) : extractStridedSlice S32768x512 ![0, 512] (hRef x w) slices_S32768x3656_S32768x512_0_512 (ix2 R j)
    = prj (fun d => x (ix2 R d)) (fun d K => w (ix2 d K)) 512 j.val := by
  have e : ∀ H : FVec Ideal S32768x3656 .f32, extractStridedSlice S32768x512 ![0, 512] H slices_S32768x3656_S32768x512_0_512 (ix2 R j) = H (ix2 R ⟨512 + j.val, by omega⟩) :=
    fun H => by
      pointwise
  rw [e, hRef_at]
  exact Finset.sum_congr rfl fun d _ => by rw [wc, dif_pos (by omega)]

theorem s1024_at (R : Fin 32768) (j : Fin 512) : extractStridedSlice S32768x512 ![0, 1024] (hRef x w) slices_S32768x3656_S32768x512_0_1024 (ix2 R j)
    = prj (fun d => x (ix2 R d)) (fun d K => w (ix2 d K)) 1024 j.val := by
  have e : ∀ H : FVec Ideal S32768x3656 .f32, extractStridedSlice S32768x512 ![0, 1024] H slices_S32768x3656_S32768x512_0_1024 (ix2 R j) = H (ix2 R ⟨1024 + j.val, by omega⟩) :=
    fun H => by
      pointwise
  rw [e, hRef_at]
  exact Finset.sum_congr rfl fun d _ => by rw [wc, dif_pos (by omega)]

theorem s1536_at (R : Fin 32768) (j : Fin 512) : extractStridedSlice S32768x512 ![0, 1536] (hRef x w) slices_S32768x3656_S32768x512_0_1536 (ix2 R j)
    = prj (fun d => x (ix2 R d)) (fun d K => w (ix2 d K)) 1536 j.val := by
  have e : ∀ H : FVec Ideal S32768x3656 .f32, extractStridedSlice S32768x512 ![0, 1536] H slices_S32768x3656_S32768x512_0_1536 (ix2 R j) = H (ix2 R ⟨1536 + j.val, by omega⟩) :=
    fun H => by
      pointwise
  rw [e, hRef_at]
  exact Finset.sum_congr rfl fun d _ => by rw [wc, dif_pos (by omega)]

theorem s2048_at (R : Fin 32768) (j : Fin 512) : extractStridedSlice S32768x512 ![0, 2048] (hRef x w) slices_S32768x3656_S32768x512_0_2048 (ix2 R j)
    = prj (fun d => x (ix2 R d)) (fun d K => w (ix2 d K)) 2048 j.val := by
  have e : ∀ H : FVec Ideal S32768x3656 .f32, extractStridedSlice S32768x512 ![0, 2048] H slices_S32768x3656_S32768x512_0_2048 (ix2 R j) = H (ix2 R ⟨2048 + j.val, by omega⟩) :=
    fun H => by
      pointwise
  rw [e, hRef_at]
  exact Finset.sum_congr rfl fun d _ => by rw [wc, dif_pos (by omega)]

theorem s2560_at (R : Fin 32768) (j : Fin 512) : extractStridedSlice S32768x512 ![0, 2560] (hRef x w) slices_S32768x3656_S32768x512_0_2560 (ix2 R j)
    = prj (fun d => x (ix2 R d)) (fun d K => w (ix2 d K)) 2560 j.val := by
  have e : ∀ H : FVec Ideal S32768x3656 .f32, extractStridedSlice S32768x512 ![0, 2560] H slices_S32768x3656_S32768x512_0_2560 (ix2 R j) = H (ix2 R ⟨2560 + j.val, by omega⟩) :=
    fun H => by
      pointwise
  rw [e, hRef_at]
  exact Finset.sum_congr rfl fun d _ => by rw [wc, dif_pos (by omega)]

theorem s3072_at (R : Fin 32768) (j : Fin 512) : extractStridedSlice S32768x512 ![0, 3072] (hRef x w) slices_S32768x3656_S32768x512_0_3072 (ix2 R j)
    = prj (fun d => x (ix2 R d)) (fun d K => w (ix2 d K)) 3072 j.val := by
  have e : ∀ H : FVec Ideal S32768x3656 .f32, extractStridedSlice S32768x512 ![0, 3072] H slices_S32768x3656_S32768x512_0_3072 (ix2 R j) = H (ix2 R ⟨3072 + j.val, by omega⟩) :=
    fun H => by
      pointwise
  rw [e, hRef_at]
  exact Finset.sum_congr rfl fun d _ => by rw [wc, dif_pos (by omega)]

theorem s3584_at (R : Fin 32768) (j : Fin 64) : extractStridedSlice S32768x64 ![0, 3584] (hRef x w) slices_S32768x3656_S32768x64_0_3584 (ix2 R j)
    = prj (fun d => x (ix2 R d)) (fun d K => w (ix2 d K)) 3584 j.val := by
  have e : ∀ H : FVec Ideal S32768x3656 .f32, extractStridedSlice S32768x64 ![0, 3584] H slices_S32768x3656_S32768x64_0_3584 (ix2 R j) = H (ix2 R ⟨3584 + j.val, by omega⟩) :=
    fun H => by
      pointwise
  rw [e, hRef_at]
  exact Finset.sum_congr rfl fun d _ => by rw [wc, dif_pos (by omega)]

theorem s3648_at (R : Fin 32768) (j : Fin 8) : extractStridedSlice S32768x8 ![0, 3648] (hRef x w) slices_S32768x3656_S32768x8_0_3648 (ix2 R j)
    = prj (fun d => x (ix2 R d)) (fun d K => w (ix2 d K)) 3648 j.val := by
  have e : ∀ H : FVec Ideal S32768x3656 .f32, extractStridedSlice S32768x8 ![0, 3648] H slices_S32768x3656_S32768x8_0_3648 (ix2 R j) = H (ix2 R ⟨3648 + j.val, by omega⟩) :=
    fun H => by
      pointwise
  rw [e, hRef_at]
  exact Finset.sum_congr rfl fun d _ => by rw [wc, dif_pos (by omega)]

/-- The nine results at an index, of the arguments. -/
theorem res5_at (c : Dev nD) (R : Fin 32768) (J : Fin 512) : qRef (aC m c) (aS m c) (extractStridedSlice S32768x512 ![0, 0] (hRef (aX m c) (aW m c)) slices_S32768x3656_S32768x512_0_0) (ix2 R J)
    = rp (prj (fun d => aX m c (ix2 R d)) (fun d K => aW m c (ix2 d K)) 0) (fun k => aC m c (ix2 R k)) (fun k => aS m c (ix2 R k)) J.val * scl * l2e := (q_at (aC m c) (aS m c) _ R J).trans (congrArg (fun a : EReal => a * scl * l2e) (hd_at _ (aC m c) (aS m c) R J (prj (fun d => aX m c (ix2 R d)) (fun d K => aW m c (ix2 d K)) 0) (s0_at (aX m c) (aW m c) R)))

theorem res6_at (c : Dev nD) (R : Fin 32768) (J : Fin 512) : kRef (aC m c) (aS m c) (extractStridedSlice S32768x512 ![0, 512] (hRef (aX m c) (aW m c)) slices_S32768x3656_S32768x512_0_512) (ix2 R J)
    = rp (prj (fun d => aX m c (ix2 R d)) (fun d K => aW m c (ix2 d K)) 512) (fun k => aC m c (ix2 R k)) (fun k => aS m c (ix2 R k)) J.val := (k_at (aC m c) (aS m c) _ R J).trans (hd_at _ (aC m c) (aS m c) R J (prj (fun d => aX m c (ix2 R d)) (fun d K => aW m c (ix2 d K)) 512) (s512_at (aX m c) (aW m c) R))

theorem res7_at (c : Dev nD) (R : Fin 32768) (J : Fin 512) : vRef (extractStridedSlice S32768x512 ![0, 1024] (hRef (aX m c) (aW m c)) slices_S32768x3656_S32768x512_0_1024) (ix2 R J)
    = prj (fun d => aX m c (ix2 R d)) (fun d K => aW m c (ix2 d K)) 1024 J.val := (v_at _ R J).trans ((s1024_at (aX m c) (aW m c) R) J)

theorem res8_at (c : Dev nD) (R : Fin 32768) (J : Fin 512) : qRef (aC m c) (aS m c) (extractStridedSlice S32768x512 ![0, 1536] (hRef (aX m c) (aW m c)) slices_S32768x3656_S32768x512_0_1536) (ix2 R J)
    = rp (prj (fun d => aX m c (ix2 R d)) (fun d K => aW m c (ix2 d K)) 1536) (fun k => aC m c (ix2 R k)) (fun k => aS m c (ix2 R k)) J.val * scl * l2e := (q_at (aC m c) (aS m c) _ R J).trans (congrArg (fun a : EReal => a * scl * l2e) (hd_at _ (aC m c) (aS m c) R J (prj (fun d => aX m c (ix2 R d)) (fun d K => aW m c (ix2 d K)) 1536) (s1536_at (aX m c) (aW m c) R)))

theorem res9_at (c : Dev nD) (R : Fin 32768) (J : Fin 512) : kRef (aC m c) (aS m c) (extractStridedSlice S32768x512 ![0, 2048] (hRef (aX m c) (aW m c)) slices_S32768x3656_S32768x512_0_2048) (ix2 R J)
    = rp (prj (fun d => aX m c (ix2 R d)) (fun d K => aW m c (ix2 d K)) 2048) (fun k => aC m c (ix2 R k)) (fun k => aS m c (ix2 R k)) J.val := (k_at (aC m c) (aS m c) _ R J).trans (hd_at _ (aC m c) (aS m c) R J (prj (fun d => aX m c (ix2 R d)) (fun d K => aW m c (ix2 d K)) 2048) (s2048_at (aX m c) (aW m c) R))

theorem res10_at (c : Dev nD) (R : Fin 32768) (J : Fin 512) : vRef (extractStridedSlice S32768x512 ![0, 2560] (hRef (aX m c) (aW m c)) slices_S32768x3656_S32768x512_0_2560) (ix2 R J)
    = prj (fun d => aX m c (ix2 R d)) (fun d K => aW m c (ix2 d K)) 2560 J.val := (v_at _ R J).trans ((s2560_at (aX m c) (aW m c) R) J)

theorem res11_at (c : Dev nD) (R : Fin 32768) (J : Fin 512) : iqRef (aC m c) (aS m c) (extractStridedSlice S32768x512 ![0, 3072] (hRef (aX m c) (aW m c)) slices_S32768x3656_S32768x512_0_3072) (ix2 R J)
    = rp (prj (fun d => aX m c (ix2 R d)) (fun d K => aW m c (ix2 d K)) 3072) (fun k => aC m c (ix2 R k)) (fun k => aS m c (ix2 R k)) J.val * scl := (iq_at (aC m c) (aS m c) _ R J).trans (congrArg (fun a : EReal => a * scl) (hd_at _ (aC m c) (aS m c) R J (prj (fun d => aX m c (ix2 R d)) (fun d K => aW m c (ix2 d K)) 3072) (s3072_at (aX m c) (aW m c) R)))

theorem res12_at (c : Dev nD) (R : Fin 32768) (J : Fin 128) : ikRef (aC m c) (aS m c) (extractStridedSlice S32768x64 ![0, 3584] (hRef (aX m c) (aW m c)) slices_S32768x3656_S32768x64_0_3584) (ix2 R J)
    = rp (fun k => prj (fun d => aX m c (ix2 R d)) (fun d K => aW m c (ix2 d K)) 3584 (k % 64)) (fun k => aC m c (ix2 R k)) (fun k => aS m c (ix2 R k)) J.val := (ik_at (aC m c) (aS m c) _ R J).trans (hk_at _ (aC m c) (aS m c) R J (prj (fun d => aX m c (ix2 R d)) (fun d K => aW m c (ix2 d K)) 3584) (s3584_at (aX m c) (aW m c) R))

theorem res13_at (c : Dev nD) (R : Fin 32768) (J : Fin 128) : iwRef (extractStridedSlice S32768x8 ![0, 3648] (hRef (aX m c) (aW m c)) slices_S32768x3656_S32768x8_0_3648) (ix2 R J)
    = if J.val < 8 then prj (fun d => aX m c (ix2 R d)) (fun d K => aW m c (ix2 d K)) 3648 J.val * ihs else 0 := by
  by_cases h : J.val < 8
  · rw [if_pos h]
    exact (iw_lo _ R J h).trans (congrArg (fun a : EReal => a * ihs) (s3648_at (aX m c) (aW m c) R ⟨J.val, h⟩))
  · rw [if_neg h]
    exact iw_hi _ R J h

end Cert.InprojProof.Ref
-- ==== Proof.InprojArr.lean ====
/- The arrays the input projection's windows read, at an index of the arguments, and its nine result arrays at an index. -/
module

public import proofs.«01_k».proof.Proof.InprojRef
public import Idealize.ShloMosaic.Lib.Routing.OpsSet

@[expose] public section

noncomputable section

namespace Cert.InprojProof

open Cert.InprojIdeal Cert.InprojIdeal.Gen Cert.InprojIdeal.Value Idealize.ShloMosaic Idealize.ShloMosaic.TcCoe Idealize.SL.Sem

variable (m : (ℓ : Loc nD τ sig) → Buf (Elt Ideal) ℓ)

/-- The arguments at their shapes. -/
abbrev aX (c : Dev nD) : Vec Ideal S32768x1024 .f32 := m ((c : Thread nD τ).loc main_arg0)
abbrev aC (c : Dev nD) : Vec Ideal S32768x8 .f32 := m ((c : Thread nD τ).loc main_arg1)
abbrev aS (c : Dev nD) : Vec Ideal S32768x8 .f32 := m ((c : Thread nD τ).loc main_arg2)
abbrev aW (c : Dev nD) : Vec Ideal S1024x5704 .f32 := m ((c : Thread nD τ).loc main_arg3)

theorem v0_at (c : Dev nD) (R : Fin 32768) (j : Fin 1024) : (V m c main_arg0 : Vec Ideal S32768x1024 .f32) (ix2 R j) = aX m c (ix2 R j) := by
  unfold V
  after_reads_at

theorem v2_at (c : Dev nD) (R : Fin 32768) (l : Fin 128) : (V m c main_v10 : Vec Ideal S32768x128 .f32) (ix2 R l) = tcos (fun k => aC m c (ix2 R k)) l.val := by
  unfold V
  after_reads_at
  unfold tcos
  by_cases h1 : l.val % 64 < 8
  · rw [dif_pos h1, if_pos (show l.val % 64 < 16 by omega)]
    after_reads_at
    exact congrArg (fun k => aC m c (ix2 R k)) (Fin.ext (by simp only []; omega))
  · rw [dif_neg h1]
    by_cases h2 : l.val % 64 - 8 < 8
    · rw [dif_pos h2, if_pos (show l.val % 64 < 16 by omega)]
      after_reads_at
      exact congrArg (fun k => aC m c (ix2 R k)) (Fin.ext (by simp only []; omega))
    · rw [dif_neg h2, if_neg (show ¬ l.val % 64 < 16 by omega)]
      after_reads_at

theorem v3_at (c : Dev nD) (R : Fin 32768) (l : Fin 128) : (V m c main_v13 : Vec Ideal S32768x128 .f32) (ix2 R l) = tsa (fun k => aS m c (ix2 R k)) l.val := by
  unfold V
  after_reads_at
  unfold tsa
  by_cases h1 : l.val % 64 < 8
  · rw [dif_pos h1, if_pos h1]
    after_reads_at
    exact congrArg (fun k => -aS m c (ix2 R k)) (Fin.ext (by simp only []; omega))
  · rw [dif_neg h1, if_neg h1]
    after_reads_at

theorem v4_at (c : Dev nD) (R : Fin 32768) (l : Fin 128) : (V m c main_v16 : Vec Ideal S32768x128 .f32) (ix2 R l) = tsb (fun k => aS m c (ix2 R k)) l.val := by
  unfold V
  after_reads_at
  unfold tsb
  by_cases h1 : l.val % 64 < 8
  · rw [dif_pos h1, if_pos h1]
    after_reads_at
  · rw [dif_neg h1, if_neg h1]
    by_cases h2 : l.val % 64 - 8 < 8
    · rw [dif_pos h2, if_pos (show l.val % 64 < 16 by omega)]
      after_reads_at
      exact congrArg (fun k => aS m c (ix2 R k)) (Fin.ext (by simp only []; omega))
    · rw [dif_neg h2, if_neg (show ¬ l.val % 64 < 16 by omega)]
      after_reads_at

/-- The update that sets 512 entries to one value from entry `o` on, at an index. -/
theorem scat_at (x0 : Vec Ideal S3584 .f32) (idx : IVec S1 32) (upd : Vec Ideal S512 .f32) (v : EReal) (hu : ∀ k, upd k = v) (o : ℕ) (ho : (idx (ix1 (0 : Fin 1))).toInt = (o : Int))
    (e : Fin 3584) :
    (Host.scatter scatter_S3584_S1_S512_0_n_0_0 (fun _ b => b) x0 idx upd : Vec Ideal S3584 .f32) (ix1 e) = if o ≤ e.val ∧ e.val < o + 512 then v else x0 (ix1 e) := by
  have hr : ∀ k : Fin 512, scatter_S3584_S1_S512_0_n_0_0.resultIdx? (ix1 k) idx = some (ix1 e) ↔ o + k.val = e.val := fun k => by
    rw [Routing.resultIdx?_eq_some]
    have hs : scatter_S3584_S1_S512_0_n_0_0.start (ix1 k) idx 0 = (o : Int) := by
      rw [← ho]
      have hm : (0 : Fin 1) ∈ scatter_S3584_S1_S512_0_n_0_0.scatterDimsToOperandDims := List.mem_singleton.2 rfl
      unfold ScatterDims.start
      rw [dif_pos hm]
      congr 2
      funext b
      match b with
      | ⟨0, _⟩ => exact Subsingleton.elim (α := Fin 1) _ _
    have hw : scatter_S3584_S1_S512_0_n_0_0.window (ix1 k) 0 = k.val := rfl
    have hz : ∀ a : Fin 1, a = 0 := fun a => Subsingleton.elim _ _
    constructor
    · intro h
      have h0 := h 0
      rw [hs, hw] at h0
      change (o : Int) + (k.val : Int) = (e.val : Int) at h0
      omega
    · intro h a
      rw [hz a, hs, hw]
      show (o : Int) + (k.val : Int) = (e.val : Int)
      omega
  by_cases h : o ≤ e.val ∧ e.val < o + 512
  · rw [if_pos h]
    exact Routing.scatter_set_hit _ x0 idx upd _ _ (fun k _ => hu k) (ix1 ⟨e.val - o, by omega⟩) ((hr _).2 (by simp only []; omega))
  · rw [if_neg h]
    refine Routing.scatter_set_miss _ x0 idx upd _ fun k hk => h ?_
    obtain ⟨k, rfl⟩ : ∃ k' : Fin 512, k = ix1 k' := ⟨k 0, eq_ix1 k⟩
    have := (hr k).1 hk
    omega

/-- 512 entries of the queries' scale. -/
def scls : Vec Ideal S512 .f32 := broadcastInDim S512 ![] bcast_S_S512 (constant S_ .f32 0x3E000000#32 : FVec Ideal S_ .f32)

theorem scls_at (k : S512.Idx) : scls k = scl := rfl

/-- The columns' scales as the host makes them, at an index. -/
def cscale : Vec Ideal S3584 .f32 :=
  Host.scatter scatter_S3584_S1_S512_0_n_0_0 (fun _ b => b)
    (Host.scatter scatter_S3584_S1_S512_0_n_0_0 (fun _ b => b)
      (Host.scatter scatter_S3584_S1_S512_0_n_0_0 (fun _ b => b)
        (broadcastInDim S3584 ![] bcast_S_S3584 (constant S_ .f32 0x3F800000#32 : FVec Ideal S_ .f32))
        (broadcastInDim S1 ![] bcast_S_S1 (constantI S_ 32 0#32))
        scls)
      (broadcastInDim S1 ![] bcast_S_S1 (constantI S_ 32 1536#32))
      scls)
    (broadcastInDim S1 ![] bcast_S_S1 (constantI S_ 32 3072#32))
    scls

theorem cscale_at (e : Fin 3584) : cscale (ix1 e)
    = if 3072 ≤ e.val ∧ e.val < 3072 + 512 then scl else if 1536 ≤ e.val ∧ e.val < 1536 + 512 then scl else if 0 ≤ e.val ∧ e.val < 0 + 512 then scl else 1 := by
  unfold cscale
  rw [scat_at _ _ _ scl scls_at 3072 rfl, scat_at _ _ _ scl scls_at 1536 rfl, scat_at _ _ _ scl scls_at 0 rfl]
  congr 3
  pointwise

theorem w0_at (c : Dev nD) (d : Fin 1024) (j : Fin 512) : (V m c main_v35 : Vec Ideal S1024x3840 .bf16) (ix2 d ⟨0 + j.val, by omega⟩)
    = wc (fun d K => aW m c (ix2 d K)) d (0 + j.val) * scl := by
  rw [wc, dif_pos (show 0 + j.val < 5704 by omega)]
  unfold V
  after_reads_at
  rw [dif_pos (show j.val < 3584 by omega)]
  after_reads_at
  refine (congrArg (fun a : EReal => aW m c (ix2 d ⟨j.val, by omega⟩) * a) (cscale_at ⟨j.val, by omega⟩)).trans ?_
  rw [if_neg (show ¬ (3072 ≤ j.val ∧ j.val < 3072 + 512) by omega), if_neg (show ¬ (1536 ≤ j.val ∧ j.val < 1536 + 512) by omega), if_pos (show 0 ≤ j.val ∧ j.val < 0 + 512 by omega)]

theorem w512_at (c : Dev nD) (d : Fin 1024) (j : Fin 512) : (V m c main_v35 : Vec Ideal S1024x3840 .bf16) (ix2 d ⟨512 + j.val, by omega⟩)
    = wc (fun d K => aW m c (ix2 d K)) d (512 + j.val) * 1 := by
  rw [wc, dif_pos (show 512 + j.val < 5704 by omega)]
  unfold V
  after_reads_at
  rw [dif_pos (show 512 + j.val < 3584 by omega)]
  after_reads_at
  refine (congrArg (fun a : EReal => aW m c (ix2 d ⟨512 + j.val, by omega⟩) * a) (cscale_at ⟨512 + j.val, by omega⟩)).trans ?_
  rw [if_neg (show ¬ (3072 ≤ 512 + j.val ∧ 512 + j.val < 3072 + 512) by omega), if_neg (show ¬ (1536 ≤ 512 + j.val ∧ 512 + j.val < 1536 + 512) by omega), if_neg (show ¬ (0 ≤ 512 + j.val ∧ 512 + j.val < 0 + 512) by omega)]
  exact mul_one _

theorem w1024_at (c : Dev nD) (d : Fin 1024) (j : Fin 512) : (V m c main_v35 : Vec Ideal S1024x3840 .bf16) (ix2 d ⟨1024 + j.val, by omega⟩)
    = wc (fun d K => aW m c (ix2 d K)) d (1024 + j.val) * 1 := by
  rw [wc, dif_pos (show 1024 + j.val < 5704 by omega)]
  unfold V
  after_reads_at
  rw [dif_pos (show 1024 + j.val < 3584 by omega)]
  after_reads_at
  refine (congrArg (fun a : EReal => aW m c (ix2 d ⟨1024 + j.val, by omega⟩) * a) (cscale_at ⟨1024 + j.val, by omega⟩)).trans ?_
  rw [if_neg (show ¬ (3072 ≤ 1024 + j.val ∧ 1024 + j.val < 3072 + 512) by omega), if_neg (show ¬ (1536 ≤ 1024 + j.val ∧ 1024 + j.val < 1536 + 512) by omega), if_neg (show ¬ (0 ≤ 1024 + j.val ∧ 1024 + j.val < 0 + 512) by omega)]
  exact mul_one _

theorem w1536_at (c : Dev nD) (d : Fin 1024) (j : Fin 512) : (V m c main_v35 : Vec Ideal S1024x3840 .bf16) (ix2 d ⟨1536 + j.val, by omega⟩)
    = wc (fun d K => aW m c (ix2 d K)) d (1536 + j.val) * scl := by
  rw [wc, dif_pos (show 1536 + j.val < 5704 by omega)]
  unfold V
  after_reads_at
  rw [dif_pos (show 1536 + j.val < 3584 by omega)]
  after_reads_at
  refine (congrArg (fun a : EReal => aW m c (ix2 d ⟨1536 + j.val, by omega⟩) * a) (cscale_at ⟨1536 + j.val, by omega⟩)).trans ?_
  rw [if_neg (show ¬ (3072 ≤ 1536 + j.val ∧ 1536 + j.val < 3072 + 512) by omega), if_pos (show 1536 ≤ 1536 + j.val ∧ 1536 + j.val < 1536 + 512 by omega)]

theorem w2048_at (c : Dev nD) (d : Fin 1024) (j : Fin 512) : (V m c main_v35 : Vec Ideal S1024x3840 .bf16) (ix2 d ⟨2048 + j.val, by omega⟩)
    = wc (fun d K => aW m c (ix2 d K)) d (2048 + j.val) * 1 := by
  rw [wc, dif_pos (show 2048 + j.val < 5704 by omega)]
  unfold V
  after_reads_at
  rw [dif_pos (show 2048 + j.val < 3584 by omega)]
  after_reads_at
  refine (congrArg (fun a : EReal => aW m c (ix2 d ⟨2048 + j.val, by omega⟩) * a) (cscale_at ⟨2048 + j.val, by omega⟩)).trans ?_
  rw [if_neg (show ¬ (3072 ≤ 2048 + j.val ∧ 2048 + j.val < 3072 + 512) by omega), if_neg (show ¬ (1536 ≤ 2048 + j.val ∧ 2048 + j.val < 1536 + 512) by omega), if_neg (show ¬ (0 ≤ 2048 + j.val ∧ 2048 + j.val < 0 + 512) by omega)]
  exact mul_one _

theorem w2560_at (c : Dev nD) (d : Fin 1024) (j : Fin 512) : (V m c main_v35 : Vec Ideal S1024x3840 .bf16) (ix2 d ⟨2560 + j.val, by omega⟩)
    = wc (fun d K => aW m c (ix2 d K)) d (2560 + j.val) * 1 := by
  rw [wc, dif_pos (show 2560 + j.val < 5704 by omega)]
  unfold V
  after_reads_at
  rw [dif_pos (show 2560 + j.val < 3584 by omega)]
  after_reads_at
  refine (congrArg (fun a : EReal => aW m c (ix2 d ⟨2560 + j.val, by omega⟩) * a) (cscale_at ⟨2560 + j.val, by omega⟩)).trans ?_
  rw [if_neg (show ¬ (3072 ≤ 2560 + j.val ∧ 2560 + j.val < 3072 + 512) by omega), if_neg (show ¬ (1536 ≤ 2560 + j.val ∧ 2560 + j.val < 1536 + 512) by omega), if_neg (show ¬ (0 ≤ 2560 + j.val ∧ 2560 + j.val < 0 + 512) by omega)]
  exact mul_one _

theorem w3072_at (c : Dev nD) (d : Fin 1024) (j : Fin 512) : (V m c main_v35 : Vec Ideal S1024x3840 .bf16) (ix2 d ⟨3072 + j.val, by omega⟩)
    = wc (fun d K => aW m c (ix2 d K)) d (3072 + j.val) * scl := by
  rw [wc, dif_pos (show 3072 + j.val < 5704 by omega)]
  unfold V
  after_reads_at
  rw [dif_pos (show 3072 + j.val < 3584 by omega)]
  after_reads_at
  refine (congrArg (fun a : EReal => aW m c (ix2 d ⟨3072 + j.val, by omega⟩) * a) (cscale_at ⟨3072 + j.val, by omega⟩)).trans ?_
  rw [if_pos (show 3072 ≤ 3072 + j.val ∧ 3072 + j.val < 3072 + 512 by omega)]

theorem wk_at (c : Dev nD) (d : Fin 1024) (j : Fin 128) : (V m c main_v35 : Vec Ideal S1024x3840 .bf16) (ix2 d ⟨3584 + j.val, by omega⟩)
    = wc (fun d K => aW m c (ix2 d K)) d (3584 + j.val % 64) := by
  rw [wc, dif_pos (show 3584 + j.val % 64 < 5704 by omega)]
  unfold V
  after_reads_at
  by_cases h : j.val < 64
  · rw [dif_pos h]
    after_reads_at
    exact congrArg (fun k => aW m c (ix2 d k)) (Fin.ext (by simp only []; omega))
  · rw [dif_neg h, dif_pos (show j.val - 64 < 64 by omega)]
    after_reads_at
    exact congrArg (fun k => aW m c (ix2 d k)) (Fin.ext (by simp only []; omega))

theorem ww_at (c : Dev nD) (d : Fin 1024) (j : Fin 128) : (V m c main_v35 : Vec Ideal S1024x3840 .bf16) (ix2 d ⟨3712 + j.val, by omega⟩)
    = if j.val < 8 then wc (fun d K => aW m c (ix2 d K)) d (3648 + j.val) else 0 := by
  unfold V
  after_reads_at
  rw [dif_neg (show ¬ 3712 + j.val < 3584 by omega), dif_neg (show ¬ 3712 + j.val - 3584 < 64 by omega), dif_neg (show ¬ 3712 + j.val - 3584 - 64 < 64 by omega)]
  by_cases h : j.val < 8
  · rw [if_pos h, wc, dif_pos (show 3648 + j.val < 5704 by omega)]
    after_reads_at
    rw [dif_pos (show 3712 + j.val - 3584 - 64 - 64 < 8 by omega)]
    exact congrArg (fun k => aW m c (ix2 d k)) (Fin.ext (by simp only []; omega))
  · rw [if_neg h]
    after_reads_at
    rw [dif_neg (show ¬ 3712 + j.val - 3584 - 64 - 64 < 8 by omega)]
    simp [FloatOps.sitofp]

end Cert.InprojProof

end
-- ==== Proof.InprojOut.lean ====
/- The input projection's nine result arrays at an index, of the arguments. -/
module

public import proofs.«01_k».proof.Proof.InprojArr

@[expose] public section

noncomputable section

namespace Cert.InprojProof

open Cert.InprojIdeal Cert.InprojIdeal.Gen Cert.InprojIdeal.Value Idealize.ShloMosaic Idealize.ShloMosaic.TcCoe Idealize.SL.Sem

variable (m : (ℓ : Loc nD τ sig) → Buf (Elt Ideal) ℓ)

theorem one_ne_top : (1 : EReal) ≠ ⊤ := EReal.coe_ne_top 1

/-- The windows' block numbers at a point: token tile `t`, and the weights whole. -/
theorem idx_all : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

theorem flush5 : ∀ t : Fin cfg0.N, (cfg0.win 5).flush t = true := (by decide +kernel : ∀ t : Fin grid0.N, (cfg0.win 5).flush t = true)
theorem flush6 : ∀ t : Fin cfg0.N, (cfg0.win 6).flush t = true := (by decide +kernel : ∀ t : Fin grid0.N, (cfg0.win 6).flush t = true)
theorem flush7 : ∀ t : Fin cfg0.N, (cfg0.win 7).flush t = true := (by decide +kernel : ∀ t : Fin grid0.N, (cfg0.win 7).flush t = true)
theorem flush8 : ∀ t : Fin cfg0.N, (cfg0.win 8).flush t = true := (by decide +kernel : ∀ t : Fin grid0.N, (cfg0.win 8).flush t = true)
theorem flush9 : ∀ t : Fin cfg0.N, (cfg0.win 9).flush t = true := (by decide +kernel : ∀ t : Fin grid0.N, (cfg0.win 9).flush t = true)
theorem flush10 : ∀ t : Fin cfg0.N, (cfg0.win 10).flush t = true := (by decide +kernel : ∀ t : Fin grid0.N, (cfg0.win 10).flush t = true)
theorem flush11 : ∀ t : Fin cfg0.N, (cfg0.win 11).flush t = true := (by decide +kernel : ∀ t : Fin grid0.N, (cfg0.win 11).flush t = true)
theorem flush12 : ∀ t : Fin cfg0.N, (cfg0.win 12).flush t = true := (by decide +kernel : ∀ t : Fin grid0.N, (cfg0.win 12).flush t = true)
theorem flush13 : ∀ t : Fin cfg0.N, (cfg0.win 13).flush t = true := (by decide +kernel : ∀ t : Fin grid0.N, (cfg0.win 13).flush t = true)

theorem b0_at (c : Dev nD) (t : Fin cfg0.N) (r : Fin 512) (j : Fin 1024) (R : Fin 32768) (hR : R.val = 512 * t.val + r.val) :
    (iblk m c 0 t : Vec Ideal S512x1024 .f32) (ix2 r j) = aX m c (ix2 R j) := by
  rw [← v0_at]
  obtain ⟨⟨e0, e1⟩, -⟩ := idx_all t
  show V m c main_arg0 (((cfg0.win 0).blk t).view.emb (ix2 r j)) = _
  congr 1
  funext a
  apply Fin.ext
  match a with
  | ⟨0, _⟩ => show win0_0.index t (0 : Fin 2) * 512 + 1 * r.val = R.val; omega
  | ⟨1, _⟩ => show win0_0.index t (1 : Fin 2) * 1024 + 1 * j.val = j.val; omega

theorem b2_at (c : Dev nD) (t : Fin cfg0.N) (r : Fin 512) (j : Fin 128) (R : Fin 32768) (hR : R.val = 512 * t.val + r.val) :
    (iblk m c 2 t : Vec Ideal S512x128 .f32) (ix2 r j) = tcos (fun k => aC m c (ix2 R k)) j.val := by
  rw [← v2_at]
  obtain ⟨-, -, ⟨e0, e1⟩, -⟩ := idx_all t
  show V m c main_v10 (((cfg0.win 2).blk t).view.emb (ix2 r j)) = _
  congr 1
  funext a
  apply Fin.ext
  match a with
  | ⟨0, _⟩ => show win0_2.index t (0 : Fin 2) * 512 + 1 * r.val = R.val; omega
  | ⟨1, _⟩ => show win0_2.index t (1 : Fin 2) * 128 + 1 * j.val = j.val; omega

theorem b3_at (c : Dev nD) (t : Fin cfg0.N) (r : Fin 512) (j : Fin 128) (R : Fin 32768) (hR : R.val = 512 * t.val + r.val) :
    (iblk m c 3 t : Vec Ideal S512x128 .f32) (ix2 r j) = tsa (fun k => aS m c (ix2 R k)) j.val := by
  rw [← v3_at]
  obtain ⟨-, -, -, ⟨e0, e1⟩, -⟩ := idx_all t
  show V m c main_v13 (((cfg0.win 3).blk t).view.emb (ix2 r j)) = _
  congr 1
  funext a
  apply Fin.ext
  match a with
  | ⟨0, _⟩ => show win0_3.index t (0 : Fin 2) * 512 + 1 * r.val = R.val; omega
  | ⟨1, _⟩ => show win0_3.index t (1 : Fin 2) * 128 + 1 * j.val = j.val; omega

theorem b4_at (c : Dev nD) (t : Fin cfg0.N) (r : Fin 512) (j : Fin 128) (R : Fin 32768) (hR : R.val = 512 * t.val + r.val) :
    (iblk m c 4 t : Vec Ideal S512x128 .f32) (ix2 r j) = tsb (fun k => aS m c (ix2 R k)) j.val := by
  rw [← v4_at]
  obtain ⟨-, -, -, -, ⟨e0, e1⟩, -⟩ := idx_all t
  show V m c main_v16 (((cfg0.win 4).blk t).view.emb (ix2 r j)) = _
  congr 1
  funext a
  apply Fin.ext
  match a with
  | ⟨0, _⟩ => show win0_4.index t (0 : Fin 2) * 512 + 1 * r.val = R.val; omega
  | ⟨1, _⟩ => show win0_4.index t (1 : Fin 2) * 128 + 1 * j.val = j.val; omega

theorem b1_at (c : Dev nD) (t : Fin cfg0.N) (d : Fin 1024) (j : Fin 3840) :
    (iblk m c 1 t : Vec Ideal S1024x3840 .bf16) (ix2 d j) = (V m c main_v35 : Vec Ideal S1024x3840 .bf16) (ix2 d j) := by
  obtain ⟨-, ⟨e0, e1⟩, -⟩ := idx_all t
  show V m c main_v35 (((cfg0.win 1).blk t).view.emb (ix2 d j)) = _
  congr 1
  funext a
  apply Fin.ext
  match a with
  | ⟨0, _⟩ => show win0_1.index t (0 : Fin 2) * 1024 + 1 * d.val = d.val; omega
  | ⟨1, _⟩ => show win0_1.index t (1 : Fin 2) * 3840 + 1 * j.val = j.val; omega

/-- A slice that is not turned. -/
theorem plain (x0 : Vec Ideal S512x1024 .f32) (w : Vec Ideal S1024x512 .bf16) (X : Fin 1024 → EReal) (W : Fin 1024 → ℕ → EReal) (r j : Fin 512)
    (hx : ∀ d, x0 (ix2 r d) = X d) (hw : ∀ d, w (ix2 d j) = W d j.val) : mm x0 w (ix2 r j) = ∑ d, X d * W d j.val := by
  rw [mm_at]
  exact Finset.sum_congr rfl fun d _ => by rw [hx, hw]

/-- A point's rows and tables over the arguments. -/
theorem rows (c : Dev nD) (t : Fin cfg0.N) (r : Fin 512) (R : Fin 32768) (hR : R.val = 512 * t.val + r.val) :
    Rows (iblk m c 0 t) (iblk m c 2 t) (iblk m c 3 t) (iblk m c 4 t) r (fun d => aX m c (ix2 R d)) (fun k => aC m c (ix2 R k)) (fun k => aS m c (ix2 R k)) :=
  ⟨fun d => b0_at m c t r d R hR, fun l => b2_at m c t r l R hR, fun l => b3_at m c t r l R hR, fun l => b4_at m c t r l R hR⟩

theorem arr5_at (c : Dev nD) (R : Fin 32768) (j : Fin 512) :
    ((dats m 0 c).arrAt 5 cfg0.N : Vec Ideal S32768x512 .bf16) (ix2 R j) = rp (prj (fun d => aX m c (ix2 R d)) (fun d K => aW m c (ix2 d K)) 0) (fun k => aC m c (ix2 R k)) (fun k => aS m c (ix2 R k)) j.val * scl * l2e := by
  have hN : cfg0.N = 64 := N_0
  obtain ⟨t, ht⟩ : ∃ t : Fin cfg0.N, t.val = R.val / 512 := ⟨⟨R.val / 512, by rw [hN]; omega⟩, rfl⟩
  obtain ⟨r, hr⟩ : ∃ r : Fin 512, r.val = R.val % 512 := ⟨⟨R.val % 512, by omega⟩, rfl⟩
  have hR : R.val = 512 * t.val + r.val := by omega
  obtain ⟨-, -, -, -, -, ⟨e0, e1⟩, -⟩ := idx_all t
  have hb := congrFun (blocks5 m c t (flush5 t)) (ix2 r j)
  refine Eq.trans ?_ (hb.trans ?_)
  · show _ = (dats m 0 c).arrAt 5 cfg0.N (((cfg0.win 5).blk t).view.emb (ix2 r j))
    congr 1
    funext z
    apply Fin.ext
    match z with
    | ⟨0, _⟩ => show R.val = win0_5.index t (0 : Fin 2) * 512 + 1 * r.val; omega
    | ⟨1, _⟩ => show j.val = win0_5.index t (1 : Fin 2) * 512 + 1 * j.val; omega
  · rw [flushed5]
    refine Eq.trans (congrArg (out0_5 (F := Ideal) (iblk m c 0 t) (iblk m c 1 t) (iblk m c 2 t) (iblk m c 3 t) (iblk m c 4 t)) (a₂ := ix2 r j) ?_) ?_
    · funext z
      match z with
      | ⟨0, _⟩ => rfl
      | ⟨1, _⟩ => rfl
    · rw [out5_eq]
      exact turnedL (rows m c t r R hR) _ (fun d k => wc (fun d K => aW m c (ix2 d K)) d (0 + k)) _ scl_nonneg scl_ne_top l2e_nonneg l2e_ne_top
        (fun d k => (ldw_at (iblk m c 1 t) 0 _ d k (by have := k.isLt; show 0 + k.val < 3840; omega)).trans ((b1_at m c t d ⟨0 + k.val, by omega⟩).trans (w0_at m c d k))) j

theorem arr6_at (c : Dev nD) (R : Fin 32768) (j : Fin 512) :
    ((dats m 0 c).arrAt 6 cfg0.N : Vec Ideal S32768x512 .bf16) (ix2 R j) = rp (prj (fun d => aX m c (ix2 R d)) (fun d K => aW m c (ix2 d K)) 512) (fun k => aC m c (ix2 R k)) (fun k => aS m c (ix2 R k)) j.val := by
  have hN : cfg0.N = 64 := N_0
  obtain ⟨t, ht⟩ : ∃ t : Fin cfg0.N, t.val = R.val / 512 := ⟨⟨R.val / 512, by rw [hN]; omega⟩, rfl⟩
  obtain ⟨r, hr⟩ : ∃ r : Fin 512, r.val = R.val % 512 := ⟨⟨R.val % 512, by omega⟩, rfl⟩
  have hR : R.val = 512 * t.val + r.val := by omega
  obtain ⟨-, -, -, -, -, -, ⟨e0, e1⟩, -⟩ := idx_all t
  have hb := congrFun (blocks6 m c t (flush6 t)) (ix2 r j)
  refine Eq.trans ?_ (hb.trans ?_)
  · show _ = (dats m 0 c).arrAt 6 cfg0.N (((cfg0.win 6).blk t).view.emb (ix2 r j))
    congr 1
    funext z
    apply Fin.ext
    match z with
    | ⟨0, _⟩ => show R.val = win0_6.index t (0 : Fin 2) * 512 + 1 * r.val; omega
    | ⟨1, _⟩ => show j.val = win0_6.index t (1 : Fin 2) * 512 + 1 * j.val; omega
  · rw [flushed6]
    refine Eq.trans (congrArg (out0_6 (F := Ideal) (iblk m c 0 t) (iblk m c 1 t) (iblk m c 2 t) (iblk m c 3 t) (iblk m c 4 t)) (a₂ := ix2 r j) ?_) ?_
    · funext z
      match z with
      | ⟨0, _⟩ => rfl
      | ⟨1, _⟩ => rfl
    · rw [out6_eq]
      exact (turned (rows m c t r R hR) _ (fun d k => wc (fun d K => aW m c (ix2 d K)) d (512 + k)) 1 zero_le_one one_ne_top
        (fun d k => (ldw_at (iblk m c 1 t) 512 _ d k (by have := k.isLt; show 512 + k.val < 3840; omega)).trans ((b1_at m c t d ⟨512 + k.val, by omega⟩).trans (w512_at m c d k))) j).trans (mul_one _)

theorem arr7_at (c : Dev nD) (R : Fin 32768) (j : Fin 512) :
    ((dats m 0 c).arrAt 7 cfg0.N : Vec Ideal S32768x512 .bf16) (ix2 R j) = prj (fun d => aX m c (ix2 R d)) (fun d K => aW m c (ix2 d K)) 1024 j.val := by
  have hN : cfg0.N = 64 := N_0
  obtain ⟨t, ht⟩ : ∃ t : Fin cfg0.N, t.val = R.val / 512 := ⟨⟨R.val / 512, by rw [hN]; omega⟩, rfl⟩
  obtain ⟨r, hr⟩ : ∃ r : Fin 512, r.val = R.val % 512 := ⟨⟨R.val % 512, by omega⟩, rfl⟩
  have hR : R.val = 512 * t.val + r.val := by omega
  obtain ⟨-, -, -, -, -, -, -, ⟨e0, e1⟩, -⟩ := idx_all t
  have hb := congrFun (blocks7 m c t (flush7 t)) (ix2 r j)
  refine Eq.trans ?_ (hb.trans ?_)
  · show _ = (dats m 0 c).arrAt 7 cfg0.N (((cfg0.win 7).blk t).view.emb (ix2 r j))
    congr 1
    funext z
    apply Fin.ext
    match z with
    | ⟨0, _⟩ => show R.val = win0_7.index t (0 : Fin 2) * 512 + 1 * r.val; omega
    | ⟨1, _⟩ => show j.val = win0_7.index t (1 : Fin 2) * 512 + 1 * j.val; omega
  · rw [flushed7]
    refine Eq.trans (congrArg (out0_7 (F := Ideal) (iblk m c 0 t) (iblk m c 1 t) (iblk m c 2 t) (iblk m c 3 t) (iblk m c 4 t)) (a₂ := ix2 r j) ?_) ?_
    · funext z
      match z with
      | ⟨0, _⟩ => rfl
      | ⟨1, _⟩ => rfl
    · exact (out7_eq _ _ _ _ _ r j).trans (plain _ _ (fun d => aX m c (ix2 R d)) (fun d k => wc (fun d K => aW m c (ix2 d K)) d (1024 + k)) r j (fun d => b0_at m c t r d R hR) fun d =>
        ((ldw_at (iblk m c 1 t) 1024 _ d j (by have := j.isLt; show 1024 + j.val < 3840; omega)).trans ((b1_at m c t d ⟨1024 + j.val, by omega⟩).trans (w1024_at m c d j))).trans (mul_one _))

theorem arr8_at (c : Dev nD) (R : Fin 32768) (j : Fin 512) :
    ((dats m 0 c).arrAt 8 cfg0.N : Vec Ideal S32768x512 .bf16) (ix2 R j) = rp (prj (fun d => aX m c (ix2 R d)) (fun d K => aW m c (ix2 d K)) 1536) (fun k => aC m c (ix2 R k)) (fun k => aS m c (ix2 R k)) j.val * scl * l2e := by
  have hN : cfg0.N = 64 := N_0
  obtain ⟨t, ht⟩ : ∃ t : Fin cfg0.N, t.val = R.val / 512 := ⟨⟨R.val / 512, by rw [hN]; omega⟩, rfl⟩
  obtain ⟨r, hr⟩ : ∃ r : Fin 512, r.val = R.val % 512 := ⟨⟨R.val % 512, by omega⟩, rfl⟩
  have hR : R.val = 512 * t.val + r.val := by omega
  obtain ⟨-, -, -, -, -, -, -, -, ⟨e0, e1⟩, -⟩ := idx_all t
  have hb := congrFun (blocks8 m c t (flush8 t)) (ix2 r j)
  refine Eq.trans ?_ (hb.trans ?_)
  · show _ = (dats m 0 c).arrAt 8 cfg0.N (((cfg0.win 8).blk t).view.emb (ix2 r j))
    congr 1
    funext z
    apply Fin.ext
    match z with
    | ⟨0, _⟩ => show R.val = win0_8.index t (0 : Fin 2) * 512 + 1 * r.val; omega
    | ⟨1, _⟩ => show j.val = win0_8.index t (1 : Fin 2) * 512 + 1 * j.val; omega
  · rw [flushed8]
    refine Eq.trans (congrArg (out0_8 (F := Ideal) (iblk m c 0 t) (iblk m c 1 t) (iblk m c 2 t) (iblk m c 3 t) (iblk m c 4 t)) (a₂ := ix2 r j) ?_) ?_
    · funext z
      match z with
      | ⟨0, _⟩ => rfl
      | ⟨1, _⟩ => rfl
    · rw [out8_eq]
      exact turnedL (rows m c t r R hR) _ (fun d k => wc (fun d K => aW m c (ix2 d K)) d (1536 + k)) _ scl_nonneg scl_ne_top l2e_nonneg l2e_ne_top
        (fun d k => (ldw_at (iblk m c 1 t) 1536 _ d k (by have := k.isLt; show 1536 + k.val < 3840; omega)).trans ((b1_at m c t d ⟨1536 + k.val, by omega⟩).trans (w1536_at m c d k))) j

theorem arr9_at (c : Dev nD) (R : Fin 32768) (j : Fin 512) :
    ((dats m 0 c).arrAt 9 cfg0.N : Vec Ideal S32768x512 .bf16) (ix2 R j) = rp (prj (fun d => aX m c (ix2 R d)) (fun d K => aW m c (ix2 d K)) 2048) (fun k => aC m c (ix2 R k)) (fun k => aS m c (ix2 R k)) j.val := by
  have hN : cfg0.N = 64 := N_0
  obtain ⟨t, ht⟩ : ∃ t : Fin cfg0.N, t.val = R.val / 512 := ⟨⟨R.val / 512, by rw [hN]; omega⟩, rfl⟩
  obtain ⟨r, hr⟩ : ∃ r : Fin 512, r.val = R.val % 512 := ⟨⟨R.val % 512, by omega⟩, rfl⟩
  have hR : R.val = 512 * t.val + r.val := by omega
  obtain ⟨-, -, -, -, -, -, -, -, -, ⟨e0, e1⟩, -⟩ := idx_all t
  have hb := congrFun (blocks9 m c t (flush9 t)) (ix2 r j)
  refine Eq.trans ?_ (hb.trans ?_)
  · show _ = (dats m 0 c).arrAt 9 cfg0.N (((cfg0.win 9).blk t).view.emb (ix2 r j))
    congr 1
    funext z
    apply Fin.ext
    match z with
    | ⟨0, _⟩ => show R.val = win0_9.index t (0 : Fin 2) * 512 + 1 * r.val; omega
    | ⟨1, _⟩ => show j.val = win0_9.index t (1 : Fin 2) * 512 + 1 * j.val; omega
  · rw [flushed9]
    refine Eq.trans (congrArg (out0_9 (F := Ideal) (iblk m c 0 t) (iblk m c 1 t) (iblk m c 2 t) (iblk m c 3 t) (iblk m c 4 t)) (a₂ := ix2 r j) ?_) ?_
    · funext z
      match z with
      | ⟨0, _⟩ => rfl
      | ⟨1, _⟩ => rfl
    · rw [out9_eq]
      exact (turned (rows m c t r R hR) _ (fun d k => wc (fun d K => aW m c (ix2 d K)) d (2048 + k)) 1 zero_le_one one_ne_top
        (fun d k => (ldw_at (iblk m c 1 t) 2048 _ d k (by have := k.isLt; show 2048 + k.val < 3840; omega)).trans ((b1_at m c t d ⟨2048 + k.val, by omega⟩).trans (w2048_at m c d k))) j).trans (mul_one _)

theorem arr10_at (c : Dev nD) (R : Fin 32768) (j : Fin 512) :
    ((dats m 0 c).arrAt 10 cfg0.N : Vec Ideal S32768x512 .bf16) (ix2 R j) = prj (fun d => aX m c (ix2 R d)) (fun d K => aW m c (ix2 d K)) 2560 j.val := by
  have hN : cfg0.N = 64 := N_0
  obtain ⟨t, ht⟩ : ∃ t : Fin cfg0.N, t.val = R.val / 512 := ⟨⟨R.val / 512, by rw [hN]; omega⟩, rfl⟩
  obtain ⟨r, hr⟩ : ∃ r : Fin 512, r.val = R.val % 512 := ⟨⟨R.val % 512, by omega⟩, rfl⟩
  have hR : R.val = 512 * t.val + r.val := by omega
  obtain ⟨-, -, -, -, -, -, -, -, -, -, ⟨e0, e1⟩, -⟩ := idx_all t
  have hb := congrFun (blocks10 m c t (flush10 t)) (ix2 r j)
  refine Eq.trans ?_ (hb.trans ?_)
  · show _ = (dats m 0 c).arrAt 10 cfg0.N (((cfg0.win 10).blk t).view.emb (ix2 r j))
    congr 1
    funext z
    apply Fin.ext
    match z with
    | ⟨0, _⟩ => show R.val = win0_10.index t (0 : Fin 2) * 512 + 1 * r.val; omega
    | ⟨1, _⟩ => show j.val = win0_10.index t (1 : Fin 2) * 512 + 1 * j.val; omega
  · rw [flushed10]
    refine Eq.trans (congrArg (out0_10 (F := Ideal) (iblk m c 0 t) (iblk m c 1 t) (iblk m c 2 t) (iblk m c 3 t) (iblk m c 4 t)) (a₂ := ix2 r j) ?_) ?_
    · funext z
      match z with
      | ⟨0, _⟩ => rfl
      | ⟨1, _⟩ => rfl
    · exact (out10_eq _ _ _ _ _ r j).trans (plain _ _ (fun d => aX m c (ix2 R d)) (fun d k => wc (fun d K => aW m c (ix2 d K)) d (2560 + k)) r j (fun d => b0_at m c t r d R hR) fun d =>
        ((ldw_at (iblk m c 1 t) 2560 _ d j (by have := j.isLt; show 2560 + j.val < 3840; omega)).trans ((b1_at m c t d ⟨2560 + j.val, by omega⟩).trans (w2560_at m c d j))).trans (mul_one _))

theorem arr11_at (c : Dev nD) (R : Fin 32768) (j : Fin 512) :
    ((dats m 0 c).arrAt 11 cfg0.N : Vec Ideal S32768x512 .bf16) (ix2 R j) = rp (prj (fun d => aX m c (ix2 R d)) (fun d K => aW m c (ix2 d K)) 3072) (fun k => aC m c (ix2 R k)) (fun k => aS m c (ix2 R k)) j.val * scl := by
  have hN : cfg0.N = 64 := N_0
  obtain ⟨t, ht⟩ : ∃ t : Fin cfg0.N, t.val = R.val / 512 := ⟨⟨R.val / 512, by rw [hN]; omega⟩, rfl⟩
  obtain ⟨r, hr⟩ : ∃ r : Fin 512, r.val = R.val % 512 := ⟨⟨R.val % 512, by omega⟩, rfl⟩
  have hR : R.val = 512 * t.val + r.val := by omega
  obtain ⟨-, -, -, -, -, -, -, -, -, -, -, ⟨e0, e1⟩, -⟩ := idx_all t
  have hb := congrFun (blocks11 m c t (flush11 t)) (ix2 r j)
  refine Eq.trans ?_ (hb.trans ?_)
  · show _ = (dats m 0 c).arrAt 11 cfg0.N (((cfg0.win 11).blk t).view.emb (ix2 r j))
    congr 1
    funext z
    apply Fin.ext
    match z with
    | ⟨0, _⟩ => show R.val = win0_11.index t (0 : Fin 2) * 512 + 1 * r.val; omega
    | ⟨1, _⟩ => show j.val = win0_11.index t (1 : Fin 2) * 512 + 1 * j.val; omega
  · rw [flushed11]
    refine Eq.trans (congrArg (out0_11 (F := Ideal) (iblk m c 0 t) (iblk m c 1 t) (iblk m c 2 t) (iblk m c 3 t) (iblk m c 4 t)) (a₂ := ix2 r j) ?_) ?_
    · funext z
      match z with
      | ⟨0, _⟩ => rfl
      | ⟨1, _⟩ => rfl
    · rw [out11_eq]
      exact (turned (rows m c t r R hR) _ (fun d k => wc (fun d K => aW m c (ix2 d K)) d (3072 + k)) scl scl_nonneg scl_ne_top
        (fun d k => (ldw_at (iblk m c 1 t) 3072 _ d k (by have := k.isLt; show 3072 + k.val < 3840; omega)).trans ((b1_at m c t d ⟨3072 + k.val, by omega⟩).trans (w3072_at m c d k))) j)

theorem arr12_at (c : Dev nD) (R : Fin 32768) (j : Fin 128) :
    ((dats m 0 c).arrAt 12 cfg0.N : Vec Ideal S32768x128 .bf16) (ix2 R j) = rp (fun k => prj (fun d => aX m c (ix2 R d)) (fun d K => aW m c (ix2 d K)) 3584 (k % 64)) (fun k => aC m c (ix2 R k)) (fun k => aS m c (ix2 R k)) j.val := by
  have hN : cfg0.N = 64 := N_0
  obtain ⟨t, ht⟩ : ∃ t : Fin cfg0.N, t.val = R.val / 512 := ⟨⟨R.val / 512, by rw [hN]; omega⟩, rfl⟩
  obtain ⟨r, hr⟩ : ∃ r : Fin 512, r.val = R.val % 512 := ⟨⟨R.val % 512, by omega⟩, rfl⟩
  have hR : R.val = 512 * t.val + r.val := by omega
  obtain ⟨-, -, -, -, -, -, -, -, -, -, -, -, ⟨e0, e1⟩, -⟩ := idx_all t
  have hb := congrFun (blocks12 m c t (flush12 t)) (ix2 r j)
  refine Eq.trans ?_ (hb.trans ?_)
  · show _ = (dats m 0 c).arrAt 12 cfg0.N (((cfg0.win 12).blk t).view.emb (ix2 r j))
    congr 1
    funext z
    apply Fin.ext
    match z with
    | ⟨0, _⟩ => show R.val = win0_12.index t (0 : Fin 2) * 512 + 1 * r.val; omega
    | ⟨1, _⟩ => show j.val = win0_12.index t (1 : Fin 2) * 128 + 1 * j.val; omega
  · rw [flushed12]
    refine Eq.trans (congrArg (out0_12 (F := Ideal) (iblk m c 0 t) (iblk m c 1 t) (iblk m c 2 t) (iblk m c 3 t) (iblk m c 4 t)) (a₂ := ix2 r j) ?_) ?_
    · funext z
      match z with
      | ⟨0, _⟩ => rfl
      | ⟨1, _⟩ => rfl
    · exact turnedK (iblk m c 1 t) (rows m c t r R hR) (fun d k => wc (fun d K => aW m c (ix2 d K)) d (3584 + k))
        (fun d k => (b1_at m c t d ⟨3584 + k.val, by omega⟩).trans (wk_at m c d k)) j

theorem arr13_at (c : Dev nD) (R : Fin 32768) (j : Fin 128) :
    ((dats m 0 c).arrAt 13 cfg0.N : Vec Ideal S32768x128 .f32) (ix2 R j) = if j.val < 8 then prj (fun d => aX m c (ix2 R d)) (fun d K => aW m c (ix2 d K)) 3648 j.val * ihs else 0 := by
  have hN : cfg0.N = 64 := N_0
  obtain ⟨t, ht⟩ : ∃ t : Fin cfg0.N, t.val = R.val / 512 := ⟨⟨R.val / 512, by rw [hN]; omega⟩, rfl⟩
  obtain ⟨r, hr⟩ : ∃ r : Fin 512, r.val = R.val % 512 := ⟨⟨R.val % 512, by omega⟩, rfl⟩
  have hR : R.val = 512 * t.val + r.val := by omega
  obtain ⟨-, -, -, -, -, -, -, -, -, -, -, -, -, ⟨e0, e1⟩⟩ := idx_all t
  have hb := congrFun (blocks13 m c t (flush13 t)) (ix2 r j)
  refine Eq.trans ?_ (hb.trans ?_)
  · show _ = (dats m 0 c).arrAt 13 cfg0.N (((cfg0.win 13).blk t).view.emb (ix2 r j))
    congr 1
    funext z
    apply Fin.ext
    match z with
    | ⟨0, _⟩ => show R.val = win0_13.index t (0 : Fin 2) * 512 + 1 * r.val; omega
    | ⟨1, _⟩ => show j.val = win0_13.index t (1 : Fin 2) * 128 + 1 * j.val; omega
  · rw [flushed13]
    refine Eq.trans (congrArg (out0_13 (F := Ideal) (iblk m c 0 t) (iblk m c 1 t) (iblk m c 2 t) (iblk m c 3 t) (iblk m c 4 t)) (a₂ := ix2 r j) ?_) ?_
    · funext z
      match z with
      | ⟨0, _⟩ => rfl
      | ⟨1, _⟩ => rfl
    · rw [out13_eq]
      have e : ∀ d : Fin 1024, View.ld (iblk m c 1 t : Vec Ideal S1024x3840 .bf16) r0_10 (ix2 d ⟨128 + j.val, by show 128 + j.val < 256; omega⟩)
          = if j.val < 8 then wc (fun d K => aW m c (ix2 d K)) d (3648 + j.val) else 0 := fun d =>
        (ldv_at (iblk m c 1 t) d ⟨128 + j.val, by omega⟩ (by show 3584 + (128 + j.val) < 3840; omega)).trans
          ((b1_at m c t d ⟨3584 + (128 + j.val), by omega⟩).trans (Eq.trans (congrArg (fun k => (V m c main_v35 : Vec Ideal S1024x3840 .bf16) (ix2 d k))
            (Fin.ext (show 3584 + (128 + j.val) = 3712 + j.val by omega))) (ww_at m c d j)))
      by_cases h : j.val < 8
      · rw [if_pos h]
        exact congrArg (fun a : EReal => a * ihs) (Finset.sum_congr rfl fun d _ => congrArg₂ (fun a b : EReal => a * b) (b0_at m c t r d R hR) ((e d).trans (if_pos h)))
      · rw [if_neg h]
        refine (congrArg (fun a : EReal => a * ihs) (Finset.sum_eq_zero fun d _ => ?_)).trans (zero_mul _)
        exact (congrArg (fun a : EReal => _ * a) ((e d).trans (if_neg h))).trans (mul_zero _)

end Cert.InprojProof
-- ==== Proof.InprojClaims.lean ====
/- The claims about the input projection: the three frames and the equality with the reference over the extended reals. -/
module

public import proofs.«01_k».proof.Defs
public import proofs.«01_k».proof.Proof.InprojOut
public import proofs.«01_k».proof.Proof.Gen.Inproj.Frame
public import Idealize.ShloMosaic.Lib.Quiescent

@[expose] public section

noncomputable section

namespace Cert.InprojProof

open Idealize.ShloMosaic Idealize.ShloMosaic.TcCoe Idealize.SL.Sem

instance : Cert.Inproj.Facts := Cert.Inproj.Gen.facts
instance : Cert.InprojIdeal.Facts := Cert.InprojIdeal.Gen.facts
instance : Cert.InprojRefIdeal.Facts := Cert.InprojRefIdeal.Gen.facts

theorem frame_inproj : Cert.quiescent_Inproj (hInproj := Cert.Inproj.Gen.facts) :=
  fun m g _ => Cert.Inproj.Gen.frame m g

theorem frame_inprojIdeal : Cert.quiescent_InprojIdeal (hInprojIdeal := Cert.InprojIdeal.Gen.facts) :=
  fun m g _ => Cert.InprojIdeal.Gen.frame m g

theorem frame_inprojRef : Cert.quiescent_InprojRefIdeal (hInprojRefIdeal := Cert.InprojRefIdeal.Gen.facts) :=
  fun m g _ => (θ_run Cert.InprojRefIdeal.defs _ _).mono
    (fun r h => ⟨fun c => (h c).2.2.2.2.2.2.2.2.2, sem_eq_zero_of_no_sems (by decide) r.2⟩) (Cert.InprojRefIdeal.Value.run m g)

section

open Cert.InprojRefIdeal Cert.InprojRefIdeal.Facts₀ Ref

variable (m : (ℓ : Loc Cert.InprojIdeal.nD Cert.InprojIdeal.τ Cert.InprojIdeal.sig) → Buf (Elt Ideal) ℓ)
  (m' : (ℓ : Loc Cert.InprojRefIdeal.nD Cert.InprojRefIdeal.τ Cert.InprojRefIdeal.sig) → Buf (Elt Ideal) ℓ) (c : Dev Cert.InprojIdeal.nD)
  (e0 : Ref.aX m' c = InprojProof.aX m c) (e1 : Ref.aC m' c = InprojProof.aC m c) (e2 : Ref.aS m' c = InprojProof.aS m c) (e3 : Ref.aW m' c = InprojProof.aW m c)

include e0 e1 e2 e3 in
theorem eq5 : (qRef (Ref.aC m' c) (Ref.aS m' c) (extractStridedSlice S32768x512 ![0, 0] (hRef (Ref.aX m' c) (Ref.aW m' c)) slices_S32768x3656_S32768x512_0_0) : Vec Ideal S32768x512 .bf16)
    = ((Cert.InprojIdeal.Gen.dats m 0 c).arrAt 5 Cert.InprojIdeal.cfg0.N : Vec Ideal S32768x512 .bf16) := by
  funext i
  obtain ⟨R, j, rfl⟩ : ∃ (R : Fin 32768) (j : Fin 512), i = ix2 R j := ⟨i 0, i 1, eq_ix2 i⟩
  refine (Ref.res5_at m' c R j).trans (Eq.trans ?_ (arr5_at m c R j).symm)
  rw [e0, e1, e2, e3]

include e0 e1 e2 e3 in
theorem eq6 : (kRef (Ref.aC m' c) (Ref.aS m' c) (extractStridedSlice S32768x512 ![0, 512] (hRef (Ref.aX m' c) (Ref.aW m' c)) slices_S32768x3656_S32768x512_0_512) : Vec Ideal S32768x512 .bf16)
    = ((Cert.InprojIdeal.Gen.dats m 0 c).arrAt 6 Cert.InprojIdeal.cfg0.N : Vec Ideal S32768x512 .bf16) := by
  funext i
  obtain ⟨R, j, rfl⟩ : ∃ (R : Fin 32768) (j : Fin 512), i = ix2 R j := ⟨i 0, i 1, eq_ix2 i⟩
  refine (Ref.res6_at m' c R j).trans (Eq.trans ?_ (arr6_at m c R j).symm)
  rw [e0, e1, e2, e3]

include e0 e3 in
theorem eq7 : (vRef (extractStridedSlice S32768x512 ![0, 1024] (hRef (Ref.aX m' c) (Ref.aW m' c)) slices_S32768x3656_S32768x512_0_1024) : Vec Ideal S32768x512 .bf16)
    = ((Cert.InprojIdeal.Gen.dats m 0 c).arrAt 7 Cert.InprojIdeal.cfg0.N : Vec Ideal S32768x512 .bf16) := by
  funext i
  obtain ⟨R, j, rfl⟩ : ∃ (R : Fin 32768) (j : Fin 512), i = ix2 R j := ⟨i 0, i 1, eq_ix2 i⟩
  refine (Ref.res7_at m' c R j).trans (Eq.trans ?_ (arr7_at m c R j).symm)
  rw [e0, e3]

include e0 e1 e2 e3 in
theorem eq8 : (qRef (Ref.aC m' c) (Ref.aS m' c) (extractStridedSlice S32768x512 ![0, 1536] (hRef (Ref.aX m' c) (Ref.aW m' c)) slices_S32768x3656_S32768x512_0_1536) : Vec Ideal S32768x512 .bf16)
    = ((Cert.InprojIdeal.Gen.dats m 0 c).arrAt 8 Cert.InprojIdeal.cfg0.N : Vec Ideal S32768x512 .bf16) := by
  funext i
  obtain ⟨R, j, rfl⟩ : ∃ (R : Fin 32768) (j : Fin 512), i = ix2 R j := ⟨i 0, i 1, eq_ix2 i⟩
  refine (Ref.res8_at m' c R j).trans (Eq.trans ?_ (arr8_at m c R j).symm)
  rw [e0, e1, e2, e3]

include e0 e1 e2 e3 in
theorem eq9 : (kRef (Ref.aC m' c) (Ref.aS m' c) (extractStridedSlice S32768x512 ![0, 2048] (hRef (Ref.aX m' c) (Ref.aW m' c)) slices_S32768x3656_S32768x512_0_2048) : Vec Ideal S32768x512 .bf16)
    = ((Cert.InprojIdeal.Gen.dats m 0 c).arrAt 9 Cert.InprojIdeal.cfg0.N : Vec Ideal S32768x512 .bf16) := by
  funext i
  obtain ⟨R, j, rfl⟩ : ∃ (R : Fin 32768) (j : Fin 512), i = ix2 R j := ⟨i 0, i 1, eq_ix2 i⟩
  refine (Ref.res9_at m' c R j).trans (Eq.trans ?_ (arr9_at m c R j).symm)
  rw [e0, e1, e2, e3]

include e0 e3 in
theorem eq10 : (vRef (extractStridedSlice S32768x512 ![0, 2560] (hRef (Ref.aX m' c) (Ref.aW m' c)) slices_S32768x3656_S32768x512_0_2560) : Vec Ideal S32768x512 .bf16)
    = ((Cert.InprojIdeal.Gen.dats m 0 c).arrAt 10 Cert.InprojIdeal.cfg0.N : Vec Ideal S32768x512 .bf16) := by
  funext i
  obtain ⟨R, j, rfl⟩ : ∃ (R : Fin 32768) (j : Fin 512), i = ix2 R j := ⟨i 0, i 1, eq_ix2 i⟩
  refine (Ref.res10_at m' c R j).trans (Eq.trans ?_ (arr10_at m c R j).symm)
  rw [e0, e3]

include e0 e1 e2 e3 in
theorem eq11 : (iqRef (Ref.aC m' c) (Ref.aS m' c) (extractStridedSlice S32768x512 ![0, 3072] (hRef (Ref.aX m' c) (Ref.aW m' c)) slices_S32768x3656_S32768x512_0_3072) : Vec Ideal S32768x512 .bf16)
    = ((Cert.InprojIdeal.Gen.dats m 0 c).arrAt 11 Cert.InprojIdeal.cfg0.N : Vec Ideal S32768x512 .bf16) := by
  funext i
  obtain ⟨R, j, rfl⟩ : ∃ (R : Fin 32768) (j : Fin 512), i = ix2 R j := ⟨i 0, i 1, eq_ix2 i⟩
  refine (Ref.res11_at m' c R j).trans (Eq.trans ?_ (arr11_at m c R j).symm)
  rw [e0, e1, e2, e3]

include e0 e1 e2 e3 in
theorem eq12 : (ikRef (Ref.aC m' c) (Ref.aS m' c) (extractStridedSlice S32768x64 ![0, 3584] (hRef (Ref.aX m' c) (Ref.aW m' c)) slices_S32768x3656_S32768x64_0_3584) : Vec Ideal S32768x128 .bf16)
    = ((Cert.InprojIdeal.Gen.dats m 0 c).arrAt 12 Cert.InprojIdeal.cfg0.N : Vec Ideal S32768x128 .bf16) := by
  funext i
  obtain ⟨R, j, rfl⟩ : ∃ (R : Fin 32768) (j : Fin 128), i = ix2 R j := ⟨i 0, i 1, eq_ix2 i⟩
  refine (Ref.res12_at m' c R j).trans (Eq.trans ?_ (arr12_at m c R j).symm)
  rw [e0, e1, e2, e3]

include e0 e3 in
theorem eq13 : (iwRef (extractStridedSlice S32768x8 ![0, 3648] (hRef (Ref.aX m' c) (Ref.aW m' c)) slices_S32768x3656_S32768x8_0_3648) : Vec Ideal S32768x128 .f32)
    = ((Cert.InprojIdeal.Gen.dats m 0 c).arrAt 13 Cert.InprojIdeal.cfg0.N : Vec Ideal S32768x128 .f32) := by
  funext i
  obtain ⟨R, j, rfl⟩ : ∃ (R : Fin 32768) (j : Fin 128), i = ix2 R j := ⟨i 0, i 1, eq_ix2 i⟩
  refine (Ref.res13_at m' c R j).trans (Eq.trans ?_ (arr13_at m c R j).symm)
  rw [e0, e3]

end

theorem algebraic_inproj : Cert.algebraic_InprojIdeal_InprojRefIdeal (hInprojIdeal := Cert.InprojIdeal.Gen.facts) (hInprojRefIdeal := Cert.InprojRefIdeal.Gen.facts) := by
  intro m g m' g' _ hargs
  refine ⟨fun c => (Cert.InprojIdeal.Gen.dats m 0 c).arrAt 5 Cert.InprojIdeal.cfg0.N, fun c => (Cert.InprojIdeal.Gen.dats m 0 c).arrAt 6 Cert.InprojIdeal.cfg0.N, fun c => (Cert.InprojIdeal.Gen.dats m 0 c).arrAt 7 Cert.InprojIdeal.cfg0.N, fun c => (Cert.InprojIdeal.Gen.dats m 0 c).arrAt 8 Cert.InprojIdeal.cfg0.N, fun c => (Cert.InprojIdeal.Gen.dats m 0 c).arrAt 9 Cert.InprojIdeal.cfg0.N, fun c => (Cert.InprojIdeal.Gen.dats m 0 c).arrAt 10 Cert.InprojIdeal.cfg0.N, fun c => (Cert.InprojIdeal.Gen.dats m 0 c).arrAt 11 Cert.InprojIdeal.cfg0.N, fun c => (Cert.InprojIdeal.Gen.dats m 0 c).arrAt 12 Cert.InprojIdeal.cfg0.N, fun c => (Cert.InprojIdeal.Gen.dats m 0 c).arrAt 13 Cert.InprojIdeal.cfg0.N,
    Cert.InprojIdeal.Value.run_blocks m g, ?_⟩
  refine (θ_run _ _ _).mono (fun r h c => ?_) (Cert.InprojRefIdeal.Value.run m' g')
  obtain ⟨h0, h1, h2, h3⟩ := hargs c
  have e0 : Ref.aX m' c = aX m c := h0
  have e1 : Ref.aC m' c = aC m c := h1
  have e2 : Ref.aS m' c = aS m c := h2
  have e3 : Ref.aW m' c = aW m c := h3
  obtain ⟨r0, r1, r2, r3, r4, r5, r6, r7, r8, ra⟩ := h c
  exact ⟨r0.trans (eq5 m m' c e0 e1 e2 e3), r1.trans (eq6 m m' c e0 e1 e2 e3), r2.trans (eq7 m m' c e0 e3), r3.trans (eq8 m m' c e0 e1 e2 e3), r4.trans (eq9 m m' c e0 e1 e2 e3), r5.trans (eq10 m m' c e0 e3), r6.trans (eq11 m m' c e0 e1 e2 e3), r7.trans (eq12 m m' c e0 e1 e2 e3), r8.trans (eq13 m m' c e0 e3), ra⟩

end Cert.InprojProof
-- ==== Proof.SelectSafe.lean ====
module

public import proofs.«01_k».proof.Proof.Gen.Kernel.Launch
public import Idealize.ShloMosaic.Lib.Exec

@[expose] public section

/-! # Programs that keep what they hold

For the frame of the selection kernel nothing need be known of what the scratch buffers come to
hold: only that every step finds the buffer it touches, and gives it back. A resource `R` from
which a buffer can be taken out and put back is `Lends` (the same contents put back) or `Yields`
(any contents); a program is `Keeps` when it runs from `R` to `R`. Keeping is closed under the
steps a printed kernel is made of, so a body is `Keeps` by its syntax. -/

noncomputable section

namespace Cert.SelectProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- `m` can be read out of `R`. -/
def Lends (c : Dev nD) (R : sProp 𝕄) {sp : Space} {s : Shape} {e : EltTy} (m : Memref sig .tc sp s e) : Prop :=
  R ⊢ iprop(∃ X, owns (c : Thread nD τ) m fullShare X ∗ (owns (c : Thread nD τ) m fullShare X -∗ R))

/-- `m` can be taken out of `R` and put back at any contents. -/
def Yields (c : Dev nD) (R : sProp 𝕄) {sp : Space} {s : Shape} {e : EltTy} (m : Memref sig .tc sp s e) : Prop :=
  R ⊢ iprop(∃ X, owns (c : Thread nD τ) m fullShare X ∗ (∀ Y, owns (c : Thread nD τ) m fullShare Y -∗ R))

theorem Yields.lends {c : Dev nD} {R : sProp 𝕄} {sp : Space} {s : Shape} {e : EltTy} {m : Memref sig .tc sp s e}
    (h : Yields c R m) : Lends c R m := by
  unfold Lends Yields at *
  refine h.trans ?_
  iintro ⟨%X, H, K⟩
  iexists X
  isplitl [H]
  · iexact H
  · iintro H; iapply K; iexact H

/-- The program runs from `R` to `R`, whatever it returns. -/
def Keeps (c : Dev nD) (R : sProp 𝕄) {α : Type} (p : Prog (TpuEff nD τ sig (Elt F) Λ₀ .tc) α) : Prop :=
  R ⊢ wp frame (wpE (defs₀ (F := F)) Variants.none c none) Set.univ p (fun _ => R)

variable {c : Dev nD} {R : sProp (MT nD τ sig Unit (Elt F) ℕ (UR sig nD τ) ℕ)}

theorem Keeps.pure {α : Type} (a : α) : Keeps (F := F) c R (Pure.pure a) := by
  unfold Keeps
  show R ⊢ wp frame (wpE (defs₀ (F := F)) Variants.none c none) Set.univ (.ret a) (fun _ => R)
  rw [wp_ret]
  iintro H
  imodintro
  iexact H

theorem Keeps.bind {α β : Type} {p : Prog (TpuEff nD τ sig (Elt F) Λ₀ .tc) α} {k : α → Prog (TpuEff nD τ sig (Elt F) Λ₀ .tc) β}
    (hp : Keeps c R p) (hk : ∀ a, Keeps c R (k a)) : Keeps c R (p >>= k) := by
  unfold Keeps at *
  rw [wp_bind]
  exact hp.trans (wp_mono frame _ _ fun a => hk a)

theorem Keeps.ite {α : Type} {C : Prop} [Decidable C] {p q : Prog (TpuEff nD τ sig (Elt F) Λ₀ .tc) α}
    (hp : C → Keeps c R p) (hq : ¬C → Keeps c R q) : Keeps c R (if C then p else q) := by
  by_cases h : C
  · rw [if_pos h]; exact hp h
  · rw [if_neg h]; exact hq h

theorem Keeps.dite {α : Type} {C : Prop} [Decidable C] {p : C → Prog (TpuEff nD τ sig (Elt F) Λ₀ .tc) α}
    {q : ¬C → Prog (TpuEff nD τ sig (Elt F) Λ₀ .tc) α}
    (hp : ∀ h, Keeps c R (p h)) (hq : ∀ h, Keeps c R (q h)) : Keeps c R (if h : C then p h else q h) := by
  by_cases h : C
  · rw [dif_pos h]; exact hp h
  · rw [dif_neg h]; exact hq h

theorem Keeps.loop {w : Nat} {σ : Type} (l : Scf.Loop w) (hok : l.OK) (init : σ)
    {body : Fin l.trips → σ → Prog (TpuEff nD τ sig (Elt F) Λ₀ .tc) σ}
    (h : ∀ k a, Keeps c R (body k a)) : Keeps c R (Scf.Loop.for l hok init body) := by
  unfold Keeps at *
  iintro H
  iapply (Scf.wp_for frame (wpE (defs₀ (F := F)) Variants.none c none) Set.univ l.lb l.ub l.st hok init body (fun _ _ => R) h)
  isplitl [H]
  · iexact H
  · iintro %a H; iexact H

theorem Keeps.assume {P : Prop} {d : Decidable P} (h : P) :
    Keeps (F := F) c R (Prog.lift (TpuEff.assume P d)) := by
  have hr : Keeps (F := F) c R (Prog.ret (⟨h⟩ : PLift P)) := Keeps.pure (F := F) (⟨h⟩ : PLift P)
  unfold Keeps at *
  exact BIBase.Entails.trans hr (wp_assume (defs := defs₀ (F := F)) (k := Prog.ret) (d := d) Variants.none c none Set.univ h)

theorem Keeps.load {cs : CoreSpace} {s : Shape} {e : EltTy} {m : Memref sig .tc cs s e} {r : LoadRect s} {hl : m.view.LoadsAt r}
    (h : Lends c R m) : Keeps (F := F) c R (Prog.lift (.load m r hl)) := by
  unfold Keeps
  unfold Lends owns at h
  refine h.trans ?_
  iintro ⟨%X, ⟨%f, %hf, H⟩, K⟩
  iapply (wp_load Variants.none c none Set.univ (hl := hl) (m.view.setOn_subset_set _)) $$ H
  iintro H
  rw [wp_ret]
  imodintro
  iapply K
  iexists f
  isplitr
  · ipureintro; exact hf
  · iexact H

theorem Keeps.smemLoad {s : Shape} {m : Memref sig .tc .smem s .i32} {r : Rect s} {h1 : r.shape.numel = 1}
    {hp : EltTy.i32.packing = 1} (h : Lends c R m) :
    Keeps (F := F) c R (Idealize.ShloMosaic.smemLoad (Λ := Λ₀) (p := .tc) m r h1 hp) :=
  Keeps.bind (p := Prog.lift (.load m r.toLoadRect (View.loadsAt_rect (View.loads_smem_one hp h1))))
    (k := fun g => .ret (g (Shape.Idx.first (h1.symm ▸ Nat.one_pos)))) (Keeps.load h) fun _ => Keeps.pure _

theorem Keeps.store {cs : CoreSpace} {s : Shape} {e : EltTy} {m : Memref sig .tc cs s e} {r : Rect s}
    {w : r.shape.Idx → Elt F e} {Mk : Finset r.shape.Idx} {hx : (m.access r).Stores Mk}
    {hm : Mk = Finset.univ ∨ ∀ a, r.stride a = 1}
    (h : Yields c R m) : Keeps (F := F) c R (Prog.lift (.store m r w Mk hx hm)) := by
  unfold Keeps
  unfold Yields owns at h
  refine h.trans ?_
  iintro ⟨%X, ⟨%f, %hf, H⟩, K⟩
  have hw : (m.view.loc c ↦[m.view.set]{fullShare} f)
      ⊢ iprop(((m.view.loc c ↦[m.view.set]{fullShare} ((m.access r).write (Elt F) f w Mk))
          -∗ wp frame (wpE (defs₀ (F := F)) Variants.none c none) Set.univ (Prog.ret PUnit.unit) (fun _ => R))
        -∗ wp frame (wpE (defs₀ (F := F)) Variants.none c none) Set.univ (Prog.lift (.store m r w Mk hx hm)) (fun _ => R)) :=
    wp_store (defs := defs₀ (F := F)) Variants.none c none Set.univ (hx := hx) (hm := hm) (k := Prog.ret) (S := m.view.set) (f := f)
      (((m.access r).setOn_subset_set Mk).trans (View.set_slice_subset _ _))
  iapply hw $$ H
  iintro H
  rw [wp_ret]
  imodintro
  iapply K $$ %(m.view.read (Elt F) ((m.access r).write (Elt F) f w Mk))
  iexists ((m.access r).write (Elt F) f w Mk)
  isplitr
  · ipureintro; rfl
  · iexact H

/-- `m` can be read out of `R`, and every word of it satisfies `P`. -/
def LendsOf (c : Dev nD) (R : sProp (MT nD τ sig Unit (Elt F) ℕ (UR sig nD τ) ℕ)) {s : Shape} (m : Memref sig .tc .smem s .i32)
    (P : BitVec 32 → Prop) : Prop :=
  R ⊢ iprop(∃ (q : PosShare TreeShare), ∃ X, ⌜∀ x, P (X x)⌝ ∗ owns (c : Thread nD τ) m q X ∗ (owns (c : Thread nD τ) m q X -∗ R))

theorem Keeps.smemLoad_bind {α : Type} {s : Shape} {m : Memref sig .tc .smem s .i32} {r : Rect s} {h1 : r.shape.numel = 1}
    {hp : EltTy.i32.packing = 1} {P : BitVec 32 → Prop} {k : BitVec 32 → Prog (TpuEff nD τ sig (Elt F) Λ₀ .tc) α}
    (h : LendsOf c R m P) (hk : ∀ a, P a → Keeps c R (k a)) :
    Keeps (F := F) c R (Idealize.ShloMosaic.smemLoad (Λ := Λ₀) (p := .tc) m r h1 hp >>= k) := by
  unfold Keeps
  unfold LendsOf owns at h
  refine h.trans ?_
  iintro ⟨%q, %X, %hX, ⟨%f, %hf, H⟩, K⟩
  have hw : (m.view.loc c ↦[m.view.set]{q} f)
      ⊢ iprop(((m.view.loc c ↦[m.view.set]{q} f)
          -∗ wp frame (wpE (defs₀ (F := F)) Variants.none c none) Set.univ
              (k ((m.access r).read (Elt F) f (Shape.Idx.first (h1.symm ▸ Nat.one_pos)))) (fun _ => R))
        -∗ wp frame (wpE (defs₀ (F := F)) Variants.none c none) Set.univ
              (Idealize.ShloMosaic.smemLoad (Λ := Λ₀) (p := .tc) m r h1 hp >>= k) (fun _ => R)) :=
    wp_load_rect (defs := defs₀ (F := F)) (m := m) (r := r) (f := f) (Q := fun _ => R) Variants.none c none Set.univ
      (hl := View.loadsAt_rect (View.loads_smem_one hp h1))
      (k := fun g => k (g (Shape.Idx.first (h1.symm ▸ Nat.one_pos)))) (View.set_slice_subset _ _)
  iapply hw $$ H
  iintro H
  have hP : P ((m.access r).read (Elt F) f (Shape.Idx.first (h1.symm ▸ Nat.one_pos))) := by
    have := hX (r.emb (Shape.Idx.first (h1.symm ▸ Nat.one_pos)))
    rw [← hf] at this
    exact this
  have hkk := hk _ hP
  unfold Keeps at hkk
  iapply hkk
  iapply K
  iexists f
  isplitr
  · ipureintro; exact hf
  · iexact H

end Cert.SelectProof
-- ==== Proof.SelectWords.lean ====
module

public import proofs.«01_k».proof.Proof.Gen.Kernel.Launch

@[expose] public section

set_option maxRecDepth 16384

/-! # The side conditions of the selection kernel's loops and loads

A grid point reads two words: the query tile (below 32) and the slot in it (below 16). Every loop
bound and every dynamic offset of the body is computed from them, so each side condition is a
statement about finitely many words. -/

noncomputable section

namespace Cert.SelectProof

open Cert.Kernel Cert.Kernel.Gen
open Idealize.ShloMosaic Idealize.ShloMosaic.TcCoe

/-- A word that names a query tile. -/
def IsTile (v : BitVec 32) : Prop := ∃ q : Fin 32, v = BitVec.ofNat 32 q.val

/-- A word that names a slot of a query tile. -/
def IsSlot (v : BitVec 32) : Prop := ∃ g : Fin 16, v = BitVec.ofNat 32 g.val

theorem words1_0 : ∀ q : Fin 32, (k0_t1_loop (BitVec.ofNat 32 q.val)).OK := by decide +kernel
theorem words1_1 : ∀ q : Fin 32, ∀ k0_t1 : Fin (k0_t1_loop (BitVec.ofNat 32 q.val)).trips, 512 ∣ (k0_mult1 (BitVec.ofNat 32 q.val) k0_t1).toNat := by decide +kernel
theorem words1_2 : ∀ q : Fin 32, ∀ k0_t1 : Fin (k0_t1_loop (BitVec.ofNat 32 q.val)).trips, ∀ a, (k0_off2 (BitVec.ofNat 32 q.val) k0_t1) a + S512x128.size a ≤ S16384x128.size a := by decide +kernel
theorem words1_3 : ∀ q : Fin 32, ∀ k0_t1 : Fin (k0_t1_loop (BitVec.ofNat 32 q.val)).trips, ∀ a, (k0_off3 (BitVec.ofNat 32 q.val) k0_t1) a + S1x512x512.size a ≤ S32x512x512.size a := by decide +kernel
theorem words1_4 : ∀ q : Fin 32, (k0_t2_loop (BitVec.ofNat 32 q.val)).OK := by decide +kernel
theorem words1_5 : ∀ q : Fin 32, ∀ k0_t2 : Fin (k0_t2_loop (BitVec.ofNat 32 q.val)).trips, 512 ∣ (k0_mult2 (BitVec.ofNat 32 q.val) k0_t2).toNat := by decide +kernel
theorem words1_6 : ∀ q : Fin 32, ∀ k0_t2 : Fin (k0_t2_loop (BitVec.ofNat 32 q.val)).trips, ∀ a, (k0_off4 (BitVec.ofNat 32 q.val) k0_t2) a + S512x128.size a ≤ S16384x128.size a := by decide +kernel
theorem words1_7 : ∀ q : Fin 32, ∀ k0_t2 : Fin (k0_t2_loop (BitVec.ofNat 32 q.val)).trips, ∀ a, (k0_off5 (BitVec.ofNat 32 q.val) k0_t2) a + S1x512x512.size a ≤ S32x512x512.size a := by decide +kernel
theorem words1_8 : ∀ q : Fin 32, (k0_t3_loop (BitVec.ofNat 32 q.val)).OK := by decide +kernel
theorem words1_9 : ∀ q : Fin 32, ∀ k0_t3 : Fin (k0_t3_loop (BitVec.ofNat 32 q.val)).trips, 512 ∣ (k0_mult3 (BitVec.ofNat 32 q.val) k0_t3).toNat := by decide +kernel
theorem words1_10 : ∀ q : Fin 32, ∀ k0_t3 : Fin (k0_t3_loop (BitVec.ofNat 32 q.val)).trips, ∀ a, (k0_off6 (BitVec.ofNat 32 q.val) k0_t3) a + S512x128.size a ≤ S16384x128.size a := by decide +kernel
theorem words1_11 : ∀ q : Fin 32, ∀ k0_t3 : Fin (k0_t3_loop (BitVec.ofNat 32 q.val)).trips, ∀ a, (k0_off7 (BitVec.ofNat 32 q.val) k0_t3) a + S1x512x512.size a ≤ S32x512x512.size a := by decide +kernel
theorem words1_12 : ∀ q : Fin 32, (k0_t4_loop (BitVec.ofNat 32 q.val)).OK := by decide +kernel
theorem words1_13 : ∀ q : Fin 32, ∀ k0_t4 : Fin (k0_t4_loop (BitVec.ofNat 32 q.val)).trips, 512 ∣ (k0_mult4 (BitVec.ofNat 32 q.val) k0_t4).toNat := by decide +kernel
theorem words1_14 : ∀ q : Fin 32, ∀ k0_t4 : Fin (k0_t4_loop (BitVec.ofNat 32 q.val)).trips, ∀ a, (k0_off8 (BitVec.ofNat 32 q.val) k0_t4) a + S512x128.size a ≤ S16384x128.size a := by decide +kernel
theorem words1_15 : ∀ q : Fin 32, ∀ k0_t4 : Fin (k0_t4_loop (BitVec.ofNat 32 q.val)).trips, ∀ a, (k0_off9 (BitVec.ofNat 32 q.val) k0_t4) a + S1x512x512.size a ≤ S32x512x512.size a := by decide +kernel
theorem words1_16 : ∀ q : Fin 32, (k0_t5_loop (BitVec.ofNat 32 q.val)).OK := by decide +kernel
theorem words1_17 : ∀ q : Fin 32, ∀ k0_t5 : Fin (k0_t5_loop (BitVec.ofNat 32 q.val)).trips, ∀ a, (k0_off10 (BitVec.ofNat 32 q.val) k0_t5) a + S1x512x512.size a ≤ S32x512x512.size a := by decide +kernel
theorem words1_18 : ∀ q : Fin 32, (k0_t6_loop (BitVec.ofNat 32 q.val)).OK := by decide +kernel
theorem words1_19 : ∀ q : Fin 32, ∀ k0_t6 : Fin (k0_t6_loop (BitVec.ofNat 32 q.val)).trips, ∀ a, (k0_off11 (BitVec.ofNat 32 q.val) k0_t6) a + S1x512x512.size a ≤ S32x512x512.size a := by decide +kernel

theorem chk1_of (v1 v3 : BitVec 32) (h : IsTile v1) : k0_chk1 v1 v3 := by
  obtain ⟨q, rfl⟩ := h
  exact ⟨fun _ => words1_0 q, fun j _ => words1_1 q j, fun j _ => words1_2 q j, fun j _ => words1_3 q j, fun _ => words1_4 q, fun j _ => words1_5 q j, fun j _ => words1_6 q j, fun j _ => words1_7 q j, fun _ => words1_8 q, fun j _ => words1_9 q j, fun j _ => words1_10 q j, fun j _ => words1_11 q j, fun _ => words1_12 q, fun j _ => words1_13 q j, fun j _ => words1_14 q j, fun j _ => words1_15 q j, fun _ => words1_16 q, fun j _ => words1_17 q j, fun _ => words1_18 q, fun j _ => words1_19 q j⟩

theorem words2 : ∀ q : Fin 32,
    ((k0_t8_loop (BitVec.ofNat 32 q.val)).OK) ∧
    (∀ k0_t8 : Fin (k0_t8_loop (BitVec.ofNat 32 q.val)).trips, ∀ a, (k0_off12 (BitVec.ofNat 32 q.val) k0_t8) a + S1x128x512.size a ≤ S32x512x512.size a) ∧
    ((k0_t9_loop (BitVec.ofNat 32 q.val)).OK) ∧
    (∀ k0_t9 : Fin (k0_t9_loop (BitVec.ofNat 32 q.val)).trips, ∀ a, (k0_off13 (BitVec.ofNat 32 q.val) k0_t9) a + S1x128x512.size a ≤ S32x512x512.size a) := by decide +kernel

theorem chk2_of (v1 v3 : BitVec 32) (k : Fin k0_t7_loop.trips) (v : BitVec 1) (h : IsTile v1) : k0_chk2 v1 v3 k v := by
  obtain ⟨q, rfl⟩ := h
  exact ⟨fun _ _ _ => (words2 q).1, fun j _ _ _ => (words2 q).2.1 j, fun _ _ _ => (words2 q).2.2.1, fun j _ _ _ => (words2 q).2.2.2 j⟩

theorem words3 : ∀ q : Fin 32,
    ((k0_t10_loop (BitVec.ofNat 32 q.val)).OK) ∧
    (∀ k0_t10 : Fin (k0_t10_loop (BitVec.ofNat 32 q.val)).trips, ∀ a, (k0_off14 (BitVec.ofNat 32 q.val) k0_t10) a + S1x128x512.size a ≤ S32x512x512.size a) ∧
    ((k0_t11_loop (BitVec.ofNat 32 q.val)).OK) ∧
    (∀ k0_t11 : Fin (k0_t11_loop (BitVec.ofNat 32 q.val)).trips, ∀ a, (k0_off15 (BitVec.ofNat 32 q.val) k0_t11) a + S1x128x512.size a ≤ S32x512x512.size a) := by decide +kernel

theorem chk3_of (v1 v3 : BitVec 32) (k : Fin k0_t7_loop.trips) (v : BitVec 1) (h : IsTile v1) : k0_chk3 v1 v3 k v := by
  obtain ⟨q, rfl⟩ := h
  exact ⟨fun _ _ _ => (words3 q).1, fun j _ _ _ => (words3 q).2.1 j, fun _ _ _ => (words3 q).2.2.1, fun j _ _ _ => (words3 q).2.2.2 j⟩

theorem words4 : ∀ q : Fin 32,
    ((k0_t12_loop (BitVec.ofNat 32 q.val)).OK) ∧
    (∀ k0_t12 : Fin (k0_t12_loop (BitVec.ofNat 32 q.val)).trips, ∀ a, (k0_off16 (BitVec.ofNat 32 q.val) k0_t12) a + S1x128x512.size a ≤ S32x512x512.size a) ∧
    ((k0_t13_loop (BitVec.ofNat 32 q.val)).OK) ∧
    (∀ k0_t13 : Fin (k0_t13_loop (BitVec.ofNat 32 q.val)).trips, ∀ a, (k0_off17 (BitVec.ofNat 32 q.val) k0_t13) a + S1x128x512.size a ≤ S32x512x512.size a) := by decide +kernel

theorem chk4_of (v1 v3 : BitVec 32) (k : Fin k0_t7_loop.trips) (v : BitVec 1) (h : IsTile v1) : k0_chk4 v1 v3 k v := by
  obtain ⟨q, rfl⟩ := h
  exact ⟨fun _ _ _ => (words4 q).1, fun j _ _ _ => (words4 q).2.1 j, fun _ _ _ => (words4 q).2.2.1, fun j _ _ _ => (words4 q).2.2.2 j⟩

theorem words5 : ∀ q : Fin 32,
    ((k0_t14_loop (BitVec.ofNat 32 q.val)).OK) ∧
    (∀ k0_t14 : Fin (k0_t14_loop (BitVec.ofNat 32 q.val)).trips, ∀ a, (k0_off18 (BitVec.ofNat 32 q.val) k0_t14) a + S1x128x512.size a ≤ S32x512x512.size a) ∧
    ((k0_t15_loop (BitVec.ofNat 32 q.val)).OK) ∧
    (∀ k0_t15 : Fin (k0_t15_loop (BitVec.ofNat 32 q.val)).trips, ∀ a, (k0_off19 (BitVec.ofNat 32 q.val) k0_t15) a + S1x128x512.size a ≤ S32x512x512.size a) := by decide +kernel

theorem chk5_of (v1 v3 : BitVec 32) (k : Fin k0_t7_loop.trips) (v : BitVec 1) (h : IsTile v1) : k0_chk5 v1 v3 k v := by
  obtain ⟨q, rfl⟩ := h
  exact ⟨fun _ _ _ => (words5 q).1, fun j _ _ _ => (words5 q).2.1 j, fun _ _ _ => (words5 q).2.2.1, fun j _ _ _ => (words5 q).2.2.2 j⟩

theorem words6 : ∀ q : Fin 32,
    ((k0_t16_loop (BitVec.ofNat 32 q.val)).OK) ∧
    (∀ k0_t16 : Fin (k0_t16_loop (BitVec.ofNat 32 q.val)).trips, ∀ a, (k0_off20 (BitVec.ofNat 32 q.val) k0_t16) a + S1x128x512.size a ≤ S32x512x512.size a) ∧
    ((k0_t17_loop (BitVec.ofNat 32 q.val)).OK) ∧
    (∀ k0_t17 : Fin (k0_t17_loop (BitVec.ofNat 32 q.val)).trips, ∀ a, (k0_off21 (BitVec.ofNat 32 q.val) k0_t17) a + S1x128x512.size a ≤ S32x512x512.size a) := by decide +kernel

theorem chk6_of (v1 v3 : BitVec 32) (k : Fin k0_t7_loop.trips) (v : BitVec 1) (h : IsTile v1) : k0_chk6 v1 v3 k v := by
  obtain ⟨q, rfl⟩ := h
  exact ⟨fun _ _ _ => (words6 q).1, fun j _ _ _ => (words6 q).2.1 j, fun _ _ _ => (words6 q).2.2.1, fun j _ _ _ => (words6 q).2.2.2 j⟩

theorem words7 : ∀ q : Fin 32,
    ((k0_t18_loop (BitVec.ofNat 32 q.val)).OK) ∧
    (∀ k0_t18 : Fin (k0_t18_loop (BitVec.ofNat 32 q.val)).trips, ∀ a, (k0_off22 (BitVec.ofNat 32 q.val) k0_t18) a + S1x128x512.size a ≤ S32x512x512.size a) ∧
    ((k0_t19_loop (BitVec.ofNat 32 q.val)).OK) ∧
    (∀ k0_t19 : Fin (k0_t19_loop (BitVec.ofNat 32 q.val)).trips, ∀ a, (k0_off23 (BitVec.ofNat 32 q.val) k0_t19) a + S1x128x512.size a ≤ S32x512x512.size a) := by decide +kernel

theorem chk7_of (v1 v3 : BitVec 32) (k : Fin k0_t7_loop.trips) (v : BitVec 1) (h : IsTile v1) : k0_chk7 v1 v3 k v := by
  obtain ⟨q, rfl⟩ := h
  exact ⟨fun _ _ _ => (words7 q).1, fun j _ _ _ => (words7 q).2.1 j, fun _ _ _ => (words7 q).2.2.1, fun j _ _ _ => (words7 q).2.2.2 j⟩

theorem words8 : ∀ q : Fin 32,
    ((k0_t20_loop (BitVec.ofNat 32 q.val)).OK) ∧
    (∀ k0_t20 : Fin (k0_t20_loop (BitVec.ofNat 32 q.val)).trips, ∀ a, (k0_off24 (BitVec.ofNat 32 q.val) k0_t20) a + S1x128x512.size a ≤ S32x512x512.size a) ∧
    ((k0_t21_loop (BitVec.ofNat 32 q.val)).OK) ∧
    (∀ k0_t21 : Fin (k0_t21_loop (BitVec.ofNat 32 q.val)).trips, ∀ a, (k0_off25 (BitVec.ofNat 32 q.val) k0_t21) a + S1x128x512.size a ≤ S32x512x512.size a) := by decide +kernel

theorem chk8_of (v1 v3 : BitVec 32) (k : Fin k0_t7_loop.trips) (v : BitVec 1) (h : IsTile v1) : k0_chk8 v1 v3 k v := by
  obtain ⟨q, rfl⟩ := h
  exact ⟨fun _ _ _ => (words8 q).1, fun j _ _ _ => (words8 q).2.1 j, fun _ _ _ => (words8 q).2.2.1, fun j _ _ _ => (words8 q).2.2.2 j⟩

theorem words9 : ∀ q : Fin 32,
    ((k0_t22_loop (BitVec.ofNat 32 q.val)).OK) ∧
    (∀ k0_t22 : Fin (k0_t22_loop (BitVec.ofNat 32 q.val)).trips, ∀ a, (k0_off26 (BitVec.ofNat 32 q.val) k0_t22) a + S1x128x512.size a ≤ S32x512x512.size a) ∧
    ((k0_t23_loop (BitVec.ofNat 32 q.val)).OK) ∧
    (∀ k0_t23 : Fin (k0_t23_loop (BitVec.ofNat 32 q.val)).trips, ∀ a, (k0_off27 (BitVec.ofNat 32 q.val) k0_t23) a + S1x128x512.size a ≤ S32x512x512.size a) := by decide +kernel

theorem chk9_of (v1 v3 : BitVec 32) (k : Fin k0_t7_loop.trips) (v : BitVec 1) (h : IsTile v1) : k0_chk9 v1 v3 k v := by
  obtain ⟨q, rfl⟩ := h
  exact ⟨fun _ _ _ => (words9 q).1, fun j _ _ _ => (words9 q).2.1 j, fun _ _ _ => (words9 q).2.2.1, fun j _ _ _ => (words9 q).2.2.2 j⟩

theorem words10 : ∀ q : Fin 16,
    (∀ (r : Fin 2), ∀ a, (k0_off28 (BitVec.ofNat 32 q.val) (BitVec.ofNat 32 r.val)) a + S1x128x512.size a ≤ S32x512x512.size a) ∧
    (∀ (r : Fin 2), ∀ a, (k0_off29 (BitVec.ofNat 32 q.val) (BitVec.ofNat 32 r.val)) a + S1x128x512.size a ≤ S32x512x512.size a) := by decide +kernel

theorem chk10_of (v3 v : BitVec 32) (h : IsSlot v3) : k0_chk10 v3 v := by
  obtain ⟨q, rfl⟩ := h
  exact ⟨fun _ => (words10 q).1, fun _ => (words10 q).2⟩

theorem words11 : ∀ q : Fin 16,
    (∀ (r : Fin 2), ∀ a, (k0_off30 (BitVec.ofNat 32 q.val) (BitVec.ofNat 32 r.val)) a + S1x128x512.size a ≤ S32x512x512.size a) ∧
    (∀ (r : Fin 2), ∀ a, (k0_off31 (BitVec.ofNat 32 q.val) (BitVec.ofNat 32 r.val)) a + S1x128x512.size a ≤ S32x512x512.size a) := by decide +kernel

theorem chk11_of (v3 v : BitVec 32) (h : IsSlot v3) : k0_chk11 v3 v := by
  obtain ⟨q, rfl⟩ := h
  exact ⟨fun _ => (words11 q).1, fun _ => (words11 q).2⟩

theorem words12 : ∀ q : Fin 16,
    (∀ (r : Fin 2), ∀ a, (k0_off32 (BitVec.ofNat 32 q.val) (BitVec.ofNat 32 r.val)) a + S1x128x512.size a ≤ S32x512x512.size a) ∧
    (∀ (r : Fin 2), ∀ a, (k0_off33 (BitVec.ofNat 32 q.val) (BitVec.ofNat 32 r.val)) a + S1x128x512.size a ≤ S32x512x512.size a) := by decide +kernel

theorem chk12_of (v3 v : BitVec 32) (h : IsSlot v3) : k0_chk12 v3 v := by
  obtain ⟨q, rfl⟩ := h
  exact ⟨fun _ => (words12 q).1, fun _ => (words12 q).2⟩

theorem words13 : ∀ q : Fin 16,
    (∀ (r : Fin 2), ∀ a, (k0_off34 (BitVec.ofNat 32 q.val) (BitVec.ofNat 32 r.val)) a + S1x128x512.size a ≤ S32x512x512.size a) ∧
    (∀ (r : Fin 2), ∀ a, (k0_off35 (BitVec.ofNat 32 q.val) (BitVec.ofNat 32 r.val)) a + S1x128x512.size a ≤ S32x512x512.size a) := by decide +kernel

theorem chk13_of (v3 v : BitVec 32) (h : IsSlot v3) : k0_chk13 v3 v := by
  obtain ⟨q, rfl⟩ := h
  exact ⟨fun _ => (words13 q).1, fun _ => (words13 q).2⟩

end Cert.SelectProof
-- ==== Proof.SelectParts.lean ====
module

public import proofs.«01_k».proof.Proof.SelectSafe
public import proofs.«01_k».proof.Proof.SelectWords
public import proofs.«01_k».proof.Proof.Gen.Kernel.Skeleton

@[expose] public section

set_option maxRecDepth 16384

/-! # Every part of the selection kernel's body keeps what it holds

One theorem per printed part, in the order the parts call one another; a part of the search loop
takes its side conditions from the word that names the query tile, a part that writes a band from
the word that names the slot. -/

noncomputable section

namespace Cert.SelectProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [BitOps F]
variable {c : Dev nD} {R : sProp (MT nD τ sig Unit (Elt F) ℕ (UR sig nD τ) ℕ)}
variable (i : grid0.Coords) (arg2 : Memref sig .tc .smem S272 .i32) (harg2 : arg2.IsWhole) (arg3 : Memref sig .tc .smem S272 .i32) (harg3 : arg3.IsWhole) (arg4 : Memref sig .tc .vmem S16384x128 .bf16) (harg4 : arg4.IsWhole) (arg5 : Memref sig .tc .vmem S512x512 .bf16) (harg5 : arg5.IsWhole) (arg6 : Memref sig .tc .vmem S512x128 .f32) (harg6 : arg6.IsWhole) (arg7 : Memref sig .tc .vmem S128x256 .bf16) (harg7 : arg7.IsWhole) (arg8 : Memref sig .tc .vmem S512x1024 .f32) (harg8 : arg8.IsWhole) (arg9 : Memref sig .tc .vmem S32x512x512 .f32) (harg9 : arg9.IsWhole) (arg10 : Memref sig .tc .vmem S8x512x128 .bf16) (harg10 : arg10.IsWhole) (arg11 : Memref sig .tc .vmem S8x512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .smem S4 .i32) (harg16 : arg16.IsWhole)

theorem keeps_part1 (h4 : Lends c R arg4) (h10 : Yields c R arg10) (h11 : Yields c R arg11) :
    ∀ x0 x1 x2 x3 x4 x5 x6, Keeps (F := F) c R (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  intro x0 x1 x2 x3 x4 x5 x6
  rw [k0_part1_eq_skeleton]; unfold k0_part1_skel
  repeat' first
    | with_reducible exact Keeps.pure _
    | with_reducible exact Keeps.load h4
    | with_reducible exact Keeps.load h10.lends
    | with_reducible exact Keeps.load h11.lends
    | with_reducible refine Keeps.bind ?_ fun _ => ?_

theorem keeps_part2 (h10 : Yields c R arg10) (h11 : Yields c R arg11) :
    ∀ x0 x1 x2 x3 x4 x5, Keeps (F := F) c R (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part2_eq_skeleton]; unfold k0_part2_skel
  repeat' first
    | with_reducible exact Keeps.pure _
    | with_reducible exact Keeps.load h10.lends
    | with_reducible exact Keeps.load h11.lends
    | with_reducible refine Keeps.bind ?_ fun _ => ?_

theorem keeps_part3 (h10 : Yields c R arg10) (h11 : Yields c R arg11) :
    ∀ x0 x1 x2 x3 x4 x5 x6 x7, Keeps (F := F) c R (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  intro x0 x1 x2 x3 x4 x5 x6 x7
  rw [k0_part3_eq_skeleton]; unfold k0_part3_skel
  repeat' first
    | with_reducible exact Keeps.pure _
    | with_reducible exact Keeps.load h10.lends
    | with_reducible exact Keeps.load h11.lends
    | with_reducible refine Keeps.bind ?_ fun _ => ?_

theorem keeps_part4 (h10 : Yields c R arg10) (h11 : Yields c R arg11) :
    ∀ x0 x1 x2 x3 x4 x5 x6 x7 x8, Keeps (F := F) c R (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  intro x0 x1 x2 x3 x4 x5 x6 x7 x8
  rw [k0_part4_eq_skeleton]; unfold k0_part4_skel
  repeat' first
    | with_reducible exact Keeps.pure _
    | with_reducible exact Keeps.load h10.lends
    | with_reducible exact Keeps.load h11.lends
    | with_reducible refine Keeps.bind ?_ fun _ => ?_

theorem keeps_part5 (h10 : Yields c R arg10) (h11 : Yields c R arg11) :
    ∀ x0 x1 x2 x3 x4 x5, Keeps (F := F) c R (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part5_eq_skeleton]; unfold k0_part5_skel
  repeat' first
    | with_reducible exact Keeps.pure _
    | with_reducible exact Keeps.load h10.lends
    | with_reducible exact Keeps.load h11.lends
    | with_reducible refine Keeps.bind ?_ fun _ => ?_

theorem keeps_part6 (h4 : Lends c R arg4) (h10 : Yields c R arg10) (h11 : Yields c R arg11) :
    ∀ x0 x1 x2 x3 x4 x5 x6, Keeps (F := F) c R (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  intro x0 x1 x2 x3 x4 x5 x6
  rw [k0_part6_eq_skeleton]; unfold k0_part6_skel
  repeat' first
    | with_reducible exact Keeps.pure _
    | with_reducible exact Keeps.load h4
    | with_reducible exact Keeps.load h10.lends
    | with_reducible exact Keeps.load h11.lends
    | with_reducible refine Keeps.bind ?_ fun _ => ?_

theorem keeps_part7 (h10 : Yields c R arg10) (h11 : Yields c R arg11) :
    ∀ x0 x1 x2 x3 x4 x5, Keeps (F := F) c R (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part7_eq_skeleton]; unfold k0_part7_skel
  repeat' first
    | with_reducible exact Keeps.pure _
    | with_reducible exact Keeps.load h10.lends
    | with_reducible exact Keeps.load h11.lends
    | with_reducible refine Keeps.bind ?_ fun _ => ?_

theorem keeps_part8 (h10 : Yields c R arg10) (h11 : Yields c R arg11) :
    ∀ x0 x1 x2 x3 x4 x5 x6 x7, Keeps (F := F) c R (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  intro x0 x1 x2 x3 x4 x5 x6 x7
  rw [k0_part8_eq_skeleton]; unfold k0_part8_skel
  repeat' first
    | with_reducible exact Keeps.pure _
    | with_reducible exact Keeps.load h10.lends
    | with_reducible exact Keeps.load h11.lends
    | with_reducible refine Keeps.bind ?_ fun _ => ?_

theorem keeps_part9 (h10 : Yields c R arg10) (h11 : Yields c R arg11) :
    ∀ x0 x1 x2 x3 x4 x5 x6 x7 x8, Keeps (F := F) c R (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  intro x0 x1 x2 x3 x4 x5 x6 x7 x8
  rw [k0_part9_eq_skeleton]; unfold k0_part9_skel
  repeat' first
    | with_reducible exact Keeps.pure _
    | with_reducible exact Keeps.load h10.lends
    | with_reducible exact Keeps.load h11.lends
    | with_reducible refine Keeps.bind ?_ fun _ => ?_

theorem keeps_part10 (h10 : Yields c R arg10) (h11 : Yields c R arg11) :
    ∀ x0 x1 x2 x3 x4 x5, Keeps (F := F) c R (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part10_eq_skeleton]; unfold k0_part10_skel
  repeat' first
    | with_reducible exact Keeps.pure _
    | with_reducible exact Keeps.load h10.lends
    | with_reducible exact Keeps.load h11.lends
    | with_reducible refine Keeps.bind ?_ fun _ => ?_

theorem keeps_part11 (h4 : Lends c R arg4) (h10 : Yields c R arg10) (h11 : Yields c R arg11) :
    ∀ x0 x1 x2 x3 x4 x5 x6, Keeps (F := F) c R (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  intro x0 x1 x2 x3 x4 x5 x6
  rw [k0_part11_eq_skeleton]; unfold k0_part11_skel
  repeat' first
    | with_reducible exact Keeps.pure _
    | with_reducible exact Keeps.load h4
    | with_reducible exact Keeps.load h10.lends
    | with_reducible exact Keeps.load h11.lends
    | with_reducible refine Keeps.bind ?_ fun _ => ?_

theorem keeps_part12 (h10 : Yields c R arg10) (h11 : Yields c R arg11) :
    ∀ x0 x1 x2 x3 x4 x5, Keeps (F := F) c R (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part12_eq_skeleton]; unfold k0_part12_skel
  repeat' first
    | with_reducible exact Keeps.pure _
    | with_reducible exact Keeps.load h10.lends
    | with_reducible exact Keeps.load h11.lends
    | with_reducible refine Keeps.bind ?_ fun _ => ?_

theorem keeps_part13 (h10 : Yields c R arg10) (h11 : Yields c R arg11) :
    ∀ x0 x1 x2 x3 x4 x5 x6 x7, Keeps (F := F) c R (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  intro x0 x1 x2 x3 x4 x5 x6 x7
  rw [k0_part13_eq_skeleton]; unfold k0_part13_skel
  repeat' first
    | with_reducible exact Keeps.pure _
    | with_reducible exact Keeps.load h10.lends
    | with_reducible exact Keeps.load h11.lends
    | with_reducible refine Keeps.bind ?_ fun _ => ?_

theorem keeps_part14 (h10 : Yields c R arg10) (h11 : Yields c R arg11) :
    ∀ x0 x1 x2 x3 x4 x5 x6 x7 x8, Keeps (F := F) c R (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  intro x0 x1 x2 x3 x4 x5 x6 x7 x8
  rw [k0_part14_eq_skeleton]; unfold k0_part14_skel
  repeat' first
    | with_reducible exact Keeps.pure _
    | with_reducible exact Keeps.load h10.lends
    | with_reducible exact Keeps.load h11.lends
    | with_reducible refine Keeps.bind ?_ fun _ => ?_

theorem keeps_part15 (h10 : Yields c R arg10) (h11 : Yields c R arg11) :
    ∀ x0 x1 x2 x3 x4 x5, Keeps (F := F) c R (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part15_eq_skeleton]; unfold k0_part15_skel
  repeat' first
    | with_reducible exact Keeps.pure _
    | with_reducible exact Keeps.load h10.lends
    | with_reducible exact Keeps.load h11.lends
    | with_reducible refine Keeps.bind ?_ fun _ => ?_

theorem keeps_part16 (h4 : Lends c R arg4) (h10 : Yields c R arg10) (h11 : Yields c R arg11) :
    ∀ x0 x1 x2 x3 x4 x5 x6, Keeps (F := F) c R (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  intro x0 x1 x2 x3 x4 x5 x6
  rw [k0_part16_eq_skeleton]; unfold k0_part16_skel
  repeat' first
    | with_reducible exact Keeps.pure _
    | with_reducible exact Keeps.load h4
    | with_reducible exact Keeps.load h10.lends
    | with_reducible exact Keeps.load h11.lends
    | with_reducible refine Keeps.bind ?_ fun _ => ?_

theorem keeps_part17 (h10 : Yields c R arg10) (h11 : Yields c R arg11) :
    ∀ x0 x1 x2 x3 x4 x5, Keeps (F := F) c R (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part17_eq_skeleton]; unfold k0_part17_skel
  repeat' first
    | with_reducible exact Keeps.pure _
    | with_reducible exact Keeps.load h10.lends
    | with_reducible exact Keeps.load h11.lends
    | with_reducible refine Keeps.bind ?_ fun _ => ?_

theorem keeps_part18 (h10 : Yields c R arg10) (h11 : Yields c R arg11) :
    ∀ x0 x1 x2 x3 x4 x5 x6 x7, Keeps (F := F) c R (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  intro x0 x1 x2 x3 x4 x5 x6 x7
  rw [k0_part18_eq_skeleton]; unfold k0_part18_skel
  repeat' first
    | with_reducible exact Keeps.pure _
    | with_reducible exact Keeps.load h10.lends
    | with_reducible exact Keeps.load h11.lends
    | with_reducible refine Keeps.bind ?_ fun _ => ?_

theorem keeps_part19 (h10 : Yields c R arg10) (h11 : Yields c R arg11) :
    ∀ x0 x1 x2 x3 x4 x5 x6 x7 x8, Keeps (F := F) c R (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  intro x0 x1 x2 x3 x4 x5 x6 x7 x8
  rw [k0_part19_eq_skeleton]; unfold k0_part19_skel
  repeat' first
    | with_reducible exact Keeps.pure _
    | with_reducible exact Keeps.load h10.lends
    | with_reducible exact Keeps.load h11.lends
    | with_reducible refine Keeps.bind ?_ fun _ => ?_

theorem keeps_part20 (h10 : Yields c R arg10) (h11 : Yields c R arg11) :
    ∀ x0 x1 x2 x3 x4 x5, Keeps (F := F) c R (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part20_eq_skeleton]; unfold k0_part20_skel
  repeat' first
    | with_reducible exact Keeps.pure _
    | with_reducible exact Keeps.load h10.lends
    | with_reducible exact Keeps.load h11.lends
    | with_reducible refine Keeps.bind ?_ fun _ => ?_

theorem keeps_part21  :
    ∀ x0 x1 x2 x3, Keeps (F := F) c R (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3) := by
  intro x0 x1 x2 x3
  rw [k0_part21_eq_skeleton]; unfold k0_part21_skel
  repeat' first
    | with_reducible exact Keeps.pure _
    | with_reducible refine Keeps.bind ?_ fun _ => ?_

theorem keeps_part22  :
    ∀ x0 x1 x2 x3 x4 x5 x6, Keeps (F := F) c R (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  intro x0 x1 x2 x3 x4 x5 x6
  rw [k0_part22_eq_skeleton]; unfold k0_part22_skel
  repeat' first
    | with_reducible exact Keeps.pure _
    | with_reducible refine Keeps.bind ?_ fun _ => ?_

theorem keeps_part23 (h9 : Yields c R arg9) :
    ∀ x0 x1 x2 x3 x4 x5 x6 x7 x8 x9 x10 x11 x12 x13 x14 x15 x16, IsTile x0 → Keeps (F := F) c R (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16) := by
  intro x0 x1 x2 x3 x4 x5 x6 x7 x8 x9 x10 x11 x12 x13 x14 x15 x16 hq
  rw [k0_part23_eq_skeleton]; unfold k0_part23_skel
  repeat' first
    | with_reducible exact Keeps.pure _
    | with_reducible exact Keeps.load h9.lends
    | with_reducible exact Keeps.assume (chk2_of _ _ _ _ hq)
    | with_reducible refine Keeps.loop _ _ _ fun _ _ => ?_
    | with_reducible refine Keeps.dite (fun _ => ?_) (fun _ => ?_)
    | with_reducible refine Keeps.bind ?_ fun _ => ?_
    | unfold k0_t8_body
    | unfold k0_t9_body

theorem keeps_part24 (h9 : Yields c R arg9) :
    ∀ x0 x1 x2 x3 x4 x5 x6 x7 x8 x9 x10 x11 x12 x13 x14 x15 x16 x17 x18 x19 x20 x21 x22 x23 x24, IsTile x0 → Keeps (F := F) c R (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24) := by
  intro x0 x1 x2 x3 x4 x5 x6 x7 x8 x9 x10 x11 x12 x13 x14 x15 x16 x17 x18 x19 x20 x21 x22 x23 x24 hq
  rw [k0_part24_eq_skeleton]; unfold k0_part24_skel
  repeat' first
    | with_reducible exact Keeps.pure _
    | with_reducible exact Keeps.load h9.lends
    | with_reducible exact Keeps.assume (chk3_of _ _ _ _ hq)
    | with_reducible exact Keeps.assume (chk4_of _ _ _ _ hq)
    | with_reducible exact Keeps.assume (chk5_of _ _ _ _ hq)
    | with_reducible refine Keeps.loop _ _ _ fun _ _ => ?_
    | with_reducible refine Keeps.dite (fun _ => ?_) (fun _ => ?_)
    | with_reducible refine Keeps.bind ?_ fun _ => ?_
    | unfold k0_t10_body
    | unfold k0_t11_body
    | unfold k0_t12_body
    | unfold k0_t13_body
    | unfold k0_t14_body
    | unfold k0_t15_body

theorem keeps_part25  :
    ∀ x0 x1 x2 x3 x4 x5 x6 x7 x8 x9 x10 x11, Keeps (F := F) c R (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  intro x0 x1 x2 x3 x4 x5 x6 x7 x8 x9 x10 x11
  rw [k0_part25_eq_skeleton]; unfold k0_part25_skel
  repeat' first
    | with_reducible exact Keeps.pure _
    | with_reducible refine Keeps.bind ?_ fun _ => ?_

theorem keeps_part26  :
    ∀ x0 x1 x2 x3 x4 x5 x6 x7 x8 x9 x10 x11, Keeps (F := F) c R (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := by
  intro x0 x1 x2 x3 x4 x5 x6 x7 x8 x9 x10 x11
  rw [k0_part26_eq_skeleton]; unfold k0_part26_skel
  repeat' first
    | with_reducible exact Keeps.pure _
    | with_reducible refine Keeps.bind ?_ fun _ => ?_

theorem keeps_part27  :
    ∀ x0 x1 x2 x3 x4 x5 x6 x7 x8 x9 x10 x11 x12 x13, Keeps (F := F) c R (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  intro x0 x1 x2 x3 x4 x5 x6 x7 x8 x9 x10 x11 x12 x13
  rw [k0_part27_eq_skeleton]; unfold k0_part27_skel
  repeat' first
    | with_reducible exact Keeps.pure _
    | with_reducible refine Keeps.bind ?_ fun _ => ?_

theorem keeps_part28  :
    ∀ x0 x1, Keeps (F := F) c R (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1) := by
  intro x0 x1
  rw [k0_part28_eq_skeleton]; unfold k0_part28_skel
  repeat' first
    | with_reducible exact Keeps.pure _
    | with_reducible refine Keeps.bind ?_ fun _ => ?_

theorem keeps_part29  :
    ∀ x0 x1 x2 x3 x4 x5 x6 x7 x8, Keeps (F := F) c R (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  intro x0 x1 x2 x3 x4 x5 x6 x7 x8
  rw [k0_part29_eq_skeleton]; unfold k0_part29_skel
  repeat' first
    | with_reducible exact Keeps.pure _
    | with_reducible refine Keeps.bind ?_ fun _ => ?_

theorem keeps_part30  :
    ∀ x0 x1 x2 x3 x4 x5 x6 x7 x8, Keeps (F := F) c R (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  intro x0 x1 x2 x3 x4 x5 x6 x7 x8
  rw [k0_part30_eq_skeleton]; unfold k0_part30_skel
  repeat' first
    | with_reducible exact Keeps.pure _
    | with_reducible refine Keeps.bind ?_ fun _ => ?_

theorem keeps_part31  :
    ∀ x0 x1 x2 x3 x4 x5 x6, Keeps (F := F) c R (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  intro x0 x1 x2 x3 x4 x5 x6
  rw [k0_part31_eq_skeleton]; unfold k0_part31_skel
  repeat' first
    | with_reducible exact Keeps.pure _
    | with_reducible refine Keeps.bind ?_ fun _ => ?_

theorem keeps_part32  :
    ∀ x0 x1, Keeps (F := F) c R (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1) := by
  intro x0 x1
  rw [k0_part32_eq_skeleton]; unfold k0_part32_skel
  repeat' first
    | with_reducible exact Keeps.pure _
    | with_reducible refine Keeps.bind ?_ fun _ => ?_

theorem keeps_part33  :
    ∀ x0 x1 x2 x3 x4 x5 x6 x7 x8 x9, Keeps (F := F) c R (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) := by
  intro x0 x1 x2 x3 x4 x5 x6 x7 x8 x9
  rw [k0_part33_eq_skeleton]; unfold k0_part33_skel
  repeat' first
    | with_reducible exact Keeps.pure _
    | with_reducible refine Keeps.bind ?_ fun _ => ?_

theorem keeps_part34 (h9 : Yields c R arg9) :
    ∀ x0 x1 x2 x3 x4 x5 x6 x7 x8 x9 x10 x11 x12 x13, IsTile x0 → Keeps (F := F) c R (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) := by
  intro x0 x1 x2 x3 x4 x5 x6 x7 x8 x9 x10 x11 x12 x13 hq
  rw [k0_part34_eq_skeleton]; unfold k0_part34_skel
  repeat' first
    | with_reducible exact Keeps.pure _
    | with_reducible exact Keeps.load h9.lends
    | with_reducible exact Keeps.assume (chk6_of _ _ _ _ hq)
    | with_reducible exact Keeps.assume (chk7_of _ _ _ _ hq)
    | with_reducible refine Keeps.loop _ _ _ fun _ _ => ?_
    | with_reducible refine Keeps.dite (fun _ => ?_) (fun _ => ?_)
    | with_reducible refine Keeps.bind ?_ fun _ => ?_
    | unfold k0_t16_body
    | unfold k0_t17_body

theorem keeps_part35 (h9 : Yields c R arg9) :
    ∀ x0 x1 x2 x3 x4 x5 x6 x7 x8 x9 x10 x11 x12 x13 x14 x15 x16 x17 x18 x19 x20 x21 x22 x23 x24 x25, IsTile x0 → Keeps (F := F) c R (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25) := by
  intro x0 x1 x2 x3 x4 x5 x6 x7 x8 x9 x10 x11 x12 x13 x14 x15 x16 x17 x18 x19 x20 x21 x22 x23 x24 x25 hq
  rw [k0_part35_eq_skeleton]; unfold k0_part35_skel
  repeat' first
    | with_reducible exact Keeps.pure _
    | with_reducible exact Keeps.load h9.lends
    | with_reducible exact Keeps.assume (chk8_of _ _ _ _ hq)
    | with_reducible exact Keeps.assume (chk9_of _ _ _ _ hq)
    | with_reducible refine Keeps.loop _ _ _ fun _ _ => ?_
    | with_reducible refine Keeps.dite (fun _ => ?_) (fun _ => ?_)
    | with_reducible refine Keeps.bind ?_ fun _ => ?_
    | unfold k0_t18_body
    | unfold k0_t19_body
    | unfold k0_t20_body
    | unfold k0_t21_body
    | unfold k0_t22_body
    | unfold k0_t23_body

theorem keeps_part36 (h9 : Yields c R arg9) :
    ∀ x0 x1 x2 x3 x4 x5 x6 x7 x8 x9 x10 x11 x12 x13 x14 x15 x16 x17 x18 x19 x20 x21 x22 x23 x24 x25 x26 x27 x28 x29 x30, IsTile x0 → Keeps (F := F) c R (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27 x28 x29 x30) := by
  intro x0 x1 x2 x3 x4 x5 x6 x7 x8 x9 x10 x11 x12 x13 x14 x15 x16 x17 x18 x19 x20 x21 x22 x23 x24 x25 x26 x27 x28 x29 x30 hq
  rw [k0_part36_eq_skeleton]; unfold k0_part36_skel
  repeat' first
    | with_reducible exact Keeps.pure _
    | with_reducible exact keeps_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _
    | with_reducible exact keeps_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _
    | with_reducible exact keeps_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 h9 _ _ _ _ _ _ _ _ _ _ _ _ _ _ _ _ _ hq
    | with_reducible exact keeps_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 h9 _ _ _ _ _ _ _ _ _ _ _ _ _ _ _ _ _ _ _ _ _ _ _ _ _ hq
    | with_reducible exact keeps_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _
    | with_reducible exact keeps_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _
    | with_reducible exact keeps_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _
    | with_reducible exact keeps_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _
    | with_reducible exact keeps_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _
    | with_reducible exact keeps_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _
    | with_reducible exact keeps_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _
    | with_reducible exact keeps_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _
    | with_reducible exact keeps_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _
    | with_reducible exact keeps_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 h9 _ _ _ _ _ _ _ _ _ _ _ _ _ _ hq
    | with_reducible exact keeps_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 h9 _ _ _ _ _ _ _ _ _ _ _ _ _ _ _ _ _ _ _ _ _ _ _ _ _ _ hq
    | with_reducible refine Keeps.dite (fun _ => ?_) (fun _ => ?_)
    | with_reducible refine Keeps.bind ?_ fun _ => ?_

theorem keeps_part37  :
    ∀ x0, Keeps (F := F) c R (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 x0) := by
  intro x0
  rw [k0_part37_eq_skeleton]; unfold k0_part37_skel
  repeat' first
    | with_reducible exact Keeps.pure _
    | with_reducible refine Keeps.bind ?_ fun _ => ?_

theorem keeps_part38 (h5 : Lends c R arg5) (h6 : Lends c R arg6) (h10 : Yields c R arg10) (h11 : Yields c R arg11) :
    ∀ x0, Keeps (F := F) c R (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 x0) := by
  intro x0
  rw [k0_part38_eq_skeleton]; unfold k0_part38_skel
  repeat' first
    | with_reducible exact Keeps.pure _
    | with_reducible exact Keeps.load h5
    | with_reducible exact Keeps.load h6
    | with_reducible exact Keeps.load h10.lends
    | with_reducible exact Keeps.load h11.lends
    | with_reducible exact Keeps.store h10
    | with_reducible exact Keeps.store h11
    | with_reducible refine Keeps.bind ?_ fun _ => ?_

theorem keeps_part39 (h5 : Lends c R arg5) (h10 : Yields c R arg10) (h11 : Yields c R arg11) :
    ∀ x0 x1 x2, Keeps (F := F) c R (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2) := by
  intro x0 x1 x2
  rw [k0_part39_eq_skeleton]; unfold k0_part39_skel
  repeat' first
    | with_reducible exact Keeps.pure _
    | with_reducible exact Keeps.load h5
    | with_reducible exact Keeps.load h10.lends
    | with_reducible exact Keeps.load h11.lends
    | with_reducible exact Keeps.store h10
    | with_reducible exact Keeps.store h11
    | with_reducible refine Keeps.bind ?_ fun _ => ?_

theorem keeps_part40 (h5 : Lends c R arg5) (h10 : Yields c R arg10) (h11 : Yields c R arg11) :
    ∀ x0 x1, Keeps (F := F) c R (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1) := by
  intro x0 x1
  rw [k0_part40_eq_skeleton]; unfold k0_part40_skel
  repeat' first
    | with_reducible exact Keeps.pure _
    | with_reducible exact Keeps.load h5
    | with_reducible exact Keeps.load h10.lends
    | with_reducible exact Keeps.load h11.lends
    | with_reducible exact Keeps.store h10
    | with_reducible exact Keeps.store h11
    | with_reducible refine Keeps.bind ?_ fun _ => ?_

theorem keeps_part41 (h4 : Lends c R arg4) (h9 : Yields c R arg9) (h10 : Yields c R arg10) (h11 : Yields c R arg11) :
    ∀ x0 x1 x2 x3 x4 x5 x6 x7 x8, Keeps (F := F) c R (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8) := by
  intro x0 x1 x2 x3 x4 x5 x6 x7 x8
  rw [k0_part41_eq_skeleton]; unfold k0_part41_skel
  repeat' first
    | with_reducible exact Keeps.pure _
    | with_reducible exact Keeps.load h9.lends
    | with_reducible exact Keeps.load h11.lends
    | with_reducible exact Keeps.store h9
    | with_reducible exact Keeps.store h10
    | with_reducible exact Keeps.store h11
    | with_reducible exact keeps_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 h4 h10 h11 _ _ _ _ _ _ _
    | with_reducible exact keeps_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _
    | with_reducible exact keeps_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _ _ _
    | with_reducible exact keeps_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _ _ _ _
    | with_reducible exact keeps_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _
    | with_reducible exact keeps_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 h4 h10 h11 _ _ _ _ _ _ _
    | with_reducible exact keeps_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _
    | with_reducible exact keeps_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _ _ _
    | with_reducible exact keeps_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _ _ _ _
    | with_reducible exact keeps_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _
    | with_reducible exact keeps_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 h4 h10 h11 _ _ _ _ _ _ _
    | with_reducible exact keeps_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _
    | with_reducible exact keeps_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _ _ _
    | with_reducible exact keeps_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _ _ _ _
    | with_reducible exact keeps_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _
    | with_reducible exact keeps_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 h4 h10 h11 _ _ _ _ _ _ _
    | with_reducible exact keeps_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _
    | with_reducible exact keeps_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _ _ _
    | with_reducible exact keeps_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _ _ _ _
    | with_reducible exact keeps_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 h10 h11 _ _ _ _ _ _
    | with_reducible refine Keeps.loop _ _ _ fun _ _ => ?_
    | with_reducible refine Keeps.bind ?_ fun _ => ?_
    | unfold k0_t1_body
    | unfold k0_t2_body
    | unfold k0_t3_body
    | unfold k0_t4_body

theorem keeps_part42 (h9 : Yields c R arg9) :
    ∀ x0 x1 x2 x3 x4 x5 x6 x7, Keeps (F := F) c R (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  intro x0 x1 x2 x3 x4 x5 x6 x7
  rw [k0_part42_eq_skeleton]; unfold k0_part42_skel
  repeat' first
    | with_reducible exact Keeps.pure _
    | with_reducible exact Keeps.load h9.lends
    | with_reducible exact Keeps.store h9
    | with_reducible refine Keeps.loop _ _ _ fun _ _ => ?_
    | with_reducible refine Keeps.bind ?_ fun _ => ?_
    | unfold k0_t5_body
    | unfold k0_t6_body

theorem keeps_part43  :
    ∀ x0 x1 x2 x3, Keeps (F := F) c R (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3) := by
  intro x0 x1 x2 x3
  rw [k0_part43_eq_skeleton]; unfold k0_part43_skel
  repeat' first
    | with_reducible exact Keeps.pure _
    | with_reducible refine Keeps.bind ?_ fun _ => ?_

theorem keeps_part44  :
    ∀ x0 x1 x2, Keeps (F := F) c R (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2) := by
  intro x0 x1 x2
  rw [k0_part44_eq_skeleton]; unfold k0_part44_skel
  repeat' first
    | with_reducible exact Keeps.pure _
    | with_reducible refine Keeps.bind ?_ fun _ => ?_

theorem keeps_part45  :
    ∀ x0 x1, Keeps (F := F) c R (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1) := by
  intro x0 x1
  rw [k0_part45_eq_skeleton]; unfold k0_part45_skel
  repeat' first
    | with_reducible exact Keeps.pure _
    | with_reducible refine Keeps.bind ?_ fun _ => ?_

theorem keeps_part46  :
    ∀ x0 x1 x2 x3 x4 x5 x6, Keeps (F := F) c R (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  intro x0 x1 x2 x3 x4 x5 x6
  rw [k0_part46_eq_skeleton]; unfold k0_part46_skel
  repeat' first
    | with_reducible exact Keeps.pure _
    | with_reducible refine Keeps.bind ?_ fun _ => ?_

theorem keeps_part47  :
    ∀ x0 x1 x2 x3 x4 x5 x6 x7 x8 x9 x10 x11 x12, Keeps (F := F) c R (k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12) := by
  intro x0 x1 x2 x3 x4 x5 x6 x7 x8 x9 x10 x11 x12
  rw [k0_part47_eq_skeleton]; unfold k0_part47_skel
  repeat' first
    | with_reducible exact Keeps.pure _
    | with_reducible refine Keeps.bind ?_ fun _ => ?_

theorem keeps_part48 (h9 : Yields c R arg9) :
    ∀ x0 x1 x2 x3 x4 x5 x6 x7 x8 x9 x10 x11 x12 x13 x14 x15 x16 x17 x18 x19 x20 x21 x22 x23 x24 x25 x26 x27, IsTile x0 → Keeps (F := F) c R (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17 x18 x19 x20 x21 x22 x23 x24 x25 x26 x27) := by
  intro x0 x1 x2 x3 x4 x5 x6 x7 x8 x9 x10 x11 x12 x13 x14 x15 x16 x17 x18 x19 x20 x21 x22 x23 x24 x25 x26 x27 hq
  rw [k0_part48_eq_skeleton]; unfold k0_part48_skel
  repeat' first
    | with_reducible exact Keeps.pure _
    | with_reducible exact keeps_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 h9 _ _ _ _ _ _ _ _ _ _ _ _ _ _ _ _ _ _ _ _ _ _ _ _ _ _ _ _ _ _ _ hq
    | with_reducible refine Keeps.loop _ _ _ fun _ _ => ?_
    | with_reducible refine Keeps.bind ?_ fun _ => ?_
    | unfold k0_t7_body

theorem keeps_part49  :
    ∀ x0 x1 x2 x3 x4 x5 x6 x7, Keeps (F := F) c R (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  intro x0 x1 x2 x3 x4 x5 x6 x7
  rw [k0_part49_eq_skeleton]; unfold k0_part49_skel
  repeat' first
    | with_reducible exact Keeps.pure _
    | with_reducible refine Keeps.bind ?_ fun _ => ?_

theorem keeps_part50 (h12 : Yields c R arg12) :
    ∀ x0 x1 x2 x3 x4 x5 x6, Keeps (F := F) c R (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) := by
  intro x0 x1 x2 x3 x4 x5 x6
  rw [k0_part50_eq_skeleton]; unfold k0_part50_skel
  repeat' first
    | with_reducible exact Keeps.pure _
    | with_reducible exact Keeps.load h12.lends
    | with_reducible exact Keeps.store h12
    | with_reducible refine Keeps.bind ?_ fun _ => ?_

theorem keeps_part51 (h13 : Yields c R arg13) :
    ∀ x0 x1 x2 x3 x4 x5 x6 x7 x8 x9 x10 x11 x12 x13 x14 x15 x16 x17, Keeps (F := F) c R (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16 x17) := by
  intro x0 x1 x2 x3 x4 x5 x6 x7 x8 x9 x10 x11 x12 x13 x14 x15 x16 x17
  rw [k0_part51_eq_skeleton]; unfold k0_part51_skel
  repeat' first
    | with_reducible exact Keeps.pure _
    | with_reducible exact Keeps.load h13.lends
    | with_reducible exact Keeps.store h13
    | with_reducible refine Keeps.bind ?_ fun _ => ?_

theorem keeps_part52 (h14 : Yields c R arg14) (h15 : Yields c R arg15) (h16 : Yields c R arg16) :
    ∀ x0 x1 x2 x3 x4 x5 x6 x7, Keeps (F := F) c R (k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) := by
  intro x0 x1 x2 x3 x4 x5 x6 x7
  rw [k0_part52_eq_skeleton]; unfold k0_part52_skel
  repeat' first
    | with_reducible exact Keeps.pure _
    | with_reducible exact Keeps.load h14.lends
    | with_reducible exact Keeps.load h15.lends
    | with_reducible exact Keeps.store h14
    | with_reducible exact Keeps.store h15
    | with_reducible exact Keeps.store h16
    | with_reducible refine Keeps.bind ?_ fun _ => ?_
    | exact Keeps.smemLoad h16.lends

theorem keeps_part53 (h7 : Lends c R arg7) (h8 : Yields c R arg8) (h9 : Yields c R arg9) (h12 : Yields c R arg12) (h13 : Yields c R arg13) (h14 : Yields c R arg14) (h15 : Yields c R arg15) :
    ∀ x0 x1 x2 x3, Keeps (F := F) c R (k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3) := by
  intro x0 x1 x2 x3
  rw [k0_part53_eq_skeleton]; unfold k0_part53_skel
  repeat' first
    | with_reducible exact Keeps.pure _
    | with_reducible exact Keeps.load h7
    | with_reducible exact Keeps.load h8.lends
    | with_reducible exact Keeps.load h9.lends
    | with_reducible exact Keeps.load h12.lends
    | with_reducible exact Keeps.load h13.lends
    | with_reducible exact Keeps.load h14.lends
    | with_reducible exact Keeps.load h15.lends
    | with_reducible exact Keeps.store h8
    | with_reducible refine Keeps.bind ?_ fun _ => ?_

theorem keeps_part54 (h7 : Lends c R arg7) (h8 : Yields c R arg8) (h13 : Yields c R arg13) (h14 : Yields c R arg14) :
    ∀ x0 x1 x2 x3 x4, Keeps (F := F) c R (k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4) := by
  intro x0 x1 x2 x3 x4
  rw [k0_part54_eq_skeleton]; unfold k0_part54_skel
  repeat' first
    | with_reducible exact Keeps.pure _
    | with_reducible exact Keeps.load h7
    | with_reducible exact Keeps.load h8.lends
    | with_reducible exact Keeps.load h13.lends
    | with_reducible exact Keeps.load h14.lends
    | with_reducible exact Keeps.store h8
    | with_reducible refine Keeps.bind ?_ fun _ => ?_

theorem keeps_part55 (h7 : Lends c R arg7) (h8 : Yields c R arg8) (h9 : Yields c R arg9) (h13 : Yields c R arg13) (h14 : Yields c R arg14) :
    ∀ x0 x1 x2 x3 x4 x5 x6 x7 x8 x9, Keeps (F := F) c R (k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) := by
  intro x0 x1 x2 x3 x4 x5 x6 x7 x8 x9
  rw [k0_part55_eq_skeleton]; unfold k0_part55_skel
  repeat' first
    | with_reducible exact Keeps.pure _
    | with_reducible exact Keeps.load h7
    | with_reducible exact Keeps.load h8.lends
    | with_reducible exact Keeps.load h9.lends
    | with_reducible exact Keeps.load h13.lends
    | with_reducible exact Keeps.load h14.lends
    | with_reducible exact Keeps.store h8
    | with_reducible refine Keeps.bind ?_ fun _ => ?_

theorem keeps_part56 (h7 : Lends c R arg7) (h8 : Yields c R arg8) (h13 : Yields c R arg13) (h14 : Yields c R arg14) :
    ∀ x0 x1 x2 x3 x4 x5, Keeps (F := F) c R (k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part56_eq_skeleton]; unfold k0_part56_skel
  repeat' first
    | with_reducible exact Keeps.pure _
    | with_reducible exact Keeps.load h7
    | with_reducible exact Keeps.load h8.lends
    | with_reducible exact Keeps.load h13.lends
    | with_reducible exact Keeps.load h14.lends
    | with_reducible exact Keeps.store h8
    | with_reducible refine Keeps.bind ?_ fun _ => ?_

theorem keeps_part57 (h7 : Lends c R arg7) (h8 : Yields c R arg8) (h13 : Yields c R arg13) (h14 : Yields c R arg14) :
    ∀ x0 x1 x2 x3 x4 x5, Keeps (F := F) c R (k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part57_eq_skeleton]; unfold k0_part57_skel
  repeat' first
    | with_reducible exact Keeps.pure _
    | with_reducible exact Keeps.load h7
    | with_reducible exact Keeps.load h8.lends
    | with_reducible exact Keeps.load h13.lends
    | with_reducible exact Keeps.load h14.lends
    | with_reducible exact Keeps.store h8
    | with_reducible refine Keeps.bind ?_ fun _ => ?_

theorem keeps_part58 (h8 : Yields c R arg8) (h9 : Yields c R arg9) (h12 : Yields c R arg12) :
    ∀ x0 x1 x2 x3, Keeps (F := F) c R (k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3) := by
  intro x0 x1 x2 x3
  rw [k0_part58_eq_skeleton]; unfold k0_part58_skel
  repeat' first
    | with_reducible exact Keeps.pure _
    | with_reducible exact Keeps.load h8.lends
    | with_reducible exact Keeps.load h9.lends
    | with_reducible exact Keeps.load h12.lends
    | with_reducible exact Keeps.store h8
    | with_reducible refine Keeps.bind ?_ fun _ => ?_

theorem keeps_part59 (h7 : Lends c R arg7) (h8 : Yields c R arg8) (h9 : Yields c R arg9) (h12 : Yields c R arg12) (h13 : Yields c R arg13) (h14 : Yields c R arg14) (h15 : Yields c R arg15) :
    ∀ x0 x1 x2 x3, Keeps (F := F) c R (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3) := by
  intro x0 x1 x2 x3
  rw [k0_part59_eq_skeleton]; unfold k0_part59_skel
  repeat' first
    | with_reducible exact Keeps.pure _
    | with_reducible exact Keeps.load h7
    | with_reducible exact Keeps.load h8.lends
    | with_reducible exact Keeps.load h9.lends
    | with_reducible exact Keeps.load h12.lends
    | with_reducible exact Keeps.load h13.lends
    | with_reducible exact Keeps.load h14.lends
    | with_reducible exact Keeps.load h15.lends
    | with_reducible exact Keeps.store h8
    | with_reducible refine Keeps.bind ?_ fun _ => ?_

theorem keeps_part60 (h7 : Lends c R arg7) (h8 : Yields c R arg8) (h13 : Yields c R arg13) (h14 : Yields c R arg14) :
    ∀ x0 x1 x2 x3 x4, Keeps (F := F) c R (k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4) := by
  intro x0 x1 x2 x3 x4
  rw [k0_part60_eq_skeleton]; unfold k0_part60_skel
  repeat' first
    | with_reducible exact Keeps.pure _
    | with_reducible exact Keeps.load h7
    | with_reducible exact Keeps.load h8.lends
    | with_reducible exact Keeps.load h13.lends
    | with_reducible exact Keeps.load h14.lends
    | with_reducible exact Keeps.store h8
    | with_reducible refine Keeps.bind ?_ fun _ => ?_

theorem keeps_part61 (h7 : Lends c R arg7) (h8 : Yields c R arg8) (h9 : Yields c R arg9) (h13 : Yields c R arg13) (h14 : Yields c R arg14) :
    ∀ x0 x1 x2 x3 x4 x5 x6 x7 x8 x9, Keeps (F := F) c R (k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) := by
  intro x0 x1 x2 x3 x4 x5 x6 x7 x8 x9
  rw [k0_part61_eq_skeleton]; unfold k0_part61_skel
  repeat' first
    | with_reducible exact Keeps.pure _
    | with_reducible exact Keeps.load h7
    | with_reducible exact Keeps.load h8.lends
    | with_reducible exact Keeps.load h9.lends
    | with_reducible exact Keeps.load h13.lends
    | with_reducible exact Keeps.load h14.lends
    | with_reducible exact Keeps.store h8
    | with_reducible refine Keeps.bind ?_ fun _ => ?_

theorem keeps_part62 (h7 : Lends c R arg7) (h8 : Yields c R arg8) (h13 : Yields c R arg13) (h14 : Yields c R arg14) :
    ∀ x0 x1 x2 x3 x4 x5, Keeps (F := F) c R (k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part62_eq_skeleton]; unfold k0_part62_skel
  repeat' first
    | with_reducible exact Keeps.pure _
    | with_reducible exact Keeps.load h7
    | with_reducible exact Keeps.load h8.lends
    | with_reducible exact Keeps.load h13.lends
    | with_reducible exact Keeps.load h14.lends
    | with_reducible exact Keeps.store h8
    | with_reducible refine Keeps.bind ?_ fun _ => ?_

theorem keeps_part63 (h7 : Lends c R arg7) (h8 : Yields c R arg8) (h13 : Yields c R arg13) (h14 : Yields c R arg14) :
    ∀ x0 x1 x2 x3 x4 x5, Keeps (F := F) c R (k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part63_eq_skeleton]; unfold k0_part63_skel
  repeat' first
    | with_reducible exact Keeps.pure _
    | with_reducible exact Keeps.load h7
    | with_reducible exact Keeps.load h8.lends
    | with_reducible exact Keeps.load h13.lends
    | with_reducible exact Keeps.load h14.lends
    | with_reducible exact Keeps.store h8
    | with_reducible refine Keeps.bind ?_ fun _ => ?_

theorem keeps_part64 (h8 : Yields c R arg8) (h9 : Yields c R arg9) (h12 : Yields c R arg12) :
    ∀ x0 x1 x2 x3, Keeps (F := F) c R (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3) := by
  intro x0 x1 x2 x3
  rw [k0_part64_eq_skeleton]; unfold k0_part64_skel
  repeat' first
    | with_reducible exact Keeps.pure _
    | with_reducible exact Keeps.load h8.lends
    | with_reducible exact Keeps.load h9.lends
    | with_reducible exact Keeps.load h12.lends
    | with_reducible exact Keeps.store h8
    | with_reducible refine Keeps.bind ?_ fun _ => ?_

theorem keeps_part65 (h7 : Lends c R arg7) (h8 : Yields c R arg8) (h9 : Yields c R arg9) (h12 : Yields c R arg12) (h13 : Yields c R arg13) (h14 : Yields c R arg14) (h15 : Yields c R arg15) :
    ∀ x0 x1 x2 x3, Keeps (F := F) c R (k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3) := by
  intro x0 x1 x2 x3
  rw [k0_part65_eq_skeleton]; unfold k0_part65_skel
  repeat' first
    | with_reducible exact Keeps.pure _
    | with_reducible exact Keeps.load h7
    | with_reducible exact Keeps.load h8.lends
    | with_reducible exact Keeps.load h9.lends
    | with_reducible exact Keeps.load h12.lends
    | with_reducible exact Keeps.load h13.lends
    | with_reducible exact Keeps.load h14.lends
    | with_reducible exact Keeps.load h15.lends
    | with_reducible exact Keeps.store h8
    | with_reducible refine Keeps.bind ?_ fun _ => ?_

theorem keeps_part66 (h7 : Lends c R arg7) (h8 : Yields c R arg8) (h13 : Yields c R arg13) (h14 : Yields c R arg14) :
    ∀ x0 x1 x2 x3 x4, Keeps (F := F) c R (k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4) := by
  intro x0 x1 x2 x3 x4
  rw [k0_part66_eq_skeleton]; unfold k0_part66_skel
  repeat' first
    | with_reducible exact Keeps.pure _
    | with_reducible exact Keeps.load h7
    | with_reducible exact Keeps.load h8.lends
    | with_reducible exact Keeps.load h13.lends
    | with_reducible exact Keeps.load h14.lends
    | with_reducible exact Keeps.store h8
    | with_reducible refine Keeps.bind ?_ fun _ => ?_

theorem keeps_part67 (h7 : Lends c R arg7) (h8 : Yields c R arg8) (h9 : Yields c R arg9) (h13 : Yields c R arg13) (h14 : Yields c R arg14) :
    ∀ x0 x1 x2 x3 x4 x5 x6 x7 x8 x9, Keeps (F := F) c R (k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) := by
  intro x0 x1 x2 x3 x4 x5 x6 x7 x8 x9
  rw [k0_part67_eq_skeleton]; unfold k0_part67_skel
  repeat' first
    | with_reducible exact Keeps.pure _
    | with_reducible exact Keeps.load h7
    | with_reducible exact Keeps.load h8.lends
    | with_reducible exact Keeps.load h9.lends
    | with_reducible exact Keeps.load h13.lends
    | with_reducible exact Keeps.load h14.lends
    | with_reducible exact Keeps.store h8
    | with_reducible refine Keeps.bind ?_ fun _ => ?_

theorem keeps_part68 (h7 : Lends c R arg7) (h8 : Yields c R arg8) (h13 : Yields c R arg13) (h14 : Yields c R arg14) :
    ∀ x0 x1 x2 x3 x4 x5, Keeps (F := F) c R (k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part68_eq_skeleton]; unfold k0_part68_skel
  repeat' first
    | with_reducible exact Keeps.pure _
    | with_reducible exact Keeps.load h7
    | with_reducible exact Keeps.load h8.lends
    | with_reducible exact Keeps.load h13.lends
    | with_reducible exact Keeps.load h14.lends
    | with_reducible exact Keeps.store h8
    | with_reducible refine Keeps.bind ?_ fun _ => ?_

theorem keeps_part69 (h7 : Lends c R arg7) (h8 : Yields c R arg8) (h13 : Yields c R arg13) (h14 : Yields c R arg14) :
    ∀ x0 x1 x2 x3 x4 x5, Keeps (F := F) c R (k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part69_eq_skeleton]; unfold k0_part69_skel
  repeat' first
    | with_reducible exact Keeps.pure _
    | with_reducible exact Keeps.load h7
    | with_reducible exact Keeps.load h8.lends
    | with_reducible exact Keeps.load h13.lends
    | with_reducible exact Keeps.load h14.lends
    | with_reducible exact Keeps.store h8
    | with_reducible refine Keeps.bind ?_ fun _ => ?_

theorem keeps_part70 (h8 : Yields c R arg8) (h9 : Yields c R arg9) (h12 : Yields c R arg12) :
    ∀ x0 x1 x2 x3, Keeps (F := F) c R (k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3) := by
  intro x0 x1 x2 x3
  rw [k0_part70_eq_skeleton]; unfold k0_part70_skel
  repeat' first
    | with_reducible exact Keeps.pure _
    | with_reducible exact Keeps.load h8.lends
    | with_reducible exact Keeps.load h9.lends
    | with_reducible exact Keeps.load h12.lends
    | with_reducible exact Keeps.store h8
    | with_reducible refine Keeps.bind ?_ fun _ => ?_

theorem keeps_part71 (h7 : Lends c R arg7) (h8 : Yields c R arg8) (h9 : Yields c R arg9) (h12 : Yields c R arg12) (h13 : Yields c R arg13) (h14 : Yields c R arg14) (h15 : Yields c R arg15) :
    ∀ x0 x1 x2 x3, Keeps (F := F) c R (k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3) := by
  intro x0 x1 x2 x3
  rw [k0_part71_eq_skeleton]; unfold k0_part71_skel
  repeat' first
    | with_reducible exact Keeps.pure _
    | with_reducible exact Keeps.load h7
    | with_reducible exact Keeps.load h8.lends
    | with_reducible exact Keeps.load h9.lends
    | with_reducible exact Keeps.load h12.lends
    | with_reducible exact Keeps.load h13.lends
    | with_reducible exact Keeps.load h14.lends
    | with_reducible exact Keeps.load h15.lends
    | with_reducible exact Keeps.store h8
    | with_reducible refine Keeps.bind ?_ fun _ => ?_

theorem keeps_part72 (h7 : Lends c R arg7) (h8 : Yields c R arg8) (h13 : Yields c R arg13) (h14 : Yields c R arg14) :
    ∀ x0 x1 x2 x3 x4, Keeps (F := F) c R (k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4) := by
  intro x0 x1 x2 x3 x4
  rw [k0_part72_eq_skeleton]; unfold k0_part72_skel
  repeat' first
    | with_reducible exact Keeps.pure _
    | with_reducible exact Keeps.load h7
    | with_reducible exact Keeps.load h8.lends
    | with_reducible exact Keeps.load h13.lends
    | with_reducible exact Keeps.load h14.lends
    | with_reducible exact Keeps.store h8
    | with_reducible refine Keeps.bind ?_ fun _ => ?_

theorem keeps_part73 (h7 : Lends c R arg7) (h8 : Yields c R arg8) (h9 : Yields c R arg9) (h13 : Yields c R arg13) (h14 : Yields c R arg14) :
    ∀ x0 x1 x2 x3 x4 x5 x6 x7 x8 x9, Keeps (F := F) c R (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) := by
  intro x0 x1 x2 x3 x4 x5 x6 x7 x8 x9
  rw [k0_part73_eq_skeleton]; unfold k0_part73_skel
  repeat' first
    | with_reducible exact Keeps.pure _
    | with_reducible exact Keeps.load h7
    | with_reducible exact Keeps.load h8.lends
    | with_reducible exact Keeps.load h9.lends
    | with_reducible exact Keeps.load h13.lends
    | with_reducible exact Keeps.load h14.lends
    | with_reducible exact Keeps.store h8
    | with_reducible refine Keeps.bind ?_ fun _ => ?_

theorem keeps_part74 (h7 : Lends c R arg7) (h8 : Yields c R arg8) (h13 : Yields c R arg13) (h14 : Yields c R arg14) :
    ∀ x0 x1 x2 x3 x4 x5, Keeps (F := F) c R (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part74_eq_skeleton]; unfold k0_part74_skel
  repeat' first
    | with_reducible exact Keeps.pure _
    | with_reducible exact Keeps.load h7
    | with_reducible exact Keeps.load h8.lends
    | with_reducible exact Keeps.load h13.lends
    | with_reducible exact Keeps.load h14.lends
    | with_reducible exact Keeps.store h8
    | with_reducible refine Keeps.bind ?_ fun _ => ?_

theorem keeps_part75 (h7 : Lends c R arg7) (h8 : Yields c R arg8) (h13 : Yields c R arg13) (h14 : Yields c R arg14) :
    ∀ x0 x1 x2 x3 x4 x5, Keeps (F := F) c R (k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) := by
  intro x0 x1 x2 x3 x4 x5
  rw [k0_part75_eq_skeleton]; unfold k0_part75_skel
  repeat' first
    | with_reducible exact Keeps.pure _
    | with_reducible exact Keeps.load h7
    | with_reducible exact Keeps.load h8.lends
    | with_reducible exact Keeps.load h13.lends
    | with_reducible exact Keeps.load h14.lends
    | with_reducible exact Keeps.store h8
    | with_reducible refine Keeps.bind ?_ fun _ => ?_

theorem keeps_part76 (h8 : Yields c R arg8) (h9 : Yields c R arg9) (h12 : Yields c R arg12) :
    ∀ x0 x1 x2 x3, Keeps (F := F) c R (k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3) := by
  intro x0 x1 x2 x3
  rw [k0_part76_eq_skeleton]; unfold k0_part76_skel
  repeat' first
    | with_reducible exact Keeps.pure _
    | with_reducible exact Keeps.load h8.lends
    | with_reducible exact Keeps.load h9.lends
    | with_reducible exact Keeps.load h12.lends
    | with_reducible exact Keeps.store h8
    | with_reducible refine Keeps.bind ?_ fun _ => ?_

set_option maxHeartbeats 4000000 in
/-- The whole body, given the two table words it reads. -/
theorem keeps_select (h2 : LendsOf c R arg2 IsTile) (h3 : LendsOf c R arg3 IsSlot) (h4 : Lends c R arg4) (h5 : Lends c R arg5) (h6 : Lends c R arg6) (h7 : Lends c R arg7) (h8 : Yields c R arg8) (h9 : Yields c R arg9) (h10 : Yields c R arg10) (h11 : Yields c R arg11) (h12 : Yields c R arg12) (h13 : Yields c R arg13) (h14 : Yields c R arg14) (h15 : Yields c R arg15) (h16 : Yields c R arg16) :
    Keeps (F := F) c R (cc0_select i arg2 harg2 arg3 harg3 arg4 harg4 arg5 harg5 arg6 harg6 arg7 harg7 arg8 harg8 arg9 harg9 arg10 harg10 arg11 harg11 arg12 harg12 arg13 harg13 arg14 harg14 arg15 harg15 arg16 harg16) := by
  rw [cc0_select_eq_skeleton]; unfold cc0_select_skel
  refine Keeps.smemLoad_bind h2 fun x1 hq => ?_
  refine Keeps.smemLoad_bind h3 fun x3 hg => ?_
  repeat' first
    | with_reducible refine Keeps.bind ?_ fun _ => ?_
    | with_reducible exact Keeps.pure _
    | with_reducible exact keeps_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 _
    | with_reducible exact keeps_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 h5 h6 h10 h11 _
    | with_reducible exact keeps_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 h5 h10 h11 _ _ _
    | with_reducible exact keeps_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 h5 h10 h11 _ _
    | with_reducible exact keeps_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 h4 h9 h10 h11 _ _ _ _ _ _ _ _ _
    | with_reducible exact keeps_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 h9 _ _ _ _ _ _ _ _
    | with_reducible exact keeps_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _
    | with_reducible exact keeps_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _
    | with_reducible exact keeps_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _
    | with_reducible exact keeps_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _
    | with_reducible exact keeps_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _
    | with_reducible exact keeps_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 h9 _ _ _ _ _ _ _ _ _ _ _ _ _ _ _ _ _ _ _ _ _ _ _ _ _ _ _ _ hq
    | with_reducible exact keeps_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _
    | with_reducible exact keeps_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 h12 _ _ _ _ _ _ _
    | with_reducible exact keeps_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 h13 _ _ _ _ _ _ _ _ _ _ _ _ _ _ _ _ _ _
    | with_reducible exact keeps_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 h14 h15 h16 _ _ _ _ _ _ _ _
    | with_reducible exact keeps_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h9 h12 h13 h14 h15 _ _ _ _
    | with_reducible exact keeps_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h13 h14 _ _ _ _ _
    | with_reducible exact keeps_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h9 h13 h14 _ _ _ _ _ _ _ _ _ _
    | with_reducible exact keeps_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h13 h14 _ _ _ _ _ _
    | with_reducible exact keeps_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h13 h14 _ _ _ _ _ _
    | with_reducible exact keeps_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 h8 h9 h12 _ _ _ _
    | with_reducible exact keeps_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h9 h12 h13 h14 h15 _ _ _ _
    | with_reducible exact keeps_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h13 h14 _ _ _ _ _
    | with_reducible exact keeps_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h9 h13 h14 _ _ _ _ _ _ _ _ _ _
    | with_reducible exact keeps_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h13 h14 _ _ _ _ _ _
    | with_reducible exact keeps_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h13 h14 _ _ _ _ _ _
    | with_reducible exact keeps_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 h8 h9 h12 _ _ _ _
    | with_reducible exact keeps_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h9 h12 h13 h14 h15 _ _ _ _
    | with_reducible exact keeps_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h13 h14 _ _ _ _ _
    | with_reducible exact keeps_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h9 h13 h14 _ _ _ _ _ _ _ _ _ _
    | with_reducible exact keeps_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h13 h14 _ _ _ _ _ _
    | with_reducible exact keeps_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h13 h14 _ _ _ _ _ _
    | with_reducible exact keeps_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 h8 h9 h12 _ _ _ _
    | with_reducible exact keeps_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h9 h12 h13 h14 h15 _ _ _ _
    | with_reducible exact keeps_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h13 h14 _ _ _ _ _
    | with_reducible exact keeps_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h9 h13 h14 _ _ _ _ _ _ _ _ _ _
    | with_reducible exact keeps_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h13 h14 _ _ _ _ _ _
    | with_reducible exact keeps_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 h7 h8 h13 h14 _ _ _ _ _ _
    | with_reducible exact keeps_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 h8 h9 h12 _ _ _ _
    | with_reducible exact Keeps.load h8.lends
    | with_reducible exact Keeps.load h9.lends
    | with_reducible exact Keeps.load h14.lends
    | with_reducible exact Keeps.load h15.lends
    | with_reducible exact Keeps.store h8
    | with_reducible exact Keeps.store h15
    | with_reducible exact Keeps.store h16
    | with_reducible exact Keeps.assume (chk1_of _ _ hq)
    | with_reducible exact Keeps.assume (chk10_of _ _ hg)
    | with_reducible exact Keeps.assume (chk11_of _ _ hg)
    | with_reducible exact Keeps.assume (chk12_of _ _ hg)
    | with_reducible exact Keeps.assume (chk13_of _ _ hg)
    | with_reducible refine Keeps.dite (fun _ => ?_) (fun _ => ?_)
    | exact Keeps.smemLoad h16.lends

end Cert.SelectProof
-- ==== Proof.SelectFrame.lean ====
module

public import proofs.«01_k».proof.Proof.Gen.Kernel.Skeleton
public import proofs.«01_k».proof.Proof.SelectParts
public import Idealize.ShloMosaic.Lib.Pipeline.FrameSuffix
public import Idealize.ShloMosaic.Lib.StableHlo.Run
public import proofs.«01_k».proof.Defs

@[expose] public section

set_option maxRecDepth 16384

/-! # The frame of the selection kernel

Every buffer the body touches is held at some contents before and after each grid point; only the two
tables keep theirs, and these are constants of the program. -/

noncomputable section

namespace Cert.SelectProof

open Cert.Kernel Cert.Kernel.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [BitOps F]

/-! ## What a conjunct lends, the conjunction lends -/

section Lending

variable {c : Dev nD} {R A B : sProp (MT nD τ sig Unit (Elt F) ℕ (UR sig nD τ) ℕ)}
variable {sp : Space} {s : Shape} {e : EltTy} {m : Memref sig .tc sp s e}

theorem Yields.self : Yields (F := F) c iprop(∃ X, owns (c : Thread nD τ) m fullShare X) m := by
  unfold Yields
  iintro ⟨%X, H⟩
  iexists X
  isplitl [H]
  · iexact H
  · iintro %Y H; iexists Y; iexact H

theorem Yields.inl (h : Yields (F := F) c A m) : Yields (F := F) c iprop(A ∗ B) m := by
  unfold Yields at *
  iintro ⟨HA, HB⟩
  ihave ⟨%X, H, K⟩ := h $$ HA
  iexists X
  isplitl [H]
  · iexact H
  · iintro %Y H
    isplitl [H K]
    · iapply K; iexact H
    · iexact HB

theorem Yields.inr (h : Yields (F := F) c B m) : Yields (F := F) c iprop(A ∗ B) m := by
  unfold Yields at *
  iintro ⟨HA, HB⟩
  ihave ⟨%X, H, K⟩ := h $$ HB
  iexists X
  isplitl [H]
  · iexact H
  · iintro %Y H
    isplitl [HA]
    · iexact HA
    · iapply K; iexact H

variable {mt : Memref sig .tc .smem s .i32} {P : BitVec 32 → Prop}

theorem LendsOf.self (q : PosShare TreeShare) (X : s.Idx → Elt F .i32) (hX : ∀ x, P (X x)) :
    LendsOf (F := F) c iprop(owns (c : Thread nD τ) mt q X) mt P := by
  unfold LendsOf
  iintro H
  iexists q, X
  isplitr
  · ipureintro; exact hX
  isplitl [H]
  · iexact H
  · iintro H; iexact H

theorem LendsOf.inl (h : LendsOf (F := F) c A mt P) : LendsOf (F := F) c iprop(A ∗ B) mt P := by
  unfold LendsOf at *
  iintro ⟨HA, HB⟩
  ihave ⟨%q, %X, %hX, H, K⟩ := h $$ HA
  iexists q, X
  isplitr
  · ipureintro; exact hX
  isplitl [H]
  · iexact H
  · iintro H
    isplitl [H K]
    · iapply K; iexact H
    · iexact HB

theorem LendsOf.inr (h : LendsOf (F := F) c B mt P) : LendsOf (F := F) c iprop(A ∗ B) mt P := by
  unfold LendsOf at *
  iintro ⟨HA, HB⟩
  ihave ⟨%q, %X, %hX, H, K⟩ := h $$ HB
  iexists q, X
  isplitr
  · ipureintro; exact hX
  isplitl [H]
  · iexact H
  · iintro H
    isplitl [HA]
    · iexact HA
    · iapply K; iexact H

end Lending

/-! ## The two tables -/

/-- The tables' contents: query tile and slot of each step. -/
def tables : pre0.Contents (Elt F) := fun
  | ⟨0, _⟩ => fun x => lit0 (S272.rowMajor x)
  | ⟨1, _⟩ => fun x => lit1 (S272.rowMajor x)
  | ⟨_ + 2, h⟩ => absurd h (Nat.not_lt.2 (Nat.le_add_left _ _))

theorem tiles : ∀ j : Fin 272, IsTile (lit0 j) := by
  unfold IsTile; decide +kernel

theorem slots : ∀ j : Fin 272, IsSlot (lit1 j) := by
  unfold IsSlot; decide +kernel

/-- At these contents every block lies inside its array. -/
theorem tables_ok : ok0 (F := Bits) tables := by
  decide +kernel

/-- The tables as the pipeline admits them. -/
def adm (p : Fin 1) : (pcfgs (F := Bits) p).Adm := ⟨tables, tables_ok⟩

/-! ## Memory when the call starts -/

variable (m : (ℓ : Loc nD τ sig) → Buf (Elt Bits) ℓ) (g : Dev nD → PrngReg)

/-- Memory after the host's operations. -/
abbrev entry (c : Dev nD) : Valuation τ sig (Elt Bits) :=
  StableHlo.after (List.flatten [hostOps0]) (fun b => m (c, b))

theorem entry_arg (b : Ref sig .tc) (c : Dev nD)
    (h : (hostOps0 (F := Bits)).Forall fun op => Proc.devRef .tc b ∉ op.writes) :
    entry m c (Proc.devRef .tc b) = m ((c : Thread nD τ).loc b) :=
  StableHlo.after_of_forall_not_mem (b := Proc.devRef .tc b) _ _ (List.forall_iff_forall_mem.mp (by
    simpa only [List.flatten_cons, List.flatten_nil, List.append_nil] using h))

theorem entry_arg0 (c : Dev nD) : entry m c main_arg0 = m ((c : Thread nD τ).loc main_arg0) :=
  entry_arg m main_arg0 c (by
    simp only [hostOps0, List.Forall, StableHlo.nullary_writes, StableHlo.unary_writes, StableHlo.binary_writes, Finset.mem_singleton]
    repeat' apply And.intro
    all_goals exact StableHlo.devRef_ne_of_ne (by decide))

theorem entry_arg1 (c : Dev nD) : entry m c main_arg1 = m ((c : Thread nD τ).loc main_arg1) :=
  entry_arg m main_arg1 c (by
    simp only [hostOps0, List.Forall, StableHlo.nullary_writes, StableHlo.unary_writes, StableHlo.binary_writes, Finset.mem_singleton]
    repeat' apply And.intro
    all_goals exact StableHlo.devRef_ne_of_ne (by decide))

theorem entry_arg2 (c : Dev nD) : entry m c main_arg2 = m ((c : Thread nD τ).loc main_arg2) :=
  entry_arg m main_arg2 c (by
    simp only [hostOps0, List.Forall, StableHlo.nullary_writes, StableHlo.unary_writes, StableHlo.binary_writes, Finset.mem_singleton]
    repeat' apply And.intro
    all_goals exact StableHlo.devRef_ne_of_ne (by decide))

theorem entry_tables (c : Dev nD) : ∀ k : Fin pre0.K, entry m c (Proc.devRef .tc (pre0.ref k)) = tables k
  | ⟨0, _⟩ => by
    have e : entry m c = StableHlo.after (hostOps0.drop 1) (StableHlo.after (hostOps0.take 1) (fun b => m (c, b))) := rfl
    rw [e]
    refine (StableHlo.after_of_forall_not_mem (b := Proc.devRef .tc main_c) (hostOps0 (F := Bits) |>.drop 1) _
      (List.forall_iff_forall_mem.mp ?_)).trans ?_
    · simp only [hostOps0, List.drop, List.Forall, StableHlo.nullary_writes, StableHlo.unary_writes, StableHlo.binary_writes, Finset.mem_singleton]
      repeat' apply And.intro
      all_goals exact StableHlo.devRef_ne_of_ne (by decide)
    · have h : ∀ V : Valuation τ sig (Elt Bits),
          (StableHlo.nullary (τ := τ) (Val := Elt Bits) main_c (fun i => lit0 (S272.rowMajor i))).result V (Proc.devRef .tc main_c)
            = (fun i => lit0 (S272.rowMajor i) : main_c.ty.Contents (Elt Bits)) := fun V => StableHlo.nullary_result _ _ _ V
      exact h (fun b => m (c, b))
  | ⟨1, _⟩ => by
    have e : entry m c = StableHlo.after (hostOps0.drop 2) (StableHlo.after (hostOps0.take 2) (fun b => m (c, b))) := rfl
    rw [e]
    refine (StableHlo.after_of_forall_not_mem (b := Proc.devRef .tc main_c_0) (hostOps0 (F := Bits) |>.drop 2) _
      (List.forall_iff_forall_mem.mp ?_)).trans ?_
    · simp only [hostOps0, List.drop, List.Forall, StableHlo.nullary_writes, StableHlo.unary_writes, StableHlo.binary_writes, Finset.mem_singleton]
      repeat' apply And.intro
      all_goals exact StableHlo.devRef_ne_of_ne (by decide)
    · have h : ∀ V : Valuation τ sig (Elt Bits),
          (StableHlo.nullary (τ := τ) (Val := Elt Bits) main_c_0 (fun i => lit1 (S272.rowMajor i))).result V (Proc.devRef .tc main_c_0)
            = (fun i => lit1 (S272.rowMajor i) : main_c_0.ty.Contents (Elt Bits)) := fun V => StableHlo.nullary_result _ _ _ V
      exact h (StableHlo.after (hostOps0.take 1) (fun b => m (c, b)))
  | ⟨_ + 2, h⟩ => absurd h (Nat.not_lt.2 (Nat.le_add_left _ _))

/-! ## The body at a grid point -/

/-- The call's proof data: the arrays as the call finds them; nothing said of what the body leaves in its windows;
    between points the scratch buffers at any contents and the tables at theirs. -/
def dats (p : Fin 1) (c : Dev nD) : Dat τ (Elt Bits) Unit ℕ (UR sig nD τ) ℕ (pin (pcfgs (F := Bits)) adm p) c where
  A w := entry m c (Proc.devRef .tc (arrRef spec0 w))
  after w t := Dat.unnamed w t
  Φ _ := iprop(ΦA spec0 c ∗ ΦT pre0 tables c)
  q _ := fullShare
  owed _ := 0

/-- The scratch buffers and the generator's register. -/
theorem scratch_eq (c : Dev nD) :
    (ΦA spec0 c : sProp (MT nD τ sig Unit (Elt Bits) ℕ (UR sig nD τ) ℕ))
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)
          ∗ (∃ d, owns (c : Thread nD τ) (Memref.whole cc0_scratch5) fullShare d)
          ∗ (∃ d, owns (c : Thread nD τ) (Memref.whole cc0_scratch6) fullShare d)
          ∗ (∃ d, owns (c : Thread nD τ) (Memref.whole cc0_scratch7) fullShare d))
        ∗ (∃ r, prngReg c r)) := by
  unfold ΦA; rw [scopedRest0_eq]; simp only [owns_whole]; try rfl

/-- The tables. -/
theorem tables_eq (c : Dev nD) :
    (ΦT pre0 (tables (F := Bits)) c : sProp (MT nD τ sig Unit (Elt Bits) ℕ (UR sig nD τ) ℕ))
      = iprop(owns (c : Thread nD τ) (Memref.whole main_c) fullShare.right (fun x => lit0 (S272.rowMajor x))
        ∗ owns (c : Thread nD τ) (Memref.whole main_c_0) fullShare.right (fun x => lit1 (S272.rowMajor x))) := by
  rw [owns_whole, owns_whole]
  unfold ΦT prefHeld
  exact bigSep_univ_eq_bigSepL [(0 : Fin 2), (1 : Fin 2)] (by decide) (by decide) _

/-- The body at a point takes what it holds and gives the same back. -/
theorem body (c : Dev nD) : BodyObligationLoose (dats m 0 c) (defs₀ (F := Bits)) Variants.none () Set.univ (fun _ => true) := fun t => by
  rw [bigSep_W0]
  have hΦ : ∀ t, (dats m 0 c).Φ t = iprop(ΦA spec0 c ∗ ΦT pre0 tables c) := fun _ => rfl
  rw [show (dats m 0 c).owesAt () t.succ = (dats m 0 c).owesAt () t.castSucc from rfl, hΦ, hΦ, scratch_eq, tables_eq]
  refine keeps_select (F := Bits) (grid0.coords t) (Memref.whole main_c) (Memref.isWhole_whole _) (Memref.whole main_c_0) (Memref.isWhole_whole _)
    _ _ _ _ _ _ _ _ _ _
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    ?_ ?_ ?_ ?_ ?_ ?_ ?_ ?_ ?_ ?_ ?_ ?_ ?_ ?_ ?_
  · exact .inl (.inr (.inl (.self _ _ fun x => tiles _)))
  · exact .inl (.inr (.inr (.self _ _ fun x => slots _)))
  · exact (Yields.inr (.inr (.inl .self))).lends
  · exact (Yields.inr (.inr (.inr (.inl .self)))).lends
  · exact (Yields.inr (.inr (.inr (.inr (.inl .self))))).lends
  · exact (Yields.inr (.inr (.inr (.inr (.inr (.inl .self)))))).lends
  · exact .inr (.inr (.inr (.inr (.inr (.inr .self)))))
  · exact .inl (.inl (.inl (.inl .self)))
  · exact .inl (.inl (.inl (.inr (.inl .self))))
  · exact .inl (.inl (.inl (.inr (.inr (.inl .self)))))
  · exact .inl (.inl (.inl (.inr (.inr (.inr (.inl .self))))))
  · exact .inl (.inl (.inl (.inr (.inr (.inr (.inr (.inl .self)))))))
  · exact .inl (.inl (.inl (.inr (.inr (.inr (.inr (.inr (.inl .self))))))))
  · exact .inl (.inl (.inl (.inr (.inr (.inr (.inr (.inr (.inr (.inl .self)))))))))
  · exact .inl (.inl (.inl (.inr (.inr (.inr (.inr (.inr (.inr (.inr .self)))))))))

/-! ## The run -/

theorem hostOps0_fresh : (hostOps0 (F := Bits)).Forall fun op => op.fresh = ∅ := by
  simp only [List.Forall]; repeat' constructor

set_option backward.isDefEq.respectTransparency.types false in
/-- Every run ends, with the arrays as found but for the result's, and every counter at zero. -/
theorem run : θ_run (Cert.Kernel.defs (F := Bits)) (onTc (τ := τ) (main (F := Bits))) ⟨m, fun _ => 0, g⟩
    (fun r => RDat.FramePostR (pin (pcfgs (F := Bits)) adm 0) (fun c => (dats m 0 c).toRForget fun _ => true) ∅
      (fun c b => entry m c (Proc.devRef .tc b)) r ∧ r.2.sem = fun _ => 0) :=
  θ_run_frameP_around_T_forget (Q' := _) (pcfgs (F := Bits)) adm (dats m) (0 : Fin 1) launch0 defs₀ Variants.none (fun _ => true) ∅ m g main
    (hbody := body m) (hshare := fun c => (dats m 0 c).share_full fun _ => rfl) (howed := fun _ _ => rfl)
    (V₀ := entry m) (opss := []) (hsub := by simp) (hfresh := by simp) (hkeep := by simp) (hT := by simp)
    (hmain := hmainP_around pcfgs 0 defs₀ Variants.none m main [hostOps0] []
      (by simp only [List.Forall]; exact hostOps0_sub) (by simp only [List.Forall]; exact hostOps0_fresh) main_chain)
    (hA := fun _ _ => rfl) (hpf := entry_tables m) (hΦ := fun _ _ => rfl) (hQ' := fun _ h => h)

/-- The frame: every run ends, the arguments unchanged and every counter at zero. -/
theorem frame_select : Cert.quiescent_Kernel := fun m g _ =>
  (θ_run Cert.Kernel.defs _ _).mono (fun r h => ⟨fun c =>
    ⟨(h.1.arr_in c 1 rfl).trans (entry_arg0 m c), (h.1.arr_in c 0 rfl).trans (entry_arg1 m c),
      (h.1.arr_in c 2 rfl).trans (entry_arg2 m c)⟩, h.2⟩) (run m g)

end Cert.SelectProof

end
-- ==== Proof.lean ====
module

public import proofs.«01_k».proof.Proof.MoeClaims
public import proofs.«01_k».proof.Proof.DiffClaims
public import proofs.«01_k».proof.Proof.MergeClaims
public import proofs.«01_k».proof.Proof.InprojClaims
public import proofs.«01_k».proof.Proof.SelectFrame
public import proofs.«01_k».proof.Proof.Gen.Kernel
public import proofs.«01_k».proof.Proof.Gen.Inproj.Frame
public import proofs.«01_k».proof.Proof.Gen.InprojIdeal.Value
public import proofs.«01_k».proof.Proof.Gen.InprojRefIdeal.Run
public import proofs.«01_k».proof.Proof.Gen.Merge.Frame
public import proofs.«01_k».proof.Proof.Gen.MergeIdeal.Value
public import proofs.«01_k».proof.Proof.Gen.MergeRefIdeal.Run

@[expose] public section

noncomputable section

namespace Cert.Proof

theorem claim : Cert.Claim :=
  ⟨Cert.Kernel.Gen.facts, Cert.Moe.Gen.facts, Cert.MoeIdeal.Gen.facts, Cert.MoeRefIdeal.Gen.facts,
    Cert.Diff.Gen.facts, Cert.DiffIdeal.Gen.facts, Cert.DiffRefIdeal.Gen.facts,
    Cert.Merge.Gen.facts, Cert.MergeIdeal.Gen.facts, Cert.MergeRefIdeal.Gen.facts,
    Cert.Inproj.Gen.facts, Cert.InprojIdeal.Gen.facts, Cert.InprojRefIdeal.Gen.facts, Cert.DiffProof.preFacts,
    Cert.SelectProof.frame_select, Cert.MoeProof.frame_moe, Cert.MoeProof.frame_moeIdeal, Cert.MoeProof.frame_moeRef,
    Cert.DiffProof.frame_diff, Cert.DiffProof.frame_diffIdeal, Cert.DiffProof.frame_diffIdeal_pre, Cert.DiffProof.frame_diffRef,
    Cert.DiffProof.frame_diffRef_pre, Cert.MergeProof.frame_merge, Cert.MergeProof.frame_mergeIdeal, Cert.MergeProof.frame_mergeRef,
    Cert.InprojProof.frame_inproj, Cert.InprojProof.frame_inprojIdeal, Cert.InprojProof.frame_inprojRef,
    trivial, Cert.MoeProof.algebraic_moe, Cert.DiffProof.preserves_diff, Cert.DiffProof.algebraic_diff,
    trivial, Cert.MergeProof.algebraic_merge, trivial, Cert.InprojProof.algebraic_inproj⟩

end Cert.Proof
